-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 1024]⟩ ⟨2, ![8192, 1024]⟩ (Layout.meshBlock [2, 4, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S160x1024 : Shape := ⟨2, ![160, 1024]⟩
abbrev S1536x1024 : Shape := ⟨2, ![1536, 1024]⟩
abbrev S4x4x80x1024 : Shape := ⟨4, ![4, 4, 80, 1024]⟩
abbrev S_ : Shape := ⟨0, ![]⟩
abbrev S2 : Shape := ⟨1, ![2]⟩
abbrev S12x3 : Shape := ⟨2, ![12, 3]⟩
abbrev S1 : Shape := ⟨1, ![1]⟩
abbrev S768x1024 : Shape := ⟨2, ![768, 1024]⟩
abbrev S80x1024 : Shape := ⟨2, ![80, 1024]⟩
abbrev S1x1x80x1024 : Shape := ⟨4, ![1, 1, 80, 1024]⟩
abbrev S1x1 : Shape := ⟨2, ![1, 1]⟩
abbrev S1x2x80x1024 : Shape := ⟨4, ![1, 2, 80, 1024]⟩

abbrev nBuf : Space → Nat
  | .hbm => 2
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .local _ .vmem, ⟨0, _⟩ => ⟨S4096x1024, .f32⟩
  | .local _ .vmem, ⟨1, _⟩ => ⟨S4096x1024, .f32⟩
  | .local _ .vmem, ⟨2, _⟩ => ⟨S160x1024, .bf16⟩
  | .local _ .vmem, ⟨3, _⟩ => ⟨S160x1024, .bf16⟩
  | .local _ .vmem, ⟨4, _⟩ => ⟨S1536x1024, .bf16⟩
  | .local _ .vmem, ⟨5, _⟩ => ⟨S1536x1024, .bf16⟩
  | .local _ .vmem, ⟨6, _⟩ => ⟨S4x4x80x1024, .bf16⟩
  | .local _ .vmem, ⟨7, _⟩ => ⟨S4x4x80x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  (ofTc nBuf bufTy 1 80 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_12 : BitVec 32 := 0#32
  let c1_i32_9 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v20 : BitVec 32 := Scalar.subi c1_i32_9 v2
  let c16_i32_11 : BitVec 32 := 16#32
  let v21 : BitVec 32 := Scalar.muli v20 c16_i32_11
  let v22 : BitVec 32 := Scalar.addi c0_i32_12 v21
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_13 : BitVec 32 := 4#32
  let v23 : BitVec 32 := Scalar.muli v5 c4_i32_13
  let v24 : BitVec 32 := Scalar.addi v22 v23
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_14 : BitVec 32 := 1#32
  let v25 : BitVec 32 := Scalar.muli v8 c1_i32_14
  let v26 : BitVec 32 := Scalar.addi v24 v25
  v26.toNat
def k0_cond1 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_15 : BitVec 32 := 0#32
  let v27 : BitVec 1 := Scalar.cmpi .sgt v5 c0_i32_15
  let v28 : BitVec 32 := Scalar.extui v27
  let c0_i32_16 : BitVec 32 := 0#32
  let v29 : BitVec 1 := Scalar.cmpi .ne v28 c0_i32_16
  v29

def k0_dev2 (d0 : Dev nD) : Nat :=
  let c0_i32_1222 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1221 : BitVec 32 := 16#32
  let v1549 : BitVec 32 := Scalar.muli v2 c16_i32_1221
  let v1550 : BitVec 32 := Scalar.addi c0_i32_1222 v1549
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v12 : BitVec 32 := Scalar.subi v5 c1_i32_3
  let c0_i32 : BitVec 32 := 0#32
  let v13 : BitVec 32 := Scalar.maxsi v12 c0_i32
  let c4_i32_1223 : BitVec 32 := 4#32
  let v1551 : BitVec 32 := Scalar.muli v13 c4_i32_1223
  let v1552 : BitVec 32 := Scalar.addi v1550 v1551
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1224 : BitVec 32 := 1#32
  let v1553 : BitVec 32 := Scalar.muli v8 c1_i32_1224
  let v1554 : BitVec 32 := Scalar.addi v1552 v1553
  v1554.toNat
def k0_cond2 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_17 : BitVec 32 := 3#32
  let v30 : BitVec 1 := Scalar.cmpi .slt v5 c3_i32_17
  let v31 : BitVec 32 := Scalar.extui v30
  let c0_i32_18 : BitVec 32 := 0#32
  let v32 : BitVec 1 := Scalar.cmpi .ne v31 c0_i32_18
  v32

def k0_dev3 (d0 : Dev nD) : Nat :=
  let c0_i32_1222 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1221 : BitVec 32 := 16#32
  let v1549 : BitVec 32 := Scalar.muli v2 c16_i32_1221
  let v1550 : BitVec 32 := Scalar.addi c0_i32_1222 v1549
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v14 : BitVec 32 := Scalar.addi v5 c1_i32_4
  let c3_i32 : BitVec 32 := 3#32
  let v15 : BitVec 32 := Scalar.minsi v14 c3_i32
  let c4_i32_1223 : BitVec 32 := 4#32
  let v1551 : BitVec 32 := Scalar.muli v15 c4_i32_1223
  let v1552 : BitVec 32 := Scalar.addi v1550 v1551
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1224 : BitVec 32 := 1#32
  let v1553 : BitVec 32 := Scalar.muli v8 c1_i32_1224
  let v1554 : BitVec 32 := Scalar.addi v1552 v1553
  v1554.toNat
def k0_cond3 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_19 : BitVec 32 := 0#32
  let v33 : BitVec 1 := Scalar.cmpi .sgt v8 c0_i32_19
  let v34 : BitVec 32 := Scalar.extui v33
  let c0_i32_20 : BitVec 32 := 0#32
  let v35 : BitVec 1 := Scalar.cmpi .ne v34 c0_i32_20
  v35

def k0_dev4 (d0 : Dev nD) : Nat :=
  let c0_i32_1222 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1221 : BitVec 32 := 16#32
  let v1549 : BitVec 32 := Scalar.muli v2 c16_i32_1221
  let v1550 : BitVec 32 := Scalar.addi c0_i32_1222 v1549
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1223 : BitVec 32 := 4#32
  let v1551 : BitVec 32 := Scalar.muli v5 c4_i32_1223
  let v1552 : BitVec 32 := Scalar.addi v1550 v1551
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v16 : BitVec 32 := Scalar.subi v8 c1_i32_5
  let c0_i32_6 : BitVec 32 := 0#32
  let v17 : BitVec 32 := Scalar.maxsi v16 c0_i32_6
  let c1_i32_1224 : BitVec 32 := 1#32
  let v1553 : BitVec 32 := Scalar.muli v17 c1_i32_1224
  let v1554 : BitVec 32 := Scalar.addi v1552 v1553
  v1554.toNat
def k0_cond4 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_21 : BitVec 32 := 3#32
  let v36 : BitVec 1 := Scalar.cmpi .slt v8 c3_i32_21
  let v37 : BitVec 32 := Scalar.extui v36
  let c0_i32_22 : BitVec 32 := 0#32
  let v38 : BitVec 1 := Scalar.cmpi .ne v37 c0_i32_22
  v38

def k0_dev5 (d0 : Dev nD) : Nat :=
  let c0_i32_1222 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1221 : BitVec 32 := 16#32
  let v1549 : BitVec 32 := Scalar.muli v2 c16_i32_1221
  let v1550 : BitVec 32 := Scalar.addi c0_i32_1222 v1549
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1223 : BitVec 32 := 4#32
  let v1551 : BitVec 32 := Scalar.muli v5 c4_i32_1223
  let v1552 : BitVec 32 := Scalar.addi v1550 v1551
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v18 : BitVec 32 := Scalar.addi v8 c1_i32_7
  let c3_i32_8 : BitVec 32 := 3#32
  let v19 : BitVec 32 := Scalar.minsi v18 c3_i32_8
  let c1_i32_1224 : BitVec 32 := 1#32
  let v1553 : BitVec 32 := Scalar.muli v19 c1_i32_1224
  let v1554 : BitVec 32 := Scalar.addi v1552 v1553
  v1554.toNat
def k0_off1 (d0 : Dev nD) : Fin 2 → Nat :=
  let c1536_i32 : BitVec 32 := 1536#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.muli v5 c4_i32_2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v10 : BitVec 32 := Scalar.addi v9 v8
  let c160_i32 : BitVec 32 := 160#32
  let v52 : BitVec 32 := Scalar.muli v10 c160_i32
  let v53 : BitVec 32 := Scalar.addi c1536_i32 v52
  let v54 : Index := Scalar.indexCast v53
  let c0 : Index := 0#32
  ![v54.toNat, 0]
def k0_dev6 (d0 : Dev nD) : Nat :=
  let c0_i32_36 : BitVec 32 := 0#32
  let c1_i32_32 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v51 : BitVec 32 := Scalar.subi c1_i32_32 v2
  let c16_i32_35 : BitVec 32 := 16#32
  let v61 : BitVec 32 := Scalar.muli v51 c16_i32_35
  let v62 : BitVec 32 := Scalar.addi c0_i32_36 v61
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_37 : BitVec 32 := 4#32
  let v63 : BitVec 32 := Scalar.muli v5 c4_i32_37
  let v64 : BitVec 32 := Scalar.addi v62 v63
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_38 : BitVec 32 := 1#32
  let v65 : BitVec 32 := Scalar.muli v8 c1_i32_38
  let v66 : BitVec 32 := Scalar.addi v64 v65
  v66.toNat
def k0_dev7 (d0 : Dev nD) : Nat :=
  let c0_i32_46 : BitVec 32 := 0#32
  let c1_i32_32 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v51 : BitVec 32 := Scalar.subi c1_i32_32 v2
  let c16_i32_45 : BitVec 32 := 16#32
  let v73 : BitVec 32 := Scalar.muli v51 c16_i32_45
  let v74 : BitVec 32 := Scalar.addi c0_i32_46 v73
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_47 : BitVec 32 := 4#32
  let v75 : BitVec 32 := Scalar.muli v5 c4_i32_47
  let v76 : BitVec 32 := Scalar.addi v74 v75
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_48 : BitVec 32 := 1#32
  let v77 : BitVec 32 := Scalar.muli v8 c1_i32_48
  let v78 : BitVec 32 := Scalar.addi v76 v77
  v78.toNat
def k0_dev8 (d0 : Dev nD) : Nat :=
  let c0_i32_56 : BitVec 32 := 0#32
  let c1_i32_32 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v51 : BitVec 32 := Scalar.subi c1_i32_32 v2
  let c16_i32_55 : BitVec 32 := 16#32
  let v85 : BitVec 32 := Scalar.muli v51 c16_i32_55
  let v86 : BitVec 32 := Scalar.addi c0_i32_56 v85
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_57 : BitVec 32 := 4#32
  let v87 : BitVec 32 := Scalar.muli v5 c4_i32_57
  let v88 : BitVec 32 := Scalar.addi v86 v87
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v89 : BitVec 32 := Scalar.muli v8 c1_i32_58
  let v90 : BitVec 32 := Scalar.addi v88 v89
  v90.toNat
def k0_off2 (d0 : Dev nD) (c1_i32 : BitVec 32) (c4_i32_0 : BitVec 32) : Fin 4 → Nat :=
  let v6 : BitVec 32 := Dev.word d0
  let v7 : BitVec 32 := Scalar.divsi v6 c1_i32
  let c4_i32_1 : BitVec 32 := 4#32
  let v8 : BitVec 32 := Scalar.remsi v7 c4_i32_1
  let v109 : Index := Scalar.indexCast v8
  let v3 : BitVec 32 := Dev.word d0
  let v4 : BitVec 32 := Scalar.divsi v3 c4_i32_0
  let c4_i32 : BitVec 32 := 4#32
  let v5 : BitVec 32 := Scalar.remsi v4 c4_i32
  let v110 : Index := Scalar.indexCast v5
  let c0_69 : Index := 0#32
  let c0_70 : Index := 0#32
  ![v109.toNat, v110.toNat, 0, 0]
def k0_off2_at (r : Fin 2) : BitVec 32 × BitVec 32 :=
  if r.val < 1 then
    (1#32, 4#32)
  else
    (4#32, 1#32)
def k0_cond9 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_73 : BitVec 32 := 3#32
  let v121 : BitVec 1 := Scalar.cmpi .slt v5 c3_i32_73
  let c0_i32_74 : BitVec 32 := 0#32
  let v122 : BitVec 32 := Scalar.subi v5 c0_i32_74
  let c0_i32_75 : BitVec 32 := 0#32
  let v123 : BitVec 1 := Scalar.cmpi .sge v122 c0_i32_75
  let v124 : BitVec 1 := Scalar.andi v121 v123
  let v128 : BitVec 32 := Scalar.extui v124
  let c0_i32_79 : BitVec 32 := 0#32
  let v129 : BitVec 1 := Scalar.cmpi .ne v128 c0_i32_79
  v129

def k0_off3 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_78 : BitVec 32 := 3#32
  let c0_i32_77 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_76 : BitVec 32 := 0#32
  let v125 : BitVec 32 := Scalar.subi v5 c0_i32_76
  let v126 : BitVec 32 := Scalar.maxsi c0_i32_77 v125
  let v127 : BitVec 32 := Scalar.minsi c3_i32_78 v126
  let c0_i32_1231 : BitVec 32 := 0#32
  let c0_i32_1232 : BitVec 32 := 0#32
  ![v8.toNat, v127.toNat, 0, 0]
def k0_dev9 (d0 : Dev nD) : Nat :=
  let c0_i32_1228 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1227 : BitVec 32 := 16#32
  let v1552 : BitVec 32 := Scalar.muli v2 c16_i32_1227
  let v1553 : BitVec 32 := Scalar.addi c0_i32_1228 v1552
  let c3_i32_1222 : BitVec 32 := 3#32
  let c0_i32_1221 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1220 : BitVec 32 := 1#32
  let v1549 : BitVec 32 := Scalar.addi v5 c1_i32_1220
  let v1550 : BitVec 32 := Scalar.maxsi c0_i32_1221 v1549
  let v1551 : BitVec 32 := Scalar.minsi c3_i32_1222 v1550
  let c4_i32_1229 : BitVec 32 := 4#32
  let v1554 : BitVec 32 := Scalar.muli v1551 c4_i32_1229
  let v1555 : BitVec 32 := Scalar.addi v1553 v1554
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1230 : BitVec 32 := 1#32
  let v1556 : BitVec 32 := Scalar.muli v8 c1_i32_1230
  let v1557 : BitVec 32 := Scalar.addi v1555 v1556
  v1557.toNat
def k0_cond10 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_80 : BitVec 32 := 0#32
  let v130 : BitVec 1 := Scalar.cmpi .sgt v5 c0_i32_80
  let c0_i32_81 : BitVec 32 := 0#32
  let v131 : BitVec 32 := Scalar.addi v5 c0_i32_81
  let c3_i32_82 : BitVec 32 := 3#32
  let v132 : BitVec 1 := Scalar.cmpi .sle v131 c3_i32_82
  let v133 : BitVec 1 := Scalar.andi v130 v132
  let v137 : BitVec 32 := Scalar.extui v133
  let c0_i32_86 : BitVec 32 := 0#32
  let v138 : BitVec 1 := Scalar.cmpi .ne v137 c0_i32_86
  v138

def k0_off4 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_85 : BitVec 32 := 3#32
  let c0_i32_84 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_83 : BitVec 32 := 0#32
  let v134 : BitVec 32 := Scalar.addi v5 c0_i32_83
  let v135 : BitVec 32 := Scalar.maxsi c0_i32_84 v134
  let v136 : BitVec 32 := Scalar.minsi c3_i32_85 v135
  let c0_i32_1230 : BitVec 32 := 0#32
  let c0_i32_1231 : BitVec 32 := 0#32
  ![v8.toNat, v136.toNat, 0, 0]
def k0_dev10 (d0 : Dev nD) : Nat :=
  let c0_i32_1227 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1226 : BitVec 32 := 16#32
  let v1552 : BitVec 32 := Scalar.muli v2 c16_i32_1226
  let v1553 : BitVec 32 := Scalar.addi c0_i32_1227 v1552
  let c3_i32_1221 : BitVec 32 := 3#32
  let c0_i32_1220 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v1549 : BitVec 32 := Scalar.addi v5 c_m1_i32
  let v1550 : BitVec 32 := Scalar.maxsi c0_i32_1220 v1549
  let v1551 : BitVec 32 := Scalar.minsi c3_i32_1221 v1550
  let c4_i32_1228 : BitVec 32 := 4#32
  let v1554 : BitVec 32 := Scalar.muli v1551 c4_i32_1228
  let v1555 : BitVec 32 := Scalar.addi v1553 v1554
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1229 : BitVec 32 := 1#32
  let v1556 : BitVec 32 := Scalar.muli v8 c1_i32_1229
  let v1557 : BitVec 32 := Scalar.addi v1555 v1556
  v1557.toNat
def k0_cond11 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_87 : BitVec 32 := 3#32
  let v139 : BitVec 1 := Scalar.cmpi .slt v8 c3_i32_87
  let c0_i32_88 : BitVec 32 := 0#32
  let v140 : BitVec 32 := Scalar.subi v8 c0_i32_88
  let c0_i32_89 : BitVec 32 := 0#32
  let v141 : BitVec 1 := Scalar.cmpi .sge v140 c0_i32_89
  let v142 : BitVec 1 := Scalar.andi v139 v141
  let v146 : BitVec 32 := Scalar.extui v142
  let c0_i32_93 : BitVec 32 := 0#32
  let v147 : BitVec 1 := Scalar.cmpi .ne v146 c0_i32_93
  v147

def k0_off5 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_92 : BitVec 32 := 3#32
  let c0_i32_91 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_90 : BitVec 32 := 0#32
  let v143 : BitVec 32 := Scalar.subi v8 c0_i32_90
  let v144 : BitVec 32 := Scalar.maxsi c0_i32_91 v143
  let v145 : BitVec 32 := Scalar.minsi c3_i32_92 v144
  let c0_i32_1231 : BitVec 32 := 0#32
  let c0_i32_1232 : BitVec 32 := 0#32
  ![v5.toNat, v145.toNat, 0, 0]
def k0_dev11 (d0 : Dev nD) : Nat :=
  let c0_i32_1228 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1227 : BitVec 32 := 16#32
  let v1552 : BitVec 32 := Scalar.muli v2 c16_i32_1227
  let v1553 : BitVec 32 := Scalar.addi c0_i32_1228 v1552
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1229 : BitVec 32 := 4#32
  let v1554 : BitVec 32 := Scalar.muli v5 c4_i32_1229
  let v1555 : BitVec 32 := Scalar.addi v1553 v1554
  let c3_i32_1222 : BitVec 32 := 3#32
  let c0_i32_1221 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1220 : BitVec 32 := 1#32
  let v1549 : BitVec 32 := Scalar.addi v8 c1_i32_1220
  let v1550 : BitVec 32 := Scalar.maxsi c0_i32_1221 v1549
  let v1551 : BitVec 32 := Scalar.minsi c3_i32_1222 v1550
  let c1_i32_1230 : BitVec 32 := 1#32
  let v1556 : BitVec 32 := Scalar.muli v1551 c1_i32_1230
  let v1557 : BitVec 32 := Scalar.addi v1555 v1556
  v1557.toNat
def k0_cond12 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_94 : BitVec 32 := 0#32
  let v148 : BitVec 1 := Scalar.cmpi .sgt v8 c0_i32_94
  let c0_i32_95 : BitVec 32 := 0#32
  let v149 : BitVec 32 := Scalar.addi v8 c0_i32_95
  let c3_i32_96 : BitVec 32 := 3#32
  let v150 : BitVec 1 := Scalar.cmpi .sle v149 c3_i32_96
  let v151 : BitVec 1 := Scalar.andi v148 v150
  let v155 : BitVec 32 := Scalar.extui v151
  let c0_i32_100 : BitVec 32 := 0#32
  let v156 : BitVec 1 := Scalar.cmpi .ne v155 c0_i32_100
  v156

def k0_off6 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_99 : BitVec 32 := 3#32
  let c0_i32_98 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_97 : BitVec 32 := 0#32
  let v152 : BitVec 32 := Scalar.addi v8 c0_i32_97
  let v153 : BitVec 32 := Scalar.maxsi c0_i32_98 v152
  let v154 : BitVec 32 := Scalar.minsi c3_i32_99 v153
  let c0_i32_1230 : BitVec 32 := 0#32
  let c0_i32_1231 : BitVec 32 := 0#32
  ![v5.toNat, v154.toNat, 0, 0]
def k0_dev12 (d0 : Dev nD) : Nat :=
  let c0_i32_1227 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1226 : BitVec 32 := 16#32
  let v1552 : BitVec 32 := Scalar.muli v2 c16_i32_1226
  let v1553 : BitVec 32 := Scalar.addi c0_i32_1227 v1552
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1228 : BitVec 32 := 4#32
  let v1554 : BitVec 32 := Scalar.muli v5 c4_i32_1228
  let v1555 : BitVec 32 := Scalar.addi v1553 v1554
  let c3_i32_1221 : BitVec 32 := 3#32
  let c0_i32_1220 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32 : BitVec 32 := 4294967295#32
  let v1549 : BitVec 32 := Scalar.addi v8 c_m1_i32
  let v1550 : BitVec 32 := Scalar.maxsi c0_i32_1220 v1549
  let v1551 : BitVec 32 := Scalar.minsi c3_i32_1221 v1550
  let c1_i32_1229 : BitVec 32 := 1#32
  let v1556 : BitVec 32 := Scalar.muli v1551 c1_i32_1229
  let v1557 : BitVec 32 := Scalar.addi v1555 v1556
  v1557.toNat
def k0_cond13 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_101 : BitVec 32 := 0#32
  let v157 : BitVec 1 := Scalar.cmpi .sgt v5 c0_i32_101
  let c1_i32_102 : BitVec 32 := 1#32
  let v158 : BitVec 32 := Scalar.subi v5 c1_i32_102
  let c0_i32_103 : BitVec 32 := 0#32
  let v159 : BitVec 32 := Scalar.subi v158 c0_i32_103
  let c0_i32_104 : BitVec 32 := 0#32
  let v160 : BitVec 1 := Scalar.cmpi .sge v159 c0_i32_104
  let v161 : BitVec 1 := Scalar.andi v157 v160
  let v166 : BitVec 32 := Scalar.extui v161
  let c0_i32_109 : BitVec 32 := 0#32
  let v167 : BitVec 1 := Scalar.cmpi .ne v166 c0_i32_109
  v167

def k0_off7 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_108 : BitVec 32 := 3#32
  let c0_i32_107 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_105 : BitVec 32 := 1#32
  let v162 : BitVec 32 := Scalar.subi v5 c1_i32_105
  let c0_i32_106 : BitVec 32 := 0#32
  let v163 : BitVec 32 := Scalar.subi v162 c0_i32_106
  let v164 : BitVec 32 := Scalar.maxsi c0_i32_107 v163
  let v165 : BitVec 32 := Scalar.minsi c3_i32_108 v164
  let c0_i32_1230 : BitVec 32 := 0#32
  let c0_i32_1231 : BitVec 32 := 0#32
  ![v8.toNat, v165.toNat, 0, 0]
def k0_cond14 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_110 : BitVec 32 := 3#32
  let v168 : BitVec 1 := Scalar.cmpi .slt v5 c3_i32_110
  let c1_i32_111 : BitVec 32 := 1#32
  let v169 : BitVec 32 := Scalar.addi v5 c1_i32_111
  let c0_i32_112 : BitVec 32 := 0#32
  let v170 : BitVec 32 := Scalar.addi v169 c0_i32_112
  let c3_i32_113 : BitVec 32 := 3#32
  let v171 : BitVec 1 := Scalar.cmpi .sle v170 c3_i32_113
  let v172 : BitVec 1 := Scalar.andi v168 v171
  let v177 : BitVec 32 := Scalar.extui v172
  let c0_i32_118 : BitVec 32 := 0#32
  let v178 : BitVec 1 := Scalar.cmpi .ne v177 c0_i32_118
  v178

def k0_off8 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_117 : BitVec 32 := 3#32
  let c0_i32_116 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_114 : BitVec 32 := 1#32
  let v173 : BitVec 32 := Scalar.addi v5 c1_i32_114
  let c0_i32_115 : BitVec 32 := 0#32
  let v174 : BitVec 32 := Scalar.addi v173 c0_i32_115
  let v175 : BitVec 32 := Scalar.maxsi c0_i32_116 v174
  let v176 : BitVec 32 := Scalar.minsi c3_i32_117 v175
  let c0_i32_1231 : BitVec 32 := 0#32
  let c0_i32_1232 : BitVec 32 := 0#32
  ![v8.toNat, v176.toNat, 0, 0]
def k0_cond15 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_119 : BitVec 32 := 0#32
  let v179 : BitVec 1 := Scalar.cmpi .sgt v8 c0_i32_119
  let c1_i32_120 : BitVec 32 := 1#32
  let v180 : BitVec 32 := Scalar.subi v8 c1_i32_120
  let c0_i32_121 : BitVec 32 := 0#32
  let v181 : BitVec 32 := Scalar.subi v180 c0_i32_121
  let c0_i32_122 : BitVec 32 := 0#32
  let v182 : BitVec 1 := Scalar.cmpi .sge v181 c0_i32_122
  let v183 : BitVec 1 := Scalar.andi v179 v182
  let v188 : BitVec 32 := Scalar.extui v183
  let c0_i32_127 : BitVec 32 := 0#32
  let v189 : BitVec 1 := Scalar.cmpi .ne v188 c0_i32_127
  v189

def k0_off9 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_126 : BitVec 32 := 3#32
  let c0_i32_125 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_123 : BitVec 32 := 1#32
  let v184 : BitVec 32 := Scalar.subi v8 c1_i32_123
  let c0_i32_124 : BitVec 32 := 0#32
  let v185 : BitVec 32 := Scalar.subi v184 c0_i32_124
  let v186 : BitVec 32 := Scalar.maxsi c0_i32_125 v185
  let v187 : BitVec 32 := Scalar.minsi c3_i32_126 v186
  let c0_i32_1230 : BitVec 32 := 0#32
  let c0_i32_1231 : BitVec 32 := 0#32
  ![v5.toNat, v187.toNat, 0, 0]
def k0_cond16 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_128 : BitVec 32 := 3#32
  let v190 : BitVec 1 := Scalar.cmpi .slt v8 c3_i32_128
  let c1_i32_129 : BitVec 32 := 1#32
  let v191 : BitVec 32 := Scalar.addi v8 c1_i32_129
  let c0_i32_130 : BitVec 32 := 0#32
  let v192 : BitVec 32 := Scalar.addi v191 c0_i32_130
  let c3_i32_131 : BitVec 32 := 3#32
  let v193 : BitVec 1 := Scalar.cmpi .sle v192 c3_i32_131
  let v194 : BitVec 1 := Scalar.andi v190 v193
  let v199 : BitVec 32 := Scalar.extui v194
  let c0_i32_136 : BitVec 32 := 0#32
  let v200 : BitVec 1 := Scalar.cmpi .ne v199 c0_i32_136
  v200

def k0_off10 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_135 : BitVec 32 := 3#32
  let c0_i32_134 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_132 : BitVec 32 := 1#32
  let v195 : BitVec 32 := Scalar.addi v8 c1_i32_132
  let c0_i32_133 : BitVec 32 := 0#32
  let v196 : BitVec 32 := Scalar.addi v195 c0_i32_133
  let v197 : BitVec 32 := Scalar.maxsi c0_i32_134 v196
  let v198 : BitVec 32 := Scalar.minsi c3_i32_135 v197
  let c0_i32_1231 : BitVec 32 := 0#32
  let c0_i32_1232 : BitVec 32 := 0#32
  ![v5.toNat, v198.toNat, 0, 0]
def k0_cond17 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_137 : BitVec 32 := 3#32
  let v201 : BitVec 1 := Scalar.cmpi .slt v5 c3_i32_137
  let c1_i32_138 : BitVec 32 := 1#32
  let v202 : BitVec 32 := Scalar.subi v5 c1_i32_138
  let c0_i32_139 : BitVec 32 := 0#32
  let v203 : BitVec 1 := Scalar.cmpi .sge v202 c0_i32_139
  let v204 : BitVec 1 := Scalar.andi v201 v203
  let v208 : BitVec 32 := Scalar.extui v204
  let c0_i32_143 : BitVec 32 := 0#32
  let v209 : BitVec 1 := Scalar.cmpi .ne v208 c0_i32_143
  v209

def k0_off11 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_142 : BitVec 32 := 3#32
  let c0_i32_141 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_140 : BitVec 32 := 1#32
  let v205 : BitVec 32 := Scalar.subi v5 c1_i32_140
  let v206 : BitVec 32 := Scalar.maxsi c0_i32_141 v205
  let v207 : BitVec 32 := Scalar.minsi c3_i32_142 v206
  let c0_i32_1231 : BitVec 32 := 0#32
  let c0_i32_1232 : BitVec 32 := 0#32
  ![v8.toNat, v207.toNat, 0, 0]
def k0_dev13 (d0 : Dev nD) : Nat :=
  let c0_i32_1228 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1227 : BitVec 32 := 16#32
  let v1552 : BitVec 32 := Scalar.muli v2 c16_i32_1227
  let v1553 : BitVec 32 := Scalar.addi c0_i32_1228 v1552
  let c3_i32_1222 : BitVec 32 := 3#32
  let c0_i32_1221 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1220 : BitVec 32 := 1#32
  let v1549 : BitVec 32 := Scalar.addi v5 c1_i32_1220
  let v1550 : BitVec 32 := Scalar.maxsi c0_i32_1221 v1549
  let v1551 : BitVec 32 := Scalar.minsi c3_i32_1222 v1550
  let c4_i32_1229 : BitVec 32 := 4#32
  let v1554 : BitVec 32 := Scalar.muli v1551 c4_i32_1229
  let v1555 : BitVec 32 := Scalar.addi v1553 v1554
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1230 : BitVec 32 := 1#32
  let v1556 : BitVec 32 := Scalar.muli v8 c1_i32_1230
  let v1557 : BitVec 32 := Scalar.addi v1555 v1556
  v1557.toNat
def k0_cond18 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_144 : BitVec 32 := 0#32
  let v210 : BitVec 1 := Scalar.cmpi .sgt v5 c0_i32_144
  let c1_i32_145 : BitVec 32 := 1#32
  let v211 : BitVec 32 := Scalar.addi v5 c1_i32_145
  let c3_i32_146 : BitVec 32 := 3#32
  let v212 : BitVec 1 := Scalar.cmpi .sle v211 c3_i32_146
  let v213 : BitVec 1 := Scalar.andi v210 v212
  let v217 : BitVec 32 := Scalar.extui v213
  let c0_i32_150 : BitVec 32 := 0#32
  let v218 : BitVec 1 := Scalar.cmpi .ne v217 c0_i32_150
  v218

def k0_off12 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_149 : BitVec 32 := 3#32
  let c0_i32_148 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_147 : BitVec 32 := 1#32
  let v214 : BitVec 32 := Scalar.addi v5 c1_i32_147
  let v215 : BitVec 32 := Scalar.maxsi c0_i32_148 v214
  let v216 : BitVec 32 := Scalar.minsi c3_i32_149 v215
  let c0_i32_1230 : BitVec 32 := 0#32
  let c0_i32_1231 : BitVec 32 := 0#32
  ![v8.toNat, v216.toNat, 0, 0]
def k0_dev14 (d0 : Dev nD) : Nat :=
  let c0_i32_1227 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1226 : BitVec 32 := 16#32
  let v1552 : BitVec 32 := Scalar.muli v2 c16_i32_1226
  let v1553 : BitVec 32 := Scalar.addi c0_i32_1227 v1552
  let c3_i32_1221 : BitVec 32 := 3#32
  let c0_i32_1220 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v1549 : BitVec 32 := Scalar.addi v5 c_m1_i32
  let v1550 : BitVec 32 := Scalar.maxsi c0_i32_1220 v1549
  let v1551 : BitVec 32 := Scalar.minsi c3_i32_1221 v1550
  let c4_i32_1228 : BitVec 32 := 4#32
  let v1554 : BitVec 32 := Scalar.muli v1551 c4_i32_1228
  let v1555 : BitVec 32 := Scalar.addi v1553 v1554
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1229 : BitVec 32 := 1#32
  let v1556 : BitVec 32 := Scalar.muli v8 c1_i32_1229
  let v1557 : BitVec 32 := Scalar.addi v1555 v1556
  v1557.toNat
def k0_cond19 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_151 : BitVec 32 := 3#32
  let v219 : BitVec 1 := Scalar.cmpi .slt v8 c3_i32_151
  let c1_i32_152 : BitVec 32 := 1#32
  let v220 : BitVec 32 := Scalar.subi v8 c1_i32_152
  let c0_i32_153 : BitVec 32 := 0#32
  let v221 : BitVec 1 := Scalar.cmpi .sge v220 c0_i32_153
  let v222 : BitVec 1 := Scalar.andi v219 v221
  let v226 : BitVec 32 := Scalar.extui v222
  let c0_i32_157 : BitVec 32 := 0#32
  let v227 : BitVec 1 := Scalar.cmpi .ne v226 c0_i32_157
  v227

def k0_off13 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_156 : BitVec 32 := 3#32
  let c0_i32_155 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_154 : BitVec 32 := 1#32
  let v223 : BitVec 32 := Scalar.subi v8 c1_i32_154
  let v224 : BitVec 32 := Scalar.maxsi c0_i32_155 v223
  let v225 : BitVec 32 := Scalar.minsi c3_i32_156 v224
  let c0_i32_1231 : BitVec 32 := 0#32
  let c0_i32_1232 : BitVec 32 := 0#32
  ![v5.toNat, v225.toNat, 0, 0]
def k0_dev15 (d0 : Dev nD) : Nat :=
  let c0_i32_1228 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1227 : BitVec 32 := 16#32
  let v1552 : BitVec 32 := Scalar.muli v2 c16_i32_1227
  let v1553 : BitVec 32 := Scalar.addi c0_i32_1228 v1552
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1229 : BitVec 32 := 4#32
  let v1554 : BitVec 32 := Scalar.muli v5 c4_i32_1229
  let v1555 : BitVec 32 := Scalar.addi v1553 v1554
  let c3_i32_1222 : BitVec 32 := 3#32
  let c0_i32_1221 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1220 : BitVec 32 := 1#32
  let v1549 : BitVec 32 := Scalar.addi v8 c1_i32_1220
  let v1550 : BitVec 32 := Scalar.maxsi c0_i32_1221 v1549
  let v1551 : BitVec 32 := Scalar.minsi c3_i32_1222 v1550
  let c1_i32_1230 : BitVec 32 := 1#32
  let v1556 : BitVec 32 := Scalar.muli v1551 c1_i32_1230
  let v1557 : BitVec 32 := Scalar.addi v1555 v1556
  v1557.toNat
def k0_cond20 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_158 : BitVec 32 := 0#32
  let v228 : BitVec 1 := Scalar.cmpi .sgt v8 c0_i32_158
  let c1_i32_159 : BitVec 32 := 1#32
  let v229 : BitVec 32 := Scalar.addi v8 c1_i32_159
  let c3_i32_160 : BitVec 32 := 3#32
  let v230 : BitVec 1 := Scalar.cmpi .sle v229 c3_i32_160
  let v231 : BitVec 1 := Scalar.andi v228 v230
  let v235 : BitVec 32 := Scalar.extui v231
  let c0_i32_164 : BitVec 32 := 0#32
  let v236 : BitVec 1 := Scalar.cmpi .ne v235 c0_i32_164
  v236

def k0_off14 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_163 : BitVec 32 := 3#32
  let c0_i32_162 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_161 : BitVec 32 := 1#32
  let v232 : BitVec 32 := Scalar.addi v8 c1_i32_161
  let v233 : BitVec 32 := Scalar.maxsi c0_i32_162 v232
  let v234 : BitVec 32 := Scalar.minsi c3_i32_163 v233
  let c0_i32_1230 : BitVec 32 := 0#32
  let c0_i32_1231 : BitVec 32 := 0#32
  ![v5.toNat, v234.toNat, 0, 0]
def k0_dev16 (d0 : Dev nD) : Nat :=
  let c0_i32_1227 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1226 : BitVec 32 := 16#32
  let v1552 : BitVec 32 := Scalar.muli v2 c16_i32_1226
  let v1553 : BitVec 32 := Scalar.addi c0_i32_1227 v1552
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1228 : BitVec 32 := 4#32
  let v1554 : BitVec 32 := Scalar.muli v5 c4_i32_1228
  let v1555 : BitVec 32 := Scalar.addi v1553 v1554
  let c3_i32_1221 : BitVec 32 := 3#32
  let c0_i32_1220 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32 : BitVec 32 := 4294967295#32
  let v1549 : BitVec 32 := Scalar.addi v8 c_m1_i32
  let v1550 : BitVec 32 := Scalar.maxsi c0_i32_1220 v1549
  let v1551 : BitVec 32 := Scalar.minsi c3_i32_1221 v1550
  let c1_i32_1229 : BitVec 32 := 1#32
  let v1556 : BitVec 32 := Scalar.muli v1551 c1_i32_1229
  let v1557 : BitVec 32 := Scalar.addi v1555 v1556
  v1557.toNat
def k0_cond21 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_165 : BitVec 32 := 0#32
  let v237 : BitVec 1 := Scalar.cmpi .sgt v5 c0_i32_165
  let c1_i32_166 : BitVec 32 := 1#32
  let v238 : BitVec 32 := Scalar.subi v5 c1_i32_166
  let c1_i32_167 : BitVec 32 := 1#32
  let v239 : BitVec 32 := Scalar.subi v238 c1_i32_167
  let c0_i32_168 : BitVec 32 := 0#32
  let v240 : BitVec 1 := Scalar.cmpi .sge v239 c0_i32_168
  let v241 : BitVec 1 := Scalar.andi v237 v240
  let v246 : BitVec 32 := Scalar.extui v241
  let c0_i32_173 : BitVec 32 := 0#32
  let v247 : BitVec 1 := Scalar.cmpi .ne v246 c0_i32_173
  v247

def k0_off15 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_172 : BitVec 32 := 3#32
  let c0_i32_171 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_169 : BitVec 32 := 1#32
  let v242 : BitVec 32 := Scalar.subi v5 c1_i32_169
  let c1_i32_170 : BitVec 32 := 1#32
  let v243 : BitVec 32 := Scalar.subi v242 c1_i32_170
  let v244 : BitVec 32 := Scalar.maxsi c0_i32_171 v243
  let v245 : BitVec 32 := Scalar.minsi c3_i32_172 v244
  let c0_i32_1230 : BitVec 32 := 0#32
  let c0_i32_1231 : BitVec 32 := 0#32
  ![v8.toNat, v245.toNat, 0, 0]
def k0_cond22 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_174 : BitVec 32 := 3#32
  let v248 : BitVec 1 := Scalar.cmpi .slt v5 c3_i32_174
  let c1_i32_175 : BitVec 32 := 1#32
  let v249 : BitVec 32 := Scalar.addi v5 c1_i32_175
  let c1_i32_176 : BitVec 32 := 1#32
  let v250 : BitVec 32 := Scalar.addi v249 c1_i32_176
  let c3_i32_177 : BitVec 32 := 3#32
  let v251 : BitVec 1 := Scalar.cmpi .sle v250 c3_i32_177
  let v252 : BitVec 1 := Scalar.andi v248 v251
  let v257 : BitVec 32 := Scalar.extui v252
  let c0_i32_182 : BitVec 32 := 0#32
  let v258 : BitVec 1 := Scalar.cmpi .ne v257 c0_i32_182
  v258

def k0_off16 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_181 : BitVec 32 := 3#32
  let c0_i32_180 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_178 : BitVec 32 := 1#32
  let v253 : BitVec 32 := Scalar.addi v5 c1_i32_178
  let c1_i32_179 : BitVec 32 := 1#32
  let v254 : BitVec 32 := Scalar.addi v253 c1_i32_179
  let v255 : BitVec 32 := Scalar.maxsi c0_i32_180 v254
  let v256 : BitVec 32 := Scalar.minsi c3_i32_181 v255
  let c0_i32_1231 : BitVec 32 := 0#32
  let c0_i32_1232 : BitVec 32 := 0#32
  ![v8.toNat, v256.toNat, 0, 0]
def k0_cond23 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_183 : BitVec 32 := 0#32
  let v259 : BitVec 1 := Scalar.cmpi .sgt v8 c0_i32_183
  let c1_i32_184 : BitVec 32 := 1#32
  let v260 : BitVec 32 := Scalar.subi v8 c1_i32_184
  let c1_i32_185 : BitVec 32 := 1#32
  let v261 : BitVec 32 := Scalar.subi v260 c1_i32_185
  let c0_i32_186 : BitVec 32 := 0#32
  let v262 : BitVec 1 := Scalar.cmpi .sge v261 c0_i32_186
  let v263 : BitVec 1 := Scalar.andi v259 v262
  let v268 : BitVec 32 := Scalar.extui v263
  let c0_i32_191 : BitVec 32 := 0#32
  let v269 : BitVec 1 := Scalar.cmpi .ne v268 c0_i32_191
  v269

def k0_off17 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_190 : BitVec 32 := 3#32
  let c0_i32_189 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_187 : BitVec 32 := 1#32
  let v264 : BitVec 32 := Scalar.subi v8 c1_i32_187
  let c1_i32_188 : BitVec 32 := 1#32
  let v265 : BitVec 32 := Scalar.subi v264 c1_i32_188
  let v266 : BitVec 32 := Scalar.maxsi c0_i32_189 v265
  let v267 : BitVec 32 := Scalar.minsi c3_i32_190 v266
  let c0_i32_1230 : BitVec 32 := 0#32
  let c0_i32_1231 : BitVec 32 := 0#32
  ![v5.toNat, v267.toNat, 0, 0]
def k0_cond24 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_192 : BitVec 32 := 3#32
  let v270 : BitVec 1 := Scalar.cmpi .slt v8 c3_i32_192
  let c1_i32_193 : BitVec 32 := 1#32
  let v271 : BitVec 32 := Scalar.addi v8 c1_i32_193
  let c1_i32_194 : BitVec 32 := 1#32
  let v272 : BitVec 32 := Scalar.addi v271 c1_i32_194
  let c3_i32_195 : BitVec 32 := 3#32
  let v273 : BitVec 1 := Scalar.cmpi .sle v272 c3_i32_195
  let v274 : BitVec 1 := Scalar.andi v270 v273
  let v279 : BitVec 32 := Scalar.extui v274
  let c0_i32_200 : BitVec 32 := 0#32
  let v280 : BitVec 1 := Scalar.cmpi .ne v279 c0_i32_200
  v280

def k0_off18 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_199 : BitVec 32 := 3#32
  let c0_i32_198 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_196 : BitVec 32 := 1#32
  let v275 : BitVec 32 := Scalar.addi v8 c1_i32_196
  let c1_i32_197 : BitVec 32 := 1#32
  let v276 : BitVec 32 := Scalar.addi v275 c1_i32_197
  let v277 : BitVec 32 := Scalar.maxsi c0_i32_198 v276
  let v278 : BitVec 32 := Scalar.minsi c3_i32_199 v277
  let c0_i32_1231 : BitVec 32 := 0#32
  let c0_i32_1232 : BitVec 32 := 0#32
  ![v5.toNat, v278.toNat, 0, 0]
def k0_cond25 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_201 : BitVec 32 := 3#32
  let v281 : BitVec 1 := Scalar.cmpi .slt v5 c3_i32_201
  let c2_i32_202 : BitVec 32 := 2#32
  let v282 : BitVec 32 := Scalar.subi v5 c2_i32_202
  let c0_i32_203 : BitVec 32 := 0#32
  let v283 : BitVec 1 := Scalar.cmpi .sge v282 c0_i32_203
  let v284 : BitVec 1 := Scalar.andi v281 v283
  let v288 : BitVec 32 := Scalar.extui v284
  let c0_i32_207 : BitVec 32 := 0#32
  let v289 : BitVec 1 := Scalar.cmpi .ne v288 c0_i32_207
  v289

def k0_off19 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_206 : BitVec 32 := 3#32
  let c0_i32_205 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_204 : BitVec 32 := 2#32
  let v285 : BitVec 32 := Scalar.subi v5 c2_i32_204
  let v286 : BitVec 32 := Scalar.maxsi c0_i32_205 v285
  let v287 : BitVec 32 := Scalar.minsi c3_i32_206 v286
  let c0_i32_1231 : BitVec 32 := 0#32
  let c0_i32_1232 : BitVec 32 := 0#32
  ![v8.toNat, v287.toNat, 0, 0]
def k0_dev17 (d0 : Dev nD) : Nat :=
  let c0_i32_1228 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1227 : BitVec 32 := 16#32
  let v1552 : BitVec 32 := Scalar.muli v2 c16_i32_1227
  let v1553 : BitVec 32 := Scalar.addi c0_i32_1228 v1552
  let c3_i32_1222 : BitVec 32 := 3#32
  let c0_i32_1221 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1220 : BitVec 32 := 1#32
  let v1549 : BitVec 32 := Scalar.addi v5 c1_i32_1220
  let v1550 : BitVec 32 := Scalar.maxsi c0_i32_1221 v1549
  let v1551 : BitVec 32 := Scalar.minsi c3_i32_1222 v1550
  let c4_i32_1229 : BitVec 32 := 4#32
  let v1554 : BitVec 32 := Scalar.muli v1551 c4_i32_1229
  let v1555 : BitVec 32 := Scalar.addi v1553 v1554
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1230 : BitVec 32 := 1#32
  let v1556 : BitVec 32 := Scalar.muli v8 c1_i32_1230
  let v1557 : BitVec 32 := Scalar.addi v1555 v1556
  v1557.toNat
def k0_cond26 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_208 : BitVec 32 := 0#32
  let v290 : BitVec 1 := Scalar.cmpi .sgt v5 c0_i32_208
  let c2_i32_209 : BitVec 32 := 2#32
  let v291 : BitVec 32 := Scalar.addi v5 c2_i32_209
  let c3_i32_210 : BitVec 32 := 3#32
  let v292 : BitVec 1 := Scalar.cmpi .sle v291 c3_i32_210
  let v293 : BitVec 1 := Scalar.andi v290 v292
  let v297 : BitVec 32 := Scalar.extui v293
  let c0_i32_214 : BitVec 32 := 0#32
  let v298 : BitVec 1 := Scalar.cmpi .ne v297 c0_i32_214
  v298

def k0_off20 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_213 : BitVec 32 := 3#32
  let c0_i32_212 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_211 : BitVec 32 := 2#32
  let v294 : BitVec 32 := Scalar.addi v5 c2_i32_211
  let v295 : BitVec 32 := Scalar.maxsi c0_i32_212 v294
  let v296 : BitVec 32 := Scalar.minsi c3_i32_213 v295
  let c0_i32_1230 : BitVec 32 := 0#32
  let c0_i32_1231 : BitVec 32 := 0#32
  ![v8.toNat, v296.toNat, 0, 0]
def k0_dev18 (d0 : Dev nD) : Nat :=
  let c0_i32_1227 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1226 : BitVec 32 := 16#32
  let v1552 : BitVec 32 := Scalar.muli v2 c16_i32_1226
  let v1553 : BitVec 32 := Scalar.addi c0_i32_1227 v1552
  let c3_i32_1221 : BitVec 32 := 3#32
  let c0_i32_1220 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v1549 : BitVec 32 := Scalar.addi v5 c_m1_i32
  let v1550 : BitVec 32 := Scalar.maxsi c0_i32_1220 v1549
  let v1551 : BitVec 32 := Scalar.minsi c3_i32_1221 v1550
  let c4_i32_1228 : BitVec 32 := 4#32
  let v1554 : BitVec 32 := Scalar.muli v1551 c4_i32_1228
  let v1555 : BitVec 32 := Scalar.addi v1553 v1554
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1229 : BitVec 32 := 1#32
  let v1556 : BitVec 32 := Scalar.muli v8 c1_i32_1229
  let v1557 : BitVec 32 := Scalar.addi v1555 v1556
  v1557.toNat
def k0_cond27 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_215 : BitVec 32 := 3#32
  let v299 : BitVec 1 := Scalar.cmpi .slt v8 c3_i32_215
  let c2_i32_216 : BitVec 32 := 2#32
  let v300 : BitVec 32 := Scalar.subi v8 c2_i32_216
  let c0_i32_217 : BitVec 32 := 0#32
  let v301 : BitVec 1 := Scalar.cmpi .sge v300 c0_i32_217
  let v302 : BitVec 1 := Scalar.andi v299 v301
  let v306 : BitVec 32 := Scalar.extui v302
  let c0_i32_221 : BitVec 32 := 0#32
  let v307 : BitVec 1 := Scalar.cmpi .ne v306 c0_i32_221
  v307

def k0_off21 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_220 : BitVec 32 := 3#32
  let c0_i32_219 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_218 : BitVec 32 := 2#32
  let v303 : BitVec 32 := Scalar.subi v8 c2_i32_218
  let v304 : BitVec 32 := Scalar.maxsi c0_i32_219 v303
  let v305 : BitVec 32 := Scalar.minsi c3_i32_220 v304
  let c0_i32_1231 : BitVec 32 := 0#32
  let c0_i32_1232 : BitVec 32 := 0#32
  ![v5.toNat, v305.toNat, 0, 0]
def k0_dev19 (d0 : Dev nD) : Nat :=
  let c0_i32_1228 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1227 : BitVec 32 := 16#32
  let v1552 : BitVec 32 := Scalar.muli v2 c16_i32_1227
  let v1553 : BitVec 32 := Scalar.addi c0_i32_1228 v1552
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1229 : BitVec 32 := 4#32
  let v1554 : BitVec 32 := Scalar.muli v5 c4_i32_1229
  let v1555 : BitVec 32 := Scalar.addi v1553 v1554
  let c3_i32_1222 : BitVec 32 := 3#32
  let c0_i32_1221 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1220 : BitVec 32 := 1#32
  let v1549 : BitVec 32 := Scalar.addi v8 c1_i32_1220
  let v1550 : BitVec 32 := Scalar.maxsi c0_i32_1221 v1549
  let v1551 : BitVec 32 := Scalar.minsi c3_i32_1222 v1550
  let c1_i32_1230 : BitVec 32 := 1#32
  let v1556 : BitVec 32 := Scalar.muli v1551 c1_i32_1230
  let v1557 : BitVec 32 := Scalar.addi v1555 v1556
  v1557.toNat
def k0_cond28 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_222 : BitVec 32 := 0#32
  let v308 : BitVec 1 := Scalar.cmpi .sgt v8 c0_i32_222
  let c2_i32_223 : BitVec 32 := 2#32
  let v309 : BitVec 32 := Scalar.addi v8 c2_i32_223
  let c3_i32_224 : BitVec 32 := 3#32
  let v310 : BitVec 1 := Scalar.cmpi .sle v309 c3_i32_224
  let v311 : BitVec 1 := Scalar.andi v308 v310
  let v315 : BitVec 32 := Scalar.extui v311
  let c0_i32_228 : BitVec 32 := 0#32
  let v316 : BitVec 1 := Scalar.cmpi .ne v315 c0_i32_228
  v316

def k0_off22 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_227 : BitVec 32 := 3#32
  let c0_i32_226 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_225 : BitVec 32 := 2#32
  let v312 : BitVec 32 := Scalar.addi v8 c2_i32_225
  let v313 : BitVec 32 := Scalar.maxsi c0_i32_226 v312
  let v314 : BitVec 32 := Scalar.minsi c3_i32_227 v313
  let c0_i32_1230 : BitVec 32 := 0#32
  let c0_i32_1231 : BitVec 32 := 0#32
  ![v5.toNat, v314.toNat, 0, 0]
def k0_dev20 (d0 : Dev nD) : Nat :=
  let c0_i32_1227 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1226 : BitVec 32 := 16#32
  let v1552 : BitVec 32 := Scalar.muli v2 c16_i32_1226
  let v1553 : BitVec 32 := Scalar.addi c0_i32_1227 v1552
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1228 : BitVec 32 := 4#32
  let v1554 : BitVec 32 := Scalar.muli v5 c4_i32_1228
  let v1555 : BitVec 32 := Scalar.addi v1553 v1554
  let c3_i32_1221 : BitVec 32 := 3#32
  let c0_i32_1220 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32 : BitVec 32 := 4294967295#32
  let v1549 : BitVec 32 := Scalar.addi v8 c_m1_i32
  let v1550 : BitVec 32 := Scalar.maxsi c0_i32_1220 v1549
  let v1551 : BitVec 32 := Scalar.minsi c3_i32_1221 v1550
  let c1_i32_1229 : BitVec 32 := 1#32
  let v1556 : BitVec 32 := Scalar.muli v1551 c1_i32_1229
  let v1557 : BitVec 32 := Scalar.addi v1555 v1556
  v1557.toNat
def k0_cond29 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_229 : BitVec 32 := 0#32
  let v317 : BitVec 1 := Scalar.cmpi .sgt v5 c0_i32_229
  let c1_i32_230 : BitVec 32 := 1#32
  let v318 : BitVec 32 := Scalar.subi v5 c1_i32_230
  let c2_i32_231 : BitVec 32 := 2#32
  let v319 : BitVec 32 := Scalar.subi v318 c2_i32_231
  let c0_i32_232 : BitVec 32 := 0#32
  let v320 : BitVec 1 := Scalar.cmpi .sge v319 c0_i32_232
  let v321 : BitVec 1 := Scalar.andi v317 v320
  let v326 : BitVec 32 := Scalar.extui v321
  let c0_i32_237 : BitVec 32 := 0#32
  let v327 : BitVec 1 := Scalar.cmpi .ne v326 c0_i32_237
  v327

def k0_off23 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_236 : BitVec 32 := 3#32
  let c0_i32_235 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_233 : BitVec 32 := 1#32
  let v322 : BitVec 32 := Scalar.subi v5 c1_i32_233
  let c2_i32_234 : BitVec 32 := 2#32
  let v323 : BitVec 32 := Scalar.subi v322 c2_i32_234
  let v324 : BitVec 32 := Scalar.maxsi c0_i32_235 v323
  let v325 : BitVec 32 := Scalar.minsi c3_i32_236 v324
  let c0_i32_1230 : BitVec 32 := 0#32
  let c0_i32_1231 : BitVec 32 := 0#32
  ![v8.toNat, v325.toNat, 0, 0]
def k0_cond30 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_238 : BitVec 32 := 3#32
  let v328 : BitVec 1 := Scalar.cmpi .slt v5 c3_i32_238
  let c1_i32_239 : BitVec 32 := 1#32
  let v329 : BitVec 32 := Scalar.addi v5 c1_i32_239
  let c2_i32_240 : BitVec 32 := 2#32
  let v330 : BitVec 32 := Scalar.addi v329 c2_i32_240
  let c3_i32_241 : BitVec 32 := 3#32
  let v331 : BitVec 1 := Scalar.cmpi .sle v330 c3_i32_241
  let v332 : BitVec 1 := Scalar.andi v328 v331
  let v337 : BitVec 32 := Scalar.extui v332
  let c0_i32_246 : BitVec 32 := 0#32
  let v338 : BitVec 1 := Scalar.cmpi .ne v337 c0_i32_246
  v338

def k0_off24 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_245 : BitVec 32 := 3#32
  let c0_i32_244 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_242 : BitVec 32 := 1#32
  let v333 : BitVec 32 := Scalar.addi v5 c1_i32_242
  let c2_i32_243 : BitVec 32 := 2#32
  let v334 : BitVec 32 := Scalar.addi v333 c2_i32_243
  let v335 : BitVec 32 := Scalar.maxsi c0_i32_244 v334
  let v336 : BitVec 32 := Scalar.minsi c3_i32_245 v335
  let c0_i32_1231 : BitVec 32 := 0#32
  let c0_i32_1232 : BitVec 32 := 0#32
  ![v8.toNat, v336.toNat, 0, 0]
def k0_cond31 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_247 : BitVec 32 := 0#32
  let v339 : BitVec 1 := Scalar.cmpi .sgt v8 c0_i32_247
  let c1_i32_248 : BitVec 32 := 1#32
  let v340 : BitVec 32 := Scalar.subi v8 c1_i32_248
  let c2_i32_249 : BitVec 32 := 2#32
  let v341 : BitVec 32 := Scalar.subi v340 c2_i32_249
  let c0_i32_250 : BitVec 32 := 0#32
  let v342 : BitVec 1 := Scalar.cmpi .sge v341 c0_i32_250
  let v343 : BitVec 1 := Scalar.andi v339 v342
  let v348 : BitVec 32 := Scalar.extui v343
  let c0_i32_255 : BitVec 32 := 0#32
  let v349 : BitVec 1 := Scalar.cmpi .ne v348 c0_i32_255
  v349

def k0_off25 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_254 : BitVec 32 := 3#32
  let c0_i32_253 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_251 : BitVec 32 := 1#32
  let v344 : BitVec 32 := Scalar.subi v8 c1_i32_251
  let c2_i32_252 : BitVec 32 := 2#32
  let v345 : BitVec 32 := Scalar.subi v344 c2_i32_252
  let v346 : BitVec 32 := Scalar.maxsi c0_i32_253 v345
  let v347 : BitVec 32 := Scalar.minsi c3_i32_254 v346
  let c0_i32_1230 : BitVec 32 := 0#32
  let c0_i32_1231 : BitVec 32 := 0#32
  ![v5.toNat, v347.toNat, 0, 0]
def k0_cond32 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_256 : BitVec 32 := 3#32
  let v350 : BitVec 1 := Scalar.cmpi .slt v8 c3_i32_256
  let c1_i32_257 : BitVec 32 := 1#32
  let v351 : BitVec 32 := Scalar.addi v8 c1_i32_257
  let c2_i32_258 : BitVec 32 := 2#32
  let v352 : BitVec 32 := Scalar.addi v351 c2_i32_258
  let c3_i32_259 : BitVec 32 := 3#32
  let v353 : BitVec 1 := Scalar.cmpi .sle v352 c3_i32_259
  let v354 : BitVec 1 := Scalar.andi v350 v353
  let v359 : BitVec 32 := Scalar.extui v354
  let c0_i32_264 : BitVec 32 := 0#32
  let v360 : BitVec 1 := Scalar.cmpi .ne v359 c0_i32_264
  v360

def k0_off26 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_263 : BitVec 32 := 3#32
  let c0_i32_262 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_260 : BitVec 32 := 1#32
  let v355 : BitVec 32 := Scalar.addi v8 c1_i32_260
  let c2_i32_261 : BitVec 32 := 2#32
  let v356 : BitVec 32 := Scalar.addi v355 c2_i32_261
  let v357 : BitVec 32 := Scalar.maxsi c0_i32_262 v356
  let v358 : BitVec 32 := Scalar.minsi c3_i32_263 v357
  let c0_i32_1231 : BitVec 32 := 0#32
  let c0_i32_1232 : BitVec 32 := 0#32
  ![v5.toNat, v358.toNat, 0, 0]
def k0_cond33 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_265 : BitVec 32 := 3#32
  let v361 : BitVec 1 := Scalar.cmpi .slt v8 c3_i32_265
  let c0_i32_266 : BitVec 32 := 0#32
  let v362 : BitVec 32 := Scalar.subi v8 c0_i32_266
  let c0_i32_267 : BitVec 32 := 0#32
  let v363 : BitVec 1 := Scalar.cmpi .sge v362 c0_i32_267
  let v364 : BitVec 1 := Scalar.andi v361 v363
  let v368 : BitVec 32 := Scalar.extui v364
  let c0_i32_271 : BitVec 32 := 0#32
  let v369 : BitVec 1 := Scalar.cmpi .ne v368 c0_i32_271
  v369

def k0_off27 (d0 : Dev nD) : Fin 4 → Nat :=
  let c3_i32_270 : BitVec 32 := 3#32
  let c0_i32_269 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_268 : BitVec 32 := 0#32
  let v365 : BitVec 32 := Scalar.subi v8 c0_i32_268
  let v366 : BitVec 32 := Scalar.maxsi c0_i32_269 v365
  let v367 : BitVec 32 := Scalar.minsi c3_i32_270 v366
  let c0_i32_1231 : BitVec 32 := 0#32
  let c0_i32_1232 : BitVec 32 := 0#32
  let c0_i32_1233 : BitVec 32 := 0#32
  ![v367.toNat, 0, 0, 0]
def k0_dev21 (d0 : Dev nD) : Nat :=
  let c0_i32_1228 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1227 : BitVec 32 := 16#32
  let v1552 : BitVec 32 := Scalar.muli v2 c16_i32_1227
  let v1553 : BitVec 32 := Scalar.addi c0_i32_1228 v1552
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1229 : BitVec 32 := 4#32
  let v1554 : BitVec 32 := Scalar.muli v5 c4_i32_1229
  let v1555 : BitVec 32 := Scalar.addi v1553 v1554
  let c3_i32_1222 : BitVec 32 := 3#32
  let c0_i32_1221 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1220 : BitVec 32 := 1#32
  let v1549 : BitVec 32 := Scalar.addi v8 c1_i32_1220
  let v1550 : BitVec 32 := Scalar.maxsi c0_i32_1221 v1549
  let v1551 : BitVec 32 := Scalar.minsi c3_i32_1222 v1550
  let c1_i32_1230 : BitVec 32 := 1#32
  let v1556 : BitVec 32 := Scalar.muli v1551 c1_i32_1230
  let v1557 : BitVec 32 := Scalar.addi v1555 v1556
  v1557.toNat
def k0_cond34 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_272 : BitVec 32 := 0#32
  let v370 : BitVec 1 := Scalar.cmpi .sgt v8 c0_i32_272
  let c0_i32_273 : BitVec 32 := 0#32
  let v371 : BitVec 32 := Scalar.addi v8 c0_i32_273
  let c3_i32_274 : BitVec 32 := 3#32
  let v372 : BitVec 1 := Scalar.cmpi .sle v371 c3_i32_274
  let v373 : BitVec 1 := Scalar.andi v370 v372
  let v377 : BitVec 32 := Scalar.extui v373
  let c0_i32_278 : BitVec 32 := 0#32
  let v378 : BitVec 1 := Scalar.cmpi .ne v377 c0_i32_278
  v378

def k0_off28 (d0 : Dev nD) : Fin 4 → Nat :=
  let c3_i32_277 : BitVec 32 := 3#32
  let c0_i32_276 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_275 : BitVec 32 := 0#32
  let v374 : BitVec 32 := Scalar.addi v8 c0_i32_275
  let v375 : BitVec 32 := Scalar.maxsi c0_i32_276 v374
  let v376 : BitVec 32 := Scalar.minsi c3_i32_277 v375
  let c0_i32_1229 : BitVec 32 := 0#32
  let c0_i32_1230 : BitVec 32 := 0#32
  let c0_i32_1231 : BitVec 32 := 0#32
  ![v376.toNat, 0, 0, 0]
def k0_dev22 (d0 : Dev nD) : Nat :=
  let c0_i32_1226 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1225 : BitVec 32 := 16#32
  let v1552 : BitVec 32 := Scalar.muli v2 c16_i32_1225
  let v1553 : BitVec 32 := Scalar.addi c0_i32_1226 v1552
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1227 : BitVec 32 := 4#32
  let v1554 : BitVec 32 := Scalar.muli v5 c4_i32_1227
  let v1555 : BitVec 32 := Scalar.addi v1553 v1554
  let c3_i32_1221 : BitVec 32 := 3#32
  let c0_i32_1220 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32 : BitVec 32 := 4294967295#32
  let v1549 : BitVec 32 := Scalar.addi v8 c_m1_i32
  let v1550 : BitVec 32 := Scalar.maxsi c0_i32_1220 v1549
  let v1551 : BitVec 32 := Scalar.minsi c3_i32_1221 v1550
  let c1_i32_1228 : BitVec 32 := 1#32
  let v1556 : BitVec 32 := Scalar.muli v1551 c1_i32_1228
  let v1557 : BitVec 32 := Scalar.addi v1555 v1556
  v1557.toNat
def k0_cond35 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_279 : BitVec 32 := 3#32
  let v379 : BitVec 1 := Scalar.cmpi .slt v5 c3_i32_279
  let c0_i32_280 : BitVec 32 := 0#32
  let v380 : BitVec 32 := Scalar.subi v5 c0_i32_280
  let c0_i32_281 : BitVec 32 := 0#32
  let v381 : BitVec 1 := Scalar.cmpi .sge v380 c0_i32_281
  let v382 : BitVec 1 := Scalar.andi v379 v381
  let v386 : BitVec 32 := Scalar.extui v382
  let c0_i32_285 : BitVec 32 := 0#32
  let v387 : BitVec 1 := Scalar.cmpi .ne v386 c0_i32_285
  v387

def k0_off29 (d0 : Dev nD) : Fin 4 → Nat :=
  let c3_i32_284 : BitVec 32 := 3#32
  let c0_i32_283 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_282 : BitVec 32 := 0#32
  let v383 : BitVec 32 := Scalar.subi v5 c0_i32_282
  let v384 : BitVec 32 := Scalar.maxsi c0_i32_283 v383
  let v385 : BitVec 32 := Scalar.minsi c3_i32_284 v384
  let c0_i32_1230 : BitVec 32 := 0#32
  let c0_i32_1231 : BitVec 32 := 0#32
  let c0_i32_1232 : BitVec 32 := 0#32
  ![v385.toNat, 0, 0, 0]
def k0_dev23 (d0 : Dev nD) : Nat :=
  let c0_i32_1227 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1226 : BitVec 32 := 16#32
  let v1552 : BitVec 32 := Scalar.muli v2 c16_i32_1226
  let v1553 : BitVec 32 := Scalar.addi c0_i32_1227 v1552
  let c3_i32_1222 : BitVec 32 := 3#32
  let c0_i32_1221 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1220 : BitVec 32 := 1#32
  let v1549 : BitVec 32 := Scalar.addi v5 c1_i32_1220
  let v1550 : BitVec 32 := Scalar.maxsi c0_i32_1221 v1549
  let v1551 : BitVec 32 := Scalar.minsi c3_i32_1222 v1550
  let c4_i32_1228 : BitVec 32 := 4#32
  let v1554 : BitVec 32 := Scalar.muli v1551 c4_i32_1228
  let v1555 : BitVec 32 := Scalar.addi v1553 v1554
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1229 : BitVec 32 := 1#32
  let v1556 : BitVec 32 := Scalar.muli v8 c1_i32_1229
  let v1557 : BitVec 32 := Scalar.addi v1555 v1556
  v1557.toNat
def k0_cond36 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_286 : BitVec 32 := 0#32
  let v388 : BitVec 1 := Scalar.cmpi .sgt v5 c0_i32_286
  let c0_i32_287 : BitVec 32 := 0#32
  let v389 : BitVec 32 := Scalar.addi v5 c0_i32_287
  let c3_i32_288 : BitVec 32 := 3#32
  let v390 : BitVec 1 := Scalar.cmpi .sle v389 c3_i32_288
  let v391 : BitVec 1 := Scalar.andi v388 v390
  let v395 : BitVec 32 := Scalar.extui v391
  let c0_i32_292 : BitVec 32 := 0#32
  let v396 : BitVec 1 := Scalar.cmpi .ne v395 c0_i32_292
  v396

def k0_off30 (d0 : Dev nD) : Fin 4 → Nat :=
  let c3_i32_291 : BitVec 32 := 3#32
  let c0_i32_290 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_289 : BitVec 32 := 0#32
  let v392 : BitVec 32 := Scalar.addi v5 c0_i32_289
  let v393 : BitVec 32 := Scalar.maxsi c0_i32_290 v392
  let v394 : BitVec 32 := Scalar.minsi c3_i32_291 v393
  let c0_i32_1229 : BitVec 32 := 0#32
  let c0_i32_1230 : BitVec 32 := 0#32
  let c0_i32_1231 : BitVec 32 := 0#32
  ![v394.toNat, 0, 0, 0]
def k0_dev24 (d0 : Dev nD) : Nat :=
  let c0_i32_1226 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1225 : BitVec 32 := 16#32
  let v1552 : BitVec 32 := Scalar.muli v2 c16_i32_1225
  let v1553 : BitVec 32 := Scalar.addi c0_i32_1226 v1552
  let c3_i32_1221 : BitVec 32 := 3#32
  let c0_i32_1220 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v1549 : BitVec 32 := Scalar.addi v5 c_m1_i32
  let v1550 : BitVec 32 := Scalar.maxsi c0_i32_1220 v1549
  let v1551 : BitVec 32 := Scalar.minsi c3_i32_1221 v1550
  let c4_i32_1227 : BitVec 32 := 4#32
  let v1554 : BitVec 32 := Scalar.muli v1551 c4_i32_1227
  let v1555 : BitVec 32 := Scalar.addi v1553 v1554
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1228 : BitVec 32 := 1#32
  let v1556 : BitVec 32 := Scalar.muli v8 c1_i32_1228
  let v1557 : BitVec 32 := Scalar.addi v1555 v1556
  v1557.toNat
def k0_cond37 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_293 : BitVec 32 := 3#32
  let v397 : BitVec 1 := Scalar.cmpi .slt v8 c3_i32_293
  let c0_i32_294 : BitVec 32 := 0#32
  let v398 : BitVec 32 := Scalar.subi v8 c0_i32_294
  let c0_i32_295 : BitVec 32 := 0#32
  let v399 : BitVec 1 := Scalar.cmpi .sge v398 c0_i32_295
  let v400 : BitVec 1 := Scalar.andi v397 v399
  let v404 : BitVec 32 := Scalar.extui v400
  let c0_i32_299 : BitVec 32 := 0#32
  let v405 : BitVec 1 := Scalar.cmpi .ne v404 c0_i32_299
  v405

def k0_off31 (d0 : Dev nD) : Fin 4 → Nat :=
  let c3_i32_298 : BitVec 32 := 3#32
  let c0_i32_297 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_296 : BitVec 32 := 0#32
  let v401 : BitVec 32 := Scalar.subi v8 c0_i32_296
  let v402 : BitVec 32 := Scalar.maxsi c0_i32_297 v401
  let v403 : BitVec 32 := Scalar.minsi c3_i32_298 v402
  let c2_i32_1231 : BitVec 32 := 2#32
  let c0_i32_1232 : BitVec 32 := 0#32
  let c0_i32_1233 : BitVec 32 := 0#32
  ![v403.toNat, 2, 0, 0]
def k0_dev25 (d0 : Dev nD) : Nat :=
  let c0_i32_1228 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1227 : BitVec 32 := 16#32
  let v1552 : BitVec 32 := Scalar.muli v2 c16_i32_1227
  let v1553 : BitVec 32 := Scalar.addi c0_i32_1228 v1552
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1229 : BitVec 32 := 4#32
  let v1554 : BitVec 32 := Scalar.muli v5 c4_i32_1229
  let v1555 : BitVec 32 := Scalar.addi v1553 v1554
  let c3_i32_1222 : BitVec 32 := 3#32
  let c0_i32_1221 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1220 : BitVec 32 := 1#32
  let v1549 : BitVec 32 := Scalar.addi v8 c1_i32_1220
  let v1550 : BitVec 32 := Scalar.maxsi c0_i32_1221 v1549
  let v1551 : BitVec 32 := Scalar.minsi c3_i32_1222 v1550
  let c1_i32_1230 : BitVec 32 := 1#32
  let v1556 : BitVec 32 := Scalar.muli v1551 c1_i32_1230
  let v1557 : BitVec 32 := Scalar.addi v1555 v1556
  v1557.toNat
def k0_cond38 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_300 : BitVec 32 := 0#32
  let v406 : BitVec 1 := Scalar.cmpi .sgt v8 c0_i32_300
  let c0_i32_301 : BitVec 32 := 0#32
  let v407 : BitVec 32 := Scalar.addi v8 c0_i32_301
  let c3_i32_302 : BitVec 32 := 3#32
  let v408 : BitVec 1 := Scalar.cmpi .sle v407 c3_i32_302
  let v409 : BitVec 1 := Scalar.andi v406 v408
  let v413 : BitVec 32 := Scalar.extui v409
  let c0_i32_306 : BitVec 32 := 0#32
  let v414 : BitVec 1 := Scalar.cmpi .ne v413 c0_i32_306
  v414

def k0_off32 (d0 : Dev nD) : Fin 4 → Nat :=
  let c3_i32_305 : BitVec 32 := 3#32
  let c0_i32_304 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_303 : BitVec 32 := 0#32
  let v410 : BitVec 32 := Scalar.addi v8 c0_i32_303
  let v411 : BitVec 32 := Scalar.maxsi c0_i32_304 v410
  let v412 : BitVec 32 := Scalar.minsi c3_i32_305 v411
  let c2_i32_1229 : BitVec 32 := 2#32
  let c0_i32_1230 : BitVec 32 := 0#32
  let c0_i32_1231 : BitVec 32 := 0#32
  ![v412.toNat, 2, 0, 0]
def k0_dev26 (d0 : Dev nD) : Nat :=
  let c0_i32_1226 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1225 : BitVec 32 := 16#32
  let v1552 : BitVec 32 := Scalar.muli v2 c16_i32_1225
  let v1553 : BitVec 32 := Scalar.addi c0_i32_1226 v1552
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1227 : BitVec 32 := 4#32
  let v1554 : BitVec 32 := Scalar.muli v5 c4_i32_1227
  let v1555 : BitVec 32 := Scalar.addi v1553 v1554
  let c3_i32_1221 : BitVec 32 := 3#32
  let c0_i32_1220 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32 : BitVec 32 := 4294967295#32
  let v1549 : BitVec 32 := Scalar.addi v8 c_m1_i32
  let v1550 : BitVec 32 := Scalar.maxsi c0_i32_1220 v1549
  let v1551 : BitVec 32 := Scalar.minsi c3_i32_1221 v1550
  let c1_i32_1228 : BitVec 32 := 1#32
  let v1556 : BitVec 32 := Scalar.muli v1551 c1_i32_1228
  let v1557 : BitVec 32 := Scalar.addi v1555 v1556
  v1557.toNat
def k0_cond39 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_307 : BitVec 32 := 3#32
  let v415 : BitVec 1 := Scalar.cmpi .slt v5 c3_i32_307
  let c0_i32_308 : BitVec 32 := 0#32
  let v416 : BitVec 32 := Scalar.subi v5 c0_i32_308
  let c0_i32_309 : BitVec 32 := 0#32
  let v417 : BitVec 1 := Scalar.cmpi .sge v416 c0_i32_309
  let v418 : BitVec 1 := Scalar.andi v415 v417
  let v422 : BitVec 32 := Scalar.extui v418
  let c0_i32_313 : BitVec 32 := 0#32
  let v423 : BitVec 1 := Scalar.cmpi .ne v422 c0_i32_313
  v423

def k0_off33 (d0 : Dev nD) : Fin 4 → Nat :=
  let c3_i32_312 : BitVec 32 := 3#32
  let c0_i32_311 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_310 : BitVec 32 := 0#32
  let v419 : BitVec 32 := Scalar.subi v5 c0_i32_310
  let v420 : BitVec 32 := Scalar.maxsi c0_i32_311 v419
  let v421 : BitVec 32 := Scalar.minsi c3_i32_312 v420
  let c2_i32_1230 : BitVec 32 := 2#32
  let c0_i32_1231 : BitVec 32 := 0#32
  let c0_i32_1232 : BitVec 32 := 0#32
  ![v421.toNat, 2, 0, 0]
def k0_dev27 (d0 : Dev nD) : Nat :=
  let c0_i32_1227 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1226 : BitVec 32 := 16#32
  let v1552 : BitVec 32 := Scalar.muli v2 c16_i32_1226
  let v1553 : BitVec 32 := Scalar.addi c0_i32_1227 v1552
  let c3_i32_1222 : BitVec 32 := 3#32
  let c0_i32_1221 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1220 : BitVec 32 := 1#32
  let v1549 : BitVec 32 := Scalar.addi v5 c1_i32_1220
  let v1550 : BitVec 32 := Scalar.maxsi c0_i32_1221 v1549
  let v1551 : BitVec 32 := Scalar.minsi c3_i32_1222 v1550
  let c4_i32_1228 : BitVec 32 := 4#32
  let v1554 : BitVec 32 := Scalar.muli v1551 c4_i32_1228
  let v1555 : BitVec 32 := Scalar.addi v1553 v1554
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1229 : BitVec 32 := 1#32
  let v1556 : BitVec 32 := Scalar.muli v8 c1_i32_1229
  let v1557 : BitVec 32 := Scalar.addi v1555 v1556
  v1557.toNat
def k0_cond40 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_314 : BitVec 32 := 0#32
  let v424 : BitVec 1 := Scalar.cmpi .sgt v5 c0_i32_314
  let c0_i32_315 : BitVec 32 := 0#32
  let v425 : BitVec 32 := Scalar.addi v5 c0_i32_315
  let c3_i32_316 : BitVec 32 := 3#32
  let v426 : BitVec 1 := Scalar.cmpi .sle v425 c3_i32_316
  let v427 : BitVec 1 := Scalar.andi v424 v426
  let v431 : BitVec 32 := Scalar.extui v427
  let c0_i32_320 : BitVec 32 := 0#32
  let v432 : BitVec 1 := Scalar.cmpi .ne v431 c0_i32_320
  v432

def k0_off34 (d0 : Dev nD) : Fin 4 → Nat :=
  let c3_i32_319 : BitVec 32 := 3#32
  let c0_i32_318 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_317 : BitVec 32 := 0#32
  let v428 : BitVec 32 := Scalar.addi v5 c0_i32_317
  let v429 : BitVec 32 := Scalar.maxsi c0_i32_318 v428
  let v430 : BitVec 32 := Scalar.minsi c3_i32_319 v429
  let c2_i32_1229 : BitVec 32 := 2#32
  let c0_i32_1230 : BitVec 32 := 0#32
  let c0_i32_1231 : BitVec 32 := 0#32
  ![v430.toNat, 2, 0, 0]
def k0_dev28 (d0 : Dev nD) : Nat :=
  let c0_i32_1226 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1225 : BitVec 32 := 16#32
  let v1552 : BitVec 32 := Scalar.muli v2 c16_i32_1225
  let v1553 : BitVec 32 := Scalar.addi c0_i32_1226 v1552
  let c3_i32_1221 : BitVec 32 := 3#32
  let c0_i32_1220 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v1549 : BitVec 32 := Scalar.addi v5 c_m1_i32
  let v1550 : BitVec 32 := Scalar.maxsi c0_i32_1220 v1549
  let v1551 : BitVec 32 := Scalar.minsi c3_i32_1221 v1550
  let c4_i32_1227 : BitVec 32 := 4#32
  let v1554 : BitVec 32 := Scalar.muli v1551 c4_i32_1227
  let v1555 : BitVec 32 := Scalar.addi v1553 v1554
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1228 : BitVec 32 := 1#32
  let v1556 : BitVec 32 := Scalar.muli v8 c1_i32_1228
  let v1557 : BitVec 32 := Scalar.addi v1555 v1556
  v1557.toNat
def k0_off35 (d0 : Dev nD) (c1_i32 : BitVec 32) : Fin 4 → Nat :=
  let v6 : BitVec 32 := Dev.word d0
  let v7 : BitVec 32 := Scalar.divsi v6 c1_i32
  let c4_i32_1 : BitVec 32 := 4#32
  let v8 : BitVec 32 := Scalar.remsi v7 c4_i32_1
  let v436 : Index := Scalar.indexCast v8
  let c0_324 : Index := 0#32
  let c0_325 : Index := 0#32
  let c0_326 : Index := 0#32
  ![v436.toNat, 0, 0, 0]
def k0_off36 (d0 : Dev nD) (c0_i32_321 : BitVec 32) : Fin 2 → Nat :=
  let c1536_i32_323 : BitVec 32 := 1536#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v433 : BitVec 32 := Scalar.addi c0_i32_321 v8
  let c160_i32_322 : BitVec 32 := 160#32
  let v434 : BitVec 32 := Scalar.muli v433 c160_i32_322
  let v435 : BitVec 32 := Scalar.addi c1536_i32_323 v434
  let v440 : Index := Scalar.indexCast v435
  let c0_327 : Index := 0#32
  ![v440.toNat, 0]
def k0_off37 (d0 : Dev nD) (c1_i32 : BitVec 32) : Fin 4 → Nat :=
  let v6 : BitVec 32 := Dev.word d0
  let v7 : BitVec 32 := Scalar.divsi v6 c1_i32
  let c4_i32_1 : BitVec 32 := 4#32
  let v8 : BitVec 32 := Scalar.remsi v7 c4_i32_1
  let v445 : Index := Scalar.indexCast v8
  let c1 : Index := 1#32
  let c0_331 : Index := 0#32
  let c0_332 : Index := 0#32
  ![v445.toNat, 1, 0, 0]
def k0_off38 (d0 : Dev nD) (c1_i32 : BitVec 32) : Fin 4 → Nat :=
  let v6 : BitVec 32 := Dev.word d0
  let v7 : BitVec 32 := Scalar.divsi v6 c1_i32
  let c4_i32_1 : BitVec 32 := 4#32
  let v8 : BitVec 32 := Scalar.remsi v7 c4_i32_1
  let v454 : Index := Scalar.indexCast v8
  let c2 : Index := 2#32
  let c0_336 : Index := 0#32
  let c0_337 : Index := 0#32
  ![v454.toNat, 2, 0, 0]
def k0_off39 (d0 : Dev nD) (c1_i32 : BitVec 32) : Fin 4 → Nat :=
  let v6 : BitVec 32 := Dev.word d0
  let v7 : BitVec 32 := Scalar.divsi v6 c1_i32
  let c4_i32_1 : BitVec 32 := 4#32
  let v8 : BitVec 32 := Scalar.remsi v7 c4_i32_1
  let v463 : Index := Scalar.indexCast v8
  let c3 : Index := 3#32
  let c0_341 : Index := 0#32
  let c0_342 : Index := 0#32
  ![v463.toNat, 3, 0, 0]
def k0_off40 (d0 : Dev nD) (c0_i32_345 : BitVec 32) : Fin 2 → Nat :=
  let c1536_i32_347 : BitVec 32 := 1536#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_344 : BitVec 32 := 4#32
  let v469 : BitVec 32 := Scalar.muli v5 c4_i32_344
  let v470 : BitVec 32 := Scalar.addi v469 c0_i32_345
  let c160_i32_346 : BitVec 32 := 160#32
  let v471 : BitVec 32 := Scalar.muli v470 c160_i32_346
  let v472 : BitVec 32 := Scalar.addi c1536_i32_347 v471
  let c80_i32 : BitVec 32 := 80#32
  let v473 : BitVec 32 := Scalar.addi v472 c80_i32
  let v478 : Index := Scalar.indexCast v473
  let c0_351 : Index := 0#32
  ![v478.toNat, 0]
def k0_cond41 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_379 : BitVec 32 := 0#32
  let v513 : BitVec 1 := Scalar.cmpi .sgt v8 c0_i32_379
  let c1_i32_380 : BitVec 32 := 1#32
  let v514 : BitVec 32 := Scalar.subi v8 c1_i32_380
  let c0_i32_381 : BitVec 32 := 0#32
  let v515 : BitVec 32 := Scalar.subi v514 c0_i32_381
  let c0_i32_382 : BitVec 32 := 0#32
  let v516 : BitVec 1 := Scalar.cmpi .sge v515 c0_i32_382
  let v517 : BitVec 1 := Scalar.andi v513 v516
  let v522 : BitVec 32 := Scalar.extui v517
  let c0_i32_387 : BitVec 32 := 0#32
  let v523 : BitVec 1 := Scalar.cmpi .ne v522 c0_i32_387
  v523

def k0_off41 (d0 : Dev nD) : Fin 4 → Nat :=
  let c3_i32_386 : BitVec 32 := 3#32
  let c0_i32_385 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_383 : BitVec 32 := 1#32
  let v518 : BitVec 32 := Scalar.subi v8 c1_i32_383
  let c0_i32_384 : BitVec 32 := 0#32
  let v519 : BitVec 32 := Scalar.subi v518 c0_i32_384
  let v520 : BitVec 32 := Scalar.maxsi c0_i32_385 v519
  let v521 : BitVec 32 := Scalar.minsi c3_i32_386 v520
  let c0_i32_1230 : BitVec 32 := 0#32
  let c0_i32_1231 : BitVec 32 := 0#32
  let c0_i32_1232 : BitVec 32 := 0#32
  ![v521.toNat, 0, 0, 0]
def k0_cond42 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_388 : BitVec 32 := 3#32
  let v524 : BitVec 1 := Scalar.cmpi .slt v8 c3_i32_388
  let c1_i32_389 : BitVec 32 := 1#32
  let v525 : BitVec 32 := Scalar.addi v8 c1_i32_389
  let c0_i32_390 : BitVec 32 := 0#32
  let v526 : BitVec 32 := Scalar.addi v525 c0_i32_390
  let c3_i32_391 : BitVec 32 := 3#32
  let v527 : BitVec 1 := Scalar.cmpi .sle v526 c3_i32_391
  let v528 : BitVec 1 := Scalar.andi v524 v527
  let v533 : BitVec 32 := Scalar.extui v528
  let c0_i32_396 : BitVec 32 := 0#32
  let v534 : BitVec 1 := Scalar.cmpi .ne v533 c0_i32_396
  v534

def k0_off42 (d0 : Dev nD) : Fin 4 → Nat :=
  let c3_i32_395 : BitVec 32 := 3#32
  let c0_i32_394 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_392 : BitVec 32 := 1#32
  let v529 : BitVec 32 := Scalar.addi v8 c1_i32_392
  let c0_i32_393 : BitVec 32 := 0#32
  let v530 : BitVec 32 := Scalar.addi v529 c0_i32_393
  let v531 : BitVec 32 := Scalar.maxsi c0_i32_394 v530
  let v532 : BitVec 32 := Scalar.minsi c3_i32_395 v531
  let c0_i32_1230 : BitVec 32 := 0#32
  let c0_i32_1231 : BitVec 32 := 0#32
  let c0_i32_1232 : BitVec 32 := 0#32
  ![v532.toNat, 0, 0, 0]
def k0_cond43 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_397 : BitVec 32 := 0#32
  let v535 : BitVec 1 := Scalar.cmpi .sgt v5 c0_i32_397
  let c1_i32_398 : BitVec 32 := 1#32
  let v536 : BitVec 32 := Scalar.subi v5 c1_i32_398
  let c0_i32_399 : BitVec 32 := 0#32
  let v537 : BitVec 32 := Scalar.subi v536 c0_i32_399
  let c0_i32_400 : BitVec 32 := 0#32
  let v538 : BitVec 1 := Scalar.cmpi .sge v537 c0_i32_400
  let v539 : BitVec 1 := Scalar.andi v535 v538
  let v544 : BitVec 32 := Scalar.extui v539
  let c0_i32_405 : BitVec 32 := 0#32
  let v545 : BitVec 1 := Scalar.cmpi .ne v544 c0_i32_405
  v545

def k0_off43 (d0 : Dev nD) : Fin 4 → Nat :=
  let c3_i32_404 : BitVec 32 := 3#32
  let c0_i32_403 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_401 : BitVec 32 := 1#32
  let v540 : BitVec 32 := Scalar.subi v5 c1_i32_401
  let c0_i32_402 : BitVec 32 := 0#32
  let v541 : BitVec 32 := Scalar.subi v540 c0_i32_402
  let v542 : BitVec 32 := Scalar.maxsi c0_i32_403 v541
  let v543 : BitVec 32 := Scalar.minsi c3_i32_404 v542
  let c0_i32_1229 : BitVec 32 := 0#32
  let c0_i32_1230 : BitVec 32 := 0#32
  let c0_i32_1231 : BitVec 32 := 0#32
  ![v543.toNat, 0, 0, 0]
def k0_cond44 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_406 : BitVec 32 := 3#32
  let v546 : BitVec 1 := Scalar.cmpi .slt v5 c3_i32_406
  let c1_i32_407 : BitVec 32 := 1#32
  let v547 : BitVec 32 := Scalar.addi v5 c1_i32_407
  let c0_i32_408 : BitVec 32 := 0#32
  let v548 : BitVec 32 := Scalar.addi v547 c0_i32_408
  let c3_i32_409 : BitVec 32 := 3#32
  let v549 : BitVec 1 := Scalar.cmpi .sle v548 c3_i32_409
  let v550 : BitVec 1 := Scalar.andi v546 v549
  let v555 : BitVec 32 := Scalar.extui v550
  let c0_i32_414 : BitVec 32 := 0#32
  let v556 : BitVec 1 := Scalar.cmpi .ne v555 c0_i32_414
  v556

def k0_off44 (d0 : Dev nD) : Fin 4 → Nat :=
  let c3_i32_413 : BitVec 32 := 3#32
  let c0_i32_412 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_410 : BitVec 32 := 1#32
  let v551 : BitVec 32 := Scalar.addi v5 c1_i32_410
  let c0_i32_411 : BitVec 32 := 0#32
  let v552 : BitVec 32 := Scalar.addi v551 c0_i32_411
  let v553 : BitVec 32 := Scalar.maxsi c0_i32_412 v552
  let v554 : BitVec 32 := Scalar.minsi c3_i32_413 v553
  let c0_i32_1230 : BitVec 32 := 0#32
  let c0_i32_1231 : BitVec 32 := 0#32
  let c0_i32_1232 : BitVec 32 := 0#32
  ![v554.toNat, 0, 0, 0]
def k0_cond45 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_415 : BitVec 32 := 0#32
  let v557 : BitVec 1 := Scalar.cmpi .sgt v8 c0_i32_415
  let c1_i32_416 : BitVec 32 := 1#32
  let v558 : BitVec 32 := Scalar.subi v8 c1_i32_416
  let c0_i32_417 : BitVec 32 := 0#32
  let v559 : BitVec 32 := Scalar.subi v558 c0_i32_417
  let c0_i32_418 : BitVec 32 := 0#32
  let v560 : BitVec 1 := Scalar.cmpi .sge v559 c0_i32_418
  let v561 : BitVec 1 := Scalar.andi v557 v560
  let v566 : BitVec 32 := Scalar.extui v561
  let c0_i32_423 : BitVec 32 := 0#32
  let v567 : BitVec 1 := Scalar.cmpi .ne v566 c0_i32_423
  v567

def k0_off45 (d0 : Dev nD) : Fin 4 → Nat :=
  let c3_i32_422 : BitVec 32 := 3#32
  let c0_i32_421 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_419 : BitVec 32 := 1#32
  let v562 : BitVec 32 := Scalar.subi v8 c1_i32_419
  let c0_i32_420 : BitVec 32 := 0#32
  let v563 : BitVec 32 := Scalar.subi v562 c0_i32_420
  let v564 : BitVec 32 := Scalar.maxsi c0_i32_421 v563
  let v565 : BitVec 32 := Scalar.minsi c3_i32_422 v564
  let c2_i32_1230 : BitVec 32 := 2#32
  let c0_i32_1231 : BitVec 32 := 0#32
  let c0_i32_1232 : BitVec 32 := 0#32
  ![v565.toNat, 2, 0, 0]
def k0_cond46 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_424 : BitVec 32 := 3#32
  let v568 : BitVec 1 := Scalar.cmpi .slt v8 c3_i32_424
  let c1_i32_425 : BitVec 32 := 1#32
  let v569 : BitVec 32 := Scalar.addi v8 c1_i32_425
  let c0_i32_426 : BitVec 32 := 0#32
  let v570 : BitVec 32 := Scalar.addi v569 c0_i32_426
  let c3_i32_427 : BitVec 32 := 3#32
  let v571 : BitVec 1 := Scalar.cmpi .sle v570 c3_i32_427
  let v572 : BitVec 1 := Scalar.andi v568 v571
  let v577 : BitVec 32 := Scalar.extui v572
  let c0_i32_432 : BitVec 32 := 0#32
  let v578 : BitVec 1 := Scalar.cmpi .ne v577 c0_i32_432
  v578

def k0_off46 (d0 : Dev nD) : Fin 4 → Nat :=
  let c3_i32_431 : BitVec 32 := 3#32
  let c0_i32_430 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_428 : BitVec 32 := 1#32
  let v573 : BitVec 32 := Scalar.addi v8 c1_i32_428
  let c0_i32_429 : BitVec 32 := 0#32
  let v574 : BitVec 32 := Scalar.addi v573 c0_i32_429
  let v575 : BitVec 32 := Scalar.maxsi c0_i32_430 v574
  let v576 : BitVec 32 := Scalar.minsi c3_i32_431 v575
  let c2_i32_1230 : BitVec 32 := 2#32
  let c0_i32_1231 : BitVec 32 := 0#32
  let c0_i32_1232 : BitVec 32 := 0#32
  ![v576.toNat, 2, 0, 0]
def k0_cond47 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_433 : BitVec 32 := 0#32
  let v579 : BitVec 1 := Scalar.cmpi .sgt v5 c0_i32_433
  let c1_i32_434 : BitVec 32 := 1#32
  let v580 : BitVec 32 := Scalar.subi v5 c1_i32_434
  let c0_i32_435 : BitVec 32 := 0#32
  let v581 : BitVec 32 := Scalar.subi v580 c0_i32_435
  let c0_i32_436 : BitVec 32 := 0#32
  let v582 : BitVec 1 := Scalar.cmpi .sge v581 c0_i32_436
  let v583 : BitVec 1 := Scalar.andi v579 v582
  let v588 : BitVec 32 := Scalar.extui v583
  let c0_i32_441 : BitVec 32 := 0#32
  let v589 : BitVec 1 := Scalar.cmpi .ne v588 c0_i32_441
  v589

def k0_off47 (d0 : Dev nD) : Fin 4 → Nat :=
  let c3_i32_440 : BitVec 32 := 3#32
  let c0_i32_439 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_437 : BitVec 32 := 1#32
  let v584 : BitVec 32 := Scalar.subi v5 c1_i32_437
  let c0_i32_438 : BitVec 32 := 0#32
  let v585 : BitVec 32 := Scalar.subi v584 c0_i32_438
  let v586 : BitVec 32 := Scalar.maxsi c0_i32_439 v585
  let v587 : BitVec 32 := Scalar.minsi c3_i32_440 v586
  let c2_i32_1229 : BitVec 32 := 2#32
  let c0_i32_1230 : BitVec 32 := 0#32
  let c0_i32_1231 : BitVec 32 := 0#32
  ![v587.toNat, 2, 0, 0]
def k0_cond48 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_442 : BitVec 32 := 3#32
  let v590 : BitVec 1 := Scalar.cmpi .slt v5 c3_i32_442
  let c1_i32_443 : BitVec 32 := 1#32
  let v591 : BitVec 32 := Scalar.addi v5 c1_i32_443
  let c0_i32_444 : BitVec 32 := 0#32
  let v592 : BitVec 32 := Scalar.addi v591 c0_i32_444
  let c3_i32_445 : BitVec 32 := 3#32
  let v593 : BitVec 1 := Scalar.cmpi .sle v592 c3_i32_445
  let v594 : BitVec 1 := Scalar.andi v590 v593
  let v599 : BitVec 32 := Scalar.extui v594
  let c0_i32_450 : BitVec 32 := 0#32
  let v600 : BitVec 1 := Scalar.cmpi .ne v599 c0_i32_450
  v600

def k0_off48 (d0 : Dev nD) : Fin 4 → Nat :=
  let c3_i32_449 : BitVec 32 := 3#32
  let c0_i32_448 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_446 : BitVec 32 := 1#32
  let v595 : BitVec 32 := Scalar.addi v5 c1_i32_446
  let c0_i32_447 : BitVec 32 := 0#32
  let v596 : BitVec 32 := Scalar.addi v595 c0_i32_447
  let v597 : BitVec 32 := Scalar.maxsi c0_i32_448 v596
  let v598 : BitVec 32 := Scalar.minsi c3_i32_449 v597
  let c2_i32_1230 : BitVec 32 := 2#32
  let c0_i32_1231 : BitVec 32 := 0#32
  let c0_i32_1232 : BitVec 32 := 0#32
  ![v598.toNat, 2, 0, 0]
def k0_cond49 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_451 : BitVec 32 := 3#32
  let v601 : BitVec 1 := Scalar.cmpi .slt v8 c3_i32_451
  let c1_i32_452 : BitVec 32 := 1#32
  let v602 : BitVec 32 := Scalar.subi v8 c1_i32_452
  let c0_i32_453 : BitVec 32 := 0#32
  let v603 : BitVec 1 := Scalar.cmpi .sge v602 c0_i32_453
  let v604 : BitVec 1 := Scalar.andi v601 v603
  let v608 : BitVec 32 := Scalar.extui v604
  let c0_i32_457 : BitVec 32 := 0#32
  let v609 : BitVec 1 := Scalar.cmpi .ne v608 c0_i32_457
  v609

def k0_off49 (d0 : Dev nD) : Fin 4 → Nat :=
  let c3_i32_456 : BitVec 32 := 3#32
  let c0_i32_455 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_454 : BitVec 32 := 1#32
  let v605 : BitVec 32 := Scalar.subi v8 c1_i32_454
  let v606 : BitVec 32 := Scalar.maxsi c0_i32_455 v605
  let v607 : BitVec 32 := Scalar.minsi c3_i32_456 v606
  let c0_i32_1231 : BitVec 32 := 0#32
  let c0_i32_1232 : BitVec 32 := 0#32
  let c0_i32_1233 : BitVec 32 := 0#32
  ![v607.toNat, 0, 0, 0]
def k0_dev29 (d0 : Dev nD) : Nat :=
  let c0_i32_1228 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1227 : BitVec 32 := 16#32
  let v1552 : BitVec 32 := Scalar.muli v2 c16_i32_1227
  let v1553 : BitVec 32 := Scalar.addi c0_i32_1228 v1552
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1229 : BitVec 32 := 4#32
  let v1554 : BitVec 32 := Scalar.muli v5 c4_i32_1229
  let v1555 : BitVec 32 := Scalar.addi v1553 v1554
  let c3_i32_1222 : BitVec 32 := 3#32
  let c0_i32_1221 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1220 : BitVec 32 := 1#32
  let v1549 : BitVec 32 := Scalar.addi v8 c1_i32_1220
  let v1550 : BitVec 32 := Scalar.maxsi c0_i32_1221 v1549
  let v1551 : BitVec 32 := Scalar.minsi c3_i32_1222 v1550
  let c1_i32_1230 : BitVec 32 := 1#32
  let v1556 : BitVec 32 := Scalar.muli v1551 c1_i32_1230
  let v1557 : BitVec 32 := Scalar.addi v1555 v1556
  v1557.toNat
def k0_cond50 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_458 : BitVec 32 := 0#32
  let v610 : BitVec 1 := Scalar.cmpi .sgt v8 c0_i32_458
  let c1_i32_459 : BitVec 32 := 1#32
  let v611 : BitVec 32 := Scalar.addi v8 c1_i32_459
  let c3_i32_460 : BitVec 32 := 3#32
  let v612 : BitVec 1 := Scalar.cmpi .sle v611 c3_i32_460
  let v613 : BitVec 1 := Scalar.andi v610 v612
  let v617 : BitVec 32 := Scalar.extui v613
  let c0_i32_464 : BitVec 32 := 0#32
  let v618 : BitVec 1 := Scalar.cmpi .ne v617 c0_i32_464
  v618

def k0_off50 (d0 : Dev nD) : Fin 4 → Nat :=
  let c3_i32_463 : BitVec 32 := 3#32
  let c0_i32_462 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_461 : BitVec 32 := 1#32
  let v614 : BitVec 32 := Scalar.addi v8 c1_i32_461
  let v615 : BitVec 32 := Scalar.maxsi c0_i32_462 v614
  let v616 : BitVec 32 := Scalar.minsi c3_i32_463 v615
  let c0_i32_1229 : BitVec 32 := 0#32
  let c0_i32_1230 : BitVec 32 := 0#32
  let c0_i32_1231 : BitVec 32 := 0#32
  ![v616.toNat, 0, 0, 0]
def k0_dev30 (d0 : Dev nD) : Nat :=
  let c0_i32_1226 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1225 : BitVec 32 := 16#32
  let v1552 : BitVec 32 := Scalar.muli v2 c16_i32_1225
  let v1553 : BitVec 32 := Scalar.addi c0_i32_1226 v1552
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1227 : BitVec 32 := 4#32
  let v1554 : BitVec 32 := Scalar.muli v5 c4_i32_1227
  let v1555 : BitVec 32 := Scalar.addi v1553 v1554
  let c3_i32_1221 : BitVec 32 := 3#32
  let c0_i32_1220 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32 : BitVec 32 := 4294967295#32
  let v1549 : BitVec 32 := Scalar.addi v8 c_m1_i32
  let v1550 : BitVec 32 := Scalar.maxsi c0_i32_1220 v1549
  let v1551 : BitVec 32 := Scalar.minsi c3_i32_1221 v1550
  let c1_i32_1228 : BitVec 32 := 1#32
  let v1556 : BitVec 32 := Scalar.muli v1551 c1_i32_1228
  let v1557 : BitVec 32 := Scalar.addi v1555 v1556
  v1557.toNat
def k0_cond51 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_465 : BitVec 32 := 3#32
  let v619 : BitVec 1 := Scalar.cmpi .slt v5 c3_i32_465
  let c1_i32_466 : BitVec 32 := 1#32
  let v620 : BitVec 32 := Scalar.subi v5 c1_i32_466
  let c0_i32_467 : BitVec 32 := 0#32
  let v621 : BitVec 1 := Scalar.cmpi .sge v620 c0_i32_467
  let v622 : BitVec 1 := Scalar.andi v619 v621
  let v626 : BitVec 32 := Scalar.extui v622
  let c0_i32_471 : BitVec 32 := 0#32
  let v627 : BitVec 1 := Scalar.cmpi .ne v626 c0_i32_471
  v627

def k0_off51 (d0 : Dev nD) : Fin 4 → Nat :=
  let c3_i32_470 : BitVec 32 := 3#32
  let c0_i32_469 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_468 : BitVec 32 := 1#32
  let v623 : BitVec 32 := Scalar.subi v5 c1_i32_468
  let v624 : BitVec 32 := Scalar.maxsi c0_i32_469 v623
  let v625 : BitVec 32 := Scalar.minsi c3_i32_470 v624
  let c0_i32_1230 : BitVec 32 := 0#32
  let c0_i32_1231 : BitVec 32 := 0#32
  let c0_i32_1232 : BitVec 32 := 0#32
  ![v625.toNat, 0, 0, 0]
def k0_dev31 (d0 : Dev nD) : Nat :=
  let c0_i32_1227 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1226 : BitVec 32 := 16#32
  let v1552 : BitVec 32 := Scalar.muli v2 c16_i32_1226
  let v1553 : BitVec 32 := Scalar.addi c0_i32_1227 v1552
  let c3_i32_1222 : BitVec 32 := 3#32
  let c0_i32_1221 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1220 : BitVec 32 := 1#32
  let v1549 : BitVec 32 := Scalar.addi v5 c1_i32_1220
  let v1550 : BitVec 32 := Scalar.maxsi c0_i32_1221 v1549
  let v1551 : BitVec 32 := Scalar.minsi c3_i32_1222 v1550
  let c4_i32_1228 : BitVec 32 := 4#32
  let v1554 : BitVec 32 := Scalar.muli v1551 c4_i32_1228
  let v1555 : BitVec 32 := Scalar.addi v1553 v1554
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1229 : BitVec 32 := 1#32
  let v1556 : BitVec 32 := Scalar.muli v8 c1_i32_1229
  let v1557 : BitVec 32 := Scalar.addi v1555 v1556
  v1557.toNat
def k0_cond52 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_472 : BitVec 32 := 0#32
  let v628 : BitVec 1 := Scalar.cmpi .sgt v5 c0_i32_472
  let c1_i32_473 : BitVec 32 := 1#32
  let v629 : BitVec 32 := Scalar.addi v5 c1_i32_473
  let c3_i32_474 : BitVec 32 := 3#32
  let v630 : BitVec 1 := Scalar.cmpi .sle v629 c3_i32_474
  let v631 : BitVec 1 := Scalar.andi v628 v630
  let v635 : BitVec 32 := Scalar.extui v631
  let c0_i32_478 : BitVec 32 := 0#32
  let v636 : BitVec 1 := Scalar.cmpi .ne v635 c0_i32_478
  v636

def k0_off52 (d0 : Dev nD) : Fin 4 → Nat :=
  let c3_i32_477 : BitVec 32 := 3#32
  let c0_i32_476 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_475 : BitVec 32 := 1#32
  let v632 : BitVec 32 := Scalar.addi v5 c1_i32_475
  let v633 : BitVec 32 := Scalar.maxsi c0_i32_476 v632
  let v634 : BitVec 32 := Scalar.minsi c3_i32_477 v633
  let c0_i32_1229 : BitVec 32 := 0#32
  let c0_i32_1230 : BitVec 32 := 0#32
  let c0_i32_1231 : BitVec 32 := 0#32
  ![v634.toNat, 0, 0, 0]
def k0_dev32 (d0 : Dev nD) : Nat :=
  let c0_i32_1226 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1225 : BitVec 32 := 16#32
  let v1552 : BitVec 32 := Scalar.muli v2 c16_i32_1225
  let v1553 : BitVec 32 := Scalar.addi c0_i32_1226 v1552
  let c3_i32_1221 : BitVec 32 := 3#32
  let c0_i32_1220 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v1549 : BitVec 32 := Scalar.addi v5 c_m1_i32
  let v1550 : BitVec 32 := Scalar.maxsi c0_i32_1220 v1549
  let v1551 : BitVec 32 := Scalar.minsi c3_i32_1221 v1550
  let c4_i32_1227 : BitVec 32 := 4#32
  let v1554 : BitVec 32 := Scalar.muli v1551 c4_i32_1227
  let v1555 : BitVec 32 := Scalar.addi v1553 v1554
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1228 : BitVec 32 := 1#32
  let v1556 : BitVec 32 := Scalar.muli v8 c1_i32_1228
  let v1557 : BitVec 32 := Scalar.addi v1555 v1556
  v1557.toNat
def k0_cond53 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_479 : BitVec 32 := 3#32
  let v637 : BitVec 1 := Scalar.cmpi .slt v8 c3_i32_479
  let c1_i32_480 : BitVec 32 := 1#32
  let v638 : BitVec 32 := Scalar.subi v8 c1_i32_480
  let c0_i32_481 : BitVec 32 := 0#32
  let v639 : BitVec 1 := Scalar.cmpi .sge v638 c0_i32_481
  let v640 : BitVec 1 := Scalar.andi v637 v639
  let v644 : BitVec 32 := Scalar.extui v640
  let c0_i32_485 : BitVec 32 := 0#32
  let v645 : BitVec 1 := Scalar.cmpi .ne v644 c0_i32_485
  v645

def k0_off53 (d0 : Dev nD) : Fin 4 → Nat :=
  let c3_i32_484 : BitVec 32 := 3#32
  let c0_i32_483 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_482 : BitVec 32 := 1#32
  let v641 : BitVec 32 := Scalar.subi v8 c1_i32_482
  let v642 : BitVec 32 := Scalar.maxsi c0_i32_483 v641
  let v643 : BitVec 32 := Scalar.minsi c3_i32_484 v642
  let c2_i32_1231 : BitVec 32 := 2#32
  let c0_i32_1232 : BitVec 32 := 0#32
  let c0_i32_1233 : BitVec 32 := 0#32
  ![v643.toNat, 2, 0, 0]
def k0_dev33 (d0 : Dev nD) : Nat :=
  let c0_i32_1228 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1227 : BitVec 32 := 16#32
  let v1552 : BitVec 32 := Scalar.muli v2 c16_i32_1227
  let v1553 : BitVec 32 := Scalar.addi c0_i32_1228 v1552
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1229 : BitVec 32 := 4#32
  let v1554 : BitVec 32 := Scalar.muli v5 c4_i32_1229
  let v1555 : BitVec 32 := Scalar.addi v1553 v1554
  let c3_i32_1222 : BitVec 32 := 3#32
  let c0_i32_1221 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1220 : BitVec 32 := 1#32
  let v1549 : BitVec 32 := Scalar.addi v8 c1_i32_1220
  let v1550 : BitVec 32 := Scalar.maxsi c0_i32_1221 v1549
  let v1551 : BitVec 32 := Scalar.minsi c3_i32_1222 v1550
  let c1_i32_1230 : BitVec 32 := 1#32
  let v1556 : BitVec 32 := Scalar.muli v1551 c1_i32_1230
  let v1557 : BitVec 32 := Scalar.addi v1555 v1556
  v1557.toNat
def k0_cond54 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_486 : BitVec 32 := 0#32
  let v646 : BitVec 1 := Scalar.cmpi .sgt v8 c0_i32_486
  let c1_i32_487 : BitVec 32 := 1#32
  let v647 : BitVec 32 := Scalar.addi v8 c1_i32_487
  let c3_i32_488 : BitVec 32 := 3#32
  let v648 : BitVec 1 := Scalar.cmpi .sle v647 c3_i32_488
  let v649 : BitVec 1 := Scalar.andi v646 v648
  let v653 : BitVec 32 := Scalar.extui v649
  let c0_i32_492 : BitVec 32 := 0#32
  let v654 : BitVec 1 := Scalar.cmpi .ne v653 c0_i32_492
  v654

def k0_off54 (d0 : Dev nD) : Fin 4 → Nat :=
  let c3_i32_491 : BitVec 32 := 3#32
  let c0_i32_490 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_489 : BitVec 32 := 1#32
  let v650 : BitVec 32 := Scalar.addi v8 c1_i32_489
  let v651 : BitVec 32 := Scalar.maxsi c0_i32_490 v650
  let v652 : BitVec 32 := Scalar.minsi c3_i32_491 v651
  let c2_i32_1229 : BitVec 32 := 2#32
  let c0_i32_1230 : BitVec 32 := 0#32
  let c0_i32_1231 : BitVec 32 := 0#32
  ![v652.toNat, 2, 0, 0]
def k0_dev34 (d0 : Dev nD) : Nat :=
  let c0_i32_1226 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1225 : BitVec 32 := 16#32
  let v1552 : BitVec 32 := Scalar.muli v2 c16_i32_1225
  let v1553 : BitVec 32 := Scalar.addi c0_i32_1226 v1552
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1227 : BitVec 32 := 4#32
  let v1554 : BitVec 32 := Scalar.muli v5 c4_i32_1227
  let v1555 : BitVec 32 := Scalar.addi v1553 v1554
  let c3_i32_1221 : BitVec 32 := 3#32
  let c0_i32_1220 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32 : BitVec 32 := 4294967295#32
  let v1549 : BitVec 32 := Scalar.addi v8 c_m1_i32
  let v1550 : BitVec 32 := Scalar.maxsi c0_i32_1220 v1549
  let v1551 : BitVec 32 := Scalar.minsi c3_i32_1221 v1550
  let c1_i32_1228 : BitVec 32 := 1#32
  let v1556 : BitVec 32 := Scalar.muli v1551 c1_i32_1228
  let v1557 : BitVec 32 := Scalar.addi v1555 v1556
  v1557.toNat
def k0_cond55 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_493 : BitVec 32 := 3#32
  let v655 : BitVec 1 := Scalar.cmpi .slt v5 c3_i32_493
  let c1_i32_494 : BitVec 32 := 1#32
  let v656 : BitVec 32 := Scalar.subi v5 c1_i32_494
  let c0_i32_495 : BitVec 32 := 0#32
  let v657 : BitVec 1 := Scalar.cmpi .sge v656 c0_i32_495
  let v658 : BitVec 1 := Scalar.andi v655 v657
  let v662 : BitVec 32 := Scalar.extui v658
  let c0_i32_499 : BitVec 32 := 0#32
  let v663 : BitVec 1 := Scalar.cmpi .ne v662 c0_i32_499
  v663

def k0_off55 (d0 : Dev nD) : Fin 4 → Nat :=
  let c3_i32_498 : BitVec 32 := 3#32
  let c0_i32_497 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_496 : BitVec 32 := 1#32
  let v659 : BitVec 32 := Scalar.subi v5 c1_i32_496
  let v660 : BitVec 32 := Scalar.maxsi c0_i32_497 v659
  let v661 : BitVec 32 := Scalar.minsi c3_i32_498 v660
  let c2_i32_1230 : BitVec 32 := 2#32
  let c0_i32_1231 : BitVec 32 := 0#32
  let c0_i32_1232 : BitVec 32 := 0#32
  ![v661.toNat, 2, 0, 0]
def k0_dev35 (d0 : Dev nD) : Nat :=
  let c0_i32_1227 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1226 : BitVec 32 := 16#32
  let v1552 : BitVec 32 := Scalar.muli v2 c16_i32_1226
  let v1553 : BitVec 32 := Scalar.addi c0_i32_1227 v1552
  let c3_i32_1222 : BitVec 32 := 3#32
  let c0_i32_1221 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1220 : BitVec 32 := 1#32
  let v1549 : BitVec 32 := Scalar.addi v5 c1_i32_1220
  let v1550 : BitVec 32 := Scalar.maxsi c0_i32_1221 v1549
  let v1551 : BitVec 32 := Scalar.minsi c3_i32_1222 v1550
  let c4_i32_1228 : BitVec 32 := 4#32
  let v1554 : BitVec 32 := Scalar.muli v1551 c4_i32_1228
  let v1555 : BitVec 32 := Scalar.addi v1553 v1554
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1229 : BitVec 32 := 1#32
  let v1556 : BitVec 32 := Scalar.muli v8 c1_i32_1229
  let v1557 : BitVec 32 := Scalar.addi v1555 v1556
  v1557.toNat
def k0_cond56 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_500 : BitVec 32 := 0#32
  let v664 : BitVec 1 := Scalar.cmpi .sgt v5 c0_i32_500
  let c1_i32_501 : BitVec 32 := 1#32
  let v665 : BitVec 32 := Scalar.addi v5 c1_i32_501
  let c3_i32_502 : BitVec 32 := 3#32
  let v666 : BitVec 1 := Scalar.cmpi .sle v665 c3_i32_502
  let v667 : BitVec 1 := Scalar.andi v664 v666
  let v671 : BitVec 32 := Scalar.extui v667
  let c0_i32_506 : BitVec 32 := 0#32
  let v672 : BitVec 1 := Scalar.cmpi .ne v671 c0_i32_506
  v672

def k0_off56 (d0 : Dev nD) : Fin 4 → Nat :=
  let c3_i32_505 : BitVec 32 := 3#32
  let c0_i32_504 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_503 : BitVec 32 := 1#32
  let v668 : BitVec 32 := Scalar.addi v5 c1_i32_503
  let v669 : BitVec 32 := Scalar.maxsi c0_i32_504 v668
  let v670 : BitVec 32 := Scalar.minsi c3_i32_505 v669
  let c2_i32_1229 : BitVec 32 := 2#32
  let c0_i32_1230 : BitVec 32 := 0#32
  let c0_i32_1231 : BitVec 32 := 0#32
  ![v670.toNat, 2, 0, 0]
def k0_dev36 (d0 : Dev nD) : Nat :=
  let c0_i32_1226 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1225 : BitVec 32 := 16#32
  let v1552 : BitVec 32 := Scalar.muli v2 c16_i32_1225
  let v1553 : BitVec 32 := Scalar.addi c0_i32_1226 v1552
  let c3_i32_1221 : BitVec 32 := 3#32
  let c0_i32_1220 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v1549 : BitVec 32 := Scalar.addi v5 c_m1_i32
  let v1550 : BitVec 32 := Scalar.maxsi c0_i32_1220 v1549
  let v1551 : BitVec 32 := Scalar.minsi c3_i32_1221 v1550
  let c4_i32_1227 : BitVec 32 := 4#32
  let v1554 : BitVec 32 := Scalar.muli v1551 c4_i32_1227
  let v1555 : BitVec 32 := Scalar.addi v1553 v1554
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1228 : BitVec 32 := 1#32
  let v1556 : BitVec 32 := Scalar.muli v8 c1_i32_1228
  let v1557 : BitVec 32 := Scalar.addi v1555 v1556
  v1557.toNat
def k0_cond57 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_507 : BitVec 32 := 0#32
  let v673 : BitVec 1 := Scalar.cmpi .sgt v8 c0_i32_507
  let c1_i32_508 : BitVec 32 := 1#32
  let v674 : BitVec 32 := Scalar.subi v8 c1_i32_508
  let c0_i32_509 : BitVec 32 := 0#32
  let v675 : BitVec 32 := Scalar.subi v674 c0_i32_509
  let c0_i32_510 : BitVec 32 := 0#32
  let v676 : BitVec 1 := Scalar.cmpi .sge v675 c0_i32_510
  let v677 : BitVec 1 := Scalar.andi v673 v676
  let v682 : BitVec 32 := Scalar.extui v677
  let c0_i32_515 : BitVec 32 := 0#32
  let v683 : BitVec 1 := Scalar.cmpi .ne v682 c0_i32_515
  v683

def k0_off57 (d0 : Dev nD) : Fin 4 → Nat :=
  let c3_i32_514 : BitVec 32 := 3#32
  let c0_i32_513 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_511 : BitVec 32 := 1#32
  let v678 : BitVec 32 := Scalar.subi v8 c1_i32_511
  let c0_i32_512 : BitVec 32 := 0#32
  let v679 : BitVec 32 := Scalar.subi v678 c0_i32_512
  let v680 : BitVec 32 := Scalar.maxsi c0_i32_513 v679
  let v681 : BitVec 32 := Scalar.minsi c3_i32_514 v680
  let v1552 : Index := Scalar.indexCast v681
  let c0_1223 : Index := 0#32
  let c0_1224 : Index := 0#32
  let c0_1225 : Index := 0#32
  ![v1552.toNat, 0, 0, 0]
def k0_off58 (d0 : Dev nD) (c0_i32_1220 : BitVec 32) : Fin 2 → Nat :=
  let c1536_i32_1222 : BitVec 32 := 1536#32
  let c3_i32_514 : BitVec 32 := 3#32
  let c0_i32_513 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_511 : BitVec 32 := 1#32
  let v678 : BitVec 32 := Scalar.subi v8 c1_i32_511
  let c0_i32_512 : BitVec 32 := 0#32
  let v679 : BitVec 32 := Scalar.subi v678 c0_i32_512
  let v680 : BitVec 32 := Scalar.maxsi c0_i32_513 v679
  let v681 : BitVec 32 := Scalar.minsi c3_i32_514 v680
  let v1549 : BitVec 32 := Scalar.addi c0_i32_1220 v681
  let c160_i32_1221 : BitVec 32 := 160#32
  let v1550 : BitVec 32 := Scalar.muli v1549 c160_i32_1221
  let v1551 : BitVec 32 := Scalar.addi c1536_i32_1222 v1550
  let v1556 : Index := Scalar.indexCast v1551
  let c0_1226 : Index := 0#32
  ![v1556.toNat, 0]
def k0_off59 (d0 : Dev nD) : Fin 4 → Nat :=
  let c3_i32_514 : BitVec 32 := 3#32
  let c0_i32_513 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_511 : BitVec 32 := 1#32
  let v678 : BitVec 32 := Scalar.subi v8 c1_i32_511
  let c0_i32_512 : BitVec 32 := 0#32
  let v679 : BitVec 32 := Scalar.subi v678 c0_i32_512
  let v680 : BitVec 32 := Scalar.maxsi c0_i32_513 v679
  let v681 : BitVec 32 := Scalar.minsi c3_i32_514 v680
  let v1561 : Index := Scalar.indexCast v681
  let c1_1230 : Index := 1#32
  let c0_1231 : Index := 0#32
  let c0_1232 : Index := 0#32
  ![v1561.toNat, 1, 0, 0]
def k0_cond58 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_516 : BitVec 32 := 3#32
  let v684 : BitVec 1 := Scalar.cmpi .slt v8 c3_i32_516
  let c1_i32_517 : BitVec 32 := 1#32
  let v685 : BitVec 32 := Scalar.addi v8 c1_i32_517
  let c0_i32_518 : BitVec 32 := 0#32
  let v686 : BitVec 32 := Scalar.addi v685 c0_i32_518
  let c3_i32_519 : BitVec 32 := 3#32
  let v687 : BitVec 1 := Scalar.cmpi .sle v686 c3_i32_519
  let v688 : BitVec 1 := Scalar.andi v684 v687
  let v693 : BitVec 32 := Scalar.extui v688
  let c0_i32_524 : BitVec 32 := 0#32
  let v694 : BitVec 1 := Scalar.cmpi .ne v693 c0_i32_524
  v694

def k0_off60 (d0 : Dev nD) : Fin 4 → Nat :=
  let c3_i32_523 : BitVec 32 := 3#32
  let c0_i32_522 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_520 : BitVec 32 := 1#32
  let v689 : BitVec 32 := Scalar.addi v8 c1_i32_520
  let c0_i32_521 : BitVec 32 := 0#32
  let v690 : BitVec 32 := Scalar.addi v689 c0_i32_521
  let v691 : BitVec 32 := Scalar.maxsi c0_i32_522 v690
  let v692 : BitVec 32 := Scalar.minsi c3_i32_523 v691
  let v1552 : Index := Scalar.indexCast v692
  let c0_1223 : Index := 0#32
  let c0_1224 : Index := 0#32
  let c0_1225 : Index := 0#32
  ![v1552.toNat, 0, 0, 0]
def k0_off61 (d0 : Dev nD) (c0_i32_1220 : BitVec 32) : Fin 2 → Nat :=
  let c1536_i32_1222 : BitVec 32 := 1536#32
  let c3_i32_523 : BitVec 32 := 3#32
  let c0_i32_522 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_520 : BitVec 32 := 1#32
  let v689 : BitVec 32 := Scalar.addi v8 c1_i32_520
  let c0_i32_521 : BitVec 32 := 0#32
  let v690 : BitVec 32 := Scalar.addi v689 c0_i32_521
  let v691 : BitVec 32 := Scalar.maxsi c0_i32_522 v690
  let v692 : BitVec 32 := Scalar.minsi c3_i32_523 v691
  let v1549 : BitVec 32 := Scalar.addi c0_i32_1220 v692
  let c160_i32_1221 : BitVec 32 := 160#32
  let v1550 : BitVec 32 := Scalar.muli v1549 c160_i32_1221
  let v1551 : BitVec 32 := Scalar.addi c1536_i32_1222 v1550
  let v1556 : Index := Scalar.indexCast v1551
  let c0_1226 : Index := 0#32
  ![v1556.toNat, 0]
def k0_off62 (d0 : Dev nD) : Fin 4 → Nat :=
  let c3_i32_523 : BitVec 32 := 3#32
  let c0_i32_522 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_520 : BitVec 32 := 1#32
  let v689 : BitVec 32 := Scalar.addi v8 c1_i32_520
  let c0_i32_521 : BitVec 32 := 0#32
  let v690 : BitVec 32 := Scalar.addi v689 c0_i32_521
  let v691 : BitVec 32 := Scalar.maxsi c0_i32_522 v690
  let v692 : BitVec 32 := Scalar.minsi c3_i32_523 v691
  let v1561 : Index := Scalar.indexCast v692
  let c1_1230 : Index := 1#32
  let c0_1231 : Index := 0#32
  let c0_1232 : Index := 0#32
  ![v1561.toNat, 1, 0, 0]
def k0_cond59 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_525 : BitVec 32 := 0#32
  let v695 : BitVec 1 := Scalar.cmpi .sgt v5 c0_i32_525
  let c1_i32_526 : BitVec 32 := 1#32
  let v696 : BitVec 32 := Scalar.subi v5 c1_i32_526
  let c0_i32_527 : BitVec 32 := 0#32
  let v697 : BitVec 32 := Scalar.subi v696 c0_i32_527
  let c0_i32_528 : BitVec 32 := 0#32
  let v698 : BitVec 1 := Scalar.cmpi .sge v697 c0_i32_528
  let v699 : BitVec 1 := Scalar.andi v695 v698
  let v704 : BitVec 32 := Scalar.extui v699
  let c0_i32_533 : BitVec 32 := 0#32
  let v705 : BitVec 1 := Scalar.cmpi .ne v704 c0_i32_533
  v705

def k0_off63 (d0 : Dev nD) : Fin 4 → Nat :=
  let c3_i32_532 : BitVec 32 := 3#32
  let c0_i32_531 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_529 : BitVec 32 := 1#32
  let v700 : BitVec 32 := Scalar.subi v5 c1_i32_529
  let c0_i32_530 : BitVec 32 := 0#32
  let v701 : BitVec 32 := Scalar.subi v700 c0_i32_530
  let v702 : BitVec 32 := Scalar.maxsi c0_i32_531 v701
  let v703 : BitVec 32 := Scalar.minsi c3_i32_532 v702
  let v1554 : Index := Scalar.indexCast v703
  let c0_1225 : Index := 0#32
  let c0_1226 : Index := 0#32
  let c0_1227 : Index := 0#32
  ![v1554.toNat, 0, 0, 0]
def k0_off64 (d0 : Dev nD) (c0_i32_1221 : BitVec 32) : Fin 2 → Nat :=
  let c1536_i32_1223 : BitVec 32 := 1536#32
  let c3_i32_532 : BitVec 32 := 3#32
  let c0_i32_531 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_529 : BitVec 32 := 1#32
  let v700 : BitVec 32 := Scalar.subi v5 c1_i32_529
  let c0_i32_530 : BitVec 32 := 0#32
  let v701 : BitVec 32 := Scalar.subi v700 c0_i32_530
  let v702 : BitVec 32 := Scalar.maxsi c0_i32_531 v701
  let v703 : BitVec 32 := Scalar.minsi c3_i32_532 v702
  let c4_i32_1220 : BitVec 32 := 4#32
  let v1549 : BitVec 32 := Scalar.muli v703 c4_i32_1220
  let v1550 : BitVec 32 := Scalar.addi v1549 c0_i32_1221
  let c160_i32_1222 : BitVec 32 := 160#32
  let v1551 : BitVec 32 := Scalar.muli v1550 c160_i32_1222
  let v1552 : BitVec 32 := Scalar.addi c1536_i32_1223 v1551
  let c80_i32_1224 : BitVec 32 := 80#32
  let v1553 : BitVec 32 := Scalar.addi v1552 c80_i32_1224
  let v1558 : Index := Scalar.indexCast v1553
  let c0_1228 : Index := 0#32
  ![v1558.toNat, 0]
def k0_off65 (d0 : Dev nD) : Fin 4 → Nat :=
  let c3_i32_532 : BitVec 32 := 3#32
  let c0_i32_531 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_529 : BitVec 32 := 1#32
  let v700 : BitVec 32 := Scalar.subi v5 c1_i32_529
  let c0_i32_530 : BitVec 32 := 0#32
  let v701 : BitVec 32 := Scalar.subi v700 c0_i32_530
  let v702 : BitVec 32 := Scalar.maxsi c0_i32_531 v701
  let v703 : BitVec 32 := Scalar.minsi c3_i32_532 v702
  let v1565 : Index := Scalar.indexCast v703
  let c1_1234 : Index := 1#32
  let c0_1235 : Index := 0#32
  let c0_1236 : Index := 0#32
  ![v1565.toNat, 1, 0, 0]
def k0_cond60 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_534 : BitVec 32 := 3#32
  let v706 : BitVec 1 := Scalar.cmpi .slt v5 c3_i32_534
  let c1_i32_535 : BitVec 32 := 1#32
  let v707 : BitVec 32 := Scalar.addi v5 c1_i32_535
  let c0_i32_536 : BitVec 32 := 0#32
  let v708 : BitVec 32 := Scalar.addi v707 c0_i32_536
  let c3_i32_537 : BitVec 32 := 3#32
  let v709 : BitVec 1 := Scalar.cmpi .sle v708 c3_i32_537
  let v710 : BitVec 1 := Scalar.andi v706 v709
  let v715 : BitVec 32 := Scalar.extui v710
  let c0_i32_542 : BitVec 32 := 0#32
  let v716 : BitVec 1 := Scalar.cmpi .ne v715 c0_i32_542
  v716

def k0_off66 (d0 : Dev nD) : Fin 4 → Nat :=
  let c3_i32_541 : BitVec 32 := 3#32
  let c0_i32_540 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_538 : BitVec 32 := 1#32
  let v711 : BitVec 32 := Scalar.addi v5 c1_i32_538
  let c0_i32_539 : BitVec 32 := 0#32
  let v712 : BitVec 32 := Scalar.addi v711 c0_i32_539
  let v713 : BitVec 32 := Scalar.maxsi c0_i32_540 v712
  let v714 : BitVec 32 := Scalar.minsi c3_i32_541 v713
  let v1554 : Index := Scalar.indexCast v714
  let c0_1225 : Index := 0#32
  let c0_1226 : Index := 0#32
  let c0_1227 : Index := 0#32
  ![v1554.toNat, 0, 0, 0]
def k0_off67 (d0 : Dev nD) (c0_i32_1221 : BitVec 32) : Fin 2 → Nat :=
  let c1536_i32_1223 : BitVec 32 := 1536#32
  let c3_i32_541 : BitVec 32 := 3#32
  let c0_i32_540 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_538 : BitVec 32 := 1#32
  let v711 : BitVec 32 := Scalar.addi v5 c1_i32_538
  let c0_i32_539 : BitVec 32 := 0#32
  let v712 : BitVec 32 := Scalar.addi v711 c0_i32_539
  let v713 : BitVec 32 := Scalar.maxsi c0_i32_540 v712
  let v714 : BitVec 32 := Scalar.minsi c3_i32_541 v713
  let c4_i32_1220 : BitVec 32 := 4#32
  let v1549 : BitVec 32 := Scalar.muli v714 c4_i32_1220
  let v1550 : BitVec 32 := Scalar.addi v1549 c0_i32_1221
  let c160_i32_1222 : BitVec 32 := 160#32
  let v1551 : BitVec 32 := Scalar.muli v1550 c160_i32_1222
  let v1552 : BitVec 32 := Scalar.addi c1536_i32_1223 v1551
  let c80_i32_1224 : BitVec 32 := 80#32
  let v1553 : BitVec 32 := Scalar.addi v1552 c80_i32_1224
  let v1558 : Index := Scalar.indexCast v1553
  let c0_1228 : Index := 0#32
  ![v1558.toNat, 0]
def k0_off68 (d0 : Dev nD) : Fin 4 → Nat :=
  let c3_i32_541 : BitVec 32 := 3#32
  let c0_i32_540 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_538 : BitVec 32 := 1#32
  let v711 : BitVec 32 := Scalar.addi v5 c1_i32_538
  let c0_i32_539 : BitVec 32 := 0#32
  let v712 : BitVec 32 := Scalar.addi v711 c0_i32_539
  let v713 : BitVec 32 := Scalar.maxsi c0_i32_540 v712
  let v714 : BitVec 32 := Scalar.minsi c3_i32_541 v713
  let v1565 : Index := Scalar.indexCast v714
  let c1_1234 : Index := 1#32
  let c0_1235 : Index := 0#32
  let c0_1236 : Index := 0#32
  ![v1565.toNat, 1, 0, 0]
def k0_cond61 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_543 : BitVec 32 := 0#32
  let v717 : BitVec 1 := Scalar.cmpi .sgt v8 c0_i32_543
  let c1_i32_544 : BitVec 32 := 1#32
  let v718 : BitVec 32 := Scalar.subi v8 c1_i32_544
  let c0_i32_545 : BitVec 32 := 0#32
  let v719 : BitVec 32 := Scalar.subi v718 c0_i32_545
  let c0_i32_546 : BitVec 32 := 0#32
  let v720 : BitVec 1 := Scalar.cmpi .sge v719 c0_i32_546
  let v721 : BitVec 1 := Scalar.andi v717 v720
  let v726 : BitVec 32 := Scalar.extui v721
  let c0_i32_551 : BitVec 32 := 0#32
  let v727 : BitVec 1 := Scalar.cmpi .ne v726 c0_i32_551
  v727

def k0_off69 (d0 : Dev nD) : Fin 4 → Nat :=
  let c3_i32_550 : BitVec 32 := 3#32
  let c0_i32_549 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_547 : BitVec 32 := 1#32
  let v722 : BitVec 32 := Scalar.subi v8 c1_i32_547
  let c0_i32_548 : BitVec 32 := 0#32
  let v723 : BitVec 32 := Scalar.subi v722 c0_i32_548
  let v724 : BitVec 32 := Scalar.maxsi c0_i32_549 v723
  let v725 : BitVec 32 := Scalar.minsi c3_i32_550 v724
  let v1552 : Index := Scalar.indexCast v725
  let c2_1223 : Index := 2#32
  let c0_1224 : Index := 0#32
  let c0_1225 : Index := 0#32
  ![v1552.toNat, 2, 0, 0]
def k0_off70 (d0 : Dev nD) (c8_i32_1220 : BitVec 32) : Fin 2 → Nat :=
  let c1536_i32_1222 : BitVec 32 := 1536#32
  let c3_i32_550 : BitVec 32 := 3#32
  let c0_i32_549 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_547 : BitVec 32 := 1#32
  let v722 : BitVec 32 := Scalar.subi v8 c1_i32_547
  let c0_i32_548 : BitVec 32 := 0#32
  let v723 : BitVec 32 := Scalar.subi v722 c0_i32_548
  let v724 : BitVec 32 := Scalar.maxsi c0_i32_549 v723
  let v725 : BitVec 32 := Scalar.minsi c3_i32_550 v724
  let v1549 : BitVec 32 := Scalar.addi c8_i32_1220 v725
  let c160_i32_1221 : BitVec 32 := 160#32
  let v1550 : BitVec 32 := Scalar.muli v1549 c160_i32_1221
  let v1551 : BitVec 32 := Scalar.addi c1536_i32_1222 v1550
  let v1556 : Index := Scalar.indexCast v1551
  let c0_1226 : Index := 0#32
  ![v1556.toNat, 0]
def k0_off71 (d0 : Dev nD) : Fin 4 → Nat :=
  let c3_i32_550 : BitVec 32 := 3#32
  let c0_i32_549 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_547 : BitVec 32 := 1#32
  let v722 : BitVec 32 := Scalar.subi v8 c1_i32_547
  let c0_i32_548 : BitVec 32 := 0#32
  let v723 : BitVec 32 := Scalar.subi v722 c0_i32_548
  let v724 : BitVec 32 := Scalar.maxsi c0_i32_549 v723
  let v725 : BitVec 32 := Scalar.minsi c3_i32_550 v724
  let v1561 : Index := Scalar.indexCast v725
  let c3_1230 : Index := 3#32
  let c0_1231 : Index := 0#32
  let c0_1232 : Index := 0#32
  ![v1561.toNat, 3, 0, 0]
def k0_cond62 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_552 : BitVec 32 := 3#32
  let v728 : BitVec 1 := Scalar.cmpi .slt v8 c3_i32_552
  let c1_i32_553 : BitVec 32 := 1#32
  let v729 : BitVec 32 := Scalar.addi v8 c1_i32_553
  let c0_i32_554 : BitVec 32 := 0#32
  let v730 : BitVec 32 := Scalar.addi v729 c0_i32_554
  let c3_i32_555 : BitVec 32 := 3#32
  let v731 : BitVec 1 := Scalar.cmpi .sle v730 c3_i32_555
  let v732 : BitVec 1 := Scalar.andi v728 v731
  let v737 : BitVec 32 := Scalar.extui v732
  let c0_i32_560 : BitVec 32 := 0#32
  let v738 : BitVec 1 := Scalar.cmpi .ne v737 c0_i32_560
  v738

def k0_off72 (d0 : Dev nD) : Fin 4 → Nat :=
  let c3_i32_559 : BitVec 32 := 3#32
  let c0_i32_558 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_556 : BitVec 32 := 1#32
  let v733 : BitVec 32 := Scalar.addi v8 c1_i32_556
  let c0_i32_557 : BitVec 32 := 0#32
  let v734 : BitVec 32 := Scalar.addi v733 c0_i32_557
  let v735 : BitVec 32 := Scalar.maxsi c0_i32_558 v734
  let v736 : BitVec 32 := Scalar.minsi c3_i32_559 v735
  let v1552 : Index := Scalar.indexCast v736
  let c2_1223 : Index := 2#32
  let c0_1224 : Index := 0#32
  let c0_1225 : Index := 0#32
  ![v1552.toNat, 2, 0, 0]
def k0_off73 (d0 : Dev nD) (c8_i32_1220 : BitVec 32) : Fin 2 → Nat :=
  let c1536_i32_1222 : BitVec 32 := 1536#32
  let c3_i32_559 : BitVec 32 := 3#32
  let c0_i32_558 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_556 : BitVec 32 := 1#32
  let v733 : BitVec 32 := Scalar.addi v8 c1_i32_556
  let c0_i32_557 : BitVec 32 := 0#32
  let v734 : BitVec 32 := Scalar.addi v733 c0_i32_557
  let v735 : BitVec 32 := Scalar.maxsi c0_i32_558 v734
  let v736 : BitVec 32 := Scalar.minsi c3_i32_559 v735
  let v1549 : BitVec 32 := Scalar.addi c8_i32_1220 v736
  let c160_i32_1221 : BitVec 32 := 160#32
  let v1550 : BitVec 32 := Scalar.muli v1549 c160_i32_1221
  let v1551 : BitVec 32 := Scalar.addi c1536_i32_1222 v1550
  let v1556 : Index := Scalar.indexCast v1551
  let c0_1226 : Index := 0#32
  ![v1556.toNat, 0]
def k0_off74 (d0 : Dev nD) : Fin 4 → Nat :=
  let c3_i32_559 : BitVec 32 := 3#32
  let c0_i32_558 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_556 : BitVec 32 := 1#32
  let v733 : BitVec 32 := Scalar.addi v8 c1_i32_556
  let c0_i32_557 : BitVec 32 := 0#32
  let v734 : BitVec 32 := Scalar.addi v733 c0_i32_557
  let v735 : BitVec 32 := Scalar.maxsi c0_i32_558 v734
  let v736 : BitVec 32 := Scalar.minsi c3_i32_559 v735
  let v1561 : Index := Scalar.indexCast v736
  let c3_1230 : Index := 3#32
  let c0_1231 : Index := 0#32
  let c0_1232 : Index := 0#32
  ![v1561.toNat, 3, 0, 0]
def k0_cond63 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_561 : BitVec 32 := 0#32
  let v739 : BitVec 1 := Scalar.cmpi .sgt v5 c0_i32_561
  let c1_i32_562 : BitVec 32 := 1#32
  let v740 : BitVec 32 := Scalar.subi v5 c1_i32_562
  let c0_i32_563 : BitVec 32 := 0#32
  let v741 : BitVec 32 := Scalar.subi v740 c0_i32_563
  let c0_i32_564 : BitVec 32 := 0#32
  let v742 : BitVec 1 := Scalar.cmpi .sge v741 c0_i32_564
  let v743 : BitVec 1 := Scalar.andi v739 v742
  let v748 : BitVec 32 := Scalar.extui v743
  let c0_i32_569 : BitVec 32 := 0#32
  let v749 : BitVec 1 := Scalar.cmpi .ne v748 c0_i32_569
  v749

def k0_off75 (d0 : Dev nD) : Fin 4 → Nat :=
  let c3_i32_568 : BitVec 32 := 3#32
  let c0_i32_567 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_565 : BitVec 32 := 1#32
  let v744 : BitVec 32 := Scalar.subi v5 c1_i32_565
  let c0_i32_566 : BitVec 32 := 0#32
  let v745 : BitVec 32 := Scalar.subi v744 c0_i32_566
  let v746 : BitVec 32 := Scalar.maxsi c0_i32_567 v745
  let v747 : BitVec 32 := Scalar.minsi c3_i32_568 v746
  let v1554 : Index := Scalar.indexCast v747
  let c2_1225 : Index := 2#32
  let c0_1226 : Index := 0#32
  let c0_1227 : Index := 0#32
  ![v1554.toNat, 2, 0, 0]
def k0_off76 (d0 : Dev nD) (c2_i32_1221 : BitVec 32) : Fin 2 → Nat :=
  let c1536_i32_1223 : BitVec 32 := 1536#32
  let c3_i32_568 : BitVec 32 := 3#32
  let c0_i32_567 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_565 : BitVec 32 := 1#32
  let v744 : BitVec 32 := Scalar.subi v5 c1_i32_565
  let c0_i32_566 : BitVec 32 := 0#32
  let v745 : BitVec 32 := Scalar.subi v744 c0_i32_566
  let v746 : BitVec 32 := Scalar.maxsi c0_i32_567 v745
  let v747 : BitVec 32 := Scalar.minsi c3_i32_568 v746
  let c4_i32_1220 : BitVec 32 := 4#32
  let v1549 : BitVec 32 := Scalar.muli v747 c4_i32_1220
  let v1550 : BitVec 32 := Scalar.addi v1549 c2_i32_1221
  let c160_i32_1222 : BitVec 32 := 160#32
  let v1551 : BitVec 32 := Scalar.muli v1550 c160_i32_1222
  let v1552 : BitVec 32 := Scalar.addi c1536_i32_1223 v1551
  let c80_i32_1224 : BitVec 32 := 80#32
  let v1553 : BitVec 32 := Scalar.addi v1552 c80_i32_1224
  let v1558 : Index := Scalar.indexCast v1553
  let c0_1228 : Index := 0#32
  ![v1558.toNat, 0]
def k0_off77 (d0 : Dev nD) : Fin 4 → Nat :=
  let c3_i32_568 : BitVec 32 := 3#32
  let c0_i32_567 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_565 : BitVec 32 := 1#32
  let v744 : BitVec 32 := Scalar.subi v5 c1_i32_565
  let c0_i32_566 : BitVec 32 := 0#32
  let v745 : BitVec 32 := Scalar.subi v744 c0_i32_566
  let v746 : BitVec 32 := Scalar.maxsi c0_i32_567 v745
  let v747 : BitVec 32 := Scalar.minsi c3_i32_568 v746
  let v1565 : Index := Scalar.indexCast v747
  let c3_1234 : Index := 3#32
  let c0_1235 : Index := 0#32
  let c0_1236 : Index := 0#32
  ![v1565.toNat, 3, 0, 0]
def k0_cond64 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_570 : BitVec 32 := 3#32
  let v750 : BitVec 1 := Scalar.cmpi .slt v5 c3_i32_570
  let c1_i32_571 : BitVec 32 := 1#32
  let v751 : BitVec 32 := Scalar.addi v5 c1_i32_571
  let c0_i32_572 : BitVec 32 := 0#32
  let v752 : BitVec 32 := Scalar.addi v751 c0_i32_572
  let c3_i32_573 : BitVec 32 := 3#32
  let v753 : BitVec 1 := Scalar.cmpi .sle v752 c3_i32_573
  let v754 : BitVec 1 := Scalar.andi v750 v753
  let v759 : BitVec 32 := Scalar.extui v754
  let c0_i32_578 : BitVec 32 := 0#32
  let v760 : BitVec 1 := Scalar.cmpi .ne v759 c0_i32_578
  v760

def k0_off78 (d0 : Dev nD) : Fin 4 → Nat :=
  let c3_i32_577 : BitVec 32 := 3#32
  let c0_i32_576 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_574 : BitVec 32 := 1#32
  let v755 : BitVec 32 := Scalar.addi v5 c1_i32_574
  let c0_i32_575 : BitVec 32 := 0#32
  let v756 : BitVec 32 := Scalar.addi v755 c0_i32_575
  let v757 : BitVec 32 := Scalar.maxsi c0_i32_576 v756
  let v758 : BitVec 32 := Scalar.minsi c3_i32_577 v757
  let v1554 : Index := Scalar.indexCast v758
  let c2_1225 : Index := 2#32
  let c0_1226 : Index := 0#32
  let c0_1227 : Index := 0#32
  ![v1554.toNat, 2, 0, 0]
def k0_off79 (d0 : Dev nD) (c2_i32_1221 : BitVec 32) : Fin 2 → Nat :=
  let c1536_i32_1223 : BitVec 32 := 1536#32
  let c3_i32_577 : BitVec 32 := 3#32
  let c0_i32_576 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_574 : BitVec 32 := 1#32
  let v755 : BitVec 32 := Scalar.addi v5 c1_i32_574
  let c0_i32_575 : BitVec 32 := 0#32
  let v756 : BitVec 32 := Scalar.addi v755 c0_i32_575
  let v757 : BitVec 32 := Scalar.maxsi c0_i32_576 v756
  let v758 : BitVec 32 := Scalar.minsi c3_i32_577 v757
  let c4_i32_1220 : BitVec 32 := 4#32
  let v1549 : BitVec 32 := Scalar.muli v758 c4_i32_1220
  let v1550 : BitVec 32 := Scalar.addi v1549 c2_i32_1221
  let c160_i32_1222 : BitVec 32 := 160#32
  let v1551 : BitVec 32 := Scalar.muli v1550 c160_i32_1222
  let v1552 : BitVec 32 := Scalar.addi c1536_i32_1223 v1551
  let c80_i32_1224 : BitVec 32 := 80#32
  let v1553 : BitVec 32 := Scalar.addi v1552 c80_i32_1224
  let v1558 : Index := Scalar.indexCast v1553
  let c0_1228 : Index := 0#32
  ![v1558.toNat, 0]
def k0_off80 (d0 : Dev nD) : Fin 4 → Nat :=
  let c3_i32_577 : BitVec 32 := 3#32
  let c0_i32_576 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_574 : BitVec 32 := 1#32
  let v755 : BitVec 32 := Scalar.addi v5 c1_i32_574
  let c0_i32_575 : BitVec 32 := 0#32
  let v756 : BitVec 32 := Scalar.addi v755 c0_i32_575
  let v757 : BitVec 32 := Scalar.maxsi c0_i32_576 v756
  let v758 : BitVec 32 := Scalar.minsi c3_i32_577 v757
  let v1565 : Index := Scalar.indexCast v758
  let c3_1234 : Index := 3#32
  let c0_1235 : Index := 0#32
  let c0_1236 : Index := 0#32
  ![v1565.toNat, 3, 0, 0]
def k0_cond65 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_602 : BitVec 32 := 0#32
  let v781 : BitVec 1 := Scalar.cmpi .sgt v8 c0_i32_602
  let c1_i32_603 : BitVec 32 := 1#32
  let v782 : BitVec 32 := Scalar.subi v8 c1_i32_603
  let c1_i32_604 : BitVec 32 := 1#32
  let v783 : BitVec 32 := Scalar.subi v782 c1_i32_604
  let c0_i32_605 : BitVec 32 := 0#32
  let v784 : BitVec 1 := Scalar.cmpi .sge v783 c0_i32_605
  let v785 : BitVec 1 := Scalar.andi v781 v784
  let v790 : BitVec 32 := Scalar.extui v785
  let c0_i32_610 : BitVec 32 := 0#32
  let v791 : BitVec 1 := Scalar.cmpi .ne v790 c0_i32_610
  v791

def k0_off81 (d0 : Dev nD) : Fin 4 → Nat :=
  let c3_i32_609 : BitVec 32 := 3#32
  let c0_i32_608 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_606 : BitVec 32 := 1#32
  let v786 : BitVec 32 := Scalar.subi v8 c1_i32_606
  let c1_i32_607 : BitVec 32 := 1#32
  let v787 : BitVec 32 := Scalar.subi v786 c1_i32_607
  let v788 : BitVec 32 := Scalar.maxsi c0_i32_608 v787
  let v789 : BitVec 32 := Scalar.minsi c3_i32_609 v788
  let c0_i32_1230 : BitVec 32 := 0#32
  let c0_i32_1231 : BitVec 32 := 0#32
  let c0_i32_1232 : BitVec 32 := 0#32
  ![v789.toNat, 0, 0, 0]
def k0_cond66 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_611 : BitVec 32 := 3#32
  let v792 : BitVec 1 := Scalar.cmpi .slt v8 c3_i32_611
  let c1_i32_612 : BitVec 32 := 1#32
  let v793 : BitVec 32 := Scalar.addi v8 c1_i32_612
  let c1_i32_613 : BitVec 32 := 1#32
  let v794 : BitVec 32 := Scalar.addi v793 c1_i32_613
  let c3_i32_614 : BitVec 32 := 3#32
  let v795 : BitVec 1 := Scalar.cmpi .sle v794 c3_i32_614
  let v796 : BitVec 1 := Scalar.andi v792 v795
  let v801 : BitVec 32 := Scalar.extui v796
  let c0_i32_619 : BitVec 32 := 0#32
  let v802 : BitVec 1 := Scalar.cmpi .ne v801 c0_i32_619
  v802

def k0_off82 (d0 : Dev nD) : Fin 4 → Nat :=
  let c3_i32_618 : BitVec 32 := 3#32
  let c0_i32_617 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_615 : BitVec 32 := 1#32
  let v797 : BitVec 32 := Scalar.addi v8 c1_i32_615
  let c1_i32_616 : BitVec 32 := 1#32
  let v798 : BitVec 32 := Scalar.addi v797 c1_i32_616
  let v799 : BitVec 32 := Scalar.maxsi c0_i32_617 v798
  let v800 : BitVec 32 := Scalar.minsi c3_i32_618 v799
  let c0_i32_1230 : BitVec 32 := 0#32
  let c0_i32_1231 : BitVec 32 := 0#32
  let c0_i32_1232 : BitVec 32 := 0#32
  ![v800.toNat, 0, 0, 0]
def k0_cond67 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_620 : BitVec 32 := 0#32
  let v803 : BitVec 1 := Scalar.cmpi .sgt v5 c0_i32_620
  let c1_i32_621 : BitVec 32 := 1#32
  let v804 : BitVec 32 := Scalar.subi v5 c1_i32_621
  let c1_i32_622 : BitVec 32 := 1#32
  let v805 : BitVec 32 := Scalar.subi v804 c1_i32_622
  let c0_i32_623 : BitVec 32 := 0#32
  let v806 : BitVec 1 := Scalar.cmpi .sge v805 c0_i32_623
  let v807 : BitVec 1 := Scalar.andi v803 v806
  let v812 : BitVec 32 := Scalar.extui v807
  let c0_i32_628 : BitVec 32 := 0#32
  let v813 : BitVec 1 := Scalar.cmpi .ne v812 c0_i32_628
  v813

def k0_off83 (d0 : Dev nD) : Fin 4 → Nat :=
  let c3_i32_627 : BitVec 32 := 3#32
  let c0_i32_626 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_624 : BitVec 32 := 1#32
  let v808 : BitVec 32 := Scalar.subi v5 c1_i32_624
  let c1_i32_625 : BitVec 32 := 1#32
  let v809 : BitVec 32 := Scalar.subi v808 c1_i32_625
  let v810 : BitVec 32 := Scalar.maxsi c0_i32_626 v809
  let v811 : BitVec 32 := Scalar.minsi c3_i32_627 v810
  let c0_i32_1229 : BitVec 32 := 0#32
  let c0_i32_1230 : BitVec 32 := 0#32
  let c0_i32_1231 : BitVec 32 := 0#32
  ![v811.toNat, 0, 0, 0]
def k0_cond68 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_629 : BitVec 32 := 3#32
  let v814 : BitVec 1 := Scalar.cmpi .slt v5 c3_i32_629
  let c1_i32_630 : BitVec 32 := 1#32
  let v815 : BitVec 32 := Scalar.addi v5 c1_i32_630
  let c1_i32_631 : BitVec 32 := 1#32
  let v816 : BitVec 32 := Scalar.addi v815 c1_i32_631
  let c3_i32_632 : BitVec 32 := 3#32
  let v817 : BitVec 1 := Scalar.cmpi .sle v816 c3_i32_632
  let v818 : BitVec 1 := Scalar.andi v814 v817
  let v823 : BitVec 32 := Scalar.extui v818
  let c0_i32_637 : BitVec 32 := 0#32
  let v824 : BitVec 1 := Scalar.cmpi .ne v823 c0_i32_637
  v824

def k0_off84 (d0 : Dev nD) : Fin 4 → Nat :=
  let c3_i32_636 : BitVec 32 := 3#32
  let c0_i32_635 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_633 : BitVec 32 := 1#32
  let v819 : BitVec 32 := Scalar.addi v5 c1_i32_633
  let c1_i32_634 : BitVec 32 := 1#32
  let v820 : BitVec 32 := Scalar.addi v819 c1_i32_634
  let v821 : BitVec 32 := Scalar.maxsi c0_i32_635 v820
  let v822 : BitVec 32 := Scalar.minsi c3_i32_636 v821
  let c0_i32_1230 : BitVec 32 := 0#32
  let c0_i32_1231 : BitVec 32 := 0#32
  let c0_i32_1232 : BitVec 32 := 0#32
  ![v822.toNat, 0, 0, 0]
def k0_cond69 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_638 : BitVec 32 := 0#32
  let v825 : BitVec 1 := Scalar.cmpi .sgt v8 c0_i32_638
  let c1_i32_639 : BitVec 32 := 1#32
  let v826 : BitVec 32 := Scalar.subi v8 c1_i32_639
  let c1_i32_640 : BitVec 32 := 1#32
  let v827 : BitVec 32 := Scalar.subi v826 c1_i32_640
  let c0_i32_641 : BitVec 32 := 0#32
  let v828 : BitVec 1 := Scalar.cmpi .sge v827 c0_i32_641
  let v829 : BitVec 1 := Scalar.andi v825 v828
  let v834 : BitVec 32 := Scalar.extui v829
  let c0_i32_646 : BitVec 32 := 0#32
  let v835 : BitVec 1 := Scalar.cmpi .ne v834 c0_i32_646
  v835

def k0_off85 (d0 : Dev nD) : Fin 4 → Nat :=
  let c3_i32_645 : BitVec 32 := 3#32
  let c0_i32_644 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_642 : BitVec 32 := 1#32
  let v830 : BitVec 32 := Scalar.subi v8 c1_i32_642
  let c1_i32_643 : BitVec 32 := 1#32
  let v831 : BitVec 32 := Scalar.subi v830 c1_i32_643
  let v832 : BitVec 32 := Scalar.maxsi c0_i32_644 v831
  let v833 : BitVec 32 := Scalar.minsi c3_i32_645 v832
  let c2_i32_1230 : BitVec 32 := 2#32
  let c0_i32_1231 : BitVec 32 := 0#32
  let c0_i32_1232 : BitVec 32 := 0#32
  ![v833.toNat, 2, 0, 0]
def k0_cond70 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_647 : BitVec 32 := 3#32
  let v836 : BitVec 1 := Scalar.cmpi .slt v8 c3_i32_647
  let c1_i32_648 : BitVec 32 := 1#32
  let v837 : BitVec 32 := Scalar.addi v8 c1_i32_648
  let c1_i32_649 : BitVec 32 := 1#32
  let v838 : BitVec 32 := Scalar.addi v837 c1_i32_649
  let c3_i32_650 : BitVec 32 := 3#32
  let v839 : BitVec 1 := Scalar.cmpi .sle v838 c3_i32_650
  let v840 : BitVec 1 := Scalar.andi v836 v839
  let v845 : BitVec 32 := Scalar.extui v840
  let c0_i32_655 : BitVec 32 := 0#32
  let v846 : BitVec 1 := Scalar.cmpi .ne v845 c0_i32_655
  v846

def k0_off86 (d0 : Dev nD) : Fin 4 → Nat :=
  let c3_i32_654 : BitVec 32 := 3#32
  let c0_i32_653 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_651 : BitVec 32 := 1#32
  let v841 : BitVec 32 := Scalar.addi v8 c1_i32_651
  let c1_i32_652 : BitVec 32 := 1#32
  let v842 : BitVec 32 := Scalar.addi v841 c1_i32_652
  let v843 : BitVec 32 := Scalar.maxsi c0_i32_653 v842
  let v844 : BitVec 32 := Scalar.minsi c3_i32_654 v843
  let c2_i32_1230 : BitVec 32 := 2#32
  let c0_i32_1231 : BitVec 32 := 0#32
  let c0_i32_1232 : BitVec 32 := 0#32
  ![v844.toNat, 2, 0, 0]
def k0_cond71 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_656 : BitVec 32 := 0#32
  let v847 : BitVec 1 := Scalar.cmpi .sgt v5 c0_i32_656
  let c1_i32_657 : BitVec 32 := 1#32
  let v848 : BitVec 32 := Scalar.subi v5 c1_i32_657
  let c1_i32_658 : BitVec 32 := 1#32
  let v849 : BitVec 32 := Scalar.subi v848 c1_i32_658
  let c0_i32_659 : BitVec 32 := 0#32
  let v850 : BitVec 1 := Scalar.cmpi .sge v849 c0_i32_659
  let v851 : BitVec 1 := Scalar.andi v847 v850
  let v856 : BitVec 32 := Scalar.extui v851
  let c0_i32_664 : BitVec 32 := 0#32
  let v857 : BitVec 1 := Scalar.cmpi .ne v856 c0_i32_664
  v857

def k0_off87 (d0 : Dev nD) : Fin 4 → Nat :=
  let c3_i32_663 : BitVec 32 := 3#32
  let c0_i32_662 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_660 : BitVec 32 := 1#32
  let v852 : BitVec 32 := Scalar.subi v5 c1_i32_660
  let c1_i32_661 : BitVec 32 := 1#32
  let v853 : BitVec 32 := Scalar.subi v852 c1_i32_661
  let v854 : BitVec 32 := Scalar.maxsi c0_i32_662 v853
  let v855 : BitVec 32 := Scalar.minsi c3_i32_663 v854
  let c2_i32_1229 : BitVec 32 := 2#32
  let c0_i32_1230 : BitVec 32 := 0#32
  let c0_i32_1231 : BitVec 32 := 0#32
  ![v855.toNat, 2, 0, 0]
def k0_cond72 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_665 : BitVec 32 := 3#32
  let v858 : BitVec 1 := Scalar.cmpi .slt v5 c3_i32_665
  let c1_i32_666 : BitVec 32 := 1#32
  let v859 : BitVec 32 := Scalar.addi v5 c1_i32_666
  let c1_i32_667 : BitVec 32 := 1#32
  let v860 : BitVec 32 := Scalar.addi v859 c1_i32_667
  let c3_i32_668 : BitVec 32 := 3#32
  let v861 : BitVec 1 := Scalar.cmpi .sle v860 c3_i32_668
  let v862 : BitVec 1 := Scalar.andi v858 v861
  let v867 : BitVec 32 := Scalar.extui v862
  let c0_i32_673 : BitVec 32 := 0#32
  let v868 : BitVec 1 := Scalar.cmpi .ne v867 c0_i32_673
  v868

def k0_off88 (d0 : Dev nD) : Fin 4 → Nat :=
  let c3_i32_672 : BitVec 32 := 3#32
  let c0_i32_671 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_669 : BitVec 32 := 1#32
  let v863 : BitVec 32 := Scalar.addi v5 c1_i32_669
  let c1_i32_670 : BitVec 32 := 1#32
  let v864 : BitVec 32 := Scalar.addi v863 c1_i32_670
  let v865 : BitVec 32 := Scalar.maxsi c0_i32_671 v864
  let v866 : BitVec 32 := Scalar.minsi c3_i32_672 v865
  let c2_i32_1230 : BitVec 32 := 2#32
  let c0_i32_1231 : BitVec 32 := 0#32
  let c0_i32_1232 : BitVec 32 := 0#32
  ![v866.toNat, 2, 0, 0]
def k0_cond73 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_674 : BitVec 32 := 3#32
  let v869 : BitVec 1 := Scalar.cmpi .slt v8 c3_i32_674
  let c2_i32_675 : BitVec 32 := 2#32
  let v870 : BitVec 32 := Scalar.subi v8 c2_i32_675
  let c0_i32_676 : BitVec 32 := 0#32
  let v871 : BitVec 1 := Scalar.cmpi .sge v870 c0_i32_676
  let v872 : BitVec 1 := Scalar.andi v869 v871
  let v876 : BitVec 32 := Scalar.extui v872
  let c0_i32_680 : BitVec 32 := 0#32
  let v877 : BitVec 1 := Scalar.cmpi .ne v876 c0_i32_680
  v877

def k0_off89 (d0 : Dev nD) : Fin 4 → Nat :=
  let c3_i32_679 : BitVec 32 := 3#32
  let c0_i32_678 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_677 : BitVec 32 := 2#32
  let v873 : BitVec 32 := Scalar.subi v8 c2_i32_677
  let v874 : BitVec 32 := Scalar.maxsi c0_i32_678 v873
  let v875 : BitVec 32 := Scalar.minsi c3_i32_679 v874
  let c0_i32_1231 : BitVec 32 := 0#32
  let c0_i32_1232 : BitVec 32 := 0#32
  let c0_i32_1233 : BitVec 32 := 0#32
  ![v875.toNat, 0, 0, 0]
def k0_dev37 (d0 : Dev nD) : Nat :=
  let c0_i32_1228 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1227 : BitVec 32 := 16#32
  let v1552 : BitVec 32 := Scalar.muli v2 c16_i32_1227
  let v1553 : BitVec 32 := Scalar.addi c0_i32_1228 v1552
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1229 : BitVec 32 := 4#32
  let v1554 : BitVec 32 := Scalar.muli v5 c4_i32_1229
  let v1555 : BitVec 32 := Scalar.addi v1553 v1554
  let c3_i32_1222 : BitVec 32 := 3#32
  let c0_i32_1221 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1220 : BitVec 32 := 1#32
  let v1549 : BitVec 32 := Scalar.addi v8 c1_i32_1220
  let v1550 : BitVec 32 := Scalar.maxsi c0_i32_1221 v1549
  let v1551 : BitVec 32 := Scalar.minsi c3_i32_1222 v1550
  let c1_i32_1230 : BitVec 32 := 1#32
  let v1556 : BitVec 32 := Scalar.muli v1551 c1_i32_1230
  let v1557 : BitVec 32 := Scalar.addi v1555 v1556
  v1557.toNat
def k0_cond74 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_681 : BitVec 32 := 0#32
  let v878 : BitVec 1 := Scalar.cmpi .sgt v8 c0_i32_681
  let c2_i32_682 : BitVec 32 := 2#32
  let v879 : BitVec 32 := Scalar.addi v8 c2_i32_682
  let c3_i32_683 : BitVec 32 := 3#32
  let v880 : BitVec 1 := Scalar.cmpi .sle v879 c3_i32_683
  let v881 : BitVec 1 := Scalar.andi v878 v880
  let v885 : BitVec 32 := Scalar.extui v881
  let c0_i32_687 : BitVec 32 := 0#32
  let v886 : BitVec 1 := Scalar.cmpi .ne v885 c0_i32_687
  v886

def k0_off90 (d0 : Dev nD) : Fin 4 → Nat :=
  let c3_i32_686 : BitVec 32 := 3#32
  let c0_i32_685 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_684 : BitVec 32 := 2#32
  let v882 : BitVec 32 := Scalar.addi v8 c2_i32_684
  let v883 : BitVec 32 := Scalar.maxsi c0_i32_685 v882
  let v884 : BitVec 32 := Scalar.minsi c3_i32_686 v883
  let c0_i32_1229 : BitVec 32 := 0#32
  let c0_i32_1230 : BitVec 32 := 0#32
  let c0_i32_1231 : BitVec 32 := 0#32
  ![v884.toNat, 0, 0, 0]
def k0_dev38 (d0 : Dev nD) : Nat :=
  let c0_i32_1226 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1225 : BitVec 32 := 16#32
  let v1552 : BitVec 32 := Scalar.muli v2 c16_i32_1225
  let v1553 : BitVec 32 := Scalar.addi c0_i32_1226 v1552
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1227 : BitVec 32 := 4#32
  let v1554 : BitVec 32 := Scalar.muli v5 c4_i32_1227
  let v1555 : BitVec 32 := Scalar.addi v1553 v1554
  let c3_i32_1221 : BitVec 32 := 3#32
  let c0_i32_1220 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32 : BitVec 32 := 4294967295#32
  let v1549 : BitVec 32 := Scalar.addi v8 c_m1_i32
  let v1550 : BitVec 32 := Scalar.maxsi c0_i32_1220 v1549
  let v1551 : BitVec 32 := Scalar.minsi c3_i32_1221 v1550
  let c1_i32_1228 : BitVec 32 := 1#32
  let v1556 : BitVec 32 := Scalar.muli v1551 c1_i32_1228
  let v1557 : BitVec 32 := Scalar.addi v1555 v1556
  v1557.toNat
def k0_cond75 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_688 : BitVec 32 := 3#32
  let v887 : BitVec 1 := Scalar.cmpi .slt v5 c3_i32_688
  let c2_i32_689 : BitVec 32 := 2#32
  let v888 : BitVec 32 := Scalar.subi v5 c2_i32_689
  let c0_i32_690 : BitVec 32 := 0#32
  let v889 : BitVec 1 := Scalar.cmpi .sge v888 c0_i32_690
  let v890 : BitVec 1 := Scalar.andi v887 v889
  let v894 : BitVec 32 := Scalar.extui v890
  let c0_i32_694 : BitVec 32 := 0#32
  let v895 : BitVec 1 := Scalar.cmpi .ne v894 c0_i32_694
  v895

def k0_off91 (d0 : Dev nD) : Fin 4 → Nat :=
  let c3_i32_693 : BitVec 32 := 3#32
  let c0_i32_692 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_691 : BitVec 32 := 2#32
  let v891 : BitVec 32 := Scalar.subi v5 c2_i32_691
  let v892 : BitVec 32 := Scalar.maxsi c0_i32_692 v891
  let v893 : BitVec 32 := Scalar.minsi c3_i32_693 v892
  let c0_i32_1230 : BitVec 32 := 0#32
  let c0_i32_1231 : BitVec 32 := 0#32
  let c0_i32_1232 : BitVec 32 := 0#32
  ![v893.toNat, 0, 0, 0]
def k0_dev39 (d0 : Dev nD) : Nat :=
  let c0_i32_1227 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1226 : BitVec 32 := 16#32
  let v1552 : BitVec 32 := Scalar.muli v2 c16_i32_1226
  let v1553 : BitVec 32 := Scalar.addi c0_i32_1227 v1552
  let c3_i32_1222 : BitVec 32 := 3#32
  let c0_i32_1221 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1220 : BitVec 32 := 1#32
  let v1549 : BitVec 32 := Scalar.addi v5 c1_i32_1220
  let v1550 : BitVec 32 := Scalar.maxsi c0_i32_1221 v1549
  let v1551 : BitVec 32 := Scalar.minsi c3_i32_1222 v1550
  let c4_i32_1228 : BitVec 32 := 4#32
  let v1554 : BitVec 32 := Scalar.muli v1551 c4_i32_1228
  let v1555 : BitVec 32 := Scalar.addi v1553 v1554
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1229 : BitVec 32 := 1#32
  let v1556 : BitVec 32 := Scalar.muli v8 c1_i32_1229
  let v1557 : BitVec 32 := Scalar.addi v1555 v1556
  v1557.toNat
def k0_cond76 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_695 : BitVec 32 := 0#32
  let v896 : BitVec 1 := Scalar.cmpi .sgt v5 c0_i32_695
  let c2_i32_696 : BitVec 32 := 2#32
  let v897 : BitVec 32 := Scalar.addi v5 c2_i32_696
  let c3_i32_697 : BitVec 32 := 3#32
  let v898 : BitVec 1 := Scalar.cmpi .sle v897 c3_i32_697
  let v899 : BitVec 1 := Scalar.andi v896 v898
  let v903 : BitVec 32 := Scalar.extui v899
  let c0_i32_701 : BitVec 32 := 0#32
  let v904 : BitVec 1 := Scalar.cmpi .ne v903 c0_i32_701
  v904

def k0_off92 (d0 : Dev nD) : Fin 4 → Nat :=
  let c3_i32_700 : BitVec 32 := 3#32
  let c0_i32_699 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_698 : BitVec 32 := 2#32
  let v900 : BitVec 32 := Scalar.addi v5 c2_i32_698
  let v901 : BitVec 32 := Scalar.maxsi c0_i32_699 v900
  let v902 : BitVec 32 := Scalar.minsi c3_i32_700 v901
  let c0_i32_1229 : BitVec 32 := 0#32
  let c0_i32_1230 : BitVec 32 := 0#32
  let c0_i32_1231 : BitVec 32 := 0#32
  ![v902.toNat, 0, 0, 0]
def k0_dev40 (d0 : Dev nD) : Nat :=
  let c0_i32_1226 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1225 : BitVec 32 := 16#32
  let v1552 : BitVec 32 := Scalar.muli v2 c16_i32_1225
  let v1553 : BitVec 32 := Scalar.addi c0_i32_1226 v1552
  let c3_i32_1221 : BitVec 32 := 3#32
  let c0_i32_1220 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v1549 : BitVec 32 := Scalar.addi v5 c_m1_i32
  let v1550 : BitVec 32 := Scalar.maxsi c0_i32_1220 v1549
  let v1551 : BitVec 32 := Scalar.minsi c3_i32_1221 v1550
  let c4_i32_1227 : BitVec 32 := 4#32
  let v1554 : BitVec 32 := Scalar.muli v1551 c4_i32_1227
  let v1555 : BitVec 32 := Scalar.addi v1553 v1554
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1228 : BitVec 32 := 1#32
  let v1556 : BitVec 32 := Scalar.muli v8 c1_i32_1228
  let v1557 : BitVec 32 := Scalar.addi v1555 v1556
  v1557.toNat
def k0_cond77 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_702 : BitVec 32 := 3#32
  let v905 : BitVec 1 := Scalar.cmpi .slt v8 c3_i32_702
  let c2_i32_703 : BitVec 32 := 2#32
  let v906 : BitVec 32 := Scalar.subi v8 c2_i32_703
  let c0_i32_704 : BitVec 32 := 0#32
  let v907 : BitVec 1 := Scalar.cmpi .sge v906 c0_i32_704
  let v908 : BitVec 1 := Scalar.andi v905 v907
  let v912 : BitVec 32 := Scalar.extui v908
  let c0_i32_708 : BitVec 32 := 0#32
  let v913 : BitVec 1 := Scalar.cmpi .ne v912 c0_i32_708
  v913

def k0_off93 (d0 : Dev nD) : Fin 4 → Nat :=
  let c3_i32_707 : BitVec 32 := 3#32
  let c0_i32_706 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_705 : BitVec 32 := 2#32
  let v909 : BitVec 32 := Scalar.subi v8 c2_i32_705
  let v910 : BitVec 32 := Scalar.maxsi c0_i32_706 v909
  let v911 : BitVec 32 := Scalar.minsi c3_i32_707 v910
  let c2_i32_1231 : BitVec 32 := 2#32
  let c0_i32_1232 : BitVec 32 := 0#32
  let c0_i32_1233 : BitVec 32 := 0#32
  ![v911.toNat, 2, 0, 0]
def k0_dev41 (d0 : Dev nD) : Nat :=
  let c0_i32_1228 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1227 : BitVec 32 := 16#32
  let v1552 : BitVec 32 := Scalar.muli v2 c16_i32_1227
  let v1553 : BitVec 32 := Scalar.addi c0_i32_1228 v1552
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1229 : BitVec 32 := 4#32
  let v1554 : BitVec 32 := Scalar.muli v5 c4_i32_1229
  let v1555 : BitVec 32 := Scalar.addi v1553 v1554
  let c3_i32_1222 : BitVec 32 := 3#32
  let c0_i32_1221 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1220 : BitVec 32 := 1#32
  let v1549 : BitVec 32 := Scalar.addi v8 c1_i32_1220
  let v1550 : BitVec 32 := Scalar.maxsi c0_i32_1221 v1549
  let v1551 : BitVec 32 := Scalar.minsi c3_i32_1222 v1550
  let c1_i32_1230 : BitVec 32 := 1#32
  let v1556 : BitVec 32 := Scalar.muli v1551 c1_i32_1230
  let v1557 : BitVec 32 := Scalar.addi v1555 v1556
  v1557.toNat
def k0_cond78 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_709 : BitVec 32 := 0#32
  let v914 : BitVec 1 := Scalar.cmpi .sgt v8 c0_i32_709
  let c2_i32_710 : BitVec 32 := 2#32
  let v915 : BitVec 32 := Scalar.addi v8 c2_i32_710
  let c3_i32_711 : BitVec 32 := 3#32
  let v916 : BitVec 1 := Scalar.cmpi .sle v915 c3_i32_711
  let v917 : BitVec 1 := Scalar.andi v914 v916
  let v921 : BitVec 32 := Scalar.extui v917
  let c0_i32_715 : BitVec 32 := 0#32
  let v922 : BitVec 1 := Scalar.cmpi .ne v921 c0_i32_715
  v922

def k0_off94 (d0 : Dev nD) : Fin 4 → Nat :=
  let c3_i32_714 : BitVec 32 := 3#32
  let c0_i32_713 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_712 : BitVec 32 := 2#32
  let v918 : BitVec 32 := Scalar.addi v8 c2_i32_712
  let v919 : BitVec 32 := Scalar.maxsi c0_i32_713 v918
  let v920 : BitVec 32 := Scalar.minsi c3_i32_714 v919
  let c2_i32_1229 : BitVec 32 := 2#32
  let c0_i32_1230 : BitVec 32 := 0#32
  let c0_i32_1231 : BitVec 32 := 0#32
  ![v920.toNat, 2, 0, 0]
def k0_dev42 (d0 : Dev nD) : Nat :=
  let c0_i32_1226 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1225 : BitVec 32 := 16#32
  let v1552 : BitVec 32 := Scalar.muli v2 c16_i32_1225
  let v1553 : BitVec 32 := Scalar.addi c0_i32_1226 v1552
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1227 : BitVec 32 := 4#32
  let v1554 : BitVec 32 := Scalar.muli v5 c4_i32_1227
  let v1555 : BitVec 32 := Scalar.addi v1553 v1554
  let c3_i32_1221 : BitVec 32 := 3#32
  let c0_i32_1220 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c_m1_i32 : BitVec 32 := 4294967295#32
  let v1549 : BitVec 32 := Scalar.addi v8 c_m1_i32
  let v1550 : BitVec 32 := Scalar.maxsi c0_i32_1220 v1549
  let v1551 : BitVec 32 := Scalar.minsi c3_i32_1221 v1550
  let c1_i32_1228 : BitVec 32 := 1#32
  let v1556 : BitVec 32 := Scalar.muli v1551 c1_i32_1228
  let v1557 : BitVec 32 := Scalar.addi v1555 v1556
  v1557.toNat
def k0_cond79 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_716 : BitVec 32 := 3#32
  let v923 : BitVec 1 := Scalar.cmpi .slt v5 c3_i32_716
  let c2_i32_717 : BitVec 32 := 2#32
  let v924 : BitVec 32 := Scalar.subi v5 c2_i32_717
  let c0_i32_718 : BitVec 32 := 0#32
  let v925 : BitVec 1 := Scalar.cmpi .sge v924 c0_i32_718
  let v926 : BitVec 1 := Scalar.andi v923 v925
  let v930 : BitVec 32 := Scalar.extui v926
  let c0_i32_722 : BitVec 32 := 0#32
  let v931 : BitVec 1 := Scalar.cmpi .ne v930 c0_i32_722
  v931

def k0_off95 (d0 : Dev nD) : Fin 4 → Nat :=
  let c3_i32_721 : BitVec 32 := 3#32
  let c0_i32_720 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_719 : BitVec 32 := 2#32
  let v927 : BitVec 32 := Scalar.subi v5 c2_i32_719
  let v928 : BitVec 32 := Scalar.maxsi c0_i32_720 v927
  let v929 : BitVec 32 := Scalar.minsi c3_i32_721 v928
  let c2_i32_1230 : BitVec 32 := 2#32
  let c0_i32_1231 : BitVec 32 := 0#32
  let c0_i32_1232 : BitVec 32 := 0#32
  ![v929.toNat, 2, 0, 0]
def k0_dev43 (d0 : Dev nD) : Nat :=
  let c0_i32_1227 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1226 : BitVec 32 := 16#32
  let v1552 : BitVec 32 := Scalar.muli v2 c16_i32_1226
  let v1553 : BitVec 32 := Scalar.addi c0_i32_1227 v1552
  let c3_i32_1222 : BitVec 32 := 3#32
  let c0_i32_1221 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1220 : BitVec 32 := 1#32
  let v1549 : BitVec 32 := Scalar.addi v5 c1_i32_1220
  let v1550 : BitVec 32 := Scalar.maxsi c0_i32_1221 v1549
  let v1551 : BitVec 32 := Scalar.minsi c3_i32_1222 v1550
  let c4_i32_1228 : BitVec 32 := 4#32
  let v1554 : BitVec 32 := Scalar.muli v1551 c4_i32_1228
  let v1555 : BitVec 32 := Scalar.addi v1553 v1554
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1229 : BitVec 32 := 1#32
  let v1556 : BitVec 32 := Scalar.muli v8 c1_i32_1229
  let v1557 : BitVec 32 := Scalar.addi v1555 v1556
  v1557.toNat
def k0_cond80 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_723 : BitVec 32 := 0#32
  let v932 : BitVec 1 := Scalar.cmpi .sgt v5 c0_i32_723
  let c2_i32_724 : BitVec 32 := 2#32
  let v933 : BitVec 32 := Scalar.addi v5 c2_i32_724
  let c3_i32_725 : BitVec 32 := 3#32
  let v934 : BitVec 1 := Scalar.cmpi .sle v933 c3_i32_725
  let v935 : BitVec 1 := Scalar.andi v932 v934
  let v939 : BitVec 32 := Scalar.extui v935
  let c0_i32_729 : BitVec 32 := 0#32
  let v940 : BitVec 1 := Scalar.cmpi .ne v939 c0_i32_729
  v940

def k0_off96 (d0 : Dev nD) : Fin 4 → Nat :=
  let c3_i32_728 : BitVec 32 := 3#32
  let c0_i32_727 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_726 : BitVec 32 := 2#32
  let v936 : BitVec 32 := Scalar.addi v5 c2_i32_726
  let v937 : BitVec 32 := Scalar.maxsi c0_i32_727 v936
  let v938 : BitVec 32 := Scalar.minsi c3_i32_728 v937
  let c2_i32_1229 : BitVec 32 := 2#32
  let c0_i32_1230 : BitVec 32 := 0#32
  let c0_i32_1231 : BitVec 32 := 0#32
  ![v938.toNat, 2, 0, 0]
def k0_dev44 (d0 : Dev nD) : Nat :=
  let c0_i32_1226 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1225 : BitVec 32 := 16#32
  let v1552 : BitVec 32 := Scalar.muli v2 c16_i32_1225
  let v1553 : BitVec 32 := Scalar.addi c0_i32_1226 v1552
  let c3_i32_1221 : BitVec 32 := 3#32
  let c0_i32_1220 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c_m1_i32 : BitVec 32 := 4294967295#32
  let v1549 : BitVec 32 := Scalar.addi v5 c_m1_i32
  let v1550 : BitVec 32 := Scalar.maxsi c0_i32_1220 v1549
  let v1551 : BitVec 32 := Scalar.minsi c3_i32_1221 v1550
  let c4_i32_1227 : BitVec 32 := 4#32
  let v1554 : BitVec 32 := Scalar.muli v1551 c4_i32_1227
  let v1555 : BitVec 32 := Scalar.addi v1553 v1554
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1228 : BitVec 32 := 1#32
  let v1556 : BitVec 32 := Scalar.muli v8 c1_i32_1228
  let v1557 : BitVec 32 := Scalar.addi v1555 v1556
  v1557.toNat
def k0_cond81 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_730 : BitVec 32 := 0#32
  let v941 : BitVec 1 := Scalar.cmpi .sgt v8 c0_i32_730
  let c1_i32_731 : BitVec 32 := 1#32
  let v942 : BitVec 32 := Scalar.subi v8 c1_i32_731
  let c1_i32_732 : BitVec 32 := 1#32
  let v943 : BitVec 32 := Scalar.subi v942 c1_i32_732
  let c0_i32_733 : BitVec 32 := 0#32
  let v944 : BitVec 1 := Scalar.cmpi .sge v943 c0_i32_733
  let v945 : BitVec 1 := Scalar.andi v941 v944
  let v950 : BitVec 32 := Scalar.extui v945
  let c0_i32_738 : BitVec 32 := 0#32
  let v951 : BitVec 1 := Scalar.cmpi .ne v950 c0_i32_738
  v951

def k0_off97 (d0 : Dev nD) : Fin 4 → Nat :=
  let c3_i32_737 : BitVec 32 := 3#32
  let c0_i32_736 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_734 : BitVec 32 := 1#32
  let v946 : BitVec 32 := Scalar.subi v8 c1_i32_734
  let c1_i32_735 : BitVec 32 := 1#32
  let v947 : BitVec 32 := Scalar.subi v946 c1_i32_735
  let v948 : BitVec 32 := Scalar.maxsi c0_i32_736 v947
  let v949 : BitVec 32 := Scalar.minsi c3_i32_737 v948
  let v1552 : Index := Scalar.indexCast v949
  let c0_1223 : Index := 0#32
  let c0_1224 : Index := 0#32
  let c0_1225 : Index := 0#32
  ![v1552.toNat, 0, 0, 0]
def k0_off98 (d0 : Dev nD) (c0_i32_1220 : BitVec 32) : Fin 2 → Nat :=
  let c1536_i32_1222 : BitVec 32 := 1536#32
  let c3_i32_737 : BitVec 32 := 3#32
  let c0_i32_736 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_734 : BitVec 32 := 1#32
  let v946 : BitVec 32 := Scalar.subi v8 c1_i32_734
  let c1_i32_735 : BitVec 32 := 1#32
  let v947 : BitVec 32 := Scalar.subi v946 c1_i32_735
  let v948 : BitVec 32 := Scalar.maxsi c0_i32_736 v947
  let v949 : BitVec 32 := Scalar.minsi c3_i32_737 v948
  let v1549 : BitVec 32 := Scalar.addi c0_i32_1220 v949
  let c160_i32_1221 : BitVec 32 := 160#32
  let v1550 : BitVec 32 := Scalar.muli v1549 c160_i32_1221
  let v1551 : BitVec 32 := Scalar.addi c1536_i32_1222 v1550
  let v1556 : Index := Scalar.indexCast v1551
  let c0_1226 : Index := 0#32
  ![v1556.toNat, 0]
def k0_off99 (d0 : Dev nD) : Fin 4 → Nat :=
  let c3_i32_737 : BitVec 32 := 3#32
  let c0_i32_736 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_734 : BitVec 32 := 1#32
  let v946 : BitVec 32 := Scalar.subi v8 c1_i32_734
  let c1_i32_735 : BitVec 32 := 1#32
  let v947 : BitVec 32 := Scalar.subi v946 c1_i32_735
  let v948 : BitVec 32 := Scalar.maxsi c0_i32_736 v947
  let v949 : BitVec 32 := Scalar.minsi c3_i32_737 v948
  let v1561 : Index := Scalar.indexCast v949
  let c1_1230 : Index := 1#32
  let c0_1231 : Index := 0#32
  let c0_1232 : Index := 0#32
  ![v1561.toNat, 1, 0, 0]
def k0_cond82 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_739 : BitVec 32 := 3#32
  let v952 : BitVec 1 := Scalar.cmpi .slt v8 c3_i32_739
  let c1_i32_740 : BitVec 32 := 1#32
  let v953 : BitVec 32 := Scalar.addi v8 c1_i32_740
  let c1_i32_741 : BitVec 32 := 1#32
  let v954 : BitVec 32 := Scalar.addi v953 c1_i32_741
  let c3_i32_742 : BitVec 32 := 3#32
  let v955 : BitVec 1 := Scalar.cmpi .sle v954 c3_i32_742
  let v956 : BitVec 1 := Scalar.andi v952 v955
  let v961 : BitVec 32 := Scalar.extui v956
  let c0_i32_747 : BitVec 32 := 0#32
  let v962 : BitVec 1 := Scalar.cmpi .ne v961 c0_i32_747
  v962

def k0_off100 (d0 : Dev nD) : Fin 4 → Nat :=
  let c3_i32_746 : BitVec 32 := 3#32
  let c0_i32_745 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_743 : BitVec 32 := 1#32
  let v957 : BitVec 32 := Scalar.addi v8 c1_i32_743
  let c1_i32_744 : BitVec 32 := 1#32
  let v958 : BitVec 32 := Scalar.addi v957 c1_i32_744
  let v959 : BitVec 32 := Scalar.maxsi c0_i32_745 v958
  let v960 : BitVec 32 := Scalar.minsi c3_i32_746 v959
  let v1552 : Index := Scalar.indexCast v960
  let c0_1223 : Index := 0#32
  let c0_1224 : Index := 0#32
  let c0_1225 : Index := 0#32
  ![v1552.toNat, 0, 0, 0]
def k0_off101 (d0 : Dev nD) (c0_i32_1220 : BitVec 32) : Fin 2 → Nat :=
  let c1536_i32_1222 : BitVec 32 := 1536#32
  let c3_i32_746 : BitVec 32 := 3#32
  let c0_i32_745 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_743 : BitVec 32 := 1#32
  let v957 : BitVec 32 := Scalar.addi v8 c1_i32_743
  let c1_i32_744 : BitVec 32 := 1#32
  let v958 : BitVec 32 := Scalar.addi v957 c1_i32_744
  let v959 : BitVec 32 := Scalar.maxsi c0_i32_745 v958
  let v960 : BitVec 32 := Scalar.minsi c3_i32_746 v959
  let v1549 : BitVec 32 := Scalar.addi c0_i32_1220 v960
  let c160_i32_1221 : BitVec 32 := 160#32
  let v1550 : BitVec 32 := Scalar.muli v1549 c160_i32_1221
  let v1551 : BitVec 32 := Scalar.addi c1536_i32_1222 v1550
  let v1556 : Index := Scalar.indexCast v1551
  let c0_1226 : Index := 0#32
  ![v1556.toNat, 0]
def k0_off102 (d0 : Dev nD) : Fin 4 → Nat :=
  let c3_i32_746 : BitVec 32 := 3#32
  let c0_i32_745 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_743 : BitVec 32 := 1#32
  let v957 : BitVec 32 := Scalar.addi v8 c1_i32_743
  let c1_i32_744 : BitVec 32 := 1#32
  let v958 : BitVec 32 := Scalar.addi v957 c1_i32_744
  let v959 : BitVec 32 := Scalar.maxsi c0_i32_745 v958
  let v960 : BitVec 32 := Scalar.minsi c3_i32_746 v959
  let v1561 : Index := Scalar.indexCast v960
  let c1_1230 : Index := 1#32
  let c0_1231 : Index := 0#32
  let c0_1232 : Index := 0#32
  ![v1561.toNat, 1, 0, 0]
def k0_cond83 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_748 : BitVec 32 := 0#32
  let v963 : BitVec 1 := Scalar.cmpi .sgt v5 c0_i32_748
  let c1_i32_749 : BitVec 32 := 1#32
  let v964 : BitVec 32 := Scalar.subi v5 c1_i32_749
  let c1_i32_750 : BitVec 32 := 1#32
  let v965 : BitVec 32 := Scalar.subi v964 c1_i32_750
  let c0_i32_751 : BitVec 32 := 0#32
  let v966 : BitVec 1 := Scalar.cmpi .sge v965 c0_i32_751
  let v967 : BitVec 1 := Scalar.andi v963 v966
  let v972 : BitVec 32 := Scalar.extui v967
  let c0_i32_756 : BitVec 32 := 0#32
  let v973 : BitVec 1 := Scalar.cmpi .ne v972 c0_i32_756
  v973

def k0_off103 (d0 : Dev nD) : Fin 4 → Nat :=
  let c3_i32_755 : BitVec 32 := 3#32
  let c0_i32_754 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_752 : BitVec 32 := 1#32
  let v968 : BitVec 32 := Scalar.subi v5 c1_i32_752
  let c1_i32_753 : BitVec 32 := 1#32
  let v969 : BitVec 32 := Scalar.subi v968 c1_i32_753
  let v970 : BitVec 32 := Scalar.maxsi c0_i32_754 v969
  let v971 : BitVec 32 := Scalar.minsi c3_i32_755 v970
  let v1554 : Index := Scalar.indexCast v971
  let c0_1225 : Index := 0#32
  let c0_1226 : Index := 0#32
  let c0_1227 : Index := 0#32
  ![v1554.toNat, 0, 0, 0]
def k0_off104 (d0 : Dev nD) (c0_i32_1221 : BitVec 32) : Fin 2 → Nat :=
  let c1536_i32_1223 : BitVec 32 := 1536#32
  let c3_i32_755 : BitVec 32 := 3#32
  let c0_i32_754 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_752 : BitVec 32 := 1#32
  let v968 : BitVec 32 := Scalar.subi v5 c1_i32_752
  let c1_i32_753 : BitVec 32 := 1#32
  let v969 : BitVec 32 := Scalar.subi v968 c1_i32_753
  let v970 : BitVec 32 := Scalar.maxsi c0_i32_754 v969
  let v971 : BitVec 32 := Scalar.minsi c3_i32_755 v970
  let c4_i32_1220 : BitVec 32 := 4#32
  let v1549 : BitVec 32 := Scalar.muli v971 c4_i32_1220
  let v1550 : BitVec 32 := Scalar.addi v1549 c0_i32_1221
  let c160_i32_1222 : BitVec 32 := 160#32
  let v1551 : BitVec 32 := Scalar.muli v1550 c160_i32_1222
  let v1552 : BitVec 32 := Scalar.addi c1536_i32_1223 v1551
  let c80_i32_1224 : BitVec 32 := 80#32
  let v1553 : BitVec 32 := Scalar.addi v1552 c80_i32_1224
  let v1558 : Index := Scalar.indexCast v1553
  let c0_1228 : Index := 0#32
  ![v1558.toNat, 0]
def k0_off105 (d0 : Dev nD) : Fin 4 → Nat :=
  let c3_i32_755 : BitVec 32 := 3#32
  let c0_i32_754 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_752 : BitVec 32 := 1#32
  let v968 : BitVec 32 := Scalar.subi v5 c1_i32_752
  let c1_i32_753 : BitVec 32 := 1#32
  let v969 : BitVec 32 := Scalar.subi v968 c1_i32_753
  let v970 : BitVec 32 := Scalar.maxsi c0_i32_754 v969
  let v971 : BitVec 32 := Scalar.minsi c3_i32_755 v970
  let v1565 : Index := Scalar.indexCast v971
  let c1_1234 : Index := 1#32
  let c0_1235 : Index := 0#32
  let c0_1236 : Index := 0#32
  ![v1565.toNat, 1, 0, 0]
def k0_cond84 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_757 : BitVec 32 := 3#32
  let v974 : BitVec 1 := Scalar.cmpi .slt v5 c3_i32_757
  let c1_i32_758 : BitVec 32 := 1#32
  let v975 : BitVec 32 := Scalar.addi v5 c1_i32_758
  let c1_i32_759 : BitVec 32 := 1#32
  let v976 : BitVec 32 := Scalar.addi v975 c1_i32_759
  let c3_i32_760 : BitVec 32 := 3#32
  let v977 : BitVec 1 := Scalar.cmpi .sle v976 c3_i32_760
  let v978 : BitVec 1 := Scalar.andi v974 v977
  let v983 : BitVec 32 := Scalar.extui v978
  let c0_i32_765 : BitVec 32 := 0#32
  let v984 : BitVec 1 := Scalar.cmpi .ne v983 c0_i32_765
  v984

def k0_off106 (d0 : Dev nD) : Fin 4 → Nat :=
  let c3_i32_764 : BitVec 32 := 3#32
  let c0_i32_763 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_761 : BitVec 32 := 1#32
  let v979 : BitVec 32 := Scalar.addi v5 c1_i32_761
  let c1_i32_762 : BitVec 32 := 1#32
  let v980 : BitVec 32 := Scalar.addi v979 c1_i32_762
  let v981 : BitVec 32 := Scalar.maxsi c0_i32_763 v980
  let v982 : BitVec 32 := Scalar.minsi c3_i32_764 v981
  let v1554 : Index := Scalar.indexCast v982
  let c0_1225 : Index := 0#32
  let c0_1226 : Index := 0#32
  let c0_1227 : Index := 0#32
  ![v1554.toNat, 0, 0, 0]
def k0_off107 (d0 : Dev nD) (c0_i32_1221 : BitVec 32) : Fin 2 → Nat :=
  let c1536_i32_1223 : BitVec 32 := 1536#32
  let c3_i32_764 : BitVec 32 := 3#32
  let c0_i32_763 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_761 : BitVec 32 := 1#32
  let v979 : BitVec 32 := Scalar.addi v5 c1_i32_761
  let c1_i32_762 : BitVec 32 := 1#32
  let v980 : BitVec 32 := Scalar.addi v979 c1_i32_762
  let v981 : BitVec 32 := Scalar.maxsi c0_i32_763 v980
  let v982 : BitVec 32 := Scalar.minsi c3_i32_764 v981
  let c4_i32_1220 : BitVec 32 := 4#32
  let v1549 : BitVec 32 := Scalar.muli v982 c4_i32_1220
  let v1550 : BitVec 32 := Scalar.addi v1549 c0_i32_1221
  let c160_i32_1222 : BitVec 32 := 160#32
  let v1551 : BitVec 32 := Scalar.muli v1550 c160_i32_1222
  let v1552 : BitVec 32 := Scalar.addi c1536_i32_1223 v1551
  let c80_i32_1224 : BitVec 32 := 80#32
  let v1553 : BitVec 32 := Scalar.addi v1552 c80_i32_1224
  let v1558 : Index := Scalar.indexCast v1553
  let c0_1228 : Index := 0#32
  ![v1558.toNat, 0]
def k0_off108 (d0 : Dev nD) : Fin 4 → Nat :=
  let c3_i32_764 : BitVec 32 := 3#32
  let c0_i32_763 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_761 : BitVec 32 := 1#32
  let v979 : BitVec 32 := Scalar.addi v5 c1_i32_761
  let c1_i32_762 : BitVec 32 := 1#32
  let v980 : BitVec 32 := Scalar.addi v979 c1_i32_762
  let v981 : BitVec 32 := Scalar.maxsi c0_i32_763 v980
  let v982 : BitVec 32 := Scalar.minsi c3_i32_764 v981
  let v1565 : Index := Scalar.indexCast v982
  let c1_1234 : Index := 1#32
  let c0_1235 : Index := 0#32
  let c0_1236 : Index := 0#32
  ![v1565.toNat, 1, 0, 0]
def k0_cond85 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_766 : BitVec 32 := 0#32
  let v985 : BitVec 1 := Scalar.cmpi .sgt v8 c0_i32_766
  let c1_i32_767 : BitVec 32 := 1#32
  let v986 : BitVec 32 := Scalar.subi v8 c1_i32_767
  let c1_i32_768 : BitVec 32 := 1#32
  let v987 : BitVec 32 := Scalar.subi v986 c1_i32_768
  let c0_i32_769 : BitVec 32 := 0#32
  let v988 : BitVec 1 := Scalar.cmpi .sge v987 c0_i32_769
  let v989 : BitVec 1 := Scalar.andi v985 v988
  let v994 : BitVec 32 := Scalar.extui v989
  let c0_i32_774 : BitVec 32 := 0#32
  let v995 : BitVec 1 := Scalar.cmpi .ne v994 c0_i32_774
  v995

def k0_off109 (d0 : Dev nD) : Fin 4 → Nat :=
  let c3_i32_773 : BitVec 32 := 3#32
  let c0_i32_772 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_770 : BitVec 32 := 1#32
  let v990 : BitVec 32 := Scalar.subi v8 c1_i32_770
  let c1_i32_771 : BitVec 32 := 1#32
  let v991 : BitVec 32 := Scalar.subi v990 c1_i32_771
  let v992 : BitVec 32 := Scalar.maxsi c0_i32_772 v991
  let v993 : BitVec 32 := Scalar.minsi c3_i32_773 v992
  let v1552 : Index := Scalar.indexCast v993
  let c2_1223 : Index := 2#32
  let c0_1224 : Index := 0#32
  let c0_1225 : Index := 0#32
  ![v1552.toNat, 2, 0, 0]
def k0_off110 (d0 : Dev nD) (c8_i32_1220 : BitVec 32) : Fin 2 → Nat :=
  let c1536_i32_1222 : BitVec 32 := 1536#32
  let c3_i32_773 : BitVec 32 := 3#32
  let c0_i32_772 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_770 : BitVec 32 := 1#32
  let v990 : BitVec 32 := Scalar.subi v8 c1_i32_770
  let c1_i32_771 : BitVec 32 := 1#32
  let v991 : BitVec 32 := Scalar.subi v990 c1_i32_771
  let v992 : BitVec 32 := Scalar.maxsi c0_i32_772 v991
  let v993 : BitVec 32 := Scalar.minsi c3_i32_773 v992
  let v1549 : BitVec 32 := Scalar.addi c8_i32_1220 v993
  let c160_i32_1221 : BitVec 32 := 160#32
  let v1550 : BitVec 32 := Scalar.muli v1549 c160_i32_1221
  let v1551 : BitVec 32 := Scalar.addi c1536_i32_1222 v1550
  let v1556 : Index := Scalar.indexCast v1551
  let c0_1226 : Index := 0#32
  ![v1556.toNat, 0]
def k0_off111 (d0 : Dev nD) : Fin 4 → Nat :=
  let c3_i32_773 : BitVec 32 := 3#32
  let c0_i32_772 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_770 : BitVec 32 := 1#32
  let v990 : BitVec 32 := Scalar.subi v8 c1_i32_770
  let c1_i32_771 : BitVec 32 := 1#32
  let v991 : BitVec 32 := Scalar.subi v990 c1_i32_771
  let v992 : BitVec 32 := Scalar.maxsi c0_i32_772 v991
  let v993 : BitVec 32 := Scalar.minsi c3_i32_773 v992
  let v1561 : Index := Scalar.indexCast v993
  let c3_1230 : Index := 3#32
  let c0_1231 : Index := 0#32
  let c0_1232 : Index := 0#32
  ![v1561.toNat, 3, 0, 0]
def k0_cond86 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_775 : BitVec 32 := 3#32
  let v996 : BitVec 1 := Scalar.cmpi .slt v8 c3_i32_775
  let c1_i32_776 : BitVec 32 := 1#32
  let v997 : BitVec 32 := Scalar.addi v8 c1_i32_776
  let c1_i32_777 : BitVec 32 := 1#32
  let v998 : BitVec 32 := Scalar.addi v997 c1_i32_777
  let c3_i32_778 : BitVec 32 := 3#32
  let v999 : BitVec 1 := Scalar.cmpi .sle v998 c3_i32_778
  let v1000 : BitVec 1 := Scalar.andi v996 v999
  let v1005 : BitVec 32 := Scalar.extui v1000
  let c0_i32_783 : BitVec 32 := 0#32
  let v1006 : BitVec 1 := Scalar.cmpi .ne v1005 c0_i32_783
  v1006

def k0_off112 (d0 : Dev nD) : Fin 4 → Nat :=
  let c3_i32_782 : BitVec 32 := 3#32
  let c0_i32_781 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_779 : BitVec 32 := 1#32
  let v1001 : BitVec 32 := Scalar.addi v8 c1_i32_779
  let c1_i32_780 : BitVec 32 := 1#32
  let v1002 : BitVec 32 := Scalar.addi v1001 c1_i32_780
  let v1003 : BitVec 32 := Scalar.maxsi c0_i32_781 v1002
  let v1004 : BitVec 32 := Scalar.minsi c3_i32_782 v1003
  let v1552 : Index := Scalar.indexCast v1004
  let c2_1223 : Index := 2#32
  let c0_1224 : Index := 0#32
  let c0_1225 : Index := 0#32
  ![v1552.toNat, 2, 0, 0]
def k0_off113 (d0 : Dev nD) (c8_i32_1220 : BitVec 32) : Fin 2 → Nat :=
  let c1536_i32_1222 : BitVec 32 := 1536#32
  let c3_i32_782 : BitVec 32 := 3#32
  let c0_i32_781 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_779 : BitVec 32 := 1#32
  let v1001 : BitVec 32 := Scalar.addi v8 c1_i32_779
  let c1_i32_780 : BitVec 32 := 1#32
  let v1002 : BitVec 32 := Scalar.addi v1001 c1_i32_780
  let v1003 : BitVec 32 := Scalar.maxsi c0_i32_781 v1002
  let v1004 : BitVec 32 := Scalar.minsi c3_i32_782 v1003
  let v1549 : BitVec 32 := Scalar.addi c8_i32_1220 v1004
  let c160_i32_1221 : BitVec 32 := 160#32
  let v1550 : BitVec 32 := Scalar.muli v1549 c160_i32_1221
  let v1551 : BitVec 32 := Scalar.addi c1536_i32_1222 v1550
  let v1556 : Index := Scalar.indexCast v1551
  let c0_1226 : Index := 0#32
  ![v1556.toNat, 0]
def k0_off114 (d0 : Dev nD) : Fin 4 → Nat :=
  let c3_i32_782 : BitVec 32 := 3#32
  let c0_i32_781 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_779 : BitVec 32 := 1#32
  let v1001 : BitVec 32 := Scalar.addi v8 c1_i32_779
  let c1_i32_780 : BitVec 32 := 1#32
  let v1002 : BitVec 32 := Scalar.addi v1001 c1_i32_780
  let v1003 : BitVec 32 := Scalar.maxsi c0_i32_781 v1002
  let v1004 : BitVec 32 := Scalar.minsi c3_i32_782 v1003
  let v1561 : Index := Scalar.indexCast v1004
  let c3_1230 : Index := 3#32
  let c0_1231 : Index := 0#32
  let c0_1232 : Index := 0#32
  ![v1561.toNat, 3, 0, 0]
def k0_cond87 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_784 : BitVec 32 := 0#32
  let v1007 : BitVec 1 := Scalar.cmpi .sgt v5 c0_i32_784
  let c1_i32_785 : BitVec 32 := 1#32
  let v1008 : BitVec 32 := Scalar.subi v5 c1_i32_785
  let c1_i32_786 : BitVec 32 := 1#32
  let v1009 : BitVec 32 := Scalar.subi v1008 c1_i32_786
  let c0_i32_787 : BitVec 32 := 0#32
  let v1010 : BitVec 1 := Scalar.cmpi .sge v1009 c0_i32_787
  let v1011 : BitVec 1 := Scalar.andi v1007 v1010
  let v1016 : BitVec 32 := Scalar.extui v1011
  let c0_i32_792 : BitVec 32 := 0#32
  let v1017 : BitVec 1 := Scalar.cmpi .ne v1016 c0_i32_792
  v1017

def k0_off115 (d0 : Dev nD) : Fin 4 → Nat :=
  let c3_i32_791 : BitVec 32 := 3#32
  let c0_i32_790 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_788 : BitVec 32 := 1#32
  let v1012 : BitVec 32 := Scalar.subi v5 c1_i32_788
  let c1_i32_789 : BitVec 32 := 1#32
  let v1013 : BitVec 32 := Scalar.subi v1012 c1_i32_789
  let v1014 : BitVec 32 := Scalar.maxsi c0_i32_790 v1013
  let v1015 : BitVec 32 := Scalar.minsi c3_i32_791 v1014
  let v1554 : Index := Scalar.indexCast v1015
  let c2_1225 : Index := 2#32
  let c0_1226 : Index := 0#32
  let c0_1227 : Index := 0#32
  ![v1554.toNat, 2, 0, 0]
def k0_off116 (d0 : Dev nD) (c2_i32_1221 : BitVec 32) : Fin 2 → Nat :=
  let c1536_i32_1223 : BitVec 32 := 1536#32
  let c3_i32_791 : BitVec 32 := 3#32
  let c0_i32_790 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_788 : BitVec 32 := 1#32
  let v1012 : BitVec 32 := Scalar.subi v5 c1_i32_788
  let c1_i32_789 : BitVec 32 := 1#32
  let v1013 : BitVec 32 := Scalar.subi v1012 c1_i32_789
  let v1014 : BitVec 32 := Scalar.maxsi c0_i32_790 v1013
  let v1015 : BitVec 32 := Scalar.minsi c3_i32_791 v1014
  let c4_i32_1220 : BitVec 32 := 4#32
  let v1549 : BitVec 32 := Scalar.muli v1015 c4_i32_1220
  let v1550 : BitVec 32 := Scalar.addi v1549 c2_i32_1221
  let c160_i32_1222 : BitVec 32 := 160#32
  let v1551 : BitVec 32 := Scalar.muli v1550 c160_i32_1222
  let v1552 : BitVec 32 := Scalar.addi c1536_i32_1223 v1551
  let c80_i32_1224 : BitVec 32 := 80#32
  let v1553 : BitVec 32 := Scalar.addi v1552 c80_i32_1224
  let v1558 : Index := Scalar.indexCast v1553
  let c0_1228 : Index := 0#32
  ![v1558.toNat, 0]
def k0_off117 (d0 : Dev nD) : Fin 4 → Nat :=
  let c3_i32_791 : BitVec 32 := 3#32
  let c0_i32_790 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_788 : BitVec 32 := 1#32
  let v1012 : BitVec 32 := Scalar.subi v5 c1_i32_788
  let c1_i32_789 : BitVec 32 := 1#32
  let v1013 : BitVec 32 := Scalar.subi v1012 c1_i32_789
  let v1014 : BitVec 32 := Scalar.maxsi c0_i32_790 v1013
  let v1015 : BitVec 32 := Scalar.minsi c3_i32_791 v1014
  let v1565 : Index := Scalar.indexCast v1015
  let c3_1234 : Index := 3#32
  let c0_1235 : Index := 0#32
  let c0_1236 : Index := 0#32
  ![v1565.toNat, 3, 0, 0]
def k0_cond88 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_793 : BitVec 32 := 3#32
  let v1018 : BitVec 1 := Scalar.cmpi .slt v5 c3_i32_793
  let c1_i32_794 : BitVec 32 := 1#32
  let v1019 : BitVec 32 := Scalar.addi v5 c1_i32_794
  let c1_i32_795 : BitVec 32 := 1#32
  let v1020 : BitVec 32 := Scalar.addi v1019 c1_i32_795
  let c3_i32_796 : BitVec 32 := 3#32
  let v1021 : BitVec 1 := Scalar.cmpi .sle v1020 c3_i32_796
  let v1022 : BitVec 1 := Scalar.andi v1018 v1021
  let v1027 : BitVec 32 := Scalar.extui v1022
  let c0_i32_801 : BitVec 32 := 0#32
  let v1028 : BitVec 1 := Scalar.cmpi .ne v1027 c0_i32_801
  v1028

def k0_off118 (d0 : Dev nD) : Fin 4 → Nat :=
  let c3_i32_800 : BitVec 32 := 3#32
  let c0_i32_799 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_797 : BitVec 32 := 1#32
  let v1023 : BitVec 32 := Scalar.addi v5 c1_i32_797
  let c1_i32_798 : BitVec 32 := 1#32
  let v1024 : BitVec 32 := Scalar.addi v1023 c1_i32_798
  let v1025 : BitVec 32 := Scalar.maxsi c0_i32_799 v1024
  let v1026 : BitVec 32 := Scalar.minsi c3_i32_800 v1025
  let v1554 : Index := Scalar.indexCast v1026
  let c2_1225 : Index := 2#32
  let c0_1226 : Index := 0#32
  let c0_1227 : Index := 0#32
  ![v1554.toNat, 2, 0, 0]
def k0_off119 (d0 : Dev nD) (c2_i32_1221 : BitVec 32) : Fin 2 → Nat :=
  let c1536_i32_1223 : BitVec 32 := 1536#32
  let c3_i32_800 : BitVec 32 := 3#32
  let c0_i32_799 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_797 : BitVec 32 := 1#32
  let v1023 : BitVec 32 := Scalar.addi v5 c1_i32_797
  let c1_i32_798 : BitVec 32 := 1#32
  let v1024 : BitVec 32 := Scalar.addi v1023 c1_i32_798
  let v1025 : BitVec 32 := Scalar.maxsi c0_i32_799 v1024
  let v1026 : BitVec 32 := Scalar.minsi c3_i32_800 v1025
  let c4_i32_1220 : BitVec 32 := 4#32
  let v1549 : BitVec 32 := Scalar.muli v1026 c4_i32_1220
  let v1550 : BitVec 32 := Scalar.addi v1549 c2_i32_1221
  let c160_i32_1222 : BitVec 32 := 160#32
  let v1551 : BitVec 32 := Scalar.muli v1550 c160_i32_1222
  let v1552 : BitVec 32 := Scalar.addi c1536_i32_1223 v1551
  let c80_i32_1224 : BitVec 32 := 80#32
  let v1553 : BitVec 32 := Scalar.addi v1552 c80_i32_1224
  let v1558 : Index := Scalar.indexCast v1553
  let c0_1228 : Index := 0#32
  ![v1558.toNat, 0]
def k0_off120 (d0 : Dev nD) : Fin 4 → Nat :=
  let c3_i32_800 : BitVec 32 := 3#32
  let c0_i32_799 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_797 : BitVec 32 := 1#32
  let v1023 : BitVec 32 := Scalar.addi v5 c1_i32_797
  let c1_i32_798 : BitVec 32 := 1#32
  let v1024 : BitVec 32 := Scalar.addi v1023 c1_i32_798
  let v1025 : BitVec 32 := Scalar.maxsi c0_i32_799 v1024
  let v1026 : BitVec 32 := Scalar.minsi c3_i32_800 v1025
  let v1565 : Index := Scalar.indexCast v1026
  let c3_1234 : Index := 3#32
  let c0_1235 : Index := 0#32
  let c0_1236 : Index := 0#32
  ![v1565.toNat, 3, 0, 0]
def k0_cond89 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_802 : BitVec 32 := 0#32
  let v1029 : BitVec 1 := Scalar.cmpi .sgt v8 c0_i32_802
  let c1_i32_803 : BitVec 32 := 1#32
  let v1030 : BitVec 32 := Scalar.subi v8 c1_i32_803
  let c2_i32_804 : BitVec 32 := 2#32
  let v1031 : BitVec 32 := Scalar.subi v1030 c2_i32_804
  let c0_i32_805 : BitVec 32 := 0#32
  let v1032 : BitVec 1 := Scalar.cmpi .sge v1031 c0_i32_805
  let v1033 : BitVec 1 := Scalar.andi v1029 v1032
  let v1038 : BitVec 32 := Scalar.extui v1033
  let c0_i32_810 : BitVec 32 := 0#32
  let v1039 : BitVec 1 := Scalar.cmpi .ne v1038 c0_i32_810
  v1039

def k0_off121 (d0 : Dev nD) : Fin 4 → Nat :=
  let c3_i32_809 : BitVec 32 := 3#32
  let c0_i32_808 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_806 : BitVec 32 := 1#32
  let v1034 : BitVec 32 := Scalar.subi v8 c1_i32_806
  let c2_i32_807 : BitVec 32 := 2#32
  let v1035 : BitVec 32 := Scalar.subi v1034 c2_i32_807
  let v1036 : BitVec 32 := Scalar.maxsi c0_i32_808 v1035
  let v1037 : BitVec 32 := Scalar.minsi c3_i32_809 v1036
  let c0_i32_1230 : BitVec 32 := 0#32
  let c0_i32_1231 : BitVec 32 := 0#32
  let c0_i32_1232 : BitVec 32 := 0#32
  ![v1037.toNat, 0, 0, 0]
def k0_cond90 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_811 : BitVec 32 := 3#32
  let v1040 : BitVec 1 := Scalar.cmpi .slt v8 c3_i32_811
  let c1_i32_812 : BitVec 32 := 1#32
  let v1041 : BitVec 32 := Scalar.addi v8 c1_i32_812
  let c2_i32_813 : BitVec 32 := 2#32
  let v1042 : BitVec 32 := Scalar.addi v1041 c2_i32_813
  let c3_i32_814 : BitVec 32 := 3#32
  let v1043 : BitVec 1 := Scalar.cmpi .sle v1042 c3_i32_814
  let v1044 : BitVec 1 := Scalar.andi v1040 v1043
  let v1049 : BitVec 32 := Scalar.extui v1044
  let c0_i32_819 : BitVec 32 := 0#32
  let v1050 : BitVec 1 := Scalar.cmpi .ne v1049 c0_i32_819
  v1050

def k0_off122 (d0 : Dev nD) : Fin 4 → Nat :=
  let c3_i32_818 : BitVec 32 := 3#32
  let c0_i32_817 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_815 : BitVec 32 := 1#32
  let v1045 : BitVec 32 := Scalar.addi v8 c1_i32_815
  let c2_i32_816 : BitVec 32 := 2#32
  let v1046 : BitVec 32 := Scalar.addi v1045 c2_i32_816
  let v1047 : BitVec 32 := Scalar.maxsi c0_i32_817 v1046
  let v1048 : BitVec 32 := Scalar.minsi c3_i32_818 v1047
  let c0_i32_1230 : BitVec 32 := 0#32
  let c0_i32_1231 : BitVec 32 := 0#32
  let c0_i32_1232 : BitVec 32 := 0#32
  ![v1048.toNat, 0, 0, 0]
def k0_cond91 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_820 : BitVec 32 := 0#32
  let v1051 : BitVec 1 := Scalar.cmpi .sgt v5 c0_i32_820
  let c1_i32_821 : BitVec 32 := 1#32
  let v1052 : BitVec 32 := Scalar.subi v5 c1_i32_821
  let c2_i32_822 : BitVec 32 := 2#32
  let v1053 : BitVec 32 := Scalar.subi v1052 c2_i32_822
  let c0_i32_823 : BitVec 32 := 0#32
  let v1054 : BitVec 1 := Scalar.cmpi .sge v1053 c0_i32_823
  let v1055 : BitVec 1 := Scalar.andi v1051 v1054
  let v1060 : BitVec 32 := Scalar.extui v1055
  let c0_i32_828 : BitVec 32 := 0#32
  let v1061 : BitVec 1 := Scalar.cmpi .ne v1060 c0_i32_828
  v1061

def k0_off123 (d0 : Dev nD) : Fin 4 → Nat :=
  let c3_i32_827 : BitVec 32 := 3#32
  let c0_i32_826 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_824 : BitVec 32 := 1#32
  let v1056 : BitVec 32 := Scalar.subi v5 c1_i32_824
  let c2_i32_825 : BitVec 32 := 2#32
  let v1057 : BitVec 32 := Scalar.subi v1056 c2_i32_825
  let v1058 : BitVec 32 := Scalar.maxsi c0_i32_826 v1057
  let v1059 : BitVec 32 := Scalar.minsi c3_i32_827 v1058
  let c0_i32_1229 : BitVec 32 := 0#32
  let c0_i32_1230 : BitVec 32 := 0#32
  let c0_i32_1231 : BitVec 32 := 0#32
  ![v1059.toNat, 0, 0, 0]
def k0_cond92 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_829 : BitVec 32 := 3#32
  let v1062 : BitVec 1 := Scalar.cmpi .slt v5 c3_i32_829
  let c1_i32_830 : BitVec 32 := 1#32
  let v1063 : BitVec 32 := Scalar.addi v5 c1_i32_830
  let c2_i32_831 : BitVec 32 := 2#32
  let v1064 : BitVec 32 := Scalar.addi v1063 c2_i32_831
  let c3_i32_832 : BitVec 32 := 3#32
  let v1065 : BitVec 1 := Scalar.cmpi .sle v1064 c3_i32_832
  let v1066 : BitVec 1 := Scalar.andi v1062 v1065
  let v1071 : BitVec 32 := Scalar.extui v1066
  let c0_i32_837 : BitVec 32 := 0#32
  let v1072 : BitVec 1 := Scalar.cmpi .ne v1071 c0_i32_837
  v1072

def k0_off124 (d0 : Dev nD) : Fin 4 → Nat :=
  let c3_i32_836 : BitVec 32 := 3#32
  let c0_i32_835 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_833 : BitVec 32 := 1#32
  let v1067 : BitVec 32 := Scalar.addi v5 c1_i32_833
  let c2_i32_834 : BitVec 32 := 2#32
  let v1068 : BitVec 32 := Scalar.addi v1067 c2_i32_834
  let v1069 : BitVec 32 := Scalar.maxsi c0_i32_835 v1068
  let v1070 : BitVec 32 := Scalar.minsi c3_i32_836 v1069
  let c0_i32_1230 : BitVec 32 := 0#32
  let c0_i32_1231 : BitVec 32 := 0#32
  let c0_i32_1232 : BitVec 32 := 0#32
  ![v1070.toNat, 0, 0, 0]
def k0_cond93 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_838 : BitVec 32 := 0#32
  let v1073 : BitVec 1 := Scalar.cmpi .sgt v8 c0_i32_838
  let c1_i32_839 : BitVec 32 := 1#32
  let v1074 : BitVec 32 := Scalar.subi v8 c1_i32_839
  let c2_i32_840 : BitVec 32 := 2#32
  let v1075 : BitVec 32 := Scalar.subi v1074 c2_i32_840
  let c0_i32_841 : BitVec 32 := 0#32
  let v1076 : BitVec 1 := Scalar.cmpi .sge v1075 c0_i32_841
  let v1077 : BitVec 1 := Scalar.andi v1073 v1076
  let v1082 : BitVec 32 := Scalar.extui v1077
  let c0_i32_846 : BitVec 32 := 0#32
  let v1083 : BitVec 1 := Scalar.cmpi .ne v1082 c0_i32_846
  v1083

def k0_off125 (d0 : Dev nD) : Fin 4 → Nat :=
  let c3_i32_845 : BitVec 32 := 3#32
  let c0_i32_844 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_842 : BitVec 32 := 1#32
  let v1078 : BitVec 32 := Scalar.subi v8 c1_i32_842
  let c2_i32_843 : BitVec 32 := 2#32
  let v1079 : BitVec 32 := Scalar.subi v1078 c2_i32_843
  let v1080 : BitVec 32 := Scalar.maxsi c0_i32_844 v1079
  let v1081 : BitVec 32 := Scalar.minsi c3_i32_845 v1080
  let c2_i32_1230 : BitVec 32 := 2#32
  let c0_i32_1231 : BitVec 32 := 0#32
  let c0_i32_1232 : BitVec 32 := 0#32
  ![v1081.toNat, 2, 0, 0]
def k0_cond94 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_847 : BitVec 32 := 3#32
  let v1084 : BitVec 1 := Scalar.cmpi .slt v8 c3_i32_847
  let c1_i32_848 : BitVec 32 := 1#32
  let v1085 : BitVec 32 := Scalar.addi v8 c1_i32_848
  let c2_i32_849 : BitVec 32 := 2#32
  let v1086 : BitVec 32 := Scalar.addi v1085 c2_i32_849
  let c3_i32_850 : BitVec 32 := 3#32
  let v1087 : BitVec 1 := Scalar.cmpi .sle v1086 c3_i32_850
  let v1088 : BitVec 1 := Scalar.andi v1084 v1087
  let v1093 : BitVec 32 := Scalar.extui v1088
  let c0_i32_855 : BitVec 32 := 0#32
  let v1094 : BitVec 1 := Scalar.cmpi .ne v1093 c0_i32_855
  v1094

def k0_off126 (d0 : Dev nD) : Fin 4 → Nat :=
  let c3_i32_854 : BitVec 32 := 3#32
  let c0_i32_853 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_851 : BitVec 32 := 1#32
  let v1089 : BitVec 32 := Scalar.addi v8 c1_i32_851
  let c2_i32_852 : BitVec 32 := 2#32
  let v1090 : BitVec 32 := Scalar.addi v1089 c2_i32_852
  let v1091 : BitVec 32 := Scalar.maxsi c0_i32_853 v1090
  let v1092 : BitVec 32 := Scalar.minsi c3_i32_854 v1091
  let c2_i32_1230 : BitVec 32 := 2#32
  let c0_i32_1231 : BitVec 32 := 0#32
  let c0_i32_1232 : BitVec 32 := 0#32
  ![v1092.toNat, 2, 0, 0]
def k0_cond95 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_856 : BitVec 32 := 0#32
  let v1095 : BitVec 1 := Scalar.cmpi .sgt v5 c0_i32_856
  let c1_i32_857 : BitVec 32 := 1#32
  let v1096 : BitVec 32 := Scalar.subi v5 c1_i32_857
  let c2_i32_858 : BitVec 32 := 2#32
  let v1097 : BitVec 32 := Scalar.subi v1096 c2_i32_858
  let c0_i32_859 : BitVec 32 := 0#32
  let v1098 : BitVec 1 := Scalar.cmpi .sge v1097 c0_i32_859
  let v1099 : BitVec 1 := Scalar.andi v1095 v1098
  let v1104 : BitVec 32 := Scalar.extui v1099
  let c0_i32_864 : BitVec 32 := 0#32
  let v1105 : BitVec 1 := Scalar.cmpi .ne v1104 c0_i32_864
  v1105

def k0_off127 (d0 : Dev nD) : Fin 4 → Nat :=
  let c3_i32_863 : BitVec 32 := 3#32
  let c0_i32_862 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_860 : BitVec 32 := 1#32
  let v1100 : BitVec 32 := Scalar.subi v5 c1_i32_860
  let c2_i32_861 : BitVec 32 := 2#32
  let v1101 : BitVec 32 := Scalar.subi v1100 c2_i32_861
  let v1102 : BitVec 32 := Scalar.maxsi c0_i32_862 v1101
  let v1103 : BitVec 32 := Scalar.minsi c3_i32_863 v1102
  let c2_i32_1229 : BitVec 32 := 2#32
  let c0_i32_1230 : BitVec 32 := 0#32
  let c0_i32_1231 : BitVec 32 := 0#32
  ![v1103.toNat, 2, 0, 0]
def k0_cond96 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_865 : BitVec 32 := 3#32
  let v1106 : BitVec 1 := Scalar.cmpi .slt v5 c3_i32_865
  let c1_i32_866 : BitVec 32 := 1#32
  let v1107 : BitVec 32 := Scalar.addi v5 c1_i32_866
  let c2_i32_867 : BitVec 32 := 2#32
  let v1108 : BitVec 32 := Scalar.addi v1107 c2_i32_867
  let c3_i32_868 : BitVec 32 := 3#32
  let v1109 : BitVec 1 := Scalar.cmpi .sle v1108 c3_i32_868
  let v1110 : BitVec 1 := Scalar.andi v1106 v1109
  let v1115 : BitVec 32 := Scalar.extui v1110
  let c0_i32_873 : BitVec 32 := 0#32
  let v1116 : BitVec 1 := Scalar.cmpi .ne v1115 c0_i32_873
  v1116

def k0_off128 (d0 : Dev nD) : Fin 4 → Nat :=
  let c3_i32_872 : BitVec 32 := 3#32
  let c0_i32_871 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_869 : BitVec 32 := 1#32
  let v1111 : BitVec 32 := Scalar.addi v5 c1_i32_869
  let c2_i32_870 : BitVec 32 := 2#32
  let v1112 : BitVec 32 := Scalar.addi v1111 c2_i32_870
  let v1113 : BitVec 32 := Scalar.maxsi c0_i32_871 v1112
  let v1114 : BitVec 32 := Scalar.minsi c3_i32_872 v1113
  let c2_i32_1230 : BitVec 32 := 2#32
  let c0_i32_1231 : BitVec 32 := 0#32
  let c0_i32_1232 : BitVec 32 := 0#32
  ![v1114.toNat, 2, 0, 0]
def k0_cond97 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_874 : BitVec 32 := 0#32
  let v1117 : BitVec 1 := Scalar.cmpi .sgt v8 c0_i32_874
  let c1_i32_875 : BitVec 32 := 1#32
  let v1118 : BitVec 32 := Scalar.subi v8 c1_i32_875
  let c2_i32_876 : BitVec 32 := 2#32
  let v1119 : BitVec 32 := Scalar.subi v1118 c2_i32_876
  let c0_i32_877 : BitVec 32 := 0#32
  let v1120 : BitVec 1 := Scalar.cmpi .sge v1119 c0_i32_877
  let v1121 : BitVec 1 := Scalar.andi v1117 v1120
  let v1126 : BitVec 32 := Scalar.extui v1121
  let c0_i32_882 : BitVec 32 := 0#32
  let v1127 : BitVec 1 := Scalar.cmpi .ne v1126 c0_i32_882
  v1127

def k0_off129 (d0 : Dev nD) : Fin 4 → Nat :=
  let c3_i32_881 : BitVec 32 := 3#32
  let c0_i32_880 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_878 : BitVec 32 := 1#32
  let v1122 : BitVec 32 := Scalar.subi v8 c1_i32_878
  let c2_i32_879 : BitVec 32 := 2#32
  let v1123 : BitVec 32 := Scalar.subi v1122 c2_i32_879
  let v1124 : BitVec 32 := Scalar.maxsi c0_i32_880 v1123
  let v1125 : BitVec 32 := Scalar.minsi c3_i32_881 v1124
  let v1552 : Index := Scalar.indexCast v1125
  let c0_1223 : Index := 0#32
  let c0_1224 : Index := 0#32
  let c0_1225 : Index := 0#32
  ![v1552.toNat, 0, 0, 0]
def k0_off130 (d0 : Dev nD) (c0_i32_1220 : BitVec 32) : Fin 2 → Nat :=
  let c1536_i32_1222 : BitVec 32 := 1536#32
  let c3_i32_881 : BitVec 32 := 3#32
  let c0_i32_880 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_878 : BitVec 32 := 1#32
  let v1122 : BitVec 32 := Scalar.subi v8 c1_i32_878
  let c2_i32_879 : BitVec 32 := 2#32
  let v1123 : BitVec 32 := Scalar.subi v1122 c2_i32_879
  let v1124 : BitVec 32 := Scalar.maxsi c0_i32_880 v1123
  let v1125 : BitVec 32 := Scalar.minsi c3_i32_881 v1124
  let v1549 : BitVec 32 := Scalar.addi c0_i32_1220 v1125
  let c160_i32_1221 : BitVec 32 := 160#32
  let v1550 : BitVec 32 := Scalar.muli v1549 c160_i32_1221
  let v1551 : BitVec 32 := Scalar.addi c1536_i32_1222 v1550
  let v1556 : Index := Scalar.indexCast v1551
  let c0_1226 : Index := 0#32
  ![v1556.toNat, 0]
def k0_off131 (d0 : Dev nD) : Fin 4 → Nat :=
  let c3_i32_881 : BitVec 32 := 3#32
  let c0_i32_880 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_878 : BitVec 32 := 1#32
  let v1122 : BitVec 32 := Scalar.subi v8 c1_i32_878
  let c2_i32_879 : BitVec 32 := 2#32
  let v1123 : BitVec 32 := Scalar.subi v1122 c2_i32_879
  let v1124 : BitVec 32 := Scalar.maxsi c0_i32_880 v1123
  let v1125 : BitVec 32 := Scalar.minsi c3_i32_881 v1124
  let v1561 : Index := Scalar.indexCast v1125
  let c1_1230 : Index := 1#32
  let c0_1231 : Index := 0#32
  let c0_1232 : Index := 0#32
  ![v1561.toNat, 1, 0, 0]
def k0_cond98 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_883 : BitVec 32 := 3#32
  let v1128 : BitVec 1 := Scalar.cmpi .slt v8 c3_i32_883
  let c1_i32_884 : BitVec 32 := 1#32
  let v1129 : BitVec 32 := Scalar.addi v8 c1_i32_884
  let c2_i32_885 : BitVec 32 := 2#32
  let v1130 : BitVec 32 := Scalar.addi v1129 c2_i32_885
  let c3_i32_886 : BitVec 32 := 3#32
  let v1131 : BitVec 1 := Scalar.cmpi .sle v1130 c3_i32_886
  let v1132 : BitVec 1 := Scalar.andi v1128 v1131
  let v1137 : BitVec 32 := Scalar.extui v1132
  let c0_i32_891 : BitVec 32 := 0#32
  let v1138 : BitVec 1 := Scalar.cmpi .ne v1137 c0_i32_891
  v1138

def k0_off132 (d0 : Dev nD) : Fin 4 → Nat :=
  let c3_i32_890 : BitVec 32 := 3#32
  let c0_i32_889 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_887 : BitVec 32 := 1#32
  let v1133 : BitVec 32 := Scalar.addi v8 c1_i32_887
  let c2_i32_888 : BitVec 32 := 2#32
  let v1134 : BitVec 32 := Scalar.addi v1133 c2_i32_888
  let v1135 : BitVec 32 := Scalar.maxsi c0_i32_889 v1134
  let v1136 : BitVec 32 := Scalar.minsi c3_i32_890 v1135
  let v1552 : Index := Scalar.indexCast v1136
  let c0_1223 : Index := 0#32
  let c0_1224 : Index := 0#32
  let c0_1225 : Index := 0#32
  ![v1552.toNat, 0, 0, 0]
def k0_off133 (d0 : Dev nD) (c0_i32_1220 : BitVec 32) : Fin 2 → Nat :=
  let c1536_i32_1222 : BitVec 32 := 1536#32
  let c3_i32_890 : BitVec 32 := 3#32
  let c0_i32_889 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_887 : BitVec 32 := 1#32
  let v1133 : BitVec 32 := Scalar.addi v8 c1_i32_887
  let c2_i32_888 : BitVec 32 := 2#32
  let v1134 : BitVec 32 := Scalar.addi v1133 c2_i32_888
  let v1135 : BitVec 32 := Scalar.maxsi c0_i32_889 v1134
  let v1136 : BitVec 32 := Scalar.minsi c3_i32_890 v1135
  let v1549 : BitVec 32 := Scalar.addi c0_i32_1220 v1136
  let c160_i32_1221 : BitVec 32 := 160#32
  let v1550 : BitVec 32 := Scalar.muli v1549 c160_i32_1221
  let v1551 : BitVec 32 := Scalar.addi c1536_i32_1222 v1550
  let v1556 : Index := Scalar.indexCast v1551
  let c0_1226 : Index := 0#32
  ![v1556.toNat, 0]
def k0_off134 (d0 : Dev nD) : Fin 4 → Nat :=
  let c3_i32_890 : BitVec 32 := 3#32
  let c0_i32_889 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_887 : BitVec 32 := 1#32
  let v1133 : BitVec 32 := Scalar.addi v8 c1_i32_887
  let c2_i32_888 : BitVec 32 := 2#32
  let v1134 : BitVec 32 := Scalar.addi v1133 c2_i32_888
  let v1135 : BitVec 32 := Scalar.maxsi c0_i32_889 v1134
  let v1136 : BitVec 32 := Scalar.minsi c3_i32_890 v1135
  let v1561 : Index := Scalar.indexCast v1136
  let c1_1230 : Index := 1#32
  let c0_1231 : Index := 0#32
  let c0_1232 : Index := 0#32
  ![v1561.toNat, 1, 0, 0]
def k0_cond99 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_892 : BitVec 32 := 0#32
  let v1139 : BitVec 1 := Scalar.cmpi .sgt v5 c0_i32_892
  let c1_i32_893 : BitVec 32 := 1#32
  let v1140 : BitVec 32 := Scalar.subi v5 c1_i32_893
  let c2_i32_894 : BitVec 32 := 2#32
  let v1141 : BitVec 32 := Scalar.subi v1140 c2_i32_894
  let c0_i32_895 : BitVec 32 := 0#32
  let v1142 : BitVec 1 := Scalar.cmpi .sge v1141 c0_i32_895
  let v1143 : BitVec 1 := Scalar.andi v1139 v1142
  let v1148 : BitVec 32 := Scalar.extui v1143
  let c0_i32_900 : BitVec 32 := 0#32
  let v1149 : BitVec 1 := Scalar.cmpi .ne v1148 c0_i32_900
  v1149

def k0_off135 (d0 : Dev nD) : Fin 4 → Nat :=
  let c3_i32_899 : BitVec 32 := 3#32
  let c0_i32_898 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_896 : BitVec 32 := 1#32
  let v1144 : BitVec 32 := Scalar.subi v5 c1_i32_896
  let c2_i32_897 : BitVec 32 := 2#32
  let v1145 : BitVec 32 := Scalar.subi v1144 c2_i32_897
  let v1146 : BitVec 32 := Scalar.maxsi c0_i32_898 v1145
  let v1147 : BitVec 32 := Scalar.minsi c3_i32_899 v1146
  let v1554 : Index := Scalar.indexCast v1147
  let c0_1225 : Index := 0#32
  let c0_1226 : Index := 0#32
  let c0_1227 : Index := 0#32
  ![v1554.toNat, 0, 0, 0]
def k0_off136 (d0 : Dev nD) (c0_i32_1221 : BitVec 32) : Fin 2 → Nat :=
  let c1536_i32_1223 : BitVec 32 := 1536#32
  let c3_i32_899 : BitVec 32 := 3#32
  let c0_i32_898 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_896 : BitVec 32 := 1#32
  let v1144 : BitVec 32 := Scalar.subi v5 c1_i32_896
  let c2_i32_897 : BitVec 32 := 2#32
  let v1145 : BitVec 32 := Scalar.subi v1144 c2_i32_897
  let v1146 : BitVec 32 := Scalar.maxsi c0_i32_898 v1145
  let v1147 : BitVec 32 := Scalar.minsi c3_i32_899 v1146
  let c4_i32_1220 : BitVec 32 := 4#32
  let v1549 : BitVec 32 := Scalar.muli v1147 c4_i32_1220
  let v1550 : BitVec 32 := Scalar.addi v1549 c0_i32_1221
  let c160_i32_1222 : BitVec 32 := 160#32
  let v1551 : BitVec 32 := Scalar.muli v1550 c160_i32_1222
  let v1552 : BitVec 32 := Scalar.addi c1536_i32_1223 v1551
  let c80_i32_1224 : BitVec 32 := 80#32
  let v1553 : BitVec 32 := Scalar.addi v1552 c80_i32_1224
  let v1558 : Index := Scalar.indexCast v1553
  let c0_1228 : Index := 0#32
  ![v1558.toNat, 0]
def k0_off137 (d0 : Dev nD) : Fin 4 → Nat :=
  let c3_i32_899 : BitVec 32 := 3#32
  let c0_i32_898 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_896 : BitVec 32 := 1#32
  let v1144 : BitVec 32 := Scalar.subi v5 c1_i32_896
  let c2_i32_897 : BitVec 32 := 2#32
  let v1145 : BitVec 32 := Scalar.subi v1144 c2_i32_897
  let v1146 : BitVec 32 := Scalar.maxsi c0_i32_898 v1145
  let v1147 : BitVec 32 := Scalar.minsi c3_i32_899 v1146
  let v1565 : Index := Scalar.indexCast v1147
  let c1_1234 : Index := 1#32
  let c0_1235 : Index := 0#32
  let c0_1236 : Index := 0#32
  ![v1565.toNat, 1, 0, 0]
def k0_cond100 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_901 : BitVec 32 := 3#32
  let v1150 : BitVec 1 := Scalar.cmpi .slt v5 c3_i32_901
  let c1_i32_902 : BitVec 32 := 1#32
  let v1151 : BitVec 32 := Scalar.addi v5 c1_i32_902
  let c2_i32_903 : BitVec 32 := 2#32
  let v1152 : BitVec 32 := Scalar.addi v1151 c2_i32_903
  let c3_i32_904 : BitVec 32 := 3#32
  let v1153 : BitVec 1 := Scalar.cmpi .sle v1152 c3_i32_904
  let v1154 : BitVec 1 := Scalar.andi v1150 v1153
  let v1159 : BitVec 32 := Scalar.extui v1154
  let c0_i32_909 : BitVec 32 := 0#32
  let v1160 : BitVec 1 := Scalar.cmpi .ne v1159 c0_i32_909
  v1160

def k0_off138 (d0 : Dev nD) : Fin 4 → Nat :=
  let c3_i32_908 : BitVec 32 := 3#32
  let c0_i32_907 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_905 : BitVec 32 := 1#32
  let v1155 : BitVec 32 := Scalar.addi v5 c1_i32_905
  let c2_i32_906 : BitVec 32 := 2#32
  let v1156 : BitVec 32 := Scalar.addi v1155 c2_i32_906
  let v1157 : BitVec 32 := Scalar.maxsi c0_i32_907 v1156
  let v1158 : BitVec 32 := Scalar.minsi c3_i32_908 v1157
  let v1554 : Index := Scalar.indexCast v1158
  let c0_1225 : Index := 0#32
  let c0_1226 : Index := 0#32
  let c0_1227 : Index := 0#32
  ![v1554.toNat, 0, 0, 0]
def k0_off139 (d0 : Dev nD) (c0_i32_1221 : BitVec 32) : Fin 2 → Nat :=
  let c1536_i32_1223 : BitVec 32 := 1536#32
  let c3_i32_908 : BitVec 32 := 3#32
  let c0_i32_907 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_905 : BitVec 32 := 1#32
  let v1155 : BitVec 32 := Scalar.addi v5 c1_i32_905
  let c2_i32_906 : BitVec 32 := 2#32
  let v1156 : BitVec 32 := Scalar.addi v1155 c2_i32_906
  let v1157 : BitVec 32 := Scalar.maxsi c0_i32_907 v1156
  let v1158 : BitVec 32 := Scalar.minsi c3_i32_908 v1157
  let c4_i32_1220 : BitVec 32 := 4#32
  let v1549 : BitVec 32 := Scalar.muli v1158 c4_i32_1220
  let v1550 : BitVec 32 := Scalar.addi v1549 c0_i32_1221
  let c160_i32_1222 : BitVec 32 := 160#32
  let v1551 : BitVec 32 := Scalar.muli v1550 c160_i32_1222
  let v1552 : BitVec 32 := Scalar.addi c1536_i32_1223 v1551
  let c80_i32_1224 : BitVec 32 := 80#32
  let v1553 : BitVec 32 := Scalar.addi v1552 c80_i32_1224
  let v1558 : Index := Scalar.indexCast v1553
  let c0_1228 : Index := 0#32
  ![v1558.toNat, 0]
def k0_off140 (d0 : Dev nD) : Fin 4 → Nat :=
  let c3_i32_908 : BitVec 32 := 3#32
  let c0_i32_907 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_905 : BitVec 32 := 1#32
  let v1155 : BitVec 32 := Scalar.addi v5 c1_i32_905
  let c2_i32_906 : BitVec 32 := 2#32
  let v1156 : BitVec 32 := Scalar.addi v1155 c2_i32_906
  let v1157 : BitVec 32 := Scalar.maxsi c0_i32_907 v1156
  let v1158 : BitVec 32 := Scalar.minsi c3_i32_908 v1157
  let v1565 : Index := Scalar.indexCast v1158
  let c1_1234 : Index := 1#32
  let c0_1235 : Index := 0#32
  let c0_1236 : Index := 0#32
  ![v1565.toNat, 1, 0, 0]
def k0_cond101 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_910 : BitVec 32 := 0#32
  let v1161 : BitVec 1 := Scalar.cmpi .sgt v8 c0_i32_910
  let c1_i32_911 : BitVec 32 := 1#32
  let v1162 : BitVec 32 := Scalar.subi v8 c1_i32_911
  let c2_i32_912 : BitVec 32 := 2#32
  let v1163 : BitVec 32 := Scalar.subi v1162 c2_i32_912
  let c0_i32_913 : BitVec 32 := 0#32
  let v1164 : BitVec 1 := Scalar.cmpi .sge v1163 c0_i32_913
  let v1165 : BitVec 1 := Scalar.andi v1161 v1164
  let v1170 : BitVec 32 := Scalar.extui v1165
  let c0_i32_918 : BitVec 32 := 0#32
  let v1171 : BitVec 1 := Scalar.cmpi .ne v1170 c0_i32_918
  v1171

def k0_off141 (d0 : Dev nD) : Fin 4 → Nat :=
  let c3_i32_917 : BitVec 32 := 3#32
  let c0_i32_916 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_914 : BitVec 32 := 1#32
  let v1166 : BitVec 32 := Scalar.subi v8 c1_i32_914
  let c2_i32_915 : BitVec 32 := 2#32
  let v1167 : BitVec 32 := Scalar.subi v1166 c2_i32_915
  let v1168 : BitVec 32 := Scalar.maxsi c0_i32_916 v1167
  let v1169 : BitVec 32 := Scalar.minsi c3_i32_917 v1168
  let v1552 : Index := Scalar.indexCast v1169
  let c2_1223 : Index := 2#32
  let c0_1224 : Index := 0#32
  let c0_1225 : Index := 0#32
  ![v1552.toNat, 2, 0, 0]
def k0_off142 (d0 : Dev nD) (c8_i32_1220 : BitVec 32) : Fin 2 → Nat :=
  let c1536_i32_1222 : BitVec 32 := 1536#32
  let c3_i32_917 : BitVec 32 := 3#32
  let c0_i32_916 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_914 : BitVec 32 := 1#32
  let v1166 : BitVec 32 := Scalar.subi v8 c1_i32_914
  let c2_i32_915 : BitVec 32 := 2#32
  let v1167 : BitVec 32 := Scalar.subi v1166 c2_i32_915
  let v1168 : BitVec 32 := Scalar.maxsi c0_i32_916 v1167
  let v1169 : BitVec 32 := Scalar.minsi c3_i32_917 v1168
  let v1549 : BitVec 32 := Scalar.addi c8_i32_1220 v1169
  let c160_i32_1221 : BitVec 32 := 160#32
  let v1550 : BitVec 32 := Scalar.muli v1549 c160_i32_1221
  let v1551 : BitVec 32 := Scalar.addi c1536_i32_1222 v1550
  let v1556 : Index := Scalar.indexCast v1551
  let c0_1226 : Index := 0#32
  ![v1556.toNat, 0]
def k0_off143 (d0 : Dev nD) : Fin 4 → Nat :=
  let c3_i32_917 : BitVec 32 := 3#32
  let c0_i32_916 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_914 : BitVec 32 := 1#32
  let v1166 : BitVec 32 := Scalar.subi v8 c1_i32_914
  let c2_i32_915 : BitVec 32 := 2#32
  let v1167 : BitVec 32 := Scalar.subi v1166 c2_i32_915
  let v1168 : BitVec 32 := Scalar.maxsi c0_i32_916 v1167
  let v1169 : BitVec 32 := Scalar.minsi c3_i32_917 v1168
  let v1561 : Index := Scalar.indexCast v1169
  let c3_1230 : Index := 3#32
  let c0_1231 : Index := 0#32
  let c0_1232 : Index := 0#32
  ![v1561.toNat, 3, 0, 0]
def k0_cond102 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_919 : BitVec 32 := 3#32
  let v1172 : BitVec 1 := Scalar.cmpi .slt v8 c3_i32_919
  let c1_i32_920 : BitVec 32 := 1#32
  let v1173 : BitVec 32 := Scalar.addi v8 c1_i32_920
  let c2_i32_921 : BitVec 32 := 2#32
  let v1174 : BitVec 32 := Scalar.addi v1173 c2_i32_921
  let c3_i32_922 : BitVec 32 := 3#32
  let v1175 : BitVec 1 := Scalar.cmpi .sle v1174 c3_i32_922
  let v1176 : BitVec 1 := Scalar.andi v1172 v1175
  let v1181 : BitVec 32 := Scalar.extui v1176
  let c0_i32_927 : BitVec 32 := 0#32
  let v1182 : BitVec 1 := Scalar.cmpi .ne v1181 c0_i32_927
  v1182

def k0_off144 (d0 : Dev nD) : Fin 4 → Nat :=
  let c3_i32_926 : BitVec 32 := 3#32
  let c0_i32_925 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_923 : BitVec 32 := 1#32
  let v1177 : BitVec 32 := Scalar.addi v8 c1_i32_923
  let c2_i32_924 : BitVec 32 := 2#32
  let v1178 : BitVec 32 := Scalar.addi v1177 c2_i32_924
  let v1179 : BitVec 32 := Scalar.maxsi c0_i32_925 v1178
  let v1180 : BitVec 32 := Scalar.minsi c3_i32_926 v1179
  let v1552 : Index := Scalar.indexCast v1180
  let c2_1223 : Index := 2#32
  let c0_1224 : Index := 0#32
  let c0_1225 : Index := 0#32
  ![v1552.toNat, 2, 0, 0]
def k0_off145 (d0 : Dev nD) (c8_i32_1220 : BitVec 32) : Fin 2 → Nat :=
  let c1536_i32_1222 : BitVec 32 := 1536#32
  let c3_i32_926 : BitVec 32 := 3#32
  let c0_i32_925 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_923 : BitVec 32 := 1#32
  let v1177 : BitVec 32 := Scalar.addi v8 c1_i32_923
  let c2_i32_924 : BitVec 32 := 2#32
  let v1178 : BitVec 32 := Scalar.addi v1177 c2_i32_924
  let v1179 : BitVec 32 := Scalar.maxsi c0_i32_925 v1178
  let v1180 : BitVec 32 := Scalar.minsi c3_i32_926 v1179
  let v1549 : BitVec 32 := Scalar.addi c8_i32_1220 v1180
  let c160_i32_1221 : BitVec 32 := 160#32
  let v1550 : BitVec 32 := Scalar.muli v1549 c160_i32_1221
  let v1551 : BitVec 32 := Scalar.addi c1536_i32_1222 v1550
  let v1556 : Index := Scalar.indexCast v1551
  let c0_1226 : Index := 0#32
  ![v1556.toNat, 0]
def k0_off146 (d0 : Dev nD) : Fin 4 → Nat :=
  let c3_i32_926 : BitVec 32 := 3#32
  let c0_i32_925 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_923 : BitVec 32 := 1#32
  let v1177 : BitVec 32 := Scalar.addi v8 c1_i32_923
  let c2_i32_924 : BitVec 32 := 2#32
  let v1178 : BitVec 32 := Scalar.addi v1177 c2_i32_924
  let v1179 : BitVec 32 := Scalar.maxsi c0_i32_925 v1178
  let v1180 : BitVec 32 := Scalar.minsi c3_i32_926 v1179
  let v1561 : Index := Scalar.indexCast v1180
  let c3_1230 : Index := 3#32
  let c0_1231 : Index := 0#32
  let c0_1232 : Index := 0#32
  ![v1561.toNat, 3, 0, 0]
def k0_cond103 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_928 : BitVec 32 := 0#32
  let v1183 : BitVec 1 := Scalar.cmpi .sgt v5 c0_i32_928
  let c1_i32_929 : BitVec 32 := 1#32
  let v1184 : BitVec 32 := Scalar.subi v5 c1_i32_929
  let c2_i32_930 : BitVec 32 := 2#32
  let v1185 : BitVec 32 := Scalar.subi v1184 c2_i32_930
  let c0_i32_931 : BitVec 32 := 0#32
  let v1186 : BitVec 1 := Scalar.cmpi .sge v1185 c0_i32_931
  let v1187 : BitVec 1 := Scalar.andi v1183 v1186
  let v1192 : BitVec 32 := Scalar.extui v1187
  let c0_i32_936 : BitVec 32 := 0#32
  let v1193 : BitVec 1 := Scalar.cmpi .ne v1192 c0_i32_936
  v1193

def k0_off147 (d0 : Dev nD) : Fin 4 → Nat :=
  let c3_i32_935 : BitVec 32 := 3#32
  let c0_i32_934 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_932 : BitVec 32 := 1#32
  let v1188 : BitVec 32 := Scalar.subi v5 c1_i32_932
  let c2_i32_933 : BitVec 32 := 2#32
  let v1189 : BitVec 32 := Scalar.subi v1188 c2_i32_933
  let v1190 : BitVec 32 := Scalar.maxsi c0_i32_934 v1189
  let v1191 : BitVec 32 := Scalar.minsi c3_i32_935 v1190
  let v1554 : Index := Scalar.indexCast v1191
  let c2_1225 : Index := 2#32
  let c0_1226 : Index := 0#32
  let c0_1227 : Index := 0#32
  ![v1554.toNat, 2, 0, 0]
def k0_off148 (d0 : Dev nD) (c2_i32_1221 : BitVec 32) : Fin 2 → Nat :=
  let c1536_i32_1223 : BitVec 32 := 1536#32
  let c3_i32_935 : BitVec 32 := 3#32
  let c0_i32_934 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_932 : BitVec 32 := 1#32
  let v1188 : BitVec 32 := Scalar.subi v5 c1_i32_932
  let c2_i32_933 : BitVec 32 := 2#32
  let v1189 : BitVec 32 := Scalar.subi v1188 c2_i32_933
  let v1190 : BitVec 32 := Scalar.maxsi c0_i32_934 v1189
  let v1191 : BitVec 32 := Scalar.minsi c3_i32_935 v1190
  let c4_i32_1220 : BitVec 32 := 4#32
  let v1549 : BitVec 32 := Scalar.muli v1191 c4_i32_1220
  let v1550 : BitVec 32 := Scalar.addi v1549 c2_i32_1221
  let c160_i32_1222 : BitVec 32 := 160#32
  let v1551 : BitVec 32 := Scalar.muli v1550 c160_i32_1222
  let v1552 : BitVec 32 := Scalar.addi c1536_i32_1223 v1551
  let c80_i32_1224 : BitVec 32 := 80#32
  let v1553 : BitVec 32 := Scalar.addi v1552 c80_i32_1224
  let v1558 : Index := Scalar.indexCast v1553
  let c0_1228 : Index := 0#32
  ![v1558.toNat, 0]
def k0_off149 (d0 : Dev nD) : Fin 4 → Nat :=
  let c3_i32_935 : BitVec 32 := 3#32
  let c0_i32_934 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_932 : BitVec 32 := 1#32
  let v1188 : BitVec 32 := Scalar.subi v5 c1_i32_932
  let c2_i32_933 : BitVec 32 := 2#32
  let v1189 : BitVec 32 := Scalar.subi v1188 c2_i32_933
  let v1190 : BitVec 32 := Scalar.maxsi c0_i32_934 v1189
  let v1191 : BitVec 32 := Scalar.minsi c3_i32_935 v1190
  let v1565 : Index := Scalar.indexCast v1191
  let c3_1234 : Index := 3#32
  let c0_1235 : Index := 0#32
  let c0_1236 : Index := 0#32
  ![v1565.toNat, 3, 0, 0]
def k0_cond104 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_937 : BitVec 32 := 3#32
  let v1194 : BitVec 1 := Scalar.cmpi .slt v5 c3_i32_937
  let c1_i32_938 : BitVec 32 := 1#32
  let v1195 : BitVec 32 := Scalar.addi v5 c1_i32_938
  let c2_i32_939 : BitVec 32 := 2#32
  let v1196 : BitVec 32 := Scalar.addi v1195 c2_i32_939
  let c3_i32_940 : BitVec 32 := 3#32
  let v1197 : BitVec 1 := Scalar.cmpi .sle v1196 c3_i32_940
  let v1198 : BitVec 1 := Scalar.andi v1194 v1197
  let v1203 : BitVec 32 := Scalar.extui v1198
  let c0_i32_945 : BitVec 32 := 0#32
  let v1204 : BitVec 1 := Scalar.cmpi .ne v1203 c0_i32_945
  v1204

def k0_off150 (d0 : Dev nD) : Fin 4 → Nat :=
  let c3_i32_944 : BitVec 32 := 3#32
  let c0_i32_943 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_941 : BitVec 32 := 1#32
  let v1199 : BitVec 32 := Scalar.addi v5 c1_i32_941
  let c2_i32_942 : BitVec 32 := 2#32
  let v1200 : BitVec 32 := Scalar.addi v1199 c2_i32_942
  let v1201 : BitVec 32 := Scalar.maxsi c0_i32_943 v1200
  let v1202 : BitVec 32 := Scalar.minsi c3_i32_944 v1201
  let v1554 : Index := Scalar.indexCast v1202
  let c2_1225 : Index := 2#32
  let c0_1226 : Index := 0#32
  let c0_1227 : Index := 0#32
  ![v1554.toNat, 2, 0, 0]
def k0_off151 (d0 : Dev nD) (c2_i32_1221 : BitVec 32) : Fin 2 → Nat :=
  let c1536_i32_1223 : BitVec 32 := 1536#32
  let c3_i32_944 : BitVec 32 := 3#32
  let c0_i32_943 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_941 : BitVec 32 := 1#32
  let v1199 : BitVec 32 := Scalar.addi v5 c1_i32_941
  let c2_i32_942 : BitVec 32 := 2#32
  let v1200 : BitVec 32 := Scalar.addi v1199 c2_i32_942
  let v1201 : BitVec 32 := Scalar.maxsi c0_i32_943 v1200
  let v1202 : BitVec 32 := Scalar.minsi c3_i32_944 v1201
  let c4_i32_1220 : BitVec 32 := 4#32
  let v1549 : BitVec 32 := Scalar.muli v1202 c4_i32_1220
  let v1550 : BitVec 32 := Scalar.addi v1549 c2_i32_1221
  let c160_i32_1222 : BitVec 32 := 160#32
  let v1551 : BitVec 32 := Scalar.muli v1550 c160_i32_1222
  let v1552 : BitVec 32 := Scalar.addi c1536_i32_1223 v1551
  let c80_i32_1224 : BitVec 32 := 80#32
  let v1553 : BitVec 32 := Scalar.addi v1552 c80_i32_1224
  let v1558 : Index := Scalar.indexCast v1553
  let c0_1228 : Index := 0#32
  ![v1558.toNat, 0]
def k0_off152 (d0 : Dev nD) : Fin 4 → Nat :=
  let c3_i32_944 : BitVec 32 := 3#32
  let c0_i32_943 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_941 : BitVec 32 := 1#32
  let v1199 : BitVec 32 := Scalar.addi v5 c1_i32_941
  let c2_i32_942 : BitVec 32 := 2#32
  let v1200 : BitVec 32 := Scalar.addi v1199 c2_i32_942
  let v1201 : BitVec 32 := Scalar.maxsi c0_i32_943 v1200
  let v1202 : BitVec 32 := Scalar.minsi c3_i32_944 v1201
  let v1565 : Index := Scalar.indexCast v1202
  let c3_1234 : Index := 3#32
  let c0_1235 : Index := 0#32
  let c0_1236 : Index := 0#32
  ![v1565.toNat, 3, 0, 0]
def k0_cond105 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_968 : BitVec 32 := 3#32
  let v1225 : BitVec 1 := Scalar.cmpi .slt v5 c3_i32_968
  let c0_i32_969 : BitVec 32 := 0#32
  let v1226 : BitVec 32 := Scalar.subi v5 c0_i32_969
  let c0_i32_970 : BitVec 32 := 0#32
  let v1227 : BitVec 1 := Scalar.cmpi .sge v1226 c0_i32_970
  let v1228 : BitVec 1 := Scalar.andi v1225 v1227
  let v1232 : BitVec 32 := Scalar.extui v1228
  let c0_i32_974 : BitVec 32 := 0#32
  let v1233 : BitVec 1 := Scalar.cmpi .ne v1232 c0_i32_974
  v1233

def k0_off153 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_973 : BitVec 32 := 3#32
  let c0_i32_972 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_971 : BitVec 32 := 0#32
  let v1229 : BitVec 32 := Scalar.subi v5 c0_i32_971
  let v1230 : BitVec 32 := Scalar.maxsi c0_i32_972 v1229
  let v1231 : BitVec 32 := Scalar.minsi c3_i32_973 v1230
  let c0_i32_1228 : BitVec 32 := 0#32
  let c0_i32_1229 : BitVec 32 := 0#32
  ![v8.toNat, v1231.toNat, 0, 0]
def k0_cond106 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_975 : BitVec 32 := 0#32
  let v1234 : BitVec 1 := Scalar.cmpi .sgt v5 c0_i32_975
  let c0_i32_976 : BitVec 32 := 0#32
  let v1235 : BitVec 32 := Scalar.addi v5 c0_i32_976
  let c3_i32_977 : BitVec 32 := 3#32
  let v1236 : BitVec 1 := Scalar.cmpi .sle v1235 c3_i32_977
  let v1237 : BitVec 1 := Scalar.andi v1234 v1236
  let v1241 : BitVec 32 := Scalar.extui v1237
  let c0_i32_981 : BitVec 32 := 0#32
  let v1242 : BitVec 1 := Scalar.cmpi .ne v1241 c0_i32_981
  v1242

def k0_off154 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_980 : BitVec 32 := 3#32
  let c0_i32_979 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_978 : BitVec 32 := 0#32
  let v1238 : BitVec 32 := Scalar.addi v5 c0_i32_978
  let v1239 : BitVec 32 := Scalar.maxsi c0_i32_979 v1238
  let v1240 : BitVec 32 := Scalar.minsi c3_i32_980 v1239
  let c0_i32_1227 : BitVec 32 := 0#32
  let c0_i32_1228 : BitVec 32 := 0#32
  ![v8.toNat, v1240.toNat, 0, 0]
def k0_cond107 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_982 : BitVec 32 := 3#32
  let v1243 : BitVec 1 := Scalar.cmpi .slt v8 c3_i32_982
  let c0_i32_983 : BitVec 32 := 0#32
  let v1244 : BitVec 32 := Scalar.subi v8 c0_i32_983
  let c0_i32_984 : BitVec 32 := 0#32
  let v1245 : BitVec 1 := Scalar.cmpi .sge v1244 c0_i32_984
  let v1246 : BitVec 1 := Scalar.andi v1243 v1245
  let v1250 : BitVec 32 := Scalar.extui v1246
  let c0_i32_988 : BitVec 32 := 0#32
  let v1251 : BitVec 1 := Scalar.cmpi .ne v1250 c0_i32_988
  v1251

def k0_off155 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_987 : BitVec 32 := 3#32
  let c0_i32_986 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_985 : BitVec 32 := 0#32
  let v1247 : BitVec 32 := Scalar.subi v8 c0_i32_985
  let v1248 : BitVec 32 := Scalar.maxsi c0_i32_986 v1247
  let v1249 : BitVec 32 := Scalar.minsi c3_i32_987 v1248
  let c0_i32_1228 : BitVec 32 := 0#32
  let c0_i32_1229 : BitVec 32 := 0#32
  ![v5.toNat, v1249.toNat, 0, 0]
def k0_cond108 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_989 : BitVec 32 := 0#32
  let v1252 : BitVec 1 := Scalar.cmpi .sgt v8 c0_i32_989
  let c0_i32_990 : BitVec 32 := 0#32
  let v1253 : BitVec 32 := Scalar.addi v8 c0_i32_990
  let c3_i32_991 : BitVec 32 := 3#32
  let v1254 : BitVec 1 := Scalar.cmpi .sle v1253 c3_i32_991
  let v1255 : BitVec 1 := Scalar.andi v1252 v1254
  let v1259 : BitVec 32 := Scalar.extui v1255
  let c0_i32_995 : BitVec 32 := 0#32
  let v1260 : BitVec 1 := Scalar.cmpi .ne v1259 c0_i32_995
  v1260

def k0_off156 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_994 : BitVec 32 := 3#32
  let c0_i32_993 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_992 : BitVec 32 := 0#32
  let v1256 : BitVec 32 := Scalar.addi v8 c0_i32_992
  let v1257 : BitVec 32 := Scalar.maxsi c0_i32_993 v1256
  let v1258 : BitVec 32 := Scalar.minsi c3_i32_994 v1257
  let c0_i32_1227 : BitVec 32 := 0#32
  let c0_i32_1228 : BitVec 32 := 0#32
  ![v5.toNat, v1258.toNat, 0, 0]
def k0_cond109 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_996 : BitVec 32 := 3#32
  let v1261 : BitVec 1 := Scalar.cmpi .slt v5 c3_i32_996
  let c1_i32_997 : BitVec 32 := 1#32
  let v1262 : BitVec 32 := Scalar.subi v5 c1_i32_997
  let c0_i32_998 : BitVec 32 := 0#32
  let v1263 : BitVec 1 := Scalar.cmpi .sge v1262 c0_i32_998
  let v1264 : BitVec 1 := Scalar.andi v1261 v1263
  let v1268 : BitVec 32 := Scalar.extui v1264
  let c0_i32_1002 : BitVec 32 := 0#32
  let v1269 : BitVec 1 := Scalar.cmpi .ne v1268 c0_i32_1002
  v1269

def k0_off157 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1001 : BitVec 32 := 3#32
  let c0_i32_1000 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_999 : BitVec 32 := 1#32
  let v1265 : BitVec 32 := Scalar.subi v5 c1_i32_999
  let v1266 : BitVec 32 := Scalar.maxsi c0_i32_1000 v1265
  let v1267 : BitVec 32 := Scalar.minsi c3_i32_1001 v1266
  let c0_i32_1228 : BitVec 32 := 0#32
  let c0_i32_1229 : BitVec 32 := 0#32
  ![v8.toNat, v1267.toNat, 0, 0]
def k0_cond110 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_1003 : BitVec 32 := 0#32
  let v1270 : BitVec 1 := Scalar.cmpi .sgt v5 c0_i32_1003
  let c1_i32_1004 : BitVec 32 := 1#32
  let v1271 : BitVec 32 := Scalar.addi v5 c1_i32_1004
  let c3_i32_1005 : BitVec 32 := 3#32
  let v1272 : BitVec 1 := Scalar.cmpi .sle v1271 c3_i32_1005
  let v1273 : BitVec 1 := Scalar.andi v1270 v1272
  let v1277 : BitVec 32 := Scalar.extui v1273
  let c0_i32_1009 : BitVec 32 := 0#32
  let v1278 : BitVec 1 := Scalar.cmpi .ne v1277 c0_i32_1009
  v1278

def k0_off158 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1008 : BitVec 32 := 3#32
  let c0_i32_1007 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1006 : BitVec 32 := 1#32
  let v1274 : BitVec 32 := Scalar.addi v5 c1_i32_1006
  let v1275 : BitVec 32 := Scalar.maxsi c0_i32_1007 v1274
  let v1276 : BitVec 32 := Scalar.minsi c3_i32_1008 v1275
  let c0_i32_1227 : BitVec 32 := 0#32
  let c0_i32_1228 : BitVec 32 := 0#32
  ![v8.toNat, v1276.toNat, 0, 0]
def k0_cond111 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1010 : BitVec 32 := 3#32
  let v1279 : BitVec 1 := Scalar.cmpi .slt v8 c3_i32_1010
  let c1_i32_1011 : BitVec 32 := 1#32
  let v1280 : BitVec 32 := Scalar.subi v8 c1_i32_1011
  let c0_i32_1012 : BitVec 32 := 0#32
  let v1281 : BitVec 1 := Scalar.cmpi .sge v1280 c0_i32_1012
  let v1282 : BitVec 1 := Scalar.andi v1279 v1281
  let v1286 : BitVec 32 := Scalar.extui v1282
  let c0_i32_1016 : BitVec 32 := 0#32
  let v1287 : BitVec 1 := Scalar.cmpi .ne v1286 c0_i32_1016
  v1287

def k0_off159 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1015 : BitVec 32 := 3#32
  let c0_i32_1014 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1013 : BitVec 32 := 1#32
  let v1283 : BitVec 32 := Scalar.subi v8 c1_i32_1013
  let v1284 : BitVec 32 := Scalar.maxsi c0_i32_1014 v1283
  let v1285 : BitVec 32 := Scalar.minsi c3_i32_1015 v1284
  let c0_i32_1228 : BitVec 32 := 0#32
  let c0_i32_1229 : BitVec 32 := 0#32
  ![v5.toNat, v1285.toNat, 0, 0]
def k0_cond112 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1017 : BitVec 32 := 0#32
  let v1288 : BitVec 1 := Scalar.cmpi .sgt v8 c0_i32_1017
  let c1_i32_1018 : BitVec 32 := 1#32
  let v1289 : BitVec 32 := Scalar.addi v8 c1_i32_1018
  let c3_i32_1019 : BitVec 32 := 3#32
  let v1290 : BitVec 1 := Scalar.cmpi .sle v1289 c3_i32_1019
  let v1291 : BitVec 1 := Scalar.andi v1288 v1290
  let v1295 : BitVec 32 := Scalar.extui v1291
  let c0_i32_1023 : BitVec 32 := 0#32
  let v1296 : BitVec 1 := Scalar.cmpi .ne v1295 c0_i32_1023
  v1296

def k0_off160 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1022 : BitVec 32 := 3#32
  let c0_i32_1021 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1020 : BitVec 32 := 1#32
  let v1292 : BitVec 32 := Scalar.addi v8 c1_i32_1020
  let v1293 : BitVec 32 := Scalar.maxsi c0_i32_1021 v1292
  let v1294 : BitVec 32 := Scalar.minsi c3_i32_1022 v1293
  let c0_i32_1227 : BitVec 32 := 0#32
  let c0_i32_1228 : BitVec 32 := 0#32
  ![v5.toNat, v1294.toNat, 0, 0]
def k0_cond113 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1024 : BitVec 32 := 3#32
  let v1297 : BitVec 1 := Scalar.cmpi .slt v5 c3_i32_1024
  let c2_i32_1025 : BitVec 32 := 2#32
  let v1298 : BitVec 32 := Scalar.subi v5 c2_i32_1025
  let c0_i32_1026 : BitVec 32 := 0#32
  let v1299 : BitVec 1 := Scalar.cmpi .sge v1298 c0_i32_1026
  let v1300 : BitVec 1 := Scalar.andi v1297 v1299
  let v1304 : BitVec 32 := Scalar.extui v1300
  let c0_i32_1030 : BitVec 32 := 0#32
  let v1305 : BitVec 1 := Scalar.cmpi .ne v1304 c0_i32_1030
  v1305

def k0_off161 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1029 : BitVec 32 := 3#32
  let c0_i32_1028 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_1027 : BitVec 32 := 2#32
  let v1301 : BitVec 32 := Scalar.subi v5 c2_i32_1027
  let v1302 : BitVec 32 := Scalar.maxsi c0_i32_1028 v1301
  let v1303 : BitVec 32 := Scalar.minsi c3_i32_1029 v1302
  let c0_i32_1228 : BitVec 32 := 0#32
  let c0_i32_1229 : BitVec 32 := 0#32
  ![v8.toNat, v1303.toNat, 0, 0]
def k0_cond114 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_1031 : BitVec 32 := 0#32
  let v1306 : BitVec 1 := Scalar.cmpi .sgt v5 c0_i32_1031
  let c2_i32_1032 : BitVec 32 := 2#32
  let v1307 : BitVec 32 := Scalar.addi v5 c2_i32_1032
  let c3_i32_1033 : BitVec 32 := 3#32
  let v1308 : BitVec 1 := Scalar.cmpi .sle v1307 c3_i32_1033
  let v1309 : BitVec 1 := Scalar.andi v1306 v1308
  let v1313 : BitVec 32 := Scalar.extui v1309
  let c0_i32_1037 : BitVec 32 := 0#32
  let v1314 : BitVec 1 := Scalar.cmpi .ne v1313 c0_i32_1037
  v1314

def k0_off162 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1036 : BitVec 32 := 3#32
  let c0_i32_1035 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_1034 : BitVec 32 := 2#32
  let v1310 : BitVec 32 := Scalar.addi v5 c2_i32_1034
  let v1311 : BitVec 32 := Scalar.maxsi c0_i32_1035 v1310
  let v1312 : BitVec 32 := Scalar.minsi c3_i32_1036 v1311
  let c0_i32_1227 : BitVec 32 := 0#32
  let c0_i32_1228 : BitVec 32 := 0#32
  ![v8.toNat, v1312.toNat, 0, 0]
def k0_cond115 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1038 : BitVec 32 := 3#32
  let v1315 : BitVec 1 := Scalar.cmpi .slt v8 c3_i32_1038
  let c2_i32_1039 : BitVec 32 := 2#32
  let v1316 : BitVec 32 := Scalar.subi v8 c2_i32_1039
  let c0_i32_1040 : BitVec 32 := 0#32
  let v1317 : BitVec 1 := Scalar.cmpi .sge v1316 c0_i32_1040
  let v1318 : BitVec 1 := Scalar.andi v1315 v1317
  let v1322 : BitVec 32 := Scalar.extui v1318
  let c0_i32_1044 : BitVec 32 := 0#32
  let v1323 : BitVec 1 := Scalar.cmpi .ne v1322 c0_i32_1044
  v1323

def k0_off163 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1043 : BitVec 32 := 3#32
  let c0_i32_1042 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1041 : BitVec 32 := 2#32
  let v1319 : BitVec 32 := Scalar.subi v8 c2_i32_1041
  let v1320 : BitVec 32 := Scalar.maxsi c0_i32_1042 v1319
  let v1321 : BitVec 32 := Scalar.minsi c3_i32_1043 v1320
  let c0_i32_1228 : BitVec 32 := 0#32
  let c0_i32_1229 : BitVec 32 := 0#32
  ![v5.toNat, v1321.toNat, 0, 0]
def k0_cond116 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1045 : BitVec 32 := 0#32
  let v1324 : BitVec 1 := Scalar.cmpi .sgt v8 c0_i32_1045
  let c2_i32_1046 : BitVec 32 := 2#32
  let v1325 : BitVec 32 := Scalar.addi v8 c2_i32_1046
  let c3_i32_1047 : BitVec 32 := 3#32
  let v1326 : BitVec 1 := Scalar.cmpi .sle v1325 c3_i32_1047
  let v1327 : BitVec 1 := Scalar.andi v1324 v1326
  let v1331 : BitVec 32 := Scalar.extui v1327
  let c0_i32_1051 : BitVec 32 := 0#32
  let v1332 : BitVec 1 := Scalar.cmpi .ne v1331 c0_i32_1051
  v1332

def k0_off164 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1050 : BitVec 32 := 3#32
  let c0_i32_1049 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1048 : BitVec 32 := 2#32
  let v1328 : BitVec 32 := Scalar.addi v8 c2_i32_1048
  let v1329 : BitVec 32 := Scalar.maxsi c0_i32_1049 v1328
  let v1330 : BitVec 32 := Scalar.minsi c3_i32_1050 v1329
  let c0_i32_1227 : BitVec 32 := 0#32
  let c0_i32_1228 : BitVec 32 := 0#32
  ![v5.toNat, v1330.toNat, 0, 0]
def k0_cond117 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1052 : BitVec 32 := 3#32
  let v1333 : BitVec 1 := Scalar.cmpi .slt v8 c3_i32_1052
  let c0_i32_1053 : BitVec 32 := 0#32
  let v1334 : BitVec 32 := Scalar.subi v8 c0_i32_1053
  let c0_i32_1054 : BitVec 32 := 0#32
  let v1335 : BitVec 1 := Scalar.cmpi .sge v1334 c0_i32_1054
  let v1336 : BitVec 1 := Scalar.andi v1333 v1335
  let v1340 : BitVec 32 := Scalar.extui v1336
  let c0_i32_1058 : BitVec 32 := 0#32
  let v1341 : BitVec 1 := Scalar.cmpi .ne v1340 c0_i32_1058
  v1341

def k0_off165 (d0 : Dev nD) : Fin 4 → Nat :=
  let c3_i32_1057 : BitVec 32 := 3#32
  let c0_i32_1056 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1055 : BitVec 32 := 0#32
  let v1337 : BitVec 32 := Scalar.subi v8 c0_i32_1055
  let v1338 : BitVec 32 := Scalar.maxsi c0_i32_1056 v1337
  let v1339 : BitVec 32 := Scalar.minsi c3_i32_1057 v1338
  let c0_i32_1228 : BitVec 32 := 0#32
  let c0_i32_1229 : BitVec 32 := 0#32
  let c0_i32_1230 : BitVec 32 := 0#32
  ![v1339.toNat, 0, 0, 0]
def k0_cond118 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1059 : BitVec 32 := 0#32
  let v1342 : BitVec 1 := Scalar.cmpi .sgt v8 c0_i32_1059
  let c0_i32_1060 : BitVec 32 := 0#32
  let v1343 : BitVec 32 := Scalar.addi v8 c0_i32_1060
  let c3_i32_1061 : BitVec 32 := 3#32
  let v1344 : BitVec 1 := Scalar.cmpi .sle v1343 c3_i32_1061
  let v1345 : BitVec 1 := Scalar.andi v1342 v1344
  let v1349 : BitVec 32 := Scalar.extui v1345
  let c0_i32_1065 : BitVec 32 := 0#32
  let v1350 : BitVec 1 := Scalar.cmpi .ne v1349 c0_i32_1065
  v1350

def k0_off166 (d0 : Dev nD) : Fin 4 → Nat :=
  let c3_i32_1064 : BitVec 32 := 3#32
  let c0_i32_1063 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1062 : BitVec 32 := 0#32
  let v1346 : BitVec 32 := Scalar.addi v8 c0_i32_1062
  let v1347 : BitVec 32 := Scalar.maxsi c0_i32_1063 v1346
  let v1348 : BitVec 32 := Scalar.minsi c3_i32_1064 v1347
  let c0_i32_1226 : BitVec 32 := 0#32
  let c0_i32_1227 : BitVec 32 := 0#32
  let c0_i32_1228 : BitVec 32 := 0#32
  ![v1348.toNat, 0, 0, 0]
def k0_cond119 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1066 : BitVec 32 := 3#32
  let v1351 : BitVec 1 := Scalar.cmpi .slt v5 c3_i32_1066
  let c0_i32_1067 : BitVec 32 := 0#32
  let v1352 : BitVec 32 := Scalar.subi v5 c0_i32_1067
  let c0_i32_1068 : BitVec 32 := 0#32
  let v1353 : BitVec 1 := Scalar.cmpi .sge v1352 c0_i32_1068
  let v1354 : BitVec 1 := Scalar.andi v1351 v1353
  let v1358 : BitVec 32 := Scalar.extui v1354
  let c0_i32_1072 : BitVec 32 := 0#32
  let v1359 : BitVec 1 := Scalar.cmpi .ne v1358 c0_i32_1072
  v1359

def k0_off167 (d0 : Dev nD) : Fin 4 → Nat :=
  let c3_i32_1071 : BitVec 32 := 3#32
  let c0_i32_1070 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_1069 : BitVec 32 := 0#32
  let v1355 : BitVec 32 := Scalar.subi v5 c0_i32_1069
  let v1356 : BitVec 32 := Scalar.maxsi c0_i32_1070 v1355
  let v1357 : BitVec 32 := Scalar.minsi c3_i32_1071 v1356
  let c0_i32_1227 : BitVec 32 := 0#32
  let c0_i32_1228 : BitVec 32 := 0#32
  let c0_i32_1229 : BitVec 32 := 0#32
  ![v1357.toNat, 0, 0, 0]
def k0_cond120 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_1073 : BitVec 32 := 0#32
  let v1360 : BitVec 1 := Scalar.cmpi .sgt v5 c0_i32_1073
  let c0_i32_1074 : BitVec 32 := 0#32
  let v1361 : BitVec 32 := Scalar.addi v5 c0_i32_1074
  let c3_i32_1075 : BitVec 32 := 3#32
  let v1362 : BitVec 1 := Scalar.cmpi .sle v1361 c3_i32_1075
  let v1363 : BitVec 1 := Scalar.andi v1360 v1362
  let v1367 : BitVec 32 := Scalar.extui v1363
  let c0_i32_1079 : BitVec 32 := 0#32
  let v1368 : BitVec 1 := Scalar.cmpi .ne v1367 c0_i32_1079
  v1368

def k0_off168 (d0 : Dev nD) : Fin 4 → Nat :=
  let c3_i32_1078 : BitVec 32 := 3#32
  let c0_i32_1077 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_1076 : BitVec 32 := 0#32
  let v1364 : BitVec 32 := Scalar.addi v5 c0_i32_1076
  let v1365 : BitVec 32 := Scalar.maxsi c0_i32_1077 v1364
  let v1366 : BitVec 32 := Scalar.minsi c3_i32_1078 v1365
  let c0_i32_1226 : BitVec 32 := 0#32
  let c0_i32_1227 : BitVec 32 := 0#32
  let c0_i32_1228 : BitVec 32 := 0#32
  ![v1366.toNat, 0, 0, 0]
def k0_cond121 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1080 : BitVec 32 := 3#32
  let v1369 : BitVec 1 := Scalar.cmpi .slt v8 c3_i32_1080
  let c0_i32_1081 : BitVec 32 := 0#32
  let v1370 : BitVec 32 := Scalar.subi v8 c0_i32_1081
  let c0_i32_1082 : BitVec 32 := 0#32
  let v1371 : BitVec 1 := Scalar.cmpi .sge v1370 c0_i32_1082
  let v1372 : BitVec 1 := Scalar.andi v1369 v1371
  let v1376 : BitVec 32 := Scalar.extui v1372
  let c0_i32_1086 : BitVec 32 := 0#32
  let v1377 : BitVec 1 := Scalar.cmpi .ne v1376 c0_i32_1086
  v1377

def k0_off169 (d0 : Dev nD) : Fin 4 → Nat :=
  let c3_i32_1085 : BitVec 32 := 3#32
  let c0_i32_1084 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1083 : BitVec 32 := 0#32
  let v1373 : BitVec 32 := Scalar.subi v8 c0_i32_1083
  let v1374 : BitVec 32 := Scalar.maxsi c0_i32_1084 v1373
  let v1375 : BitVec 32 := Scalar.minsi c3_i32_1085 v1374
  let c2_i32_1228 : BitVec 32 := 2#32
  let c0_i32_1229 : BitVec 32 := 0#32
  let c0_i32_1230 : BitVec 32 := 0#32
  ![v1375.toNat, 2, 0, 0]
def k0_cond122 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1087 : BitVec 32 := 0#32
  let v1378 : BitVec 1 := Scalar.cmpi .sgt v8 c0_i32_1087
  let c0_i32_1088 : BitVec 32 := 0#32
  let v1379 : BitVec 32 := Scalar.addi v8 c0_i32_1088
  let c3_i32_1089 : BitVec 32 := 3#32
  let v1380 : BitVec 1 := Scalar.cmpi .sle v1379 c3_i32_1089
  let v1381 : BitVec 1 := Scalar.andi v1378 v1380
  let v1385 : BitVec 32 := Scalar.extui v1381
  let c0_i32_1093 : BitVec 32 := 0#32
  let v1386 : BitVec 1 := Scalar.cmpi .ne v1385 c0_i32_1093
  v1386

def k0_off170 (d0 : Dev nD) : Fin 4 → Nat :=
  let c3_i32_1092 : BitVec 32 := 3#32
  let c0_i32_1091 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1090 : BitVec 32 := 0#32
  let v1382 : BitVec 32 := Scalar.addi v8 c0_i32_1090
  let v1383 : BitVec 32 := Scalar.maxsi c0_i32_1091 v1382
  let v1384 : BitVec 32 := Scalar.minsi c3_i32_1092 v1383
  let c2_i32_1226 : BitVec 32 := 2#32
  let c0_i32_1227 : BitVec 32 := 0#32
  let c0_i32_1228 : BitVec 32 := 0#32
  ![v1384.toNat, 2, 0, 0]
def k0_cond123 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1094 : BitVec 32 := 3#32
  let v1387 : BitVec 1 := Scalar.cmpi .slt v5 c3_i32_1094
  let c0_i32_1095 : BitVec 32 := 0#32
  let v1388 : BitVec 32 := Scalar.subi v5 c0_i32_1095
  let c0_i32_1096 : BitVec 32 := 0#32
  let v1389 : BitVec 1 := Scalar.cmpi .sge v1388 c0_i32_1096
  let v1390 : BitVec 1 := Scalar.andi v1387 v1389
  let v1394 : BitVec 32 := Scalar.extui v1390
  let c0_i32_1100 : BitVec 32 := 0#32
  let v1395 : BitVec 1 := Scalar.cmpi .ne v1394 c0_i32_1100
  v1395

def k0_off171 (d0 : Dev nD) : Fin 4 → Nat :=
  let c3_i32_1099 : BitVec 32 := 3#32
  let c0_i32_1098 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_1097 : BitVec 32 := 0#32
  let v1391 : BitVec 32 := Scalar.subi v5 c0_i32_1097
  let v1392 : BitVec 32 := Scalar.maxsi c0_i32_1098 v1391
  let v1393 : BitVec 32 := Scalar.minsi c3_i32_1099 v1392
  let c2_i32_1227 : BitVec 32 := 2#32
  let c0_i32_1228 : BitVec 32 := 0#32
  let c0_i32_1229 : BitVec 32 := 0#32
  ![v1393.toNat, 2, 0, 0]
def k0_cond124 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_1101 : BitVec 32 := 0#32
  let v1396 : BitVec 1 := Scalar.cmpi .sgt v5 c0_i32_1101
  let c0_i32_1102 : BitVec 32 := 0#32
  let v1397 : BitVec 32 := Scalar.addi v5 c0_i32_1102
  let c3_i32_1103 : BitVec 32 := 3#32
  let v1398 : BitVec 1 := Scalar.cmpi .sle v1397 c3_i32_1103
  let v1399 : BitVec 1 := Scalar.andi v1396 v1398
  let v1403 : BitVec 32 := Scalar.extui v1399
  let c0_i32_1107 : BitVec 32 := 0#32
  let v1404 : BitVec 1 := Scalar.cmpi .ne v1403 c0_i32_1107
  v1404

def k0_off172 (d0 : Dev nD) : Fin 4 → Nat :=
  let c3_i32_1106 : BitVec 32 := 3#32
  let c0_i32_1105 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_1104 : BitVec 32 := 0#32
  let v1400 : BitVec 32 := Scalar.addi v5 c0_i32_1104
  let v1401 : BitVec 32 := Scalar.maxsi c0_i32_1105 v1400
  let v1402 : BitVec 32 := Scalar.minsi c3_i32_1106 v1401
  let c2_i32_1226 : BitVec 32 := 2#32
  let c0_i32_1227 : BitVec 32 := 0#32
  let c0_i32_1228 : BitVec 32 := 0#32
  ![v1402.toNat, 2, 0, 0]
def k0_cond125 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1108 : BitVec 32 := 3#32
  let v1405 : BitVec 1 := Scalar.cmpi .slt v8 c3_i32_1108
  let c1_i32_1109 : BitVec 32 := 1#32
  let v1406 : BitVec 32 := Scalar.subi v8 c1_i32_1109
  let c0_i32_1110 : BitVec 32 := 0#32
  let v1407 : BitVec 1 := Scalar.cmpi .sge v1406 c0_i32_1110
  let v1408 : BitVec 1 := Scalar.andi v1405 v1407
  let v1412 : BitVec 32 := Scalar.extui v1408
  let c0_i32_1114 : BitVec 32 := 0#32
  let v1413 : BitVec 1 := Scalar.cmpi .ne v1412 c0_i32_1114
  v1413

def k0_off173 (d0 : Dev nD) : Fin 4 → Nat :=
  let c3_i32_1113 : BitVec 32 := 3#32
  let c0_i32_1112 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1111 : BitVec 32 := 1#32
  let v1409 : BitVec 32 := Scalar.subi v8 c1_i32_1111
  let v1410 : BitVec 32 := Scalar.maxsi c0_i32_1112 v1409
  let v1411 : BitVec 32 := Scalar.minsi c3_i32_1113 v1410
  let c0_i32_1228 : BitVec 32 := 0#32
  let c0_i32_1229 : BitVec 32 := 0#32
  let c0_i32_1230 : BitVec 32 := 0#32
  ![v1411.toNat, 0, 0, 0]
def k0_cond126 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1115 : BitVec 32 := 0#32
  let v1414 : BitVec 1 := Scalar.cmpi .sgt v8 c0_i32_1115
  let c1_i32_1116 : BitVec 32 := 1#32
  let v1415 : BitVec 32 := Scalar.addi v8 c1_i32_1116
  let c3_i32_1117 : BitVec 32 := 3#32
  let v1416 : BitVec 1 := Scalar.cmpi .sle v1415 c3_i32_1117
  let v1417 : BitVec 1 := Scalar.andi v1414 v1416
  let v1421 : BitVec 32 := Scalar.extui v1417
  let c0_i32_1121 : BitVec 32 := 0#32
  let v1422 : BitVec 1 := Scalar.cmpi .ne v1421 c0_i32_1121
  v1422

def k0_off174 (d0 : Dev nD) : Fin 4 → Nat :=
  let c3_i32_1120 : BitVec 32 := 3#32
  let c0_i32_1119 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1118 : BitVec 32 := 1#32
  let v1418 : BitVec 32 := Scalar.addi v8 c1_i32_1118
  let v1419 : BitVec 32 := Scalar.maxsi c0_i32_1119 v1418
  let v1420 : BitVec 32 := Scalar.minsi c3_i32_1120 v1419
  let c0_i32_1226 : BitVec 32 := 0#32
  let c0_i32_1227 : BitVec 32 := 0#32
  let c0_i32_1228 : BitVec 32 := 0#32
  ![v1420.toNat, 0, 0, 0]
def k0_cond127 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1122 : BitVec 32 := 3#32
  let v1423 : BitVec 1 := Scalar.cmpi .slt v5 c3_i32_1122
  let c1_i32_1123 : BitVec 32 := 1#32
  let v1424 : BitVec 32 := Scalar.subi v5 c1_i32_1123
  let c0_i32_1124 : BitVec 32 := 0#32
  let v1425 : BitVec 1 := Scalar.cmpi .sge v1424 c0_i32_1124
  let v1426 : BitVec 1 := Scalar.andi v1423 v1425
  let v1430 : BitVec 32 := Scalar.extui v1426
  let c0_i32_1128 : BitVec 32 := 0#32
  let v1431 : BitVec 1 := Scalar.cmpi .ne v1430 c0_i32_1128
  v1431

def k0_off175 (d0 : Dev nD) : Fin 4 → Nat :=
  let c3_i32_1127 : BitVec 32 := 3#32
  let c0_i32_1126 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1125 : BitVec 32 := 1#32
  let v1427 : BitVec 32 := Scalar.subi v5 c1_i32_1125
  let v1428 : BitVec 32 := Scalar.maxsi c0_i32_1126 v1427
  let v1429 : BitVec 32 := Scalar.minsi c3_i32_1127 v1428
  let c0_i32_1227 : BitVec 32 := 0#32
  let c0_i32_1228 : BitVec 32 := 0#32
  let c0_i32_1229 : BitVec 32 := 0#32
  ![v1429.toNat, 0, 0, 0]
def k0_cond128 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_1129 : BitVec 32 := 0#32
  let v1432 : BitVec 1 := Scalar.cmpi .sgt v5 c0_i32_1129
  let c1_i32_1130 : BitVec 32 := 1#32
  let v1433 : BitVec 32 := Scalar.addi v5 c1_i32_1130
  let c3_i32_1131 : BitVec 32 := 3#32
  let v1434 : BitVec 1 := Scalar.cmpi .sle v1433 c3_i32_1131
  let v1435 : BitVec 1 := Scalar.andi v1432 v1434
  let v1439 : BitVec 32 := Scalar.extui v1435
  let c0_i32_1135 : BitVec 32 := 0#32
  let v1440 : BitVec 1 := Scalar.cmpi .ne v1439 c0_i32_1135
  v1440

def k0_off176 (d0 : Dev nD) : Fin 4 → Nat :=
  let c3_i32_1134 : BitVec 32 := 3#32
  let c0_i32_1133 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1132 : BitVec 32 := 1#32
  let v1436 : BitVec 32 := Scalar.addi v5 c1_i32_1132
  let v1437 : BitVec 32 := Scalar.maxsi c0_i32_1133 v1436
  let v1438 : BitVec 32 := Scalar.minsi c3_i32_1134 v1437
  let c0_i32_1226 : BitVec 32 := 0#32
  let c0_i32_1227 : BitVec 32 := 0#32
  let c0_i32_1228 : BitVec 32 := 0#32
  ![v1438.toNat, 0, 0, 0]
def k0_cond129 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1136 : BitVec 32 := 3#32
  let v1441 : BitVec 1 := Scalar.cmpi .slt v8 c3_i32_1136
  let c1_i32_1137 : BitVec 32 := 1#32
  let v1442 : BitVec 32 := Scalar.subi v8 c1_i32_1137
  let c0_i32_1138 : BitVec 32 := 0#32
  let v1443 : BitVec 1 := Scalar.cmpi .sge v1442 c0_i32_1138
  let v1444 : BitVec 1 := Scalar.andi v1441 v1443
  let v1448 : BitVec 32 := Scalar.extui v1444
  let c0_i32_1142 : BitVec 32 := 0#32
  let v1449 : BitVec 1 := Scalar.cmpi .ne v1448 c0_i32_1142
  v1449

def k0_off177 (d0 : Dev nD) : Fin 4 → Nat :=
  let c3_i32_1141 : BitVec 32 := 3#32
  let c0_i32_1140 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1139 : BitVec 32 := 1#32
  let v1445 : BitVec 32 := Scalar.subi v8 c1_i32_1139
  let v1446 : BitVec 32 := Scalar.maxsi c0_i32_1140 v1445
  let v1447 : BitVec 32 := Scalar.minsi c3_i32_1141 v1446
  let c2_i32_1228 : BitVec 32 := 2#32
  let c0_i32_1229 : BitVec 32 := 0#32
  let c0_i32_1230 : BitVec 32 := 0#32
  ![v1447.toNat, 2, 0, 0]
def k0_cond130 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1143 : BitVec 32 := 0#32
  let v1450 : BitVec 1 := Scalar.cmpi .sgt v8 c0_i32_1143
  let c1_i32_1144 : BitVec 32 := 1#32
  let v1451 : BitVec 32 := Scalar.addi v8 c1_i32_1144
  let c3_i32_1145 : BitVec 32 := 3#32
  let v1452 : BitVec 1 := Scalar.cmpi .sle v1451 c3_i32_1145
  let v1453 : BitVec 1 := Scalar.andi v1450 v1452
  let v1457 : BitVec 32 := Scalar.extui v1453
  let c0_i32_1149 : BitVec 32 := 0#32
  let v1458 : BitVec 1 := Scalar.cmpi .ne v1457 c0_i32_1149
  v1458

def k0_off178 (d0 : Dev nD) : Fin 4 → Nat :=
  let c3_i32_1148 : BitVec 32 := 3#32
  let c0_i32_1147 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1146 : BitVec 32 := 1#32
  let v1454 : BitVec 32 := Scalar.addi v8 c1_i32_1146
  let v1455 : BitVec 32 := Scalar.maxsi c0_i32_1147 v1454
  let v1456 : BitVec 32 := Scalar.minsi c3_i32_1148 v1455
  let c2_i32_1226 : BitVec 32 := 2#32
  let c0_i32_1227 : BitVec 32 := 0#32
  let c0_i32_1228 : BitVec 32 := 0#32
  ![v1456.toNat, 2, 0, 0]
def k0_cond131 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1150 : BitVec 32 := 3#32
  let v1459 : BitVec 1 := Scalar.cmpi .slt v5 c3_i32_1150
  let c1_i32_1151 : BitVec 32 := 1#32
  let v1460 : BitVec 32 := Scalar.subi v5 c1_i32_1151
  let c0_i32_1152 : BitVec 32 := 0#32
  let v1461 : BitVec 1 := Scalar.cmpi .sge v1460 c0_i32_1152
  let v1462 : BitVec 1 := Scalar.andi v1459 v1461
  let v1466 : BitVec 32 := Scalar.extui v1462
  let c0_i32_1156 : BitVec 32 := 0#32
  let v1467 : BitVec 1 := Scalar.cmpi .ne v1466 c0_i32_1156
  v1467

def k0_off179 (d0 : Dev nD) : Fin 4 → Nat :=
  let c3_i32_1155 : BitVec 32 := 3#32
  let c0_i32_1154 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1153 : BitVec 32 := 1#32
  let v1463 : BitVec 32 := Scalar.subi v5 c1_i32_1153
  let v1464 : BitVec 32 := Scalar.maxsi c0_i32_1154 v1463
  let v1465 : BitVec 32 := Scalar.minsi c3_i32_1155 v1464
  let c2_i32_1227 : BitVec 32 := 2#32
  let c0_i32_1228 : BitVec 32 := 0#32
  let c0_i32_1229 : BitVec 32 := 0#32
  ![v1465.toNat, 2, 0, 0]
def k0_cond132 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_1157 : BitVec 32 := 0#32
  let v1468 : BitVec 1 := Scalar.cmpi .sgt v5 c0_i32_1157
  let c1_i32_1158 : BitVec 32 := 1#32
  let v1469 : BitVec 32 := Scalar.addi v5 c1_i32_1158
  let c3_i32_1159 : BitVec 32 := 3#32
  let v1470 : BitVec 1 := Scalar.cmpi .sle v1469 c3_i32_1159
  let v1471 : BitVec 1 := Scalar.andi v1468 v1470
  let v1475 : BitVec 32 := Scalar.extui v1471
  let c0_i32_1163 : BitVec 32 := 0#32
  let v1476 : BitVec 1 := Scalar.cmpi .ne v1475 c0_i32_1163
  v1476

def k0_off180 (d0 : Dev nD) : Fin 4 → Nat :=
  let c3_i32_1162 : BitVec 32 := 3#32
  let c0_i32_1161 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_1160 : BitVec 32 := 1#32
  let v1472 : BitVec 32 := Scalar.addi v5 c1_i32_1160
  let v1473 : BitVec 32 := Scalar.maxsi c0_i32_1161 v1472
  let v1474 : BitVec 32 := Scalar.minsi c3_i32_1162 v1473
  let c2_i32_1226 : BitVec 32 := 2#32
  let c0_i32_1227 : BitVec 32 := 0#32
  let c0_i32_1228 : BitVec 32 := 0#32
  ![v1474.toNat, 2, 0, 0]
def k0_cond133 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1164 : BitVec 32 := 3#32
  let v1477 : BitVec 1 := Scalar.cmpi .slt v8 c3_i32_1164
  let c2_i32_1165 : BitVec 32 := 2#32
  let v1478 : BitVec 32 := Scalar.subi v8 c2_i32_1165
  let c0_i32_1166 : BitVec 32 := 0#32
  let v1479 : BitVec 1 := Scalar.cmpi .sge v1478 c0_i32_1166
  let v1480 : BitVec 1 := Scalar.andi v1477 v1479
  let v1484 : BitVec 32 := Scalar.extui v1480
  let c0_i32_1170 : BitVec 32 := 0#32
  let v1485 : BitVec 1 := Scalar.cmpi .ne v1484 c0_i32_1170
  v1485

def k0_off181 (d0 : Dev nD) : Fin 4 → Nat :=
  let c3_i32_1169 : BitVec 32 := 3#32
  let c0_i32_1168 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1167 : BitVec 32 := 2#32
  let v1481 : BitVec 32 := Scalar.subi v8 c2_i32_1167
  let v1482 : BitVec 32 := Scalar.maxsi c0_i32_1168 v1481
  let v1483 : BitVec 32 := Scalar.minsi c3_i32_1169 v1482
  let c0_i32_1228 : BitVec 32 := 0#32
  let c0_i32_1229 : BitVec 32 := 0#32
  let c0_i32_1230 : BitVec 32 := 0#32
  ![v1483.toNat, 0, 0, 0]
def k0_cond134 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1171 : BitVec 32 := 0#32
  let v1486 : BitVec 1 := Scalar.cmpi .sgt v8 c0_i32_1171
  let c2_i32_1172 : BitVec 32 := 2#32
  let v1487 : BitVec 32 := Scalar.addi v8 c2_i32_1172
  let c3_i32_1173 : BitVec 32 := 3#32
  let v1488 : BitVec 1 := Scalar.cmpi .sle v1487 c3_i32_1173
  let v1489 : BitVec 1 := Scalar.andi v1486 v1488
  let v1493 : BitVec 32 := Scalar.extui v1489
  let c0_i32_1177 : BitVec 32 := 0#32
  let v1494 : BitVec 1 := Scalar.cmpi .ne v1493 c0_i32_1177
  v1494

def k0_off182 (d0 : Dev nD) : Fin 4 → Nat :=
  let c3_i32_1176 : BitVec 32 := 3#32
  let c0_i32_1175 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1174 : BitVec 32 := 2#32
  let v1490 : BitVec 32 := Scalar.addi v8 c2_i32_1174
  let v1491 : BitVec 32 := Scalar.maxsi c0_i32_1175 v1490
  let v1492 : BitVec 32 := Scalar.minsi c3_i32_1176 v1491
  let c0_i32_1226 : BitVec 32 := 0#32
  let c0_i32_1227 : BitVec 32 := 0#32
  let c0_i32_1228 : BitVec 32 := 0#32
  ![v1492.toNat, 0, 0, 0]
def k0_cond135 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1178 : BitVec 32 := 3#32
  let v1495 : BitVec 1 := Scalar.cmpi .slt v5 c3_i32_1178
  let c2_i32_1179 : BitVec 32 := 2#32
  let v1496 : BitVec 32 := Scalar.subi v5 c2_i32_1179
  let c0_i32_1180 : BitVec 32 := 0#32
  let v1497 : BitVec 1 := Scalar.cmpi .sge v1496 c0_i32_1180
  let v1498 : BitVec 1 := Scalar.andi v1495 v1497
  let v1502 : BitVec 32 := Scalar.extui v1498
  let c0_i32_1184 : BitVec 32 := 0#32
  let v1503 : BitVec 1 := Scalar.cmpi .ne v1502 c0_i32_1184
  v1503

def k0_off183 (d0 : Dev nD) : Fin 4 → Nat :=
  let c3_i32_1183 : BitVec 32 := 3#32
  let c0_i32_1182 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_1181 : BitVec 32 := 2#32
  let v1499 : BitVec 32 := Scalar.subi v5 c2_i32_1181
  let v1500 : BitVec 32 := Scalar.maxsi c0_i32_1182 v1499
  let v1501 : BitVec 32 := Scalar.minsi c3_i32_1183 v1500
  let c0_i32_1227 : BitVec 32 := 0#32
  let c0_i32_1228 : BitVec 32 := 0#32
  let c0_i32_1229 : BitVec 32 := 0#32
  ![v1501.toNat, 0, 0, 0]
def k0_cond136 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_1185 : BitVec 32 := 0#32
  let v1504 : BitVec 1 := Scalar.cmpi .sgt v5 c0_i32_1185
  let c2_i32_1186 : BitVec 32 := 2#32
  let v1505 : BitVec 32 := Scalar.addi v5 c2_i32_1186
  let c3_i32_1187 : BitVec 32 := 3#32
  let v1506 : BitVec 1 := Scalar.cmpi .sle v1505 c3_i32_1187
  let v1507 : BitVec 1 := Scalar.andi v1504 v1506
  let v1511 : BitVec 32 := Scalar.extui v1507
  let c0_i32_1191 : BitVec 32 := 0#32
  let v1512 : BitVec 1 := Scalar.cmpi .ne v1511 c0_i32_1191
  v1512

def k0_off184 (d0 : Dev nD) : Fin 4 → Nat :=
  let c3_i32_1190 : BitVec 32 := 3#32
  let c0_i32_1189 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_1188 : BitVec 32 := 2#32
  let v1508 : BitVec 32 := Scalar.addi v5 c2_i32_1188
  let v1509 : BitVec 32 := Scalar.maxsi c0_i32_1189 v1508
  let v1510 : BitVec 32 := Scalar.minsi c3_i32_1190 v1509
  let c0_i32_1226 : BitVec 32 := 0#32
  let c0_i32_1227 : BitVec 32 := 0#32
  let c0_i32_1228 : BitVec 32 := 0#32
  ![v1510.toNat, 0, 0, 0]
def k0_cond137 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_1192 : BitVec 32 := 3#32
  let v1513 : BitVec 1 := Scalar.cmpi .slt v8 c3_i32_1192
  let c2_i32_1193 : BitVec 32 := 2#32
  let v1514 : BitVec 32 := Scalar.subi v8 c2_i32_1193
  let c0_i32_1194 : BitVec 32 := 0#32
  let v1515 : BitVec 1 := Scalar.cmpi .sge v1514 c0_i32_1194
  let v1516 : BitVec 1 := Scalar.andi v1513 v1515
  let v1520 : BitVec 32 := Scalar.extui v1516
  let c0_i32_1198 : BitVec 32 := 0#32
  let v1521 : BitVec 1 := Scalar.cmpi .ne v1520 c0_i32_1198
  v1521

def k0_off185 (d0 : Dev nD) : Fin 4 → Nat :=
  let c3_i32_1197 : BitVec 32 := 3#32
  let c0_i32_1196 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1195 : BitVec 32 := 2#32
  let v1517 : BitVec 32 := Scalar.subi v8 c2_i32_1195
  let v1518 : BitVec 32 := Scalar.maxsi c0_i32_1196 v1517
  let v1519 : BitVec 32 := Scalar.minsi c3_i32_1197 v1518
  let c2_i32_1228 : BitVec 32 := 2#32
  let c0_i32_1229 : BitVec 32 := 0#32
  let c0_i32_1230 : BitVec 32 := 0#32
  ![v1519.toNat, 2, 0, 0]
def k0_cond138 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_1199 : BitVec 32 := 0#32
  let v1522 : BitVec 1 := Scalar.cmpi .sgt v8 c0_i32_1199
  let c2_i32_1200 : BitVec 32 := 2#32
  let v1523 : BitVec 32 := Scalar.addi v8 c2_i32_1200
  let c3_i32_1201 : BitVec 32 := 3#32
  let v1524 : BitVec 1 := Scalar.cmpi .sle v1523 c3_i32_1201
  let v1525 : BitVec 1 := Scalar.andi v1522 v1524
  let v1529 : BitVec 32 := Scalar.extui v1525
  let c0_i32_1205 : BitVec 32 := 0#32
  let v1530 : BitVec 1 := Scalar.cmpi .ne v1529 c0_i32_1205
  v1530

def k0_off186 (d0 : Dev nD) : Fin 4 → Nat :=
  let c3_i32_1204 : BitVec 32 := 3#32
  let c0_i32_1203 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_1202 : BitVec 32 := 2#32
  let v1526 : BitVec 32 := Scalar.addi v8 c2_i32_1202
  let v1527 : BitVec 32 := Scalar.maxsi c0_i32_1203 v1526
  let v1528 : BitVec 32 := Scalar.minsi c3_i32_1204 v1527
  let c2_i32_1226 : BitVec 32 := 2#32
  let c0_i32_1227 : BitVec 32 := 0#32
  let c0_i32_1228 : BitVec 32 := 0#32
  ![v1528.toNat, 2, 0, 0]
def k0_cond139 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_1206 : BitVec 32 := 3#32
  let v1531 : BitVec 1 := Scalar.cmpi .slt v5 c3_i32_1206
  let c2_i32_1207 : BitVec 32 := 2#32
  let v1532 : BitVec 32 := Scalar.subi v5 c2_i32_1207
  let c0_i32_1208 : BitVec 32 := 0#32
  let v1533 : BitVec 1 := Scalar.cmpi .sge v1532 c0_i32_1208
  let v1534 : BitVec 1 := Scalar.andi v1531 v1533
  let v1538 : BitVec 32 := Scalar.extui v1534
  let c0_i32_1212 : BitVec 32 := 0#32
  let v1539 : BitVec 1 := Scalar.cmpi .ne v1538 c0_i32_1212
  v1539

def k0_off187 (d0 : Dev nD) : Fin 4 → Nat :=
  let c3_i32_1211 : BitVec 32 := 3#32
  let c0_i32_1210 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_1209 : BitVec 32 := 2#32
  let v1535 : BitVec 32 := Scalar.subi v5 c2_i32_1209
  let v1536 : BitVec 32 := Scalar.maxsi c0_i32_1210 v1535
  let v1537 : BitVec 32 := Scalar.minsi c3_i32_1211 v1536
  let c2_i32_1227 : BitVec 32 := 2#32
  let c0_i32_1228 : BitVec 32 := 0#32
  let c0_i32_1229 : BitVec 32 := 0#32
  ![v1537.toNat, 2, 0, 0]
def k0_cond140 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_1213 : BitVec 32 := 0#32
  let v1540 : BitVec 1 := Scalar.cmpi .sgt v5 c0_i32_1213
  let c2_i32_1214 : BitVec 32 := 2#32
  let v1541 : BitVec 32 := Scalar.addi v5 c2_i32_1214
  let c3_i32_1215 : BitVec 32 := 3#32
  let v1542 : BitVec 1 := Scalar.cmpi .sle v1541 c3_i32_1215
  let v1543 : BitVec 1 := Scalar.andi v1540 v1542
  let v1547 : BitVec 32 := Scalar.extui v1543
  let c0_i32_1219 : BitVec 32 := 0#32
  let v1548 : BitVec 1 := Scalar.cmpi .ne v1547 c0_i32_1219
  v1548

def k0_off188 (d0 : Dev nD) : Fin 4 → Nat :=
  let c3_i32_1218 : BitVec 32 := 3#32
  let c0_i32_1217 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_1216 : BitVec 32 := 2#32
  let v1544 : BitVec 32 := Scalar.addi v5 c2_i32_1216
  let v1545 : BitVec 32 := Scalar.maxsi c0_i32_1217 v1544
  let v1546 : BitVec 32 := Scalar.minsi c3_i32_1218 v1545
  let c2_i32_1226 : BitVec 32 := 2#32
  let c0_i32_1227 : BitVec 32 := 0#32
  let c0_i32_1228 : BitVec 32 := 0#32
  ![v1546.toNat, 2, 0, 0]
abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x1024 : Shape := ⟨2, ![8192, 1024]⟩
abbrev S2x4096x1024 : Shape := ⟨3, ![2, 4096, 1024]⟩
abbrev S_ : Shape := ⟨0, ![]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x4096x1024, .f32⟩
  | .hbm, ⟨2, _⟩ => ⟨S_, .f32⟩
  | .hbm, ⟨3, _⟩ => ⟨S4096x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Flow.lean ====
/-
# The shape of the exchange, as arithmetic

The mesh is 2 × 4 × 4. Every device first swaps its share of the rows with its partner along `x`; then the
sixteen devices of one `x`-plane gather each other's sums, first along one axis and then along the other. The
gather runs over twelve *flows* of three steps each. This module gives the coordinates, says which flow sends and
receives what at each step, numbers the steps of the program, and proves by evaluation the finitely many facts
about them the rest of the proof uses. Nothing here mentions the program.
-/
module

public import proofs.«01_k».proof.Proof.Gen.KernelIdeal

@[expose] public section

namespace Cert.MeshSum

open Cert.KernelIdeal Idealize.ShloMosaic

/-! ## Coordinates and neighbours -/

/-- The three coordinates of a device. -/
def px (c : Dev nD) : ℕ := c.val / 16
def py (c : Dev nD) : ℕ := c.val / 4 % 4
def pz (c : Dev nD) : ℕ := c.val % 4

set_option backward.proofsInPublic true in
/-- The device with the given coordinates, each taken modulo its axis's extent. -/
def mkDev (x y z : ℕ) : Dev nD := ⟨x % 2 * 16 + y % 4 * 4 + z % 4, by unfold nD; omega⟩

/-- The neighbour in direction `d`: `0` the partner along `x`, `1` and `2` the next and the previous along `y`,
    `3` and `4` along `z`; the axes wrap around, so that each direction is a permutation of the devices. -/
def nbr (d : Fin 5) (c : Dev nD) : Dev nD :=
  if d = 0 then mkDev (px c + 1) (py c) (pz c)
  else if d = 1 then mkDev (px c) (py c + 1) (pz c)
  else if d = 2 then mkDev (px c) (py c + 3) (pz c)
  else if d = 3 then mkDev (px c) (py c) (pz c + 1)
  else mkDev (px c) (py c) (pz c + 3)

/-- The opposite direction. -/
def opp (d : Fin 5) : Fin 5 := if d = 0 then 0 else if d = 1 then 2 else if d = 2 then 1 else if d = 3 then 4 else 3

/-- Whether the direction leads to a device without wrapping around. -/
def has (d : Fin 5) (c : Dev nD) : Bool :=
  if d = 0 then true else if d = 1 then Nat.blt (py c) 3 else if d = 2 then Nat.blt 0 (py c)
  else if d = 3 then Nat.blt (pz c) 3 else Nat.blt 0 (pz c)

theorem opp_opp (d : Fin 5) : opp (opp d) = d := by revert d; decide
theorem nbr_opp (d : Fin 5) (c : Dev nD) : nbr (opp d) (nbr d c) = c := by revert d c; decide +kernel
theorem opp_nbr (d : Fin 5) (c : Dev nD) : nbr d (nbr (opp d) c) = c := by revert d c; decide +kernel
theorem has_nbr (d : Fin 5) (c : Dev nD) : has (opp d) (nbr d c) = has d c := by revert d c; decide +kernel

/-- Going in a direction, as a permutation of the devices. -/
def shift (d : Fin 5) : Dev nD ≃ Dev nD := ⟨nbr d, nbr (opp d), nbr_opp d, opp_nbr d⟩

/-- Partner along `x`. -/
abbrev peer (c : Dev nD) : Dev nD := nbr 0 c
theorem peer_peer (c : Dev nD) : peer (peer c) = c := by revert c; decide +kernel

/-! ## Transfers

A transfer is numbered below 39: `3 f + s` for step `s` of flow `f`, then `36` for the swap of the rows to be
gathered and `37`, `38` for the two halves of the bulk swap. -/

abbrev Ev := Fin 39

def flow (e : Ev) : ℕ := e.val / 3
def stepOf (e : Ev) : ℕ := e.val % 3
/-- Whether the transfer belongs to the gather. -/
def gath (e : Ev) : Bool := Nat.blt e.val 36

/-- The flows along `y`; the others run along `z`. -/
def alongY (f : ℕ) : Bool := Nat.beq f 0 || Nat.beq f 1 || Nat.beq f 6 || Nat.beq f 7 || Nat.beq f 10 || Nat.beq f 11
/-- Whether the flow moves the second halves of the sums, the other buffer. -/
def side (f : ℕ) : Bool := Nat.beq (f / 2 % 2) 1
/-- Whether the flow goes downwards along its axis. -/
def down (f : ℕ) : Bool := Nat.beq (f % 2) 1
/-- The device's place along the flow's axis, and along the other one. -/
def along (f y z : ℕ) : ℕ := cond (alongY f) y z
def across (f y z : ℕ) : ℕ := cond (alongY f) z y

/-- Whether step `s` of flow `f` sends from the device at `y`, `z`, and of which device along the axis it sends the
    data; the same for what it receives. -/
def sends (f s y z : ℕ) : Bool :=
  cond (down f) (Nat.blt 0 (along f y z) && Nat.ble (along f y z + s) 3) (Nat.blt (along f y z) 3 && Nat.ble s (along f y z))
def sChunk (f s y z : ℕ) : ℕ := cond (down f) (along f y z + s) (along f y z - s)
def recvs (f s y z : ℕ) : Bool :=
  cond (down f) (Nat.ble (along f y z + 1 + s) 3) (Nat.ble (s + 1) (along f y z))
def rChunk (f s y z : ℕ) : ℕ := cond (down f) (along f y z + 1 + s) (along f y z - 1 - s)

/-- The block a flow moves for chunk `j`: its row and its first column in the 4 × 4 table of tiles, and how many
    tiles of the row it has. The first four flows move one tile of the device's own row, the others half a row. -/
def blkRow (f j y z : ℕ) : ℕ := cond (Nat.blt f 4) (across f y z) j
def blkCol (f j : ℕ) : ℕ := cond (Nat.blt f 4) j (cond (Nat.blt f 8) 0 2)
def blkLen (f : ℕ) : ℕ := cond (Nat.blt f 4) 1 2

/-- A block of tiles as a set of bits, the tile in row `a`, column `b` at bit `4 a + b`. -/
def bits (a b n : ℕ) : ℕ := (2 ^ n - 1) * 2 ^ (4 * a + b)

def sMask (f s y z : ℕ) : ℕ := bits (blkRow f (sChunk f s y z) y z) (blkCol f (sChunk f s y z)) (blkLen f)
def rMask (f s y z : ℕ) : ℕ := bits (blkRow f (rChunk f s y z) y z) (blkCol f (rChunk f s y z)) (blkLen f)

/-- Whether the transfer takes place, seen from its sender and from its receiver; the swaps along `x` always do. -/
def sendC (e : Ev) (c : Dev nD) : Bool := !gath e || sends (flow e) (stepOf e) (py c) (pz c)
def recvC (e : Ev) (c : Dev nD) : Bool := !gath e || recvs (flow e) (stepOf e) (py c) (pz c)

/-- The direction the transfer goes. -/
def dirOf (e : Ev) : Fin 5 :=
  cond (gath e) (cond (alongY (flow e)) (cond (down (flow e)) 2 1) (cond (down (flow e)) 4 3)) 0
abbrev dst (e : Ev) (c : Dev nD) : Dev nD := nbr (dirOf e) c

theorem sendC_has (e : Ev) (c : Dev nD) : sendC e c = true → has (dirOf e) c = true := by revert e c; decide +kernel
theorem recvC_dst (e : Ev) (c : Dev nD) : recvC e (dst e c) = sendC e c := by revert e c; decide +kernel
theorem rMask_dst (e : Ev) (c : Dev nD) : gath e = true → sendC e c = true →
    rMask (flow e) (stepOf e) (py (dst e c)) (pz (dst e c)) = sMask (flow e) (stepOf e) (py c) (pz c) := by
  revert e c; decide +kernel
theorem px_dst (e : Ev) (c : Dev nD) : gath e = true → px (dst e c) = px c := by revert e c; decide +kernel
theorem dst_x (e : Ev) (c : Dev nD) : gath e = false → dst e c = peer c := by revert e c; decide +kernel

/-! ## The order of the program's steps -/

/-- When a transfer is started, when its arrival is awaited, and when its departure is. -/
def tSend (e : Ev) : ℕ :=
  cond (gath e)
    (cond (Nat.blt (flow e) 4) (19 + 8 * stepOf e + flow e)
      (cond (Nat.beq (stepOf e) 0) 39 (cond (Nat.beq (stepOf e) 1) 63 90) + flow e))
    (cond (Nat.beq e.val 36) 11 (cond (Nat.beq e.val 37) 13 14))
def tRecv (e : Ev) : ℕ :=
  cond (gath e)
    (cond (Nat.blt (flow e) 4) (23 + 8 * stepOf e + flow e)
      (cond (Nat.beq (stepOf e) 0) 55 (cond (Nat.beq (stepOf e) 1) 82 106) + flow e))
    (cond (Nat.beq e.val 36) 16 (cond (Nat.beq e.val 37) 84 127))
def tWait (e : Ev) : ℕ :=
  cond (gath e)
    (cond (Nat.blt (flow e) 4) (129 + 4 * stepOf e + flow e) (137 + 8 * stepOf e + flow e))
    (cond (Nat.beq e.val 36) 15 (cond (Nat.beq e.val 37) 83 126))
/-- When the block received is written to the result. -/
def tStore (e : Ev) : ℕ := cond (Nat.beq (stepOf e) 0) 71 (cond (Nat.beq (stepOf e) 1) 98 114) + flow e

theorem tSend_inj (e e' : Ev) : tSend e = tSend e' → e = e' := by revert e e'; decide +kernel
theorem tRecv_inj (e e' : Ev) : tRecv e = tRecv e' → e = e' := by revert e e'; decide +kernel
theorem tWait_inj (e e' : Ev) : tWait e = tWait e' → e = e' := by revert e e'; decide +kernel
theorem tSend_lt_tRecv (e : Ev) : tSend e < tRecv e := by revert e; decide +kernel
theorem tSend_lt_tWait (e : Ev) : tSend e < tWait e := by revert e; decide +kernel
theorem tSend_ge (e : Ev) : 11 ≤ tSend e := by revert e; decide +kernel
theorem tRecv_lt (e : Ev) : tRecv e < 165 := by revert e; decide +kernel
theorem tWait_lt (e : Ev) : tWait e < 165 := by revert e; decide +kernel

/-! ## Which tiles a device holds, step by step

A device's table of tiles is held in five shares, so that a tile can be on its way along a flow and still be read:
shares `0` and `1` for the first four flows' upward and downward transfers, `2` and `3` for the others', `4` for the
device's own reading. -/

def share (f : ℕ) : ℕ := cond (Nat.blt f 4) (f % 2) (2 + f % 2)

/-- The device's own tile in its table. -/
def ownMask (b : Bool) (y z : ℕ) : ℕ := cond b (bits y z 1) (bits z y 1)

/-- The tiles of the table arrived by time `t`. -/
def avail (t : ℕ) (b : Bool) (y z : ℕ) : ℕ :=
  (List.finRange 39).foldl (fun m (e : Ev) =>
    cond (gath e && !(side (flow e) ^^ b) && recvs (flow e) (stepOf e) y z && Nat.blt (tRecv e) t)
      (m ||| rMask (flow e) (stepOf e) y z) m) (ownMask b y z)

/-- The tiles whose share `p` is with a transfer on its way at time `t`. -/
def away (t : ℕ) (b : Bool) (p : ℕ) (y z : ℕ) : ℕ :=
  (List.finRange 39).foldl (fun m (e : Ev) =>
    cond (gath e && !(side (flow e) ^^ b) && Nat.beq (share (flow e)) p && sends (flow e) (stepOf e) y z && Nat.blt (tSend e) t
        && Nat.ble t (tWait e)) (m ||| sMask (flow e) (stepOf e) y z) m) 0

/-- The tiles whose share `p` the device has in hand at time `t`. -/
def held (t : ℕ) (b : Bool) (p : ℕ) (y z : ℕ) : ℕ := avail t b y z ^^^ away t b p y z

theorem py_lt (c : Dev nD) : py c < 4 := Nat.mod_lt _ (by decide)
theorem pz_lt (c : Dev nD) : pz c < 4 := Nat.mod_lt _ (by decide)

/-- The tiles arrived change only at an arrival on that side. -/
theorem avail_succ {t : ℕ} {b : Bool} {y z : ℕ}
    (h : ∀ e : Ev, gath e = true → side (flow e) = b → recvs (flow e) (stepOf e) y z = true → tRecv e ≠ t) :
    avail (t + 1) b y z = avail t b y z := by
  unfold avail
  refine List.foldl_ext _ _ _ fun m e _ => ?_
  have key : (gath e && !(side (flow e) ^^ b) && recvs (flow e) (stepOf e) y z && Nat.blt (tRecv e) (t + 1))
      = (gath e && !(side (flow e) ^^ b) && recvs (flow e) (stepOf e) y z && Nat.blt (tRecv e) t) := by
    by_cases h1 : gath e = true
    · by_cases h2 : side (flow e) = b
      · by_cases h3 : recvs (flow e) (stepOf e) y z = true
        · have := h e h1 h2 h3
          congr 1
          rw [Bool.eq_iff_iff, Nat.blt_eq, Nat.blt_eq]; omega
        · simp [h3]
      · have : (side (flow e) ^^ b) = true := by revert h2; cases side (flow e) <;> cases b <;> simp
        simp [this]
    · simp [h1]
  rw [key]

/-- What is away in a share changes only at a start or an end of a transfer on that side and share. -/
theorem away_succ {t : ℕ} {b : Bool} {p y z : ℕ}
    (h : ∀ e : Ev, gath e = true → side (flow e) = b → share (flow e) = p → sends (flow e) (stepOf e) y z = true →
      tSend e ≠ t ∧ tWait e ≠ t) :
    away (t + 1) b p y z = away t b p y z := by
  unfold away
  refine List.foldl_ext _ _ _ fun m e _ => ?_
  have key : (gath e && !(side (flow e) ^^ b) && Nat.beq (share (flow e)) p && sends (flow e) (stepOf e) y z && Nat.blt (tSend e) (t + 1)
        && Nat.ble (t + 1) (tWait e))
      = (gath e && !(side (flow e) ^^ b) && Nat.beq (share (flow e)) p && sends (flow e) (stepOf e) y z && Nat.blt (tSend e) t
        && Nat.ble t (tWait e)) := by
    by_cases h1 : gath e = true
    · by_cases h2 : side (flow e) = b
      · by_cases h4 : share (flow e) = p
        · by_cases h3 : sends (flow e) (stepOf e) y z = true
          · have := h e h1 h2 h4 h3
            congr 1
            · congr 1
              rw [Bool.eq_iff_iff, Nat.blt_eq, Nat.blt_eq]; omega
            · rw [Bool.eq_iff_iff, Nat.ble_eq, Nat.ble_eq]; omega
          · simp [h3]
        · have : Nat.beq (share (flow e)) p = false := by
            rw [Bool.eq_false_iff]; exact fun hb => h4 (Nat.eq_of_beq_eq_true hb)
          simp [this]
      · have : (side (flow e) ^^ b) = true := by revert h2; cases side (flow e) <;> cases b <;> simp
        simp [this]
    · simp [h1]
  rw [key]

theorem tSend_ne_tRecv (e e' : Ev) : tSend e ≠ tRecv e' := by revert e e'; decide +kernel
theorem tWait_ne_tRecv (e e' : Ev) : tWait e ≠ tRecv e' := by revert e e'; decide +kernel
theorem tSend_ne_tWait (e e' : Ev) : tSend e ≠ tWait e' := by revert e e'; decide +kernel

section Facts

theorem held_send_fin : ∀ (e : Ev) (y z : Fin 4), gath e = true → sends (flow e) (stepOf e) y.val z.val = true →
    held (tSend e) (side (flow e)) (share (flow e)) y.val z.val
        = sMask (flow e) (stepOf e) y.val z.val ||| held (tSend e + 1) (side (flow e)) (share (flow e)) y.val z.val
      ∧ sMask (flow e) (stepOf e) y.val z.val &&& held (tSend e + 1) (side (flow e)) (share (flow e)) y.val z.val = 0 := by
  decide +kernel

theorem held_wait_fin : ∀ (e : Ev) (y z : Fin 4), gath e = true → sends (flow e) (stepOf e) y.val z.val = true →
    held (tWait e + 1) (side (flow e)) (share (flow e)) y.val z.val
        = sMask (flow e) (stepOf e) y.val z.val ||| held (tWait e) (side (flow e)) (share (flow e)) y.val z.val
      ∧ sMask (flow e) (stepOf e) y.val z.val &&& held (tWait e) (side (flow e)) (share (flow e)) y.val z.val = 0 := by
  decide +kernel

theorem held_recv_fin : ∀ (e : Ev) (y z : Fin 4) (p : Fin 5), gath e = true → recvs (flow e) (stepOf e) y.val z.val = true →
    held (tRecv e + 1) (side (flow e)) p.val y.val z.val
        = rMask (flow e) (stepOf e) y.val z.val ||| held (tRecv e) (side (flow e)) p.val y.val z.val
      ∧ rMask (flow e) (stepOf e) y.val z.val &&& held (tRecv e) (side (flow e)) p.val y.val z.val = 0 := by
  decide +kernel

theorem held_start_fin : ∀ (b : Bool) (p : Fin 5) (y z : Fin 4), held 19 b p.val y.val z.val = ownMask b y.val z.val := by decide +kernel
theorem held_end_fin : ∀ (b : Bool) (p : Fin 5) (y z : Fin 4), held 165 b p.val y.val z.val = 65535 := by decide +kernel

/-- At the time the block received is written to the result, all of it is in hand to be read. -/
theorem held_store_fin : ∀ (e : Ev) (y z : Fin 4), gath e = true → Nat.ble 4 (flow e) = true → recvs (flow e) (stepOf e) y.val z.val = true →
    rMask (flow e) (stepOf e) y.val z.val &&& held (tStore e) (side (flow e)) 4 y.val z.val = rMask (flow e) (stepOf e) y.val z.val := by
  decide +kernel

/-- Once the first gather is over the device's own row is in hand to be read. -/
theorem held_own_fin : ∀ (b : Bool) (k : Fin 8) (y z : Fin 4),
    15 * 2 ^ (4 * cond b y.val z.val) &&& held (51 + k.val) b 4 y.val z.val = 15 * 2 ^ (4 * cond b y.val z.val) := by
  decide +kernel

/-- The own tile and the blocks received are pairwise disjoint. -/
theorem blocks_disjoint_fin : ∀ (e e' : Ev) (y z : Fin 4), e ≠ e' → gath e = true → gath e' = true → side (flow e) = side (flow e') →
    recvs (flow e) (stepOf e) y.val z.val = true → recvs (flow e') (stepOf e') y.val z.val = true →
    rMask (flow e) (stepOf e) y.val z.val &&& rMask (flow e') (stepOf e') y.val z.val = 0 := by decide +kernel
theorem own_disjoint_fin : ∀ (e : Ev) (y z : Fin 4), gath e = true → recvs (flow e) (stepOf e) y.val z.val = true →
    ownMask (side (flow e)) y.val z.val &&& rMask (flow e) (stepOf e) y.val z.val = 0 := by decide +kernel

end Facts

end Cert.MeshSum
-- ==== Proof.Table.lean ====
/-
# The two tables of tiles

Each device keeps two 4 × 4 tables of 80 × 1024 tiles: one for the first halves of the sums, one for the second. A set
of tiles is a number read as a set of bits (`Flow`); this module turns such a number into the set of the buffer's
elements, says what holding a share of those elements at given contents is, and how such holdings split and join.
-/
module

public import proofs.«01_k».proof.Proof.Flow
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.MeshSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Resources -/

/-- The protocol's ghost state: rounds over the semaphore cells, duties named by directions. -/
abbrev UB : Type := URounds (GSem nD τ sig) (Fin 5)
/-- The pipeline's ghost state beside it. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Sets of tiles -/

/-- The contents of a table. -/
abbrev Tab (F : FTy → Type) : Type := S4x4x80x1024.Idx → Elt F .bf16

/-- The elements of the tiles in the set `M`. -/
def tiles (M : ℕ) : Finset S4x4x80x1024.Idx :=
  Finset.univ.filter fun i => M.testBit (4 * (i 0).val + (i 1).val) = true

theorem mem_tiles {M : ℕ} {i : S4x4x80x1024.Idx} : i ∈ tiles M ↔ M.testBit (4 * (i 0).val + (i 1).val) = true := by
  unfold tiles; rw [Finset.mem_filter]; exact ⟨fun h => h.2, fun h => ⟨Finset.mem_univ _, h⟩⟩

theorem tiles_or (A B : ℕ) : tiles (A ||| B) = tiles A ∪ tiles B := by
  ext i; rw [Finset.mem_union, mem_tiles, mem_tiles, mem_tiles, Nat.testBit_or, Bool.or_eq_true]

theorem tiles_disjoint {A B : ℕ} (h : A &&& B = 0) : Disjoint (tiles A) (tiles B) := by
  rw [Finset.disjoint_left]
  intro i ha hb
  have := congrArg (fun n => Nat.testBit n (4 * (i 0).val + (i 1).val)) h
  simp only [Nat.testBit_and, mem_tiles.mp ha, mem_tiles.mp hb, Nat.zero_testBit] at this
  cases this

theorem tiles_subset {A B : ℕ} (h : A &&& B = A) : tiles A ⊆ tiles B := by
  intro i ha
  have := congrArg (fun n => Nat.testBit n (4 * (i 0).val + (i 1).val)) h
  simp only [Nat.testBit_and, mem_tiles.mp ha, Bool.true_and] at this
  exact mem_tiles.mpr this

theorem tiles_zero : tiles 0 = ∅ := by
  ext i; rw [mem_tiles, Nat.zero_testBit]; simp

theorem testBit_all : ∀ a b : Fin 4, Nat.testBit 65535 (4 * a.val + b.val) = true := by decide

theorem tiles_all : tiles 65535 = Finset.univ := by
  ext i; rw [mem_tiles]; exact ⟨fun _ => Finset.mem_univ _, fun _ => testBit_all (i 0) (i 1)⟩

theorem testBit_bits : ∀ (a b i j : Fin 4) (n : Fin 5), b.val + n.val ≤ 4 →
    ((bits a.val b.val n.val).testBit (4 * i.val + j.val) = true ↔ (i = a ∧ b.val ≤ j.val ∧ j.val < b.val + n.val)) := by
  decide +kernel

/-- The elements of a block: those in its row and in its columns. -/
theorem mem_tiles_bits {a b n : ℕ} (ha : a < 4) (hb : b + n ≤ 4) (hn : 0 < n) {i : S4x4x80x1024.Idx} :
    i ∈ tiles (bits a b n) ↔ ((i 0).val = a ∧ b ≤ (i 1).val ∧ (i 1).val < b + n) := by
  rw [mem_tiles]
  have := testBit_bits ⟨a, ha⟩ ⟨b, by omega⟩ (i 0) (i 1) ⟨n, by omega⟩ hb
  exact this.trans ⟨fun h => ⟨congrArg Fin.val h.1, h.2⟩, fun h => ⟨Fin.ext h.1, h.2⟩⟩

/-! ## Holding a share of a set of tiles -/

/-- The buffer of a table: the first halves' and the second halves'. -/
abbrev tabM : Bool → Memref sig .tc .vmem S4x4x80x1024 .bf16
  | false => Memref.whole cc0_scratch4
  | true => Memref.whole cc0_scratch5

theorem tabM_whole (b : Bool) : (tabM b).IsWhole := by cases b <;> exact Memref.isWhole_whole _

/-- Device `c` holds share `q` of the tiles in `M` of its table `b`, at contents `G`. -/
def tab (b : Bool) (c : Dev nD) (q : PosShare TreeShare) (M : ℕ) (G : Tab F) : sProp 𝕄 :=
  match b with
  | false => ((c : Thread nD τ).loc cc0_scratch4) ↦[tiles M]{q} G
  | true => ((c : Thread nD τ).loc cc0_scratch5) ↦[tiles M]{q} G

instance tab_storable (b : Bool) (c : Dev nD) (q) (M : ℕ) (G : Tab F) : BI.Storable (upEmb : UEmb _ 𝕄) (tab b c q M G) := by
  cases b <;> (unfold tab; infer_instance)

theorem tab_or {b : Bool} {c : Dev nD} {q} {M A B : ℕ} {G : Tab F} (h : M = A ||| B) (h' : A &&& B = 0) :
    (tab b c q M G : sProp 𝕄) ⊣⊢ iprop(tab b c q A G ∗ tab b c q B G) := by
  subst h
  cases b <;> (unfold tab; simp only; rw [tiles_or]; exact pointsTo_union (tiles_disjoint h'))

theorem tab_congr {b : Bool} {c : Dev nD} {q} {M : ℕ} {G G' : Tab F} (h : ∀ i ∈ tiles M, G i = G' i) :
    (tab b c q M G : sProp 𝕄) = tab b c q M G' := by
  cases b <;> (unfold tab; simp only; exact pointsTo_congr h)

/-- The five shares a table is held in. -/
def shr (p : ℕ) : PosShare TreeShare :=
  if p = 0 then fullShare.left.left else if p = 1 then fullShare.left.right else if p = 2 then fullShare.right.left
  else if p = 3 then fullShare.right.right.left else fullShare.right.right.right

theorem tab_halves {b : Bool} {c : Dev nD} {q : PosShare TreeShare} {M : ℕ} {G : Tab F} :
    (tab b c q M G : sProp 𝕄) ⊣⊢ iprop(tab b c q.left M G ∗ tab b c q.right M G) := by
  cases b <;> (unfold tab; simp only; exact pointsTo_share (PosShare.mem_left_op_right q))

/-- A whole holding is the five shares. -/
theorem tab_shares {b : Bool} {c : Dev nD} {M : ℕ} {G : Tab F} :
    (tab b c fullShare M G : sProp 𝕄) ⊣⊢ bigSep Finset.univ fun p : Fin 5 => tab b c (shr p.val) M G := by
  rw [bigSep_univ_eq_bigSepL [0, 1, 2, 3, 4] (by decide) (by decide)]
  show (tab b c fullShare M G : sProp 𝕄) ⊣⊢ iprop(tab b c fullShare.left.left M G ∗ tab b c fullShare.left.right M G
    ∗ tab b c fullShare.right.left M G ∗ tab b c fullShare.right.right.left M G ∗ tab b c fullShare.right.right.right M G)
  constructor
  · iintro H
    ihave H := tab_halves.1 $$ H
    icases H with ⟨HL, HR⟩
    ihave HL := tab_halves.1 $$ HL
    icases HL with ⟨H0, H1⟩
    ihave HR := tab_halves.1 $$ HR
    icases HR with ⟨H2, HR⟩
    ihave HR := tab_halves.1 $$ HR
    icases HR with ⟨H3, H4⟩
    isplitl [H0]; · iexact H0
    isplitl [H1]; · iexact H1
    isplitl [H2]; · iexact H2
    isplitl [H3]; · iexact H3
    iexact H4
  · iintro ⟨H0, H1, H2, H3, H4⟩
    iapply tab_halves.2
    isplitl [H0 H1]
    · iapply tab_halves.2
      isplitl [H0] <;> iassumption
    · iapply tab_halves.2
      isplitl [H2]; · iexact H2
      iapply tab_halves.2
      isplitl [H3] <;> iassumption

/-! ## Blocks as views -/

/-- The shape of a block of `n` tiles. -/
abbrev blkS (n : ℕ) : Shape := ⟨4, ![1, n, 80, 1024]⟩

theorem rect_set {n a b : ℕ} {off : Fin 4 → ℕ} {inb : ∀ i, off i + (blkS n).size i ≤ S4x4x80x1024.size i}
    (hoff : off = ![a, b, 0, 0]) (ha : a < 4) (hb : b + n ≤ 4) (hn : 0 < n) :
    (Rect.unit (s := S4x4x80x1024) off (blkS n).size inb).set = tiles (bits a b n) := by
  subst hoff
  ext i
  rw [mem_tiles_bits ha hb hn, Rect.mem_set_unit, Fin.forall_fin_succ, Fin.forall_fin_succ, Fin.forall_fin_succ, Fin.forall_fin_succ]
  have h2 : (i 2).val < 80 := (i 2).isLt
  have h3 : (i 3).val < 1024 := (i 3).isLt
  constructor
  · rintro ⟨⟨h00, h01⟩, ⟨h10, h11⟩, -⟩
    have h00' : a ≤ (i 0).val := h00
    have h01' : (i 0).val < a + 1 := h01
    have h10' : b ≤ (i 1).val := h10
    have h11' : (i 1).val < b + n := h11
    exact ⟨by omega, h10', h11'⟩
  · rintro ⟨h0, h10, h11⟩
    refine ⟨⟨?_, ?_⟩, ⟨h10, h11⟩, ⟨Nat.zero_le _, ?_⟩, ⟨Nat.zero_le _, ?_⟩, fun k => k.elim0⟩
    · show a ≤ (i 0).val; omega
    · show (i 0).val < a + 1; omega
    · show (i 2).val < 0 + 80; omega
    · show (i 3).val < 0 + 1024; omega

/-- A table's contents as its buffer's. -/
abbrev bufOf (b : Bool) (c : Dev nD) (G : Tab F) : Buf (Elt F) ((tabM b).view.loc (c : Thread nD τ)) :=
  match b with | false => G | true => G

/-- Holding a block through its view is holding its tiles. -/
theorem tab_view {b : Bool} {c : Dev nD} {q} {n x y : ℕ} {off : Fin 4 → ℕ}
    {inb : ∀ i, off i + (blkS n).size i ≤ S4x4x80x1024.size i} {hs} (hoff : off = ![x, y, 0, 0]) (hx : x < 4) (hy : y + n ≤ 4) (hn : 0 < n) (G : Tab F) :
    ((((tabM b).slice (Rect.unit (s := S4x4x80x1024) off (blkS n).size inb) hs).view.loc (c : Thread nD τ)
        ↦[((tabM b).slice (Rect.unit (s := S4x4x80x1024) off (blkS n).size inb) hs).view.set]{q} bufOf b c G : sProp 𝕄))
      = tab b c q (bits x y n) G := by
  cases b
  · unfold tab; simp only; rw [← rect_set (inb := inb) hoff hx hy hn]
    show (((c : Thread nD τ).loc cc0_scratch4) ↦[((View.whole cc0_scratch4).slice (Rect.unit (s := S4x4x80x1024) off (blkS n).size inb)).set]{q} G : sProp 𝕄) = _
    rw [View.set_slice_whole]
  · unfold tab; simp only; rw [← rect_set (inb := inb) hoff hx hy hn]
    show (((c : Thread nD τ).loc cc0_scratch5) ↦[((View.whole cc0_scratch5).slice (Rect.unit (s := S4x4x80x1024) off (blkS n).size inb)).set]{q} G : sProp 𝕄) = _
    rw [View.set_slice_whole]

/-- A block's arrival: the destination's tiles then hold what the source's held. -/
theorem tab_landed {b : Bool} {c c' : Dev nD} {q} {n x y : ℕ} {off : Fin 4 → ℕ}
    {inb : ∀ i, off i + (blkS n).size i ≤ S4x4x80x1024.size i} {hs} (hoff : off = ![x, y, 0, 0]) (hx : x < 4) (hy : y + n ≤ 4) (hn : 0 < n)
    (G fd : Tab F) :
    ((((tabM b).slice (Rect.unit (s := S4x4x80x1024) off (blkS n).size inb) hs).view.loc (c' : Thread nD τ)
        ↦[((tabM b).slice (Rect.unit (s := S4x4x80x1024) off (blkS n).size inb) hs).view.set]{q}
          (((tabM b).slice (Rect.unit (s := S4x4x80x1024) off (blkS n).size inb) hs).view.write (Elt F) (bufOf b c' fd)
            (((tabM b).slice (Rect.unit (s := S4x4x80x1024) off (blkS n).size inb) hs).view.read (Elt F) (bufOf b c G)) Finset.univ) : sProp 𝕄))
      = tab b c' q (bits x y n) G := by
  rw [← tab_view (inb := inb) (hs := hs) hoff hx hy hn G]
  cases b
  · refine pointsTo_congr fun i hi => ?_
    exact (congrFun (View.write_read_eq_piecewise (Val := Elt F) (v := (View.whole cc0_scratch4).slice (Rect.unit (s := S4x4x80x1024) off (blkS n).size inb)) fd G Finset.univ) i).trans
      (Finset.piecewise_eq_of_mem _ _ _ hi)
  · refine pointsTo_congr fun i hi => ?_
    exact (congrFun (View.write_read_eq_piecewise (Val := Elt F) (v := (View.whole cc0_scratch5).slice (Rect.unit (s := S4x4x80x1024) off (blkS n).size inb)) fd G Finset.univ) i).trans
      (Finset.piecewise_eq_of_mem _ _ _ hi)

end Cert.MeshSum

end
-- ==== Proof.Contents.lean ====
/-
# What the buffers hold

From the devices' shares of the argument: what each device swaps with its partner, the sums it makes of them, the
contents both tables of tiles come to have, and the contents of the result. A table's contents depend on the device's
place along `x` only: every device of the plane gathers the same table.
-/
module

public import proofs.«01_k».proof.Proof.Table
public import Idealize.ShloMosaic.Lib.Pipeline.ValueKit.Geometry
public import Idealize.ShloMosaic.Lib.Pipeline.ValueKit.Tiles

@[expose] public section

noncomputable section

namespace Cert.MeshSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every semaphore at zero, any generator registers. -/
def s₀ : MemSt nD τ sig (Elt F) := ⟨m, fun _ => 0, ρ⟩

/-! ## The buffers -/

abbrev xM : Memref sig .tc .vmem S4096x1024 .f32 := Memref.whole cc0_stg0_0
abbrev oM : Memref sig .tc .vmem S4096x1024 .f32 := Memref.whole cc0_stg1_0
abbrev sM : Memref sig .tc .vmem S160x1024 .bf16 := Memref.whole cc0_scratch0
abbrev rM : Memref sig .tc .vmem S160x1024 .bf16 := Memref.whole cc0_scratch1
abbrev sbM : Memref sig .tc .vmem S1536x1024 .bf16 := Memref.whole cc0_scratch2
abbrev rbM : Memref sig .tc .vmem S1536x1024 .bf16 := Memref.whole cc0_scratch3

/-! ## The argument and what is swapped -/

/-- Device `c`'s share of the argument, as its kernel sees it. -/
def xAt (c : Dev nD) : (cc0_stg0_0 : Ref sig .tc).ty.Contents (Elt F) :=
  (win0_0.blk (0 : Fin 1)).view.read (Elt F) ((s₀ m ρ).mem ((c : Thread nD τ).loc main_arg0))

/-- The 160 rows of it that device `c` sums. -/
def ownRows (c : Dev nD) : Vec F S160x1024 .f32 :=
  xM.view.readAt (Elt F) (Rect.unit (s := S4096x1024) (k0_off1 c) S160x1024.size (k0_off1_inb c)).toLoadRect (xAt m ρ c)
/-- Those rows as the device sends them to its partner. -/
def rawAt (c : Dev nD) : Vec F S160x1024 .bf16 := k0_pay2 (ownRows m ρ c)
/-- The first 1536 rows, and as the device sends them to its partner. -/
def bulkRows (c : Dev nD) : Vec F S1536x1024 .f32 :=
  xM.view.readAt (Elt F) (Rect.unit (s := S4096x1024) ![0, 0] S1536x1024.size inb_S4096x1024_S1536x1024_0_0).toLoadRect (xAt m ρ c)
def bulkAt (c : Dev nD) : Vec F S1536x1024 .bf16 := k0_pay3 (bulkRows m ρ c)

/-- The two halves of the sum device `c` makes of its rows and its partner's. -/
def sumAt (b : Bool) (c : Dev nD) : Vec F S1x1x80x1024 .bf16 :=
  match b with
  | false => k0_pay5 (k0_pay1 (ownRows m ρ c)) (rawAt m ρ (peer c))
  | true => k0_pay6 (k0_pay1 (ownRows m ρ c)) (rawAt m ρ (peer c))

/-! ## The tables -/

set_option backward.proofsInPublic true in
/-- A table's element as one of a single tile. -/
def inTile (i : S4x4x80x1024.Idx) : S1x1x80x1024.Idx := fun a => match a with
  | ⟨0, _⟩ => ⟨0, Nat.one_pos⟩
  | ⟨1, _⟩ => ⟨0, Nat.one_pos⟩
  | ⟨2, _⟩ => i 2
  | ⟨3, _⟩ => i 3

set_option backward.proofsInPublic true in
/-- A single tile's element as the one of the tile in row `a`, column `b` of a table. -/
def atTile (a b : ℕ) (x : S1x1x80x1024.Idx) : S4x4x80x1024.Idx := fun k => match k with
  | ⟨0, _⟩ => ⟨a % 4, Nat.mod_lt _ (by decide)⟩
  | ⟨1, _⟩ => ⟨b % 4, Nat.mod_lt _ (by decide)⟩
  | ⟨2, _⟩ => x 2
  | ⟨3, _⟩ => x 3

/-- The device whose sum is in row `a`, column `b` of table `b'` in the plane `x`. -/
def tileDev (t : Bool) (x a b : ℕ) : Dev nD := cond t (mkDev x a b) (mkDev x b a)

/-- What table `b` comes to hold on device `c`. -/
def tabAt (b : Bool) (c : Dev nD) : Tab F := fun i =>
  sumAt m ρ b (tileDev b (px c) (i 0).val (i 1).val) (inTile i)

theorem tabAt_congr {b : Bool} {c c' : Dev nD} (h : px c = px c') : tabAt m ρ b c = tabAt m ρ b c' := by
  unfold tabAt; rw [h]

/-- The tile in row `a`, column `j` of table `b`. -/
def tileAt (b : Bool) (c : Dev nD) (a j : ℕ) : Vec F S1x1x80x1024 .bf16 := fun x => tabAt m ρ b c (atTile a j x)

/-! ## The result -/

/-- What device `c` adds up to for the two halves of the first 1536 rows. -/
def bulkSum (h : Bool) (c : Dev nD) : Vec F S768x1024 .f32 :=
  match h with
  | false => k0_pay31
      (xM.view.readAt (Elt F) (Rect.unit (s := S4096x1024) ![0, 0] S768x1024.size inb_S4096x1024_S768x1024_0_0).toLoadRect (xAt m ρ c))
      (rbM.view.readAt (Elt F) (Rect.unit (s := S1536x1024) ![0, 0] S768x1024.size inb_S1536x1024_S768x1024_0_0).toLoadRect (bulkAt m ρ (peer c)))
  | true => k0_pay64
      (xM.view.readAt (Elt F) (Rect.unit (s := S4096x1024) ![768, 0] S768x1024.size inb_S4096x1024_S768x1024_768_0).toLoadRect (xAt m ρ c))
      (rbM.view.readAt (Elt F) (Rect.unit (s := S1536x1024) ![768, 0] S768x1024.size inb_S1536x1024_S768x1024_768_0).toLoadRect (bulkAt m ρ (peer c)))

set_option backward.proofsInPublic true in
def ix768 (r : ℕ) (i : S4096x1024.Idx) : S768x1024.Idx := fun a => match a with
  | ⟨0, _⟩ => ⟨r % 768, Nat.mod_lt _ (by decide)⟩
  | ⟨1, _⟩ => i 1
set_option backward.proofsInPublic true in
def ix80 (r : ℕ) (i : S4096x1024.Idx) : S80x1024.Idx := fun a => match a with
  | ⟨0, _⟩ => ⟨r % 80, Nat.mod_lt _ (by decide)⟩
  | ⟨1, _⟩ => i 1

/-- The stretch of rows row `r` is in: the two halves of the first 1536 rows, then stretches of 80. -/
def stretch (r : ℕ) : ℕ := if r < 768 then 0 else if r < 1536 then 1 else 2 + (r - 1536) / 80

/-- The stretch that the tile in row `a`, column `j` of table `b` is written to. -/
def tileStretch (b : Bool) (a j : ℕ) : ℕ := 2 + (2 * cond b (4 * a + j) (4 * j + a) + cond b 1 0)
/-- Back from the stretch to the tile. -/
def stretchSide (k : ℕ) : Bool := Nat.beq ((k - 2) % 2) 1
def stretchRow (k : ℕ) : ℕ := cond (stretchSide k) ((k - 2) / 2 / 4) ((k - 2) / 2 % 4)
def stretchCol (k : ℕ) : ℕ := cond (stretchSide k) ((k - 2) / 2 % 4) ((k - 2) / 2 / 4)

/-- The result on device `c`. -/
def resAt (c : Dev nD) : (cc0_stg1_0 : Ref sig .tc).ty.Contents (Elt F) := fun (i : S4096x1024.Idx) =>
  if (i 0).val < 768 then bulkSum m ρ false c (ix768 (i 0).val i)
  else if (i 0).val < 1536 then bulkSum m ρ true c (ix768 (i 0).val i)
  else k0_pay7 (tileAt m ρ (stretchSide (stretch (i 0).val)) c (stretchRow (stretch (i 0).val)) (stretchCol (stretch (i 0).val)))
    (ix80 ((i 0).val - 1536) i)

theorem stretch_tile_fin : ∀ (b : Bool) (a j : Fin 4),
    stretchSide (tileStretch b a.val j.val) = b ∧ stretchRow (tileStretch b a.val j.val) = a.val ∧ stretchCol (tileStretch b a.val j.val) = j.val := by
  decide +kernel

/-! ### Which stretches are written by when -/

/-- The stretches written by time `t`: the device's own row and the blocks received, and the two halves of the bulk. -/
def written (t : ℕ) (y z : ℕ) : ℕ :=
  (List.finRange 39).foldl (fun M (e : Ev) =>
      cond (gath e && Nat.ble 4 (flow e) && recvs (flow e) (stepOf e) y z && Nat.blt (tStore e) t)
        (M ||| (2 ^ tileStretch (side (flow e)) (rChunk (flow e) (stepOf e) y z) (blkCol (flow e) 0)
          ||| 2 ^ tileStretch (side (flow e)) (rChunk (flow e) (stepOf e) y z) (blkCol (flow e) 0 + 1))) M)
    ((List.range 8).foldl (fun M k =>
        cond (Nat.blt (51 + k) t) (M ||| 2 ^ tileStretch (Nat.ble 4 k) (cond (Nat.ble 4 k) y z) (k % 4)) M)
      (cond (Nat.blt 85 t) 1 0 ||| cond (Nat.blt 128 t) 2 0))

theorem written_end_fin : ∀ y z : Fin 4, written 165 y.val z.val = 2 ^ 34 - 1 := by decide +kernel
theorem written_start_fin : ∀ y z : Fin 4, written 51 y.val z.val = 0 := by decide +kernel
/-- The stretches written change when a block is written, -/
theorem written_store_fin : ∀ (e : Ev) (y z : Fin 4), gath e = true → Nat.ble 4 (flow e) = true →
    written (tStore e + 1) y.val z.val = cond (recvs (flow e) (stepOf e) y.val z.val)
      (written (tStore e) y.val z.val ||| (2 ^ tileStretch (side (flow e)) (rChunk (flow e) (stepOf e) y z) (blkCol (flow e) 0)
          ||| 2 ^ tileStretch (side (flow e)) (rChunk (flow e) (stepOf e) y z) (blkCol (flow e) 0 + 1))) (written (tStore e) y.val z.val) := by
  decide +kernel
/-- when a tile of the device's own row is, -/
theorem written_own_fin : ∀ (k : Fin 8) (y z : Fin 4),
    written (51 + k.val + 1) y.val z.val = written (51 + k.val) y.val z.val ||| 2 ^ tileStretch (Nat.ble 4 k.val) (cond (Nat.ble 4 k.val) y.val z.val) (k.val % 4) := by
  decide +kernel
/-- and when a half of the bulk is. -/
theorem written_bulk0_fin : ∀ (y z : Fin 4), written 86 y.val z.val = written 85 y.val z.val ||| 2 ^ 0 := by decide +kernel
theorem written_bulk1_fin : ∀ (y z : Fin 4), written 129 y.val z.val = written 128 y.val z.val ||| 2 ^ 1 := by decide +kernel

/-- Whether the step at time `t` writes to the result. -/
def writesAt (t : ℕ) : Bool :=
  (Nat.ble 51 t && Nat.blt t 59) || (Nat.ble 75 t && Nat.blt t 83) || Nat.beq t 85 || (Nat.ble 102 t && Nat.blt t 110)
    || (Nat.ble 118 t && Nat.blt t 126) || Nat.beq t 128

theorem written_same_fin : ∀ (t : Fin 165) (y z : Fin 4), writesAt t.val = false → written (t.val + 1) y.val z.val = written t.val y.val z.val := by
  decide +kernel

end Cert.MeshSum

end
-- ==== Proof.Sched.lean ====
/-
# The protocol

What each semaphore is for, written as a schedule of one round: who raises it, by how much, and what is handed over
when it is waited for. The barrier semaphore of a device is raised by each neighbour that exists, which thereby hands
over the places it receives its transfers in; a transfer's sending semaphore hands its source back; its receiving
semaphore hands over the destination, filled. Beside it, what each device owes at each time, and the order on the
semaphores that keeps the waits from going round in a circle.
-/
module

public import proofs.«01_k».proof.Proof.Contents

@[expose] public section

noncomputable section

namespace Cert.MeshSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The semaphores -/

/-- The number of a transfer's sending semaphore and of its receiving one. -/
def sIdx (e : Ev) : ℕ := cond (gath e) (8 + e.val) (cond (Nat.beq e.val 36) 2 (cond (Nat.beq e.val 37) 4 5))
def rIdx (e : Ev) : ℕ := cond (gath e) (44 + e.val) (cond (Nat.beq e.val 36) 3 (cond (Nat.beq e.val 37) 6 7))

theorem sIdx_range (e : Ev) : 2 ≤ sIdx e ∧ sIdx e < 80 := by revert e; decide +kernel
theorem rIdx_range (e : Ev) : 2 ≤ rIdx e ∧ rIdx e < 80 := by revert e; decide +kernel

set_option backward.proofsInPublic true in
def sSem (e : Ev) : DmaSem sig := (⟨sIdx e, (sIdx_range e).2⟩ : Fin 80)
set_option backward.proofsInPublic true in
def rSem (e : Ev) : DmaSem sig := (⟨rIdx e, (rIdx_range e).2⟩ : Fin 80)
/-- The mesh's barrier semaphore. -/
abbrev barS : Sem sig := (SemArray.scalar (sig.barrier 0 rfl) : Sems sig S_).sem

abbrev barCell (c : Dev nD) : GSem nD τ sig := ((c : Thread nD τ), .reg barS)
abbrev scell (e : Ev) (c : Dev nD) : GSem nD τ sig := ((c : Thread nD τ), .dma (sSem e))
abbrev rcell (e : Ev) (c : Dev nD) : GSem nD τ sig := ((c : Thread nD τ), .dma (rSem e))

/-- What a transfer semaphore is for: which transfer, and whether it is the receiving one. -/
def role (q : DmaSem sig) : Option (Bool × Ev) :=
  match (List.finRange 39).find? (fun e => Nat.beq (sIdx e) q.val) with
  | some e => some (false, e)
  | none => match (List.finRange 39).find? (fun e => Nat.beq (rIdx e) q.val) with
    | some e => some (true, e)
    | none => none

theorem role_s (e : Ev) : role (sSem e) = some (false, e) := by revert e; decide +kernel
theorem role_r (e : Ev) : role (rSem e) = some (true, e) := by revert e; decide +kernel

/-! ## Amounts -/

/-- The two halves of the bulk buffers. -/
abbrev sbH : Bool → Memref sig .tc .vmem S768x1024 .bf16
  | false => sbM.slice (Rect.unit (s := S1536x1024) ![0, 0] S768x1024.size inb_S1536x1024_S768x1024_0_0) (fun _ => rfl)
  | true => sbM.slice (Rect.unit (s := S1536x1024) ![768, 0] S768x1024.size inb_S1536x1024_S768x1024_768_0) (fun _ => rfl)
abbrev rbH : Bool → Memref sig .tc .vmem S768x1024 .bf16
  | false => rbM.slice (Rect.unit (s := S1536x1024) ![0, 0] S768x1024.size inb_S1536x1024_S768x1024_0_0) (fun _ => rfl)
  | true => rbM.slice (Rect.unit (s := S1536x1024) ![768, 0] S768x1024.size inb_S1536x1024_S768x1024_768_0) (fun _ => rfl)

theorem blk_inb (n : ℕ) (hn : n ≤ 4) : ∀ i, (![0, 0, 0, 0] : Fin 4 → ℕ) i + (blkS n).size i ≤ S4x4x80x1024.size i := by
  intro i; fin_cases i
  · show 0 + 1 ≤ 4; decide
  · show 0 + n ≤ 4; omega
  · show 0 + 80 ≤ 80; decide
  · show 0 + 1024 ≤ 1024; decide

theorem blkLen_le (f : ℕ) : blkLen f ≤ 4 := by unfold blkLen; cases Nat.blt f 4 <;> decide
theorem blkLen_pos (f : ℕ) : 0 < blkLen f := by unfold blkLen; cases Nat.blt f 4 <;> decide

/-- What moving `n` tiles raises a semaphore by. -/
def blkAmt (n : ℕ) : ℕ := sig.dmaCredit Kind.tc (Kind.tc.table Space.vmem) (tabM false).view.buf (blkS n) .bf16

/-- What a transfer raises its semaphores by. -/
def amt (e : Ev) : ℕ :=
  if gath e = true then blkAmt (blkLen (flow e)) else if e = 36 then rM.view.dmaCredit else (rbH false).view.dmaCredit

theorem blkAmt_pos {n : ℕ} (hn : 0 < n) (hn' : n ≤ 4) : 0 < blkAmt n :=
  View.dmaCredit_pos ((tabM false).slice (Rect.unit (s := S4x4x80x1024) ![0, 0, 0, 0] (blkS n).size (blk_inb n hn')) (fun _ => rfl)).view
    (Nat.pos_of_ne_zero fun h => by
      obtain ⟨i, -, hi⟩ := Finset.prod_eq_zero_iff.mp h
      revert hi
      fin_cases i
      · exact Nat.one_ne_zero
      · exact Nat.pos_iff_ne_zero.mp hn
      · exact Nat.succ_ne_zero _
      · exact Nat.succ_ne_zero _)

theorem amt_pos (e : Ev) : 0 < amt e := by
  unfold amt
  split
  · exact blkAmt_pos (blkLen_pos _) (blkLen_le _)
  · split <;> exact View.dmaCredit_pos _ (by decide)

/-! ## What is handed over -/

/-- A whole view's elements, at the buffer's contents. -/
def holds {s : Shape} {e : EltTy} (M : Memref sig .tc .vmem s e) (c : Dev nD) (f : Buf (Elt F) (M.view.loc (c : Thread nD τ))) : sProp 𝕄 :=
  M.view.loc (c : Thread nD τ) ↦[M.view.set]{fullShare} f

instance holds_storable {s : Shape} {e : EltTy} (M : Memref sig .tc .vmem s e) (c : Dev nD) (f : Buf (Elt F) (M.view.loc (c : Thread nD τ))) :
    BI.Storable (upEmb : UEmb _ 𝕄) (holds M c f) := by unfold holds; infer_instance

/-- The place device `c` receives transfer `e` in, whatever it holds. -/
def room (e : Ev) (c : Dev nD) : sProp 𝕄 :=
  if gath e = true then iprop(∃ fd : Tab F, tab (side (flow e)) c fullShare (rMask (flow e) (stepOf e) (py c) (pz c)) fd)
  else if e = 36 then iprop(∃ f, holds rM c f) else if e = 37 then iprop(∃ f, holds (rbH false) c f) else iprop(∃ f, holds (rbH true) c f)

/-- The source of transfer `e` from device `c`. -/
def sendPay (e : Ev) (c : Dev nD) : sProp 𝕄 :=
  if gath e = true then
    tab (side (flow e)) c (shr (share (flow e))) (sMask (flow e) (stepOf e) (py c) (pz c)) (tabAt m ρ (side (flow e)) c)
  else if e = 36 then holds sM c (rawAt m ρ c) else if e = 37 then holds (sbH false) c (bulkAt m ρ c) else holds (sbH true) c (bulkAt m ρ c)

/-- What device `c` has received when transfer `e` is in. -/
def recvPay (e : Ev) (c : Dev nD) : sProp 𝕄 :=
  if gath e = true then
    tab (side (flow e)) c fullShare (rMask (flow e) (stepOf e) (py c) (pz c)) (tabAt m ρ (side (flow e)) c)
  else if e = 36 then holds rM c (rawAt m ρ (peer c)) else if e = 37 then holds (rbH false) c (bulkAt m ρ (peer c))
  else holds (rbH true) c (bulkAt m ρ (peer c))

/-- What the neighbour of device `c` in direction `d` hands over with its signal: the places it receives `c`'s transfers in. -/
def barPay (c : Dev nD) (d : Fin 5) : sProp 𝕄 :=
  bigSep Finset.univ fun e : Ev => if dirOf e = d ∧ sendC e c = true then room (F := F) e (nbr d c) else iprop(emp)

instance room_storable (e : Ev) (c : Dev nD) : BI.Storable (upEmb : UEmb _ 𝕄) (room (F := F) e c) := by
  unfold room; (repeat' split) <;> infer_instance
instance sendPay_storable (e : Ev) (c : Dev nD) : BI.Storable (upEmb : UEmb _ 𝕄) (sendPay m ρ e c) := by
  unfold sendPay; (repeat' split) <;> infer_instance
instance recvPay_storable (e : Ev) (c : Dev nD) : BI.Storable (upEmb : UEmb _ 𝕄) (recvPay m ρ e c) := by
  unfold recvPay; (repeat' split) <;> infer_instance
instance roomIf_storable (p : Prop) [Decidable p] (e : Ev) (c : Dev nD) :
    BI.Storable (upEmb : UEmb _ 𝕄) (if p then room (F := F) e c else iprop(emp)) := by
  split <;> infer_instance
instance barPay_storable (c : Dev nD) (d : Fin 5) : BI.Storable (upEmb : UEmb _ 𝕄) (barPay (F := F) c d) := by
  unfold barPay; infer_instance

/-! ## The schedule -/

/-- One round, round 0. A barrier semaphore is raised once from each direction there is a neighbour in; a transfer's
    semaphores once, by the transfer's size, if the device takes part in it. -/
def Rd : Rounds.Schedule (GSem nD τ sig) (Fin 5) 𝕄 where
  duties g r :=
    if r = 0 ∧ g.1.2 = .tc then
      match g.2 with
      | .reg _ => Finset.univ.filter fun d => has d g.1.1 = true
      | .dma q => match role q with
        | some (false, e) => if sendC e g.1.1 = true then {0} else ∅
        | some (true, e) => if recvC e g.1.1 = true then {0} else ∅
        | none => ∅
    else ∅
  unitless _ := False
  amount g _ _ := match g.2 with
    | .reg _ => 1
    | .dma q => match role q with
      | some (_, e) => amt e
      | none => 1
  payload g _ d := match g.2 with
    | .reg _ => barPay g.1.1 d
    | .dma q => match role q with
      | some (false, e) => sendPay m ρ e g.1.1
      | some (true, e) => recvPay m ρ e g.1.1
      | none => iprop(emp)
  amount_pos g _ _ _ := by
    cases g.2 with
    | reg _ => exact Nat.one_pos
    | dma q =>
      show 0 < (match role q with | some (_, e) => amt e | none => 1)
      split
      · exact amt_pos _
      · exact Nat.one_pos

instance Rd_payload_storable (g : GSem nD τ sig) (r : ℕ) (d : Fin 5) :
    BI.Storable (upEmb : UEmb _ 𝕄) ((Rd (F := F) m ρ).payload g r d) := by
  show BI.Storable upEmb (match g.2 with
    | .reg _ => barPay g.1.1 d
    | .dma q => match role q with
      | some (false, e) => sendPay m ρ e g.1.1
      | some (true, e) => recvPay m ρ e g.1.1
      | none => iprop(emp))
  (repeat' split) <;> infer_instance

section Sched
variable (e : Ev) (c : Dev nD) (d : Fin 5)

/-- The directions device `c` has a neighbour in. -/
abbrev dirs (c : Dev nD) : Finset (Fin 5) := Finset.univ.filter fun d => has d c = true

theorem duties_bar : (Rd (F := F) m ρ).duties (barCell c) 0 = dirs c := by
  dsimp only [Rd]; exact if_pos ⟨rfl, rfl⟩
theorem duties_s : (Rd (F := F) m ρ).duties (scell e c) 0 = if sendC e c = true then {0} else ∅ := by
  dsimp only [Rd]
  rw [if_pos ⟨rfl, rfl⟩, role_s]
theorem duties_r : (Rd (F := F) m ρ).duties (rcell e c) 0 = if recvC e c = true then {0} else ∅ := by
  dsimp only [Rd]
  rw [if_pos ⟨rfl, rfl⟩, role_r]
theorem duties_later (g : GSem nD τ sig) : ∀ r, 1 ≤ r → (Rd (F := F) m ρ).duties g r = ∅ :=
  fun r hr => if_neg fun h => by omega

theorem amount_bar : (Rd (F := F) m ρ).amount (barCell c) 0 d = 1 := rfl
theorem amount_s : (Rd (F := F) m ρ).amount (scell e c) 0 d = amt e := by
  show (match role (sSem e) with | some (_, e) => amt e | none => 1) = _
  rw [role_s]
theorem amount_r : (Rd (F := F) m ρ).amount (rcell e c) 0 d = amt e := by
  show (match role (rSem e) with | some (_, e) => amt e | none => 1) = _
  rw [role_r]

theorem payload_bar : (Rd (F := F) m ρ).payload (barCell c) 0 d = barPay c d := rfl
theorem payload_s : (Rd (F := F) m ρ).payload (scell e c) 0 d = sendPay m ρ e c := by
  show (match role (sSem e) with
      | some (false, e) => sendPay m ρ e c
      | some (true, e) => recvPay m ρ e c
      | none => iprop(emp)) = _
  rw [role_s]
theorem payload_r : (Rd (F := F) m ρ).payload (rcell e c) 0 d = recvPay m ρ e c := by
  show (match role (rSem e) with
      | some (false, e) => sendPay m ρ e c
      | some (true, e) => recvPay m ρ e c
      | none => iprop(emp)) = _
  rw [role_r]

theorem expect_bar : (Rd (F := F) m ρ).expect (barCell c) 0 = (dirs c).card := by
  unfold Schedule.expect Schedule.amountOf
  rw [duties_bar, Finset.sum_congr rfl fun d _ => amount_bar m ρ c d, Finset.sum_const, smul_eq_mul, Nat.mul_one]
theorem expect_s (h : sendC e c = true) : (Rd (F := F) m ρ).expect (scell e c) 0 = amt e := by
  unfold Schedule.expect Schedule.amountOf; rw [duties_s, if_pos h, Finset.sum_singleton, amount_s]
theorem expect_r (h : recvC e c = true) : (Rd (F := F) m ρ).expect (rcell e c) 0 = amt e := by
  unfold Schedule.expect Schedule.amountOf; rw [duties_r, if_pos h, Finset.sum_singleton, amount_r]

theorem rest_s (h : sendC e c = true) :
    bigSep ((Rd (F := F) m ρ).duties (scell e c) 0 \ ∅) (fun d => (Rd (F := F) m ρ).payload (scell e c) 0 d) = sendPay m ρ e c := by
  rw [Finset.sdiff_empty, duties_s, if_pos h, bigSep_singleton, payload_s]
theorem rest_r (h : recvC e c = true) :
    bigSep ((Rd (F := F) m ρ).duties (rcell e c) 0 \ ∅) (fun d => (Rd (F := F) m ρ).payload (rcell e c) 0 d) = recvPay m ρ e c := by
  rw [Finset.sdiff_empty, duties_r, if_pos h, bigSep_singleton, payload_r]

end Sched

/-! ## What a device owes -/

/-- Before step `t` device `c` still owes the signals and the transfers it has yet to start. The signal in direction `d`
    is the program's step `opp d`. -/
def owed (t : ℕ) (c : Dev nD) : CellTallies nD τ sig Unit :=
  (∑ d : Fin 5, if t ≤ (opp d).val ∧ has d c = true then tallyAt (barCell (nbr d c)) () 1 else 0)
    + ∑ e : Ev, if t ≤ tSend e ∧ sendC e c = true then tallyAt (rcell e (dst e c)) () (amt e) else 0

/-- A sum of which one summand changes. -/
theorem sum_change {I A : Type} [Fintype I] [DecidableEq I] [AddCommMonoid A] {f g : I → A} (i : I) (a : A)
    (h : ∀ j, j ≠ i → f j = g j) (hi : f i = g i + a) : ∑ j, f j = ∑ j, g j + a := by
  rw [← Finset.add_sum_erase _ f (Finset.mem_univ i), ← Finset.add_sum_erase _ g (Finset.mem_univ i), hi,
    Finset.sum_congr rfl fun j hj => h j (Finset.ne_of_mem_erase hj), add_right_comm]

theorem opp_inj {d d' : Fin 5} (h : (opp d).val = (opp d').val) : d = d' := by
  rw [← opp_opp d, ← opp_opp d', Fin.ext h]
theorem opp_lt_tSend (d : Fin 5) (e : Ev) : (opp d).val < tSend e :=
  Nat.lt_of_lt_of_le (opp d).isLt (Nat.le_trans (by decide) (tSend_ge e))

/-- A signal pays one unit, -/
theorem owed_signal (d : Fin 5) (c : Dev nD) :
    owed (opp d).val c = owed ((opp d).val + 1) c + if has d c = true then tallyAt (barCell (nbr d c)) () 1 else 0 := by
  unfold owed
  rw [add_right_comm]
  congr 1
  · refine sum_change d _ (fun j hj => ?_) ?_
    · have : (opp j).val ≠ (opp d).val := fun h => hj (opp_inj h)
      refine if_congr (and_congr_left fun _ => ?_) rfl rfl
      omega
    · rw [if_neg (fun h => by omega : ¬ ((opp d).val + 1 ≤ (opp d).val ∧ has d c = true)), zero_add]
      exact if_congr (and_iff_right le_rfl) rfl rfl
  · refine Finset.sum_congr rfl fun e _ => if_congr (and_congr_left fun _ => ?_) rfl rfl
    have := opp_lt_tSend d e
    omega

/-- a transfer its size, -/
theorem owed_send (e : Ev) (c : Dev nD) :
    owed (tSend e) c = owed (tSend e + 1) c + if sendC e c = true then tallyAt (rcell e (dst e c)) () (amt e) else 0 := by
  unfold owed
  rw [add_assoc]
  congr 1
  · refine Finset.sum_congr rfl fun d _ => if_congr (and_congr_left fun _ => ?_) rfl rfl
    have := opp_lt_tSend d e
    omega
  · refine sum_change e _ (fun j hj => ?_) ?_
    · have : tSend j ≠ tSend e := fun h => hj (tSend_inj _ _ h)
      refine if_congr (and_congr_left fun _ => ?_) rfl rfl
      omega
    · rw [if_neg (fun h => by omega : ¬ (tSend e + 1 ≤ tSend e ∧ sendC e c = true)), zero_add]
      exact if_congr (and_iff_right le_rfl) rfl rfl

/-- and any other step nothing. -/
theorem owed_same {t : ℕ} (c : Dev nD) (h5 : 5 ≤ t) (h : ∀ e, tSend e ≠ t) : owed t c = owed (t + 1) c := by
  unfold owed
  congr 1
  · refine Finset.sum_congr rfl fun d _ => if_congr (and_congr_left fun _ => ?_) rfl rfl
    have := (opp d).isLt
    omega
  · refine Finset.sum_congr rfl fun e _ => if_congr (and_congr_left fun _ => ?_) rfl rfl
    have := h e
    omega

theorem owed_end (c : Dev nD) : owed 165 c = 0 := by
  unfold owed
  rw [Finset.sum_eq_zero fun d _ => if_neg fun h => by have := (opp d).isLt; omega,
    Finset.sum_eq_zero fun e _ => if_neg fun h => by have := tSend_lt_tRecv e; have := tRecv_lt e; omega, add_zero]

/-- What is owed is owed to a neighbour's barrier or to a transfer not yet started. -/
theorem owed_pos {t : ℕ} {c : Dev nD} {g : GSem nD τ sig} {u : Unit} (h : 0 < owed t c g u) :
    (∃ d, t ≤ (opp d).val ∧ g = barCell (nbr d c)) ∨ ∃ e, t ≤ tSend e ∧ g = rcell e (dst e c) := by
  unfold owed at h
  rw [Pi.add_apply, Finsupp.add_apply, Finset.sum_apply, Finset.sum_apply, Finsupp.finset_sum_apply, Finsupp.finset_sum_apply] at h
  by_contra hcon
  rw [not_or] at hcon
  refine Nat.pos_iff_ne_zero.mp h ?_
  have h1 : ∀ d ∈ (Finset.univ : Finset (Fin 5)),
      ((if t ≤ (opp d).val ∧ has d c = true then tallyAt (barCell (nbr d c)) () 1 else 0 : CellTallies nD τ sig Unit) g) u = 0 := fun d _ => by
    by_cases hd : t ≤ (opp d).val ∧ has d c = true
    · rw [if_pos hd, tallyAt_apply, if_neg]
      exact fun hg => hcon.1 ⟨d, hd.1, hg.1⟩
    · rw [if_neg hd]; rfl
  have h2 : ∀ e ∈ (Finset.univ : Finset Ev),
      ((if t ≤ tSend e ∧ sendC e c = true then tallyAt (rcell e (dst e c)) () (amt e) else 0 : CellTallies nD τ sig Unit) g) u = 0 := fun e _ => by
    by_cases he : t ≤ tSend e ∧ sendC e c = true
    · rw [if_pos he, tallyAt_apply, if_neg]
      exact fun hg => hcon.2 ⟨e, he.1, hg.1⟩
    · rw [if_neg he]; rfl
  rw [Finset.sum_eq_zero h1, Finset.sum_eq_zero h2, Nat.add_zero]

/-! ## The order of the waits -/

def L (g : GSem nD τ sig) : Finset Unit := if g.1.2 = .tc then {()} else ∅
/-- Barriers at 5, a transfer's receiving semaphore at the time the transfer is started, the rest at 0. -/
def lv (g : GSem nD τ sig) (_ : Unit) : ℕ := match g.2 with
  | .reg _ => 5
  | .dma q => match role q with
    | some (true, e) => tSend e
    | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 5 := rfl
theorem lv_r (e : Ev) (c : Dev nD) : lv (rcell e c) () = tSend e := by
  show (match role (rSem e) with | some (true, e) => tSend e | _ => 0) = _
  rw [role_r]
theorem lv_s (e : Ev) (c : Dev nD) : lv (scell e c) () = 0 := by
  show (match role (sSem e) with | some (true, e) => tSend e | _ => 0) = _
  rw [role_s]

/-- A device may wait on a semaphore whose level is below the levels of all it owes. -/
theorem mayWait_of {t : ℕ} (c : Dev nD) (sm : SemLoc sig) (b : ℕ) (hb : lv ((c : Thread nD τ), sm) () ≤ b) (h5 : t < 5 → b < 5)
    (h : ∀ e, t ≤ tSend e → b < tSend e) : (levAts L lv : sProp 𝕄) ⊢ MayWait (c : Thread nD τ) sm () (owed t c) :=
  MayOwe.of_cut (L := L) (lev := lv) b (fun p hp => by rw [Finset.mem_singleton.mp hp, L_tc]; exact Finset.mem_singleton_self _)
    (fun g u hg => by
      rcases owed_pos hg with ⟨d, -, rfl⟩ | ⟨e, -, rfl⟩ <;> (rw [L_tc]; exact Finset.mem_singleton_self _))
    (fun p hp => by rw [Finset.mem_singleton.mp hp]; exact hb)
    (fun g u hg => by
      rcases owed_pos hg with ⟨d, hd, rfl⟩ | ⟨e, he, rfl⟩
      · have := (opp d).isLt
        rw [lv_bar]; exact h5 (by omega)
      · rw [lv_r]; exact h e he)

end Cert.MeshSum

end
-- ==== Proof.State.lean ====
/-
# What a device holds before each step

The steps of the program are numbered (`Flow`). Before step `t` a device holds, for every transfer, what is left to do
with its two semaphores and, until it starts it, the room it goes to; its debts; the result as far as it is written;
and its share of the argument. From step 19 on it also holds its two tables of tiles, each in five shares, as far as
they have arrived and are not on their way (`Tb`).
-/
module

public import proofs.«01_k».proof.Proof.Sched

@[expose] public section

noncomputable section

namespace Cert.MeshSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The semaphores, listed -/

set_option backward.proofsInPublic true in
/-- All semaphores of the protocol: the barrier, then the transfers'. -/
def csem (k : Fin 79) : SemLoc sig := if k.val = 0 then .reg barS else .dma (⟨k.val + 1, by have := k.isLt; omega⟩ : Fin 80)
abbrev kcell (ck : Dev nD × Fin 79) : GSem nD τ sig := ((ck.1 : Thread nD τ), csem ck.2)

set_option backward.proofsInPublic true in
def kS (e : Ev) : Fin 79 := ⟨sIdx e - 1, by have := sIdx_range e; omega⟩
set_option backward.proofsInPublic true in
def kR (e : Ev) : Fin 79 := ⟨rIdx e - 1, by have := rIdx_range e; omega⟩

theorem csem_zero : csem 0 = .reg barS := if_pos rfl
theorem csem_s (e : Ev) : csem (kS e) = .dma (sSem e) := by
  have := sIdx_range e
  unfold csem
  rw [if_neg (show ¬ (kS e).val = 0 from fun h => by have h' : sIdx e - 1 = 0 := h; omega)]
  exact congrArg SemLoc.dma (Fin.ext (show sIdx e - 1 + 1 = sIdx e by omega))
theorem csem_r (e : Ev) : csem (kR e) = .dma (rSem e) := by
  have := rIdx_range e
  unfold csem
  rw [if_neg (show ¬ (kR e).val = 0 from fun h => by have h' : rIdx e - 1 = 0 := h; omega)]
  exact congrArg SemLoc.dma (Fin.ext (show rIdx e - 1 + 1 = rIdx e by omega))

/-- What every device knows: the protocol governs every semaphore, under the names `K`, and all have reached round 0. -/
def records (K : Dev nD × Fin 79 → ℕ) : sProp 𝕄 :=
  iprop((bigSep Finset.univ fun ck : Dev nD × Fin 79 => cellInv ER (Rd m ρ) (K ck) (kcell ck))
    ∗ bigSep Finset.univ fun ck : Dev nD × Fin 79 => reached ER (kcell ck) 0)

instance records_persistent (K : Dev nD × Fin 79 → ℕ) : BI.Persistent (records m ρ K) := by unfold records; infer_instance

variable {m ρ}

theorem inv_at {K : Dev nD × Fin 79 → ℕ} (ck : Dev nD × Fin 79) : records m ρ K ⊢ cellInv ER (Rd m ρ) (K ck) (kcell ck) := by
  unfold records
  iintro ⟨H, -⟩
  ihave H := (show (bigSep Finset.univ fun ck : Dev nD × Fin 79 => (cellInv ER (Rd m ρ) (K ck) (kcell ck) : sProp 𝕄)) ⊢ _ from bigSep_elim (Finset.mem_univ ck)) $$ H
  iexact H
theorem reached_at {K : Dev nD × Fin 79 → ℕ} (ck : Dev nD × Fin 79) : records m ρ K ⊢ reached ER (kcell ck) 0 := by
  unfold records
  iintro ⟨-, H⟩
  ihave H := (show (bigSep Finset.univ fun ck : Dev nD × Fin 79 => (reached ER (kcell ck) 0 : sProp 𝕄)) ⊢ _ from bigSep_elim (Finset.mem_univ ck)) $$ H
  iexact H

theorem inv_bar {K : Dev nD × Fin 79 → ℕ} (c : Dev nD) : records m ρ K ⊢ cellInv ER (Rd m ρ) (K (c, 0)) (barCell c) := inv_at (c, 0)
theorem inv_s {K : Dev nD × Fin 79 → ℕ} (e : Ev) (c : Dev nD) : records m ρ K ⊢ cellInv ER (Rd m ρ) (K (c, kS e)) (scell e c) := by
  have h : kcell (c, kS e) = scell e c := Prod.ext rfl (csem_s e)
  rw [← h]; exact inv_at (c, kS e)
theorem inv_r {K : Dev nD × Fin 79 → ℕ} (e : Ev) (c : Dev nD) : records m ρ K ⊢ cellInv ER (Rd m ρ) (K (c, kR e)) (rcell e c) := by
  have h : kcell (c, kR e) = rcell e c := Prod.ext rfl (csem_r e)
  rw [← h]; exact inv_at (c, kR e)
theorem reached_bar {K : Dev nD × Fin 79 → ℕ} (c : Dev nD) : records m ρ K ⊢ reached ER (barCell c) 0 := reached_at (c, 0)
theorem reached_s {K : Dev nD × Fin 79 → ℕ} (e : Ev) (c : Dev nD) : records m ρ K ⊢ reached ER (scell e c) 0 := by
  have h : kcell (c, kS e) = scell e c := Prod.ext rfl (csem_s e)
  rw [← h]; exact reached_at (c, kS e)
theorem reached_r {K : Dev nD × Fin 79 → ℕ} (e : Ev) (c : Dev nD) : records m ρ K ⊢ reached ER (rcell e c) 0 := by
  have h : kcell (c, kR e) = rcell e c := Prod.ext rfl (csem_r e)
  rw [← h]; exact reached_at (c, kR e)

/-! ## The parts of the state -/

/-- A transfer at its sender: before it is started the right to raise both semaphores; then, until its departure is
    awaited, a claim on the sending one. -/
def sndSt (t : ℕ) (e : Ev) (c : Dev nD) : sProp 𝕄 :=
  if sendC e c = true then
    if t ≤ tSend e then iprop(dutyTok ER (scell e c) 0 0 ∗ dutyTok ER (rcell e (dst e c)) 0 0 ∗ atPos ER (scell e c) 0 ∅ 0)
    else if t ≤ tWait e then iprop(cred (tallyAt (scell e c) () (amt e)) ∗ atPos ER (scell e c) 0 ∅ 0)
    else atPos ER (scell e c) 1 ∅ 0
  else atPos ER (scell e c) 0 ∅ 0

/-- A transfer at its receiver: until its arrival is awaited a claim on the receiving semaphore. -/
def rcvSt (t : ℕ) (e : Ev) (c : Dev nD) : sProp 𝕄 :=
  if recvC e c = true then
    if t ≤ tRecv e then iprop(cred (tallyAt (rcell e c) () (amt e)) ∗ atPos ER (rcell e c) 0 ∅ 0) else atPos ER (rcell e c) 1 ∅ 0
  else atPos ER (rcell e c) 0 ∅ 0

/-- From the barrier on until the transfer is started, the room at the receiver. -/
def roomSt (t : ℕ) (e : Ev) (c : Dev nD) : sProp 𝕄 :=
  if 10 ≤ t ∧ t ≤ tSend e ∧ sendC e c = true then room (F := F) e (dst e c) else iprop(emp)

/-- The result, right in the stretches in `M`. -/
def outSt (m : (ℓ : Loc nD τ sig) → Buf (Elt F) ℓ) (ρ : Dev nD → PrngReg) (M : ℕ) (c : Dev nD) : sProp 𝕄 :=
  iprop(∃ f : (cc0_stg1_0 : Ref sig .tc).ty.Contents (Elt F),
    ⌜∀ i : S4096x1024.Idx, M.testBit (stretch (i 0).val) = true → f i = resAt m ρ c i⌝
      ∗ (((c : Thread nD τ).loc cc0_stg1_0) ↦{fullShare} f))

/-- The device's share of the argument. -/
def xSt (m : (ℓ : Loc nD τ sig) → Buf (Elt F) ℓ) (ρ : Dev nD → PrngReg) (c : Dev nD) : sProp 𝕄 :=
  (((c : Thread nD τ).loc cc0_stg0_0) ↦{fullShare} xAt m ρ c)

/-- What device `c` holds before step `t` or within it, beside `X`, the result being right in the stretches in `M`. -/
def BaseW (m : (ℓ : Loc nD τ sig) → Buf (Elt F) ℓ) (ρ : Dev nD → PrngReg) (K : Dev nD × Fin 79 → ℕ) (M t : ℕ) (c : Dev nD) (X : sProp 𝕄) : sProp 𝕄 :=
  iprop(records m ρ K ∗ levAts L lv ∗ (∃ W, owes (c : Thread nD τ) (owed t c) W)
    ∗ (bigSep Finset.univ fun e => sndSt t e c) ∗ (bigSep Finset.univ fun e => rcvSt t e c) ∗ (bigSep Finset.univ fun e => roomSt t e c)
    ∗ outSt m ρ M c ∗ xSt m ρ c ∗ X)

/-- What device `c` holds before step `t`, beside `X`. -/
abbrev Base (m : (ℓ : Loc nD τ sig) → Buf (Elt F) ℓ) (ρ : Dev nD → PrngReg) (K : Dev nD × Fin 79 → ℕ) (t : ℕ) (c : Dev nD) (X : sProp 𝕄) : sProp 𝕄 :=
  BaseW m ρ K (written t (py c) (pz c)) t c X

/-- The two tables in their five shares, before step `t`. -/
def Tb (m : (ℓ : Loc nD τ sig) → Buf (Elt F) ℓ) (ρ : Dev nD → PrngReg) (t : ℕ) (c : Dev nD) : sProp 𝕄 :=
  bigSep Finset.univ fun bp : Bool × Fin 5 => tab bp.1 c (shr bp.2.val) (held t bp.1 bp.2.val (py c) (pz c)) (tabAt m ρ bp.1 c)

/-- That with the tables. -/
abbrev Res (m : (ℓ : Loc nD τ sig) → Buf (Elt F) ℓ) (ρ : Dev nD → PrngReg) (K : Dev nD × Fin 79 → ℕ) (t : ℕ) (c : Dev nD) (X : sProp 𝕄) : sProp 𝕄 :=
  Base m ρ K t c iprop(Tb m ρ t c ∗ X)

/-! ## What a step leaves as it was -/

theorem sndSt_same {t : ℕ} {e : Ev} {c : Dev nD} (h : sendC e c = true → tSend e ≠ t ∧ tWait e ≠ t) :
    (sndSt (t + 1) e c : sProp 𝕄) = sndSt t e c := by
  unfold sndSt
  by_cases hs : sendC e c = true
  · rw [if_pos hs, if_pos hs]
    obtain ⟨h1, h2⟩ := h hs
    exact if_congr (by omega) rfl (if_congr (by omega) rfl rfl)
  · rw [if_neg hs, if_neg hs]
theorem rcvSt_same {t : ℕ} {e : Ev} {c : Dev nD} (h : recvC e c = true → tRecv e ≠ t) :
    (rcvSt (t + 1) e c : sProp 𝕄) = rcvSt t e c := by
  unfold rcvSt
  by_cases hs : recvC e c = true
  · rw [if_pos hs, if_pos hs]
    have h1 := h hs
    exact if_congr (by omega) rfl rfl
  · rw [if_neg hs, if_neg hs]
theorem roomSt_same {t : ℕ} {e : Ev} {c : Dev nD} (h9 : t ≠ 9) (h : sendC e c = true → tSend e ≠ t) :
    (roomSt (t + 1) e c : sProp 𝕄) = roomSt t e c := by
  unfold roomSt
  by_cases hs : sendC e c = true
  · have h1 := h hs
    exact if_congr (by constructor <;> (rintro ⟨a, b, c⟩; exact ⟨by omega, by omega, hs⟩)) rfl rfl
  · rw [if_neg (fun h => hs h.2.2), if_neg (fun h => hs h.2.2)]
theorem outSt_same {t : ℕ} {c : Dev nD} (ht : t < 165) (hw : writesAt t = false) : outSt m ρ (written (t + 1) (py c) (pz c)) c = outSt m ρ (written t (py c) (pz c)) c := by
  rw [written_same_fin ⟨t, ht⟩ ⟨py c, py_lt c⟩ ⟨pz c, pz_lt c⟩ hw]

/-- A step at which no transfer is started or awaited. -/
abbrev Still (t : ℕ) : Prop := ∀ e : Ev, tSend e ≠ t ∧ tRecv e ≠ t ∧ tWait e ≠ t

theorem BaseW_still {K : Dev nD × Fin 79 → ℕ} {M t : ℕ} {c : Dev nD} {X : sProp 𝕄} (h5 : 5 ≤ t) (h9 : t ≠ 9) (hs : Still t) :
    BaseW m ρ K M (t + 1) c X = BaseW m ρ K M t c X := by
  unfold BaseW
  rw [← owed_same c h5 fun e => (hs e).1,
    bigSep_congr (s := Finset.univ) (fun (e : Ev) _ => sndSt_same (c := c) fun _ => ⟨(hs e).1, (hs e).2.2⟩),
    bigSep_congr (s := Finset.univ) (fun (e : Ev) _ => rcvSt_same (c := c) fun _ => (hs e).2.1),
    bigSep_congr (s := Finset.univ) (fun (e : Ev) _ => roomSt_same (c := c) h9 fun _ => (hs e).1)]

theorem Base_still {K : Dev nD × Fin 79 → ℕ} {t : ℕ} {c : Dev nD} {X : sProp 𝕄} (h5 : 5 ≤ t) (h9 : t ≠ 9) (ht : t < 165) (hs : Still t)
    (hw : writesAt t = false) : Base m ρ K (t + 1) c X = Base m ρ K t c X := by
  unfold Base
  rw [BaseW_still h5 h9 hs, written_same_fin ⟨t, ht⟩ ⟨py c, py_lt c⟩ ⟨pz c, pz_lt c⟩ hw]

theorem held_still {t : ℕ} {b : Bool} {p y z : ℕ} (hs : Still t) : held (t + 1) b p y z = held t b p y z := by
  unfold held
  rw [avail_succ fun e _ _ _ => (hs e).2.1, away_succ fun e _ _ _ _ => ⟨(hs e).1, (hs e).2.2⟩]

theorem Tb_same {t : ℕ} {c : Dev nD} (h : ∀ b (p : Fin 5), held (t + 1) b p.val (py c) (pz c) = held t b p.val (py c) (pz c)) :
    Tb m ρ (t + 1) c = Tb m ρ t c := by
  unfold Tb
  exact bigSep_congr fun bp _ => by rw [h]

theorem Tb_still {t : ℕ} {c : Dev nD} (hs : Still t) : Tb m ρ (t + 1) c = Tb m ρ t c := Tb_same fun _ _ => held_still hs

/-! ## What a transfer does to the tables -/

theorem share_lt (f : ℕ) : share f < 5 := by
  unfold share
  have := Nat.mod_lt f (show 0 < 2 by decide)
  cases Nat.blt f 4
  · show 2 + f % 2 < 5; omega
  · show f % 2 < 5; omega

theorem sends_of {e : Ev} {c : Dev nD} (he : gath e = true) : sendC e c = sends (flow e) (stepOf e) (py c) (pz c) := by
  unfold sendC; rw [he]; rfl
theorem recvs_of {e : Ev} {c : Dev nD} (he : gath e = true) : recvC e c = recvs (flow e) (stepOf e) (py c) (pz c) := by
  unfold recvC; rw [he]; rfl

theorem held_at_send {e : Ev} {b : Bool} {p y z : ℕ}
    (h : gath e = true → side (flow e) = b → share (flow e) = p → sends (flow e) (stepOf e) y z = true → False) :
    held (tSend e + 1) b p y z = held (tSend e) b p y z := by
  unfold held
  rw [avail_succ fun e' _ _ _ => (tSend_ne_tRecv e e').symm, away_succ fun e' h1 h2 h3 h4 => ⟨fun ht => ?_, (tSend_ne_tWait e e').symm⟩]
  have := tSend_inj _ _ ht; subst this
  exact h h1 h2 h3 h4
theorem held_at_wait {e : Ev} {b : Bool} {p y z : ℕ}
    (h : gath e = true → side (flow e) = b → share (flow e) = p → sends (flow e) (stepOf e) y z = true → False) :
    held (tWait e + 1) b p y z = held (tWait e) b p y z := by
  unfold held
  rw [avail_succ fun e' _ _ _ => (tWait_ne_tRecv e e').symm, away_succ fun e' h1 h2 h3 h4 => ⟨tSend_ne_tWait e' e, fun ht => ?_⟩]
  have := tWait_inj _ _ ht; subst this
  exact h h1 h2 h3 h4
theorem held_at_recv {e : Ev} {b : Bool} {p y z : ℕ}
    (h : gath e = true → side (flow e) = b → recvs (flow e) (stepOf e) y z = true → False) :
    held (tRecv e + 1) b p y z = held (tRecv e) b p y z := by
  unfold held
  rw [avail_succ fun e' h1 h2 h3 ht => ?_, away_succ fun e' _ _ _ _ => ⟨tSend_ne_tRecv e' e, tWait_ne_tRecv e' e⟩]
  have := tRecv_inj _ _ ht; subst this
  exact h h1 h2 h3

/-- Starting a transfer takes its block out of its share of the table; -/
theorem Tb_send {e : Ev} {c : Dev nD} (he : gath e = true) (hs : sendC e c = true) :
    Tb m ρ (tSend e) c ⊢ iprop(sendPay m ρ e c ∗ Tb m ρ (tSend e + 1) c) := by
  have hs' := hs; rw [sends_of he] at hs'
  obtain ⟨h1, h2⟩ := held_send_fin e ⟨py c, py_lt c⟩ ⟨pz c, pz_lt c⟩ he hs'
  unfold Tb sendPay
  rw [if_pos he]
  iintro H
  ihave H := (bigSep_univ_update (Ψ := fun bp : Bool × Fin 5 => (tab bp.1 c (shr bp.2.val) (held (tSend e + 1) bp.1 bp.2.val (py c) (pz c)) (tabAt m ρ bp.1 c) : sProp 𝕄))
    (side (flow e), (⟨share (flow e), share_lt _⟩ : Fin 5)) (fun j hj => by
      rw [held_at_send fun _ hb hp _ => hj (Prod.ext hb.symm (Fin.ext hp.symm))])) $$ H
  icases H with ⟨H, Hk⟩
  ihave H := (tab_or h1 h2).1 $$ H
  icases H with ⟨H1, H2⟩
  isplitl [H1]; · iexact H1
  iapply Hk
  iexact H2
theorem Tb_send_not {e : Ev} {c : Dev nD} (hs : ¬ sendC e c = true) : Tb m ρ (tSend e + 1) c = Tb m ρ (tSend e) c :=
  Tb_same fun b p => held_at_send fun he _ _ h => hs (by rw [sends_of he]; exact h)

/-- its departure puts the block back; -/
theorem Tb_wait {e : Ev} {c : Dev nD} (he : gath e = true) (hs : sendC e c = true) :
    iprop(sendPay m ρ e c ∗ Tb m ρ (tWait e) c) ⊢ Tb m ρ (tWait e + 1) c := by
  have hs' := hs; rw [sends_of he] at hs'
  obtain ⟨h1, h2⟩ := held_wait_fin e ⟨py c, py_lt c⟩ ⟨pz c, pz_lt c⟩ he hs'
  unfold Tb sendPay
  rw [if_pos he]
  iintro ⟨H1, H⟩
  ihave H := (bigSep_univ_update (Ψ := fun bp : Bool × Fin 5 => (tab bp.1 c (shr bp.2.val) (held (tWait e + 1) bp.1 bp.2.val (py c) (pz c)) (tabAt m ρ bp.1 c) : sProp 𝕄))
    (side (flow e), (⟨share (flow e), share_lt _⟩ : Fin 5)) (fun j hj => by
      rw [held_at_wait fun _ hb hp _ => hj (Prod.ext hb.symm (Fin.ext hp.symm))])) $$ H
  icases H with ⟨H2, Hk⟩
  iapply Hk
  iapply (tab_or h1 h2).2
  isplitl [H1]; · iexact H1
  iexact H2
theorem Tb_wait_not {e : Ev} {c : Dev nD} (hs : ¬ sendC e c = true) : Tb m ρ (tWait e + 1) c = Tb m ρ (tWait e) c :=
  Tb_same fun b p => held_at_wait fun he _ _ h => hs (by rw [sends_of he]; exact h)

/-- and an arrival adds a block to all five shares. -/
theorem Tb_recv {e : Ev} {c : Dev nD} (he : gath e = true) (hs : recvC e c = true) :
    iprop(recvPay m ρ e c ∗ Tb m ρ (tRecv e) c) ⊢ Tb m ρ (tRecv e + 1) c := by
  have hs' := hs; rw [recvs_of he] at hs'
  unfold Tb recvPay
  rw [if_pos he, bigSep_univ_prod, bigSep_univ_prod]
  iintro ⟨H1, H⟩
  ihave H1 := tab_shares.1 $$ H1
  ihave H := (bigSep_univ_update (Ψ := fun b : Bool => bigSep Finset.univ fun p : Fin 5 =>
      (tab b c (shr p.val) (held (tRecv e + 1) b p.val (py c) (pz c)) (tabAt m ρ b c) : sProp 𝕄))
    (side (flow e)) (fun b hb => bigSep_congr fun p _ => by
      rw [held_at_recv fun _ h _ => hb h.symm])) $$ H
  icases H with ⟨H2, Hk⟩
  iapply Hk
  iapply ((Entails.of_eq (bigSep_sep' Finset.univ
      (fun p : Fin 5 => (tab (side (flow e)) c (shr p.val) (rMask (flow e) (stepOf e) (py c) (pz c)) (tabAt m ρ (side (flow e)) c) : sProp 𝕄))
      (fun p : Fin 5 => tab (side (flow e)) c (shr p.val) (held (tRecv e) (side (flow e)) p.val (py c) (pz c)) (tabAt m ρ (side (flow e)) c))).symm).trans
    (bigSep_mono fun p _ => by
      obtain ⟨h1, h2⟩ := held_recv_fin e ⟨py c, py_lt c⟩ ⟨pz c, pz_lt c⟩ p he hs'
      exact (tab_or h1 h2).2))
  isplitl [H1]; · iexact H1
  iexact H2
theorem Tb_recv_not {e : Ev} {c : Dev nD} (hs : ¬ recvC e c = true) : Tb m ρ (tRecv e + 1) c = Tb m ρ (tRecv e) c :=
  Tb_same fun b p => held_at_recv fun he _ h => hs (by rw [recvs_of he]; exact h)

end Cert.MeshSum

end
-- ==== Proof.Steps.lean ====
/-
# One step of the program

For each kind of operation — starting a transfer, awaiting its departure or its arrival, reading and writing the two
tables — a lemma taking what a device holds before the step (`State`) to what it holds after it.
-/
module

public import proofs.«01_k».proof.Proof.State

@[expose] public section

noncomputable section

namespace Cert.MeshSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- What has to be shown of the program `p` of device `c`. -/
abbrev Wp (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable {m : (ℓ : Loc nD τ sig) → Buf (Elt F) ℓ} {ρ : Dev nD → PrngReg} {K : Dev nD × Fin 79 → ℕ}

/-! ## The state at a transfer's steps -/

theorem writesAt_tSend (e : Ev) : writesAt (tSend e) = false := by revert e; decide +kernel
theorem writesAt_tRecv (e : Ev) : writesAt (tRecv e) = false := by revert e; decide +kernel
theorem writesAt_tWait (e : Ev) : writesAt (tWait e) = false := by revert e; decide +kernel

theorem ne_tSend {e j : Ev} {c : Dev nD} (hs : ¬ sendC e c = true) (h : sendC j c = true) : tSend j ≠ tSend e := by
  intro h'; rw [tSend_inj _ _ h'] at h; exact hs h
theorem ne_tWait {e j : Ev} {c : Dev nD} (hs : ¬ sendC e c = true) (h : sendC j c = true) : tWait j ≠ tWait e := by
  intro h'; rw [tWait_inj _ _ h'] at h; exact hs h
theorem ne_tRecv {e j : Ev} {c : Dev nD} (hs : ¬ recvC e c = true) (h : recvC j c = true) : tRecv j ≠ tRecv e := by
  intro h'; rw [tRecv_inj _ _ h'] at h; exact hs h

theorem Base_send {e : Ev} {c : Dev nD} {X Y : sProp 𝕄} (hs : sendC e c = true) :
    Base m ρ K (tSend e) c X ⊢ iprop(records m ρ K
      ∗ (∃ W, owes (c : Thread nD τ) (owed (tSend e + 1) c + tallyAt (rcell e (dst e c)) () (amt e)) W)
      ∗ dutyTok ER (scell e c) 0 0 ∗ dutyTok ER (rcell e (dst e c)) 0 0 ∗ room (F := F) e (dst e c) ∗ X
      ∗ (((∃ W, owes (c : Thread nD τ) (owed (tSend e + 1) c) W) ∗ cred (tallyAt (scell e c) () (amt e)) ∗ Y) -∗ Base m ρ K (tSend e + 1) c Y)) := by
  have hge := tSend_ge e
  have hsnd := bigSep_univ_update (Φ := fun j => (sndSt (tSend e) j c : sProp 𝕄)) (Ψ := fun j => (sndSt (tSend e + 1) j c : sProp 𝕄)) e
    (fun j hj => sndSt_same fun _ => ⟨fun h => hj (tSend_inj _ _ h), (tSend_ne_tWait e j).symm⟩)
  have hroom := bigSep_univ_update (Φ := fun j => (roomSt (tSend e) j c : sProp 𝕄)) (Ψ := fun j => (roomSt (tSend e + 1) j c : sProp 𝕄)) e
    (fun j hj => roomSt_same (by omega) fun _ h => hj (tSend_inj _ _ h))
  have hrcv : (bigSep Finset.univ fun j => (rcvSt (tSend e) j c : sProp 𝕄)) = bigSep Finset.univ fun j => rcvSt (tSend e + 1) j c :=
    bigSep_congr fun j _ => (rcvSt_same fun _ => (tSend_ne_tRecv e j).symm).symm
  have hlt : tSend e < 165 := (tSend_lt_tRecv e).trans (tRecv_lt e)
  have e1 : (sndSt (tSend e) e c : sProp 𝕄) = iprop(dutyTok ER (scell e c) 0 0 ∗ dutyTok ER (rcell e (dst e c)) 0 0 ∗ atPos ER (scell e c) 0 ∅ 0) := by
    unfold sndSt; rw [if_pos hs, if_pos le_rfl]
  have e2 : (sndSt (tSend e + 1) e c : sProp 𝕄) = iprop(cred (tallyAt (scell e c) () (amt e)) ∗ atPos ER (scell e c) 0 ∅ 0) := by
    unfold sndSt; rw [if_pos hs, if_neg (by omega), if_pos (Nat.succ_le_of_lt (tSend_lt_tWait e))]
  have e3 : (roomSt (tSend e) e c : sProp 𝕄) = room e (dst e c) := by
    unfold roomSt; exact if_pos ⟨by omega, le_rfl, hs⟩
  have e4 : (roomSt (tSend e + 1) e c : sProp 𝕄) = iprop(emp) := by
    unfold roomSt; exact if_neg (by rintro ⟨-, h, -⟩; omega)
  have ho : owed (tSend e) c = owed (tSend e + 1) c + tallyAt (rcell e (dst e c)) () (amt e) := by rw [owed_send, if_pos hs]
  rw [e1, e2] at hsnd; rw [e3, e4] at hroom
  unfold Base BaseW
  rw [outSt_same hlt (writesAt_tSend e), ho, hrcv]
  iintro ⟨#Hrec, Hlev, Ho, Hs, Hr, Hl, Hout, Hx, X⟩
  ihave Hs := hsnd $$ Hs
  icases Hs with ⟨⟨Hd1, Hd2, Hat⟩, Hsk⟩
  ihave Hl := hroom $$ Hl
  icases Hl with ⟨Hroom, Hlk⟩
  isplitr; · iexact Hrec
  isplitl [Ho]; · iexact Ho
  isplitl [Hd1]; · iexact Hd1
  isplitl [Hd2]; · iexact Hd2
  isplitl [Hroom]; · iexact Hroom
  isplitl [X]; · iexact X
  iintro ⟨Ho, Hc, Y⟩
  isplitr; · iexact Hrec
  isplitl [Hlev]; · iexact Hlev
  isplitl [Ho]; · iexact Ho
  isplitl [Hsk Hc Hat]
  · iapply Hsk; isplitl [Hc]; · iexact Hc
    iexact Hat
  isplitl [Hr]; · iexact Hr
  isplitl [Hlk]; · iapply Hlk; iempintro
  isplitl [Hout]; · iexact Hout
  isplitl [Hx]; · iexact Hx
  iexact Y

theorem Base_wait {e : Ev} {c : Dev nD} {X Y : sProp 𝕄} (hs : sendC e c = true) :
    Base m ρ K (tWait e) c X ⊢ iprop(records m ρ K ∗ levAts L lv ∗ (∃ W, owes (c : Thread nD τ) (owed (tWait e) c) W)
      ∗ cred (tallyAt (scell e c) () (amt e)) ∗ atPos ER (scell e c) 0 ∅ 0 ∗ X
      ∗ (((∃ W, owes (c : Thread nD τ) (owed (tWait e) c) W) ∗ levAts L lv ∗ atPos ER (scell e c) 1 ∅ 0 ∗ Y) -∗ Base m ρ K (tWait e + 1) c Y)) := by
  have hge := tSend_ge e
  have hlt := tSend_lt_tWait e
  have hsnd := bigSep_univ_update (Φ := fun j => (sndSt (tWait e) j c : sProp 𝕄)) (Ψ := fun j => (sndSt (tWait e + 1) j c : sProp 𝕄)) e
    (fun j hj => sndSt_same fun _ => ⟨tSend_ne_tWait j e, fun h => hj (tWait_inj _ _ h)⟩)
  have hroom : (bigSep Finset.univ fun j => (roomSt (tWait e) j c : sProp 𝕄)) = bigSep Finset.univ fun j => roomSt (tWait e + 1) j c :=
    bigSep_congr fun j _ => (roomSt_same (by omega) fun _ => tSend_ne_tWait j e).symm
  have hrcv : (bigSep Finset.univ fun j => (rcvSt (tWait e) j c : sProp 𝕄)) = bigSep Finset.univ fun j => rcvSt (tWait e + 1) j c :=
    bigSep_congr fun j _ => (rcvSt_same fun _ => (tWait_ne_tRecv e j).symm).symm
  have e1 : (sndSt (tWait e) e c : sProp 𝕄) = iprop(cred (tallyAt (scell e c) () (amt e)) ∗ atPos ER (scell e c) 0 ∅ 0) := by
    unfold sndSt; rw [if_pos hs, if_neg (by omega), if_pos le_rfl]
  have e2 : (sndSt (tWait e + 1) e c : sProp 𝕄) = atPos ER (scell e c) 1 ∅ 0 := by
    unfold sndSt; rw [if_pos hs, if_neg (by omega), if_neg (by omega)]
  rw [e1, e2] at hsnd
  unfold Base BaseW
  rw [outSt_same (tWait_lt e) (writesAt_tWait e), ← owed_same c (show 5 ≤ tWait e by omega) fun j => tSend_ne_tWait j e, hrcv, hroom]
  iintro ⟨#Hrec, Hlev, Ho, Hs, Hr, Hl, Hout, Hx, X⟩
  ihave Hs := hsnd $$ Hs
  icases Hs with ⟨⟨Hc, Hat⟩, Hsk⟩
  isplitr; · iexact Hrec
  isplitl [Hlev]; · iexact Hlev
  isplitl [Ho]; · iexact Ho
  isplitl [Hc]; · iexact Hc
  isplitl [Hat]; · iexact Hat
  isplitl [X]; · iexact X
  iintro ⟨Ho, Hlev, Hat, Y⟩
  isplitr; · iexact Hrec
  isplitl [Hlev]; · iexact Hlev
  isplitl [Ho]; · iexact Ho
  isplitl [Hsk Hat]; · iapply Hsk; iexact Hat
  isplitl [Hr]; · iexact Hr
  isplitl [Hl]; · iexact Hl
  isplitl [Hout]; · iexact Hout
  isplitl [Hx]; · iexact Hx
  iexact Y

theorem Base_recv {e : Ev} {c : Dev nD} {X Y : sProp 𝕄} (hs : recvC e c = true) :
    Base m ρ K (tRecv e) c X ⊢ iprop(records m ρ K ∗ levAts L lv ∗ (∃ W, owes (c : Thread nD τ) (owed (tRecv e) c) W)
      ∗ cred (tallyAt (rcell e c) () (amt e)) ∗ atPos ER (rcell e c) 0 ∅ 0 ∗ X
      ∗ (((∃ W, owes (c : Thread nD τ) (owed (tRecv e) c) W) ∗ levAts L lv ∗ atPos ER (rcell e c) 1 ∅ 0 ∗ Y) -∗ Base m ρ K (tRecv e + 1) c Y)) := by
  have hge := tSend_ge e
  have hlt := tSend_lt_tRecv e
  have hrcv := bigSep_univ_update (Φ := fun j => (rcvSt (tRecv e) j c : sProp 𝕄)) (Ψ := fun j => (rcvSt (tRecv e + 1) j c : sProp 𝕄)) e
    (fun j hj => rcvSt_same fun _ h => hj (tRecv_inj _ _ h))
  have hroom : (bigSep Finset.univ fun j => (roomSt (tRecv e) j c : sProp 𝕄)) = bigSep Finset.univ fun j => roomSt (tRecv e + 1) j c :=
    bigSep_congr fun j _ => (roomSt_same (by omega) fun _ => tSend_ne_tRecv j e).symm
  have hsnd : (bigSep Finset.univ fun j => (sndSt (tRecv e) j c : sProp 𝕄)) = bigSep Finset.univ fun j => sndSt (tRecv e + 1) j c :=
    bigSep_congr fun j _ => (sndSt_same fun _ => ⟨tSend_ne_tRecv j e, tWait_ne_tRecv j e⟩).symm
  have e1 : (rcvSt (tRecv e) e c : sProp 𝕄) = iprop(cred (tallyAt (rcell e c) () (amt e)) ∗ atPos ER (rcell e c) 0 ∅ 0) := by
    unfold rcvSt; rw [if_pos hs, if_pos le_rfl]
  have e2 : (rcvSt (tRecv e + 1) e c : sProp 𝕄) = atPos ER (rcell e c) 1 ∅ 0 := by
    unfold rcvSt; rw [if_pos hs, if_neg (by omega)]
  rw [e1, e2] at hrcv
  unfold Base BaseW
  rw [outSt_same (tRecv_lt e) (writesAt_tRecv e), ← owed_same c (show 5 ≤ tRecv e by omega) fun j => tSend_ne_tRecv j e, hsnd, hroom]
  iintro ⟨#Hrec, Hlev, Ho, Hs, Hr, Hl, Hout, Hx, X⟩
  ihave Hr := hrcv $$ Hr
  icases Hr with ⟨⟨Hc, Hat⟩, Hrk⟩
  isplitr; · iexact Hrec
  isplitl [Hlev]; · iexact Hlev
  isplitl [Ho]; · iexact Ho
  isplitl [Hc]; · iexact Hc
  isplitl [Hat]; · iexact Hat
  isplitl [X]; · iexact X
  iintro ⟨Ho, Hlev, Hat, Y⟩
  isplitr; · iexact Hrec
  isplitl [Hlev]; · iexact Hlev
  isplitl [Ho]; · iexact Ho
  isplitl [Hs]; · iexact Hs
  isplitl [Hrk Hat]; · iapply Hrk; iexact Hat
  isplitl [Hl]; · iexact Hl
  isplitl [Hout]; · iexact Hout
  isplitl [Hx]; · iexact Hx
  iexact Y

theorem Base_send_not {e : Ev} {c : Dev nD} {X : sProp 𝕄} (hs : ¬ sendC e c = true) :
    Base m ρ K (tSend e + 1) c X = Base m ρ K (tSend e) c X := by
  have hge := tSend_ge e
  unfold Base BaseW
  rw [show owed (tSend e) c = owed (tSend e + 1) c by rw [owed_send, if_neg hs, add_zero],
    outSt_same ((tSend_lt_tRecv e).trans (tRecv_lt e)) (writesAt_tSend e),
    bigSep_congr (s := Finset.univ) (fun (j : Ev) _ => sndSt_same (c := c) fun h => ⟨ne_tSend hs h, (tSend_ne_tWait e j).symm⟩),
    bigSep_congr (s := Finset.univ) (fun (j : Ev) _ => rcvSt_same (c := c) fun _ => (tSend_ne_tRecv e j).symm),
    bigSep_congr (s := Finset.univ) (fun (j : Ev) _ => roomSt_same (c := c) (show tSend e ≠ 9 by omega) fun h => ne_tSend hs h)]
theorem Base_wait_not {e : Ev} {c : Dev nD} {X : sProp 𝕄} (hs : ¬ sendC e c = true) :
    Base m ρ K (tWait e + 1) c X = Base m ρ K (tWait e) c X := by
  have hge := tSend_ge e
  have hlt := tSend_lt_tWait e
  unfold Base BaseW
  rw [← owed_same c (show 5 ≤ tWait e by omega) fun j => tSend_ne_tWait j e,
    outSt_same (tWait_lt e) (writesAt_tWait e),
    bigSep_congr (s := Finset.univ) (fun (j : Ev) _ => sndSt_same (c := c) fun h => ⟨tSend_ne_tWait j e, ne_tWait hs h⟩),
    bigSep_congr (s := Finset.univ) (fun (j : Ev) _ => rcvSt_same (c := c) fun _ => (tWait_ne_tRecv e j).symm),
    bigSep_congr (s := Finset.univ) (fun (j : Ev) _ => roomSt_same (c := c) (show tWait e ≠ 9 by omega) fun _ => tSend_ne_tWait j e)]
theorem Base_recv_not {e : Ev} {c : Dev nD} {X : sProp 𝕄} (hs : ¬ recvC e c = true) :
    Base m ρ K (tRecv e + 1) c X = Base m ρ K (tRecv e) c X := by
  have hge := tSend_ge e
  have hlt := tSend_lt_tRecv e
  unfold Base BaseW
  rw [← owed_same c (show 5 ≤ tRecv e by omega) fun j => tSend_ne_tRecv j e,
    outSt_same (tRecv_lt e) (writesAt_tRecv e),
    bigSep_congr (s := Finset.univ) (fun (j : Ev) _ => sndSt_same (c := c) fun _ => ⟨tSend_ne_tRecv j e, tWait_ne_tRecv j e⟩),
    bigSep_congr (s := Finset.univ) (fun (j : Ev) _ => rcvSt_same (c := c) fun h => ne_tRecv hs h),
    bigSep_congr (s := Finset.univ) (fun (j : Ev) _ => roomSt_same (c := c) (show tRecv e ≠ 9 by omega) fun _ => tSend_ne_tRecv j e)]

/-! ## The operations -/

/-- Starting transfer `e`: its source is given away and comes back when the departure is awaited; the room at the
    receiver becomes what the receiver gets. -/
theorem op_send {α : Type} {Q : α → sProp 𝕄} (e : Ev) {t : ℕ} (ht : tSend e = t) {c : Dev nD} (hs : sendC e c = true) {X Y : sProp 𝕄}
    {s : Shape} {src dstM : Memref sig .tc .vmem s .bf16} {n : Dev nD} (hn : n = dst e c)
    {sS sR : DmaSem sig} (hS : sS = sSem e) (hR : sR = rSem e) {hsc : dstM.view.ref.isScScratch = false}
    {hsrc : src.view.WordExact} {hdst : dstM.view.WordExact}
    {hsem : DmaTarget.Typed .vmem (.dma sR) (.remote (Dev.tc n : Thread nD τ) dstM (.dma sS) hsc)}
    {k : PUnit → Prog (TpuEff nD τ sig (Elt F) Λ₀ .tc) α} {q : PosShare TreeShare} {fs : Buf (Elt F) (src.view.loc (c : Thread nD τ))}
    (hX : X ⊢ iprop((src.view.loc (c : Thread nD τ) ↦[src.view.set]{q} fs) ∗ Y))
    (hroom : room (F := F) e (dst e c) ⊢ iprop(∃ fd, (dstM.view.loc (dst e c : Thread nD τ) ↦[dstM.view.set]{fullShare} fd)))
    (hback : (src.view.loc (c : Thread nD τ) ↦[src.view.set]{q} fs) ⊢ sendPay m ρ e c)
    (hland : ∀ fd, (dstM.view.loc (dst e c : Thread nD τ) ↦[dstM.view.set]{fullShare} (dstM.view.write (Elt F) fd (src.view.read (Elt F) fs) Finset.univ))
      ⊢ recvPay m ρ e (dst e c))
    (hN : dstM.view.amount (.dma sR) = amt e)
    (hJ : Base m ρ K (t + 1) c Y ⊢ Wp c (k ⟨⟩) Q) :
    Base m ρ K t c X ⊢ Wp c (.op (.enqueueDma src (.remote (Dev.tc n : Thread nD τ) dstM (.dma sS) hsc) (.dma sR) hsrc hdst hsem) k) Q := by
  subst hn hS hR ht
  have hr : recvC e (dst e c) = true := (recvC_dst e c).trans hs
  iintro H
  ihave H := (Base_send (Y := Y) hs) $$ H
  icases H with ⟨#Hrec, ⟨%W, Ho⟩, Hd1, Hd2, Hroom, X, Hk⟩
  ihave X := hX $$ X
  icases X with ⟨Hsrc, HY⟩
  ihave Hroom := hroom $$ Hroom
  icases Hroom with ⟨%fd, Hdst⟩
  iapply (Rounds.wp_send_pointsTo 𝒱₀ ER (Rd m ρ) (c : Thread nD τ) none (c' := (Dev.tc (dst e c) : Thread nD τ)) (κ₁ := K (c, kS e)) (κ₂ := K (dst e c, kR e))
    (r₁ := 0) (r₂ := 0) (d₁ := 0) (d₂ := 0) (fs := fs) (fd := fd) (q := q)
    (by rw [duties_s, if_pos hs]; exact Finset.mem_singleton_self _) (by rw [duties_r, if_pos hr]; exact Finset.mem_singleton_self _)
    () () (amt e) hN (amount_s m ρ e c 0) (amount_r m ρ e (dst e c) 0) (owed (tSend e + 1) c) rfl (W := W)
    (by rw [payload_s]; exact hback) (by rw [payload_r]; exact hland fd)) $$ [Ho Hd1 Hd2 Hsrc Hdst]
  · isplitr; · iapply (inv_s e c); iexact Hrec
    isplitr; · iapply (inv_r e (dst e c)); iexact Hrec
    isplitl [Hsrc]; · iexact Hsrc
    isplitl [Hdst]; · iexact Hdst
    isplitl [Ho]; · iexact Ho
    isplitl [Hd1]; · iexact Hd1
    isplitr; · iapply (reached_s e c); iexact Hrec
    isplitl [Hd2]; · iexact Hd2
    iapply (reached_r e (dst e c)); iexact Hrec
  iintro ⟨Hc, Ho⟩
  iapply hJ
  iapply Hk
  isplitl [Ho]; · iexists W; iexact Ho
  isplitl [Hc]; · iexact Hc
  iexact HY

/-- Awaiting the departure of transfer `e`: its source comes back. -/
theorem op_wait {α : Type} {Q : α → sProp 𝕄} (e : Ev) {t : ℕ} (ht : tWait e = t) {c : Dev nD} (hs : sendC e c = true) {X : sProp 𝕄}
    {sp sp' : Space} {s s' : Shape} {el el' : EltTy} {src : Memref sig .tc sp s el} {dstM : Memref sig .tc sp' s' el'} {sem : DmaSem sig} (hS : sem = sSem e)
    {h1 h2} {k : PUnit → Prog (TpuEff nD τ sig (Elt F) Λ₀ .tc) α}
    (hN : dstM.view.dmaCredit = amt e)
    (hJ : Base m ρ K (t + 1) c iprop(sendPay m ρ e c ∗ X) ⊢ Wp c (k ⟨⟩) Q) :
    Base m ρ K t c X ⊢ Wp c (.op (.waitDma2 sem src dstM h1 h2) k) Q := by
  subst hS ht
  iintro H
  ihave H := (Base_wait (Y := iprop(sendPay m ρ e c ∗ X)) hs) $$ H
  icases H with ⟨#Hrec, #Hlev, ⟨%W, Ho⟩, Hc, Hat, X, Hk⟩
  iapply (Rounds.wp_wait_rest_token 𝒱₀ ER (Rd m ρ) (c : Thread nD τ) none (κ := K (c, kS e))
      (wpE_waitDma2_eq 𝒱₀ (c : Thread nD τ) none Set.univ) (Set.mem_univ _) () (O := owed (tWait e) c) (W := W) (R := 0) (m := 0) (T := ∅)
      (by rw [Nat.zero_add, expect_s m ρ e c hs]; exact hN)) $$ [Hc Ho Hat]
  · isplitr; · iapply (inv_s e c); iexact Hrec
    isplitl [Hc]; · rw [hN]; iexact Hc
    isplitl [Ho]; · iexact Ho
    isplitr
    · iapply (mayWait_of c (.dma (sSem e)) 0 (le_of_eq (lv_s e c)) (fun _ => by decide) (fun j _ => by have := tSend_ge j; omega)); iexact Hlev
    iexact Hat
  iintro ⟨Ho, Hat, -, Hpay⟩
  ihave Hpay := (Entails.of_eq (rest_s m ρ e c hs)) $$ Hpay
  iapply hJ
  iapply Hk
  isplitl [Ho]; · iexists (insert (SemLoc.dma (sSem e), ()) W); iexact Ho
  isplitr; · iexact Hlev
  isplitl [Hat]; · iexact Hat
  isplitl [Hpay]; · iexact Hpay
  iexact X

/-- Awaiting the arrival of transfer `e`: what it brought is the device's. -/
theorem op_recv {α : Type} {Q : α → sProp 𝕄} (e : Ev) {t : ℕ} (ht : tRecv e = t) {c : Dev nD} (hs : recvC e c = true) {X : sProp 𝕄}
    {sp sp' : Space} {s s' : Shape} {el el' : EltTy} {src : Memref sig .tc sp s el} {dstM : Memref sig .tc sp' s' el'} {sem : DmaSem sig} (hS : sem = rSem e)
    {h1 h2} {k : PUnit → Prog (TpuEff nD τ sig (Elt F) Λ₀ .tc) α}
    (hN : dstM.view.dmaCredit = amt e)
    (hJ : Base m ρ K (t + 1) c iprop(recvPay m ρ e c ∗ X) ⊢ Wp c (k ⟨⟩) Q) :
    Base m ρ K t c X ⊢ Wp c (.op (.waitDma2 sem src dstM h1 h2) k) Q := by
  subst hS ht
  iintro H
  ihave H := (Base_recv (Y := iprop(recvPay m ρ e c ∗ X)) hs) $$ H
  icases H with ⟨#Hrec, #Hlev, ⟨%W, Ho⟩, Hc, Hat, X, Hk⟩
  iapply (Rounds.wp_wait_rest_token 𝒱₀ ER (Rd m ρ) (c : Thread nD τ) none (κ := K (c, kR e))
      (wpE_waitDma2_eq 𝒱₀ (c : Thread nD τ) none Set.univ) (Set.mem_univ _) () (O := owed (tRecv e) c) (W := W) (R := 0) (m := 0) (T := ∅)
      (by rw [Nat.zero_add, expect_r m ρ e c hs]; exact hN)) $$ [Hc Ho Hat]
  · isplitr; · iapply (inv_r e c); iexact Hrec
    isplitl [Hc]; · rw [hN]; iexact Hc
    isplitl [Ho]; · iexact Ho
    isplitr
    · have := tSend_ge e
      have := tSend_lt_tRecv e
      iapply (mayWait_of c (.dma (rSem e)) (tSend e) (le_of_eq (lv_r e c)) (fun _ => by omega) (fun j _ => by omega)); iexact Hlev
    iexact Hat
  iintro ⟨Ho, Hat, -, Hpay⟩
  ihave Hpay := (Entails.of_eq (rest_r m ρ e c hs)) $$ Hpay
  iapply hJ
  iapply Hk
  isplitl [Ho]; · iexists (insert (SemLoc.dma (rSem e), ()) W); iexact Ho
  isplitr; · iexact Hlev
  isplitl [Hat]; · iexact Hat
  isplitl [Hpay]; · iexact Hpay
  iexact X

end Cert.MeshSum

end
-- ==== Proof.Gather.lean ====
/-
# The gathers' steps

The transfers of tiles, each under its condition, and the operations that read tiles and write the result.
-/
module

public import proofs.«01_k».proof.Proof.Steps

@[expose] public section

noncomputable section

namespace Cert.MeshSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {ρ : Dev nD → PrngReg} {K : Dev nD × Fin 79 → ℕ}

/-! ## Transfers of tiles -/

abbrev sRow (e : Ev) (c : Dev nD) : ℕ := blkRow (flow e) (sChunk (flow e) (stepOf e) (py c) (pz c)) (py c) (pz c)
abbrev sCol (e : Ev) (c : Dev nD) : ℕ := blkCol (flow e) (sChunk (flow e) (stepOf e) (py c) (pz c))

theorem sBlk_ok : ∀ (e : Ev) (c : Dev nD), gath e = true → sendC e c = true → sRow e c < 4 ∧ sCol e c + blkLen (flow e) ≤ 4 := by decide +kernel

theorem amt_gath {e : Ev} {n : ℕ} (he : gath e = true) (hn : blkLen (flow e) = n) : amt e = blkAmt n := by
  unfold amt; rw [if_pos he, hn]

/-- Starting a transfer of tiles, if it takes place. -/
theorem step_send {α : Type} {Q : α → sProp 𝕄} (e : Ev) {t : ℕ} (ht : tSend e = t) (he : gath e = true) (b : Bool) (hb : side (flow e) = b)
    (n : ℕ) (hn : blkLen (flow e) = n) {c : Dev nD} {X : sProp 𝕄} {p : Prop} [Decidable p] (hp : p ↔ sendC e c = true)
    {off : Fin 4 → ℕ} {inb : p → ∀ i, off i + (blkS n).size i ≤ S4x4x80x1024.size i} {hs : ∀ h : p, ∀ a, (Rect.unit (s := S4x4x80x1024) off (blkS n).size (inb h)).stride a = 1}
    (hoff : sendC e c = true → off = ![sRow e c, sCol e c, 0, 0])
    {dev : p → Dev nD} (hdev : ∀ h, dev h = dst e c) {sS sR : DmaSem sig} (hS : sS = sSem e) (hR : sR = rSem e)
    {hsc : ∀ h : p, ((tabM b).slice (Rect.unit (s := S4x4x80x1024) off (blkS n).size (inb h)) (hs h)).view.ref.isScScratch = false}
    {hsrc hdst : ∀ h : p, ((tabM b).slice (Rect.unit (s := S4x4x80x1024) off (blkS n).size (inb h)) (hs h)).view.WordExact}
    {hsem : ∀ h : p, DmaTarget.Typed .vmem (.dma sR) (.remote (Dev.tc (dev h) : Thread nD τ)
      ((tabM b).slice (Rect.unit (s := S4x4x80x1024) off (blkS n).size (inb h)) (hs h)) (.dma sS) (hsc h))}
    {J : Prog (TpuEff nD τ sig (Elt F) Λ₀ .tc) α}
    (hJ : Res m ρ K (t + 1) c X ⊢ Wp c J Q) :
    Res m ρ K t c X ⊢ Wp c (if h : p then .op (.enqueueDma ((tabM b).slice (Rect.unit (s := S4x4x80x1024) off (blkS n).size (inb h)) (hs h))
        (.remote (Dev.tc (dev h) : Thread nD τ) ((tabM b).slice (Rect.unit (s := S4x4x80x1024) off (blkS n).size (inb h)) (hs h)) (.dma sS) (hsc h))
        (.dma sR) (hsrc h) (hdst h) (hsem h)) (fun _ => J) else J) Q := by
  subst ht
  by_cases h : p
  · have hc := hp.mp h
    rw [dif_pos h]
    obtain ⟨hx, hy⟩ := sBlk_ok e c he hc
    have hn0 : 0 < n := hn ▸ blkLen_pos _
    rw [hn] at hy
    have hmask : sMask (flow e) (stepOf e) (py c) (pz c) = bits (sRow e c) (sCol e c) n := by unfold sMask; rw [hn]
    have hsp : sendPay m ρ e c = tab b c (shr (share (flow e))) (bits (sRow e c) (sCol e c) n) (tabAt m ρ b c) := by
      unfold sendPay; rw [if_pos he, hb, hmask]
    have hT := Tb_send (m := m) (ρ := ρ) he hc
    rw [hsp] at hT
    refine op_send e rfl hc (hdev h) hS hR (q := shr (share (flow e))) (fs := bufOf b c (tabAt m ρ b c))
      (Y := iprop(Tb m ρ (tSend e + 1) c ∗ X)) ?_ ?_ ?_ ?_ ?_ hJ
    · rw [tab_view (hoff hc) hx hy hn0]
      iintro ⟨HT, HX⟩
      ihave HT := hT $$ HT
      icases HT with ⟨H1, HT⟩
      isplitl [H1]; · iexact H1
      isplitl [HT]; · iexact HT
      iexact HX
    · unfold room
      rw [if_pos he, rMask_dst e c he hc, hmask, hb]
      iintro ⟨%fd, H⟩
      iexists (bufOf b (dst e c) fd)
      rw [tab_view (hoff hc) hx hy hn0]
      iexact H
    · rw [tab_view (hoff hc) hx hy hn0, hsp]
    · intro fd
      have hfd : ∃ g : Tab F, fd = bufOf b (dst e c) g := by cases b <;> exact ⟨fd, rfl⟩
      obtain ⟨g, rfl⟩ := hfd
      rw [tab_landed (hoff hc) hx hy hn0]
      unfold recvPay
      rw [if_pos he, rMask_dst e c he hc, hmask, hb, tabAt_congr m ρ (px_dst e c he)]
    · rw [amt_gath he hn]
      cases b <;> rfl
  · have hc : ¬ sendC e c = true := fun h' => h (hp.mpr h')
    rw [dif_neg h]
    have e1 : Res m ρ K (tSend e) c X = Res m ρ K (tSend e + 1) c X := by
      unfold Res; rw [Tb_send_not hc, Base_send_not hc]
    rw [e1]; exact hJ

/-- Awaiting the departure of a transfer of tiles, if it takes place; -/
theorem step_wait {α : Type} {Q : α → sProp 𝕄} (e : Ev) {t : ℕ} (ht : tWait e = t) (he : gath e = true)
    {c : Dev nD} {X : sProp 𝕄} {p : Prop} [Decidable p] (hp : p ↔ sendC e c = true)
    {sp sp' : Space} {s s' : Shape} {el el' : EltTy} {src : p → Memref sig .tc sp s el} {dstM : p → Memref sig .tc sp' s' el'} {sem : DmaSem sig} (hS : sem = sSem e)
    {h1 : ∀ h, (src h).view.WordExact} {h2 : ∀ h, (dstM h).view.WordExact} {J : Prog (TpuEff nD τ sig (Elt F) Λ₀ .tc) α}
    (hN : ∀ h, (dstM h).view.dmaCredit = amt e)
    (hJ : Res m ρ K (t + 1) c X ⊢ Wp c J Q) :
    Res m ρ K t c X ⊢ Wp c (if h : p then .op (.waitDma2 sem (src h) (dstM h) (h1 h) (h2 h)) (fun _ => J) else J) Q := by
  subst ht
  by_cases h : p
  · have hc := hp.mp h
    rw [dif_pos h]
    refine op_wait e rfl hc hS (hN h) (BIBase.Entails.trans ?_ hJ)
    unfold Res Base BaseW
    iintro ⟨H1, H2, H3, H4, H5, H6, H7, H8, ⟨Hp, HT, HX⟩⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [Hp HT]
    · iapply (Tb_wait he hc)
      isplitl [Hp]; · iexact Hp
      iexact HT
    iexact HX
  · have hc : ¬ sendC e c = true := fun h' => h (hp.mpr h')
    rw [dif_neg h]
    have e1 : Res m ρ K (tWait e) c X = Res m ρ K (tWait e + 1) c X := by
      unfold Res; rw [Tb_wait_not hc, Base_wait_not hc]
    rw [e1]; exact hJ

/-- and its arrival. -/
theorem step_recv {α : Type} {Q : α → sProp 𝕄} (e : Ev) {t : ℕ} (ht : tRecv e = t) (he : gath e = true)
    {c : Dev nD} {X : sProp 𝕄} {p : Prop} [Decidable p] (hp : p ↔ recvC e c = true)
    {sp sp' : Space} {s s' : Shape} {el el' : EltTy} {src : p → Memref sig .tc sp s el} {dstM : p → Memref sig .tc sp' s' el'} {sem : DmaSem sig} (hS : sem = rSem e)
    {h1 : ∀ h, (src h).view.WordExact} {h2 : ∀ h, (dstM h).view.WordExact} {J : Prog (TpuEff nD τ sig (Elt F) Λ₀ .tc) α}
    (hN : ∀ h, (dstM h).view.dmaCredit = amt e)
    (hJ : Res m ρ K (t + 1) c X ⊢ Wp c J Q) :
    Res m ρ K t c X ⊢ Wp c (if h : p then .op (.waitDma2 sem (src h) (dstM h) (h1 h) (h2 h)) (fun _ => J) else J) Q := by
  subst ht
  by_cases h : p
  · have hc := hp.mp h
    rw [dif_pos h]
    refine op_recv e rfl hc hS (hN h) (BIBase.Entails.trans ?_ hJ)
    unfold Res Base BaseW
    iintro ⟨H1, H2, H3, H4, H5, H6, H7, H8, ⟨Hp, HT, HX⟩⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [Hp HT]
    · iapply (Tb_recv he hc)
      isplitl [Hp]; · iexact Hp
      iexact HT
    iexact HX
  · have hc : ¬ recvC e c = true := fun h' => h (hp.mpr h')
    rw [dif_neg h]
    have e1 : Res m ρ K (tRecv e) c X = Res m ρ K (tRecv e + 1) c X := by
      unfold Res; rw [Tb_recv_not hc, Base_recv_not hc]
    rw [e1]; exact hJ

/-! ## Reading tiles, writing the result -/

/-- Reading a tile all of which is in hand. -/
theorem op_tile {α : Type} {Q : α → sProp 𝕄} (b : Bool) (a j : ℕ) {M t : ℕ} {c : Dev nD} {X : sProp 𝕄} (ha : a < 4) (hj : j < 4)
    (hM : bits a j 1 &&& held t b 4 (py c) (pz c) = bits a j 1)
    {off : Fin 4 → ℕ} (hoff : off = ![a, j, 0, 0]) {inb : ∀ i, off i + S1x1x80x1024.size i ≤ S4x4x80x1024.size i}
    {hl : (tabM b).view.LoadsAt (Rect.unit (s := S4x4x80x1024) off S1x1x80x1024.size inb).toLoadRect}
    {k : Vec F S1x1x80x1024 .bf16 → Prog (TpuEff nD τ sig (Elt F) Λ₀ .tc) α}
    (hJ : BaseW m ρ K M t c iprop(Tb m ρ t c ∗ X) ⊢ Wp c (k (tileAt m ρ b c a j)) Q) :
    BaseW m ρ K M t c iprop(Tb m ρ t c ∗ X)
      ⊢ Wp c (.op (.load (tabM b) (Rect.unit (s := S4x4x80x1024) off S1x1x80x1024.size inb).toLoadRect hl) k) Q := by
  have hset : (Rect.unit (s := S4x4x80x1024) off S1x1x80x1024.size inb).set ⊆ tiles (held t b 4 (py c) (pz c)) := by
    have h1 : (Rect.unit (s := S4x4x80x1024) off S1x1x80x1024.size inb).set = tiles (bits a j 1) := rect_set (n := 1) (inb := inb) hoff ha (by omega) Nat.one_pos
    rw [h1]; exact tiles_subset hM
  have hread : ∀ G : Tab F, (fun x => G ((Rect.unit (s := S4x4x80x1024) off S1x1x80x1024.size inb).toLoadRect.idx x)) = fun x : S1x1x80x1024.Idx => G (atTile a j x) := by
    intro G; subst hoff; funext x; congr 1; funext k; apply Fin.ext
    rw [Rect.idx_unit_val]
    match k with
    | ⟨0, _⟩ =>
      have h0 : (x 0).val < 1 := (x 0).isLt
      show a + (x 0).val = a % 4
      rw [Nat.mod_eq_of_lt ha]; omega
    | ⟨1, _⟩ =>
      have h0 : (x 1).val < 1 := (x 1).isLt
      show j + (x 1).val = j % 4
      rw [Nat.mod_eq_of_lt hj]; omega
    | ⟨2, _⟩ => exact Nat.zero_add _
    | ⟨3, _⟩ => exact Nat.zero_add _
  refine BIBase.Entails.trans ?_ (show iprop((BaseW m ρ K M t c iprop(Tb m ρ t c ∗ X) -∗ Wp c (k (tileAt m ρ b c a j)) Q)
    ∗ BaseW m ρ K M t c iprop(Tb m ρ t c ∗ X)) ⊢ _ from ?_)
  · iintro H; isplitr; · iintro H; iapply hJ; iexact H
    iexact H
  unfold BaseW Tb
  iintro ⟨Hk, H1, H2, H3, H4, H5, H6, H7, H8, ⟨HT, HX⟩⟩
  ihave HT := (bigSep_univ_update (Φ := fun bp : Bool × Fin 5 => (tab bp.1 c (shr bp.2.val) (held t bp.1 bp.2.val (py c) (pz c)) (tabAt m ρ bp.1 c) : sProp 𝕄))
    (Ψ := fun bp : Bool × Fin 5 => (tab bp.1 c (shr bp.2.val) (held t bp.1 bp.2.val (py c) (pz c)) (tabAt m ρ bp.1 c) : sProp 𝕄)) (b, (4 : Fin 5)) (fun _ _ => rfl)) $$ HT
  icases HT with ⟨Ht, HTk⟩
  have key : iprop(tab b c (shr 4) (held t b 4 (py c) (pz c)) (tabAt m ρ b c)
      ∗ (tab b c (shr 4) (held t b 4 (py c) (pz c)) (tabAt m ρ b c) -∗ Wp c (k (tileAt m ρ b c a j)) Q))
      ⊢ Wp c (.op (.load (tabM b) (Rect.unit (s := S4x4x80x1024) off S1x1x80x1024.size inb).toLoadRect hl) k) Q := by
    cases b
    · unfold tab; simp only
      iintro ⟨Ht, Hw⟩
      iapply (wp_load 𝒱₀ (c : Thread nD τ) none Set.univ (m := (tabM false))
        (show (View.whole cc0_scratch4).setOn (Rect.unit (s := S4x4x80x1024) off S1x1x80x1024.size inb).set ⊆ _ from by
          unfold View.setOn; rw [View.emb_whole, Finset.map_refl]; exact hset)) $$ Ht
      iintro Ht
      ihave Hw := Hw $$ Ht
      have h : (tabM false).view.readAt (Elt F) (Rect.unit (s := S4x4x80x1024) off S1x1x80x1024.size inb).toLoadRect (tabAt m ρ false c) = tileAt m ρ false c a j :=
        hread (tabAt m ρ false c)
      rw [h]; iexact Hw
    · unfold tab; simp only
      iintro ⟨Ht, Hw⟩
      iapply (wp_load 𝒱₀ (c : Thread nD τ) none Set.univ (m := (tabM true))
        (show (View.whole cc0_scratch5).setOn (Rect.unit (s := S4x4x80x1024) off S1x1x80x1024.size inb).set ⊆ _ from by
          unfold View.setOn; rw [View.emb_whole, Finset.map_refl]; exact hset)) $$ Ht
      iintro Ht
      ihave Hw := Hw $$ Ht
      have h : (tabM true).view.readAt (Elt F) (Rect.unit (s := S4x4x80x1024) off S1x1x80x1024.size inb).toLoadRect (tabAt m ρ true c) = tileAt m ρ true c a j :=
        hread (tabAt m ρ true c)
      rw [h]; iexact Hw
  iapply key
  isplitl [Ht]; · iexact Ht
  iintro Ht
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitr [HX]
  · iapply HTk; iexact Ht
  iexact HX

/-- Reading from the result, whatever it holds. -/
theorem op_peek {α : Type} {Q : α → sProp 𝕄} {M t : ℕ} {c : Dev nD} {X : sProp 𝕄} {r : LoadRect S4096x1024} {hl : oM.view.LoadsAt r}
    {k : (r.shape.Idx → Elt F .f32) → Prog (TpuEff nD τ sig (Elt F) Λ₀ .tc) α}
    (hJ : ∀ v, BaseW m ρ K M t c X ⊢ Wp c (k v) Q) :
    BaseW m ρ K M t c X ⊢ Wp c (.op (.load oM r hl) k) Q := by
  refine BIBase.Entails.trans ?_ (show iprop((∀ v, BaseW m ρ K M t c X -∗ Wp c (k v) Q)
    ∗ BaseW m ρ K M t c X) ⊢ _ from ?_)
  · iintro H; isplitr; · iintro %v H; iapply (hJ v); iexact H
    iexact H
  unfold BaseW outSt
  iintro ⟨Hk, H1, H2, H3, H4, H5, H6, ⟨%f, %hf, H7⟩, H8, HX⟩
  iapply (wp_load 𝒱₀ (c : Thread nD τ) none Set.univ (m := oM) (Finset.subset_univ _)) $$ H7; iintro H7
  iapply Hk
  isplitl [H1]; · iexact H1
  isplitl [H2]; · iexact H2
  isplitl [H3]; · iexact H3
  isplitl [H4]; · iexact H4
  isplitl [H5]; · iexact H5
  isplitl [H6]; · iexact H6
  isplitl [H7]
  · iexists f
    isplitr; · ipureintro; exact hf
    iexact H7
  isplitl [H8]; · iexact H8
  iexact HX

/-- Reading from the argument. -/
theorem op_arg {α : Type} {Q : α → sProp 𝕄} {M t : ℕ} {c : Dev nD} {X : sProp 𝕄} {r : LoadRect S4096x1024} {hl : xM.view.LoadsAt r}
    {k : (r.shape.Idx → Elt F .f32) → Prog (TpuEff nD τ sig (Elt F) Λ₀ .tc) α}
    (hJ : BaseW m ρ K M t c X ⊢ Wp c (k (xM.view.readAt (Elt F) r (xAt m ρ c))) Q) :
    BaseW m ρ K M t c X ⊢ Wp c (.op (.load xM r hl) k) Q := by
  refine BIBase.Entails.trans ?_ (show iprop((BaseW m ρ K M t c X -∗ Wp c (k (xM.view.readAt (Elt F) r (xAt m ρ c))) Q)
    ∗ BaseW m ρ K M t c X) ⊢ _ from ?_)
  · iintro H; isplitr; · iintro H; iapply hJ; iexact H
    iexact H
  unfold BaseW xSt
  iintro ⟨Hk, H1, H2, H3, H4, H5, H6, H7, H8, HX⟩
  iapply (wp_load 𝒱₀ (c : Thread nD τ) none Set.univ (m := xM) (Finset.subset_univ _)) $$ H8; iintro H8
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact HX

/-- Writing to the result what belongs there: one more stretch is right. -/
theorem op_write {α : Type} {Q : α → sProp 𝕄} (s : ℕ) {M t : ℕ} {c : Dev nD} {X : sProp 𝕄} {r : Rect S4096x1024} {w : r.shape.Idx → Elt F .f32}
    (hw : ∀ x, w x = resAt m ρ c (r.emb x)) (hs : ∀ i : S4096x1024.Idx, stretch (i 0).val = s → i ∈ r.set)
    {hx : (oM.access r).Stores Finset.univ} {hm} {k : PUnit → Prog (TpuEff nD τ sig (Elt F) Λ₀ .tc) α}
    (hJ : BaseW m ρ K (M ||| 2 ^ s) t c X ⊢ Wp c (k ⟨⟩) Q) :
    BaseW m ρ K M t c X ⊢ Wp c (.op (.store oM r w Finset.univ hx hm) k) Q := by
  refine BIBase.Entails.trans ?_ (show iprop((BaseW m ρ K (M ||| 2 ^ s) t c X -∗ Wp c (k ⟨⟩) Q)
    ∗ BaseW m ρ K M t c X) ⊢ _ from ?_)
  · iintro H; isplitr; · iintro H; iapply hJ; iexact H
    iexact H
  unfold BaseW outSt
  iintro ⟨Hk, H1, H2, H3, H4, H5, H6, ⟨%f, %hf, H7⟩, H8, HX⟩
  iapply (wp_store 𝒱₀ (c : Thread nD τ) none Set.univ (m := oM) (r := r) (Mk := Finset.univ) (Finset.subset_univ _)) $$ H7; iintro H7
  iapply Hk
  isplitl [H1]; · iexact H1
  isplitl [H2]; · iexact H2
  isplitl [H3]; · iexact H3
  isplitl [H4]; · iexact H4
  isplitl [H5]; · iexact H5
  isplitl [H6]; · iexact H6
  isplitl [H7]
  · iexists ((oM.access r).write (Elt F) f w Finset.univ)
    isplitr
    · ipureintro
      intro i hi
      by_cases hmem : i ∈ r.set
      · obtain ⟨x, -, rfl⟩ := Finset.mem_map.mp ((Rect.map_emb_univ r).symm ▸ hmem)
        exact (View.write_emb_of_mem (Val := Elt F) (v := oM.access r) f w (Finset.mem_univ x)).trans (hw x)
      · have h1 := View.write_of_not_mem (Val := Elt F) (v := oM.access r) f w Finset.univ (i := i) (by
          rw [View.setOn_univ]
          show i ∉ ((View.whole cc0_stg1_0).slice r).set
          rw [View.set_slice_whole]; exact hmem)
        refine h1.trans (hf i ?_)
        rw [Nat.testBit_or, Nat.testBit_two_pow] at hi
        have h2 : ¬ s = stretch (i 0).val := fun h => hmem (hs i h.symm)
        simpa [h2] using hi
    iexact H7
  isplitl [H8]; · iexact H8
  iexact HX

/-- The rows of the result that a tile makes. -/
theorem tile_right (m : (ℓ : Loc nD τ sig) → Buf (Elt F) ℓ) (ρ : Dev nD → PrngReg) (b : Bool) (c : Dev nD) {a j : ℕ} (ha : a < 4) (hj : j < 4)
    {off : Fin 2 → ℕ} (hoff : off = ![1536 + 80 * (tileStretch b a j - 2), 0])
    {inb : ∀ i, off i + S80x1024.size i ≤ S4096x1024.size i} (x : S80x1024.Idx) :
    k0_pay7 (tileAt m ρ b c a j) x = resAt m ρ c ((Rect.unit (s := S4096x1024) off S80x1024.size inb).emb x) := by
  subst hoff
  obtain ⟨e1, e2, e3⟩ := stretch_tile_fin b ⟨a, ha⟩ ⟨j, hj⟩
  have hs2 : 2 ≤ tileStretch b a j := by unfold tileStretch; omega
  generalize hs : tileStretch b a j = s at *
  have hx0 : (x 0).val < 80 := (x 0).isLt
  have h0 : ((Rect.unit (s := S4096x1024) ![1536 + 80 * (s - 2), 0] S80x1024.size inb).emb x 0).val = 1536 + 80 * (s - 2) + (x 0).val :=
    ValueKit.rect_emb_unit_val (s := S4096x1024) _ _ inb x 0
  have h1 : ((Rect.unit (s := S4096x1024) ![1536 + 80 * (s - 2), 0] S80x1024.size inb).emb x 1).val = (x 1).val :=
    (ValueKit.rect_emb_unit_val (s := S4096x1024) _ _ inb x 1).trans (Nat.zero_add _)
  unfold resAt
  dsimp only
  rw [if_neg (by rw [h0]; omega), if_neg (by rw [h0]; omega)]
  have hst : stretch ((Rect.unit (s := S4096x1024) ![1536 + 80 * (s - 2), 0] S80x1024.size inb).emb x 0).val = s := by
    unfold stretch; rw [h0, if_neg (by omega), if_neg (by omega)]; omega
  rw [hst, e1, e2, e3]
  congr 1
  funext k; apply Fin.ext
  match k with
  | ⟨0, _⟩ =>
    show (x 0).val = (((Rect.unit (s := S4096x1024) ![1536 + 80 * (s - 2), 0] S80x1024.size inb).emb x 0).val - 1536) % 80
    rw [h0]; omega
  | ⟨1, _⟩ => exact h1.symm

theorem tile_rows {s : ℕ} (hs2 : 2 ≤ s) {off : Fin 2 → ℕ} (hoff : off = ![1536 + 80 * (s - 2), 0])
    {inb : ∀ i, off i + S80x1024.size i ≤ S4096x1024.size i} (i : S4096x1024.Idx) (h : stretch (i 0).val = s) :
    i ∈ (Rect.unit (s := S4096x1024) off S80x1024.size inb).set := by
  subst hoff
  rw [Rect.mem_set_unit, Fin.forall_fin_succ, Fin.forall_fin_succ]
  have h1 : (i 1).val < 1024 := (i 1).isLt
  unfold stretch at h
  refine ⟨⟨show 1536 + 80 * (s - 2) ≤ (i 0).val from ?_, show (i 0).val < 1536 + 80 * (s - 2) + 80 from ?_⟩,
    ⟨Nat.zero_le _, show (i 1).val < 0 + 1024 by omega⟩, fun k => k.elim0⟩ <;> split_ifs at h <;> omega

/-- Writing a tile's rows to the result, after a look at what was there. -/
theorem op_put {α : Type} {Q : α → sProp 𝕄} (b : Bool) (a j : ℕ) {M t : ℕ} {c : Dev nD} {X : sProp 𝕄} (ha : a < 4) (hj : j < 4)
    {off : Fin 2 → ℕ} (hoff : off = ![1536 + 80 * (tileStretch b a j - 2), 0]) {inb inb' : ∀ i, off i + S80x1024.size i ≤ S4096x1024.size i}
    {w : FVec F S80x1024 .f32} (hw : w = k0_pay7 (tileAt m ρ b c a j))
    {hl : oM.view.LoadsAt (Rect.unit (s := S4096x1024) off S80x1024.size inb').toLoadRect}
    {hx : (oM.access (Rect.unit (s := S4096x1024) off S80x1024.size inb)).Stores Finset.univ} {hm}
    {J : Prog (TpuEff nD τ sig (Elt F) Λ₀ .tc) α}
    (hJ : BaseW m ρ K (M ||| 2 ^ tileStretch b a j) t c X ⊢ Wp c J Q) :
    BaseW m ρ K M t c X ⊢ Wp c (.op (.load oM (Rect.unit (s := S4096x1024) off S80x1024.size inb').toLoadRect hl) fun _ =>
      .op (.store oM (Rect.unit (s := S4096x1024) off S80x1024.size inb) w Finset.univ hx hm) fun _ => J) Q := by
  subst hw
  refine op_peek fun _ => ?_
  exact op_write (tileStretch b a j) (fun x => tile_right m ρ b c ha hj hoff x)
    (fun i hi => tile_rows (by unfold tileStretch; omega) hoff i hi) hJ

/-- The state after the writes of step `t` is that before step `t + 1`. -/
theorem Res_step {M t : ℕ} {c : Dev nD} {X : sProp 𝕄} (h5 : 10 ≤ t) (hs : Still t) (hM : written (t + 1) (py c) (pz c) = M) :
    BaseW m ρ K M t c iprop(Tb m ρ t c ∗ X) = Res m ρ K (t + 1) c X := by
  subst hM
  unfold Res Base
  rw [Tb_still hs, BaseW_still (by omega) (by omega) hs]

theorem Still_own : ∀ k : Fin 8, Still (51 + k.val) := by decide +kernel
theorem Still_store : ∀ e : Ev, Nat.ble 4 (flow e) = true → gath e = true → Still (tStore e) := by decide +kernel

/-- Writing a tile of the device's own row. -/
theorem step_put {α : Type} {Q : α → sProp 𝕄} (k : Fin 8) (b : Bool) (hb : Nat.ble 4 k.val = b) (j : ℕ) (hj : k.val % 4 = j) {t t' : ℕ} (ht : 51 + k.val = t) (ht' : t + 1 = t')
    {c : Dev nD} {X : sProp 𝕄} {off : Fin 2 → ℕ} (hoff : off = ![1536 + 80 * (tileStretch b (cond b (py c) (pz c)) j - 2), 0])
    {inb inb' : ∀ i, off i + S80x1024.size i ≤ S4096x1024.size i}
    {w : FVec F S80x1024 .f32} (hw : w = k0_pay7 (tileAt m ρ b c (cond b (py c) (pz c)) j))
    {hl : oM.view.LoadsAt (Rect.unit (s := S4096x1024) off S80x1024.size inb').toLoadRect}
    {hx : (oM.access (Rect.unit (s := S4096x1024) off S80x1024.size inb)).Stores Finset.univ} {hm}
    {J : Prog (TpuEff nD τ sig (Elt F) Λ₀ .tc) α}
    (hJ : Res m ρ K t' c X ⊢ Wp c J Q) :
    Res m ρ K t c X ⊢ Wp c (.op (.load oM (Rect.unit (s := S4096x1024) off S80x1024.size inb').toLoadRect hl) fun _ =>
      .op (.store oM (Rect.unit (s := S4096x1024) off S80x1024.size inb) w Finset.univ hx hm) fun _ => J) Q := by
  subst ht ht' hb hj
  have ha : cond (Nat.ble 4 k.val) (py c) (pz c) < 4 := by cases Nat.ble 4 k.val <;> [exact pz_lt c; exact py_lt c]
  refine op_put (Nat.ble 4 k.val) _ (k.val % 4) ha (Nat.mod_lt _ (by decide)) hoff hw ?_
  rw [Res_step (by omega) (Still_own k) (written_own_fin k ⟨py c, py_lt c⟩ ⟨pz c, pz_lt c⟩)]
  exact hJ

theorem own_bit : ∀ (b : Bool) (k : Fin 8) (j y z : Fin 4),
    bits (cond b y.val z.val) j.val 1 &&& held (51 + k.val) b 4 y.val z.val = bits (cond b y.val z.val) j.val 1 := by decide +kernel

/-- Reading a tile of the device's own row. -/
theorem step_read {α : Type} {Q : α → sProp 𝕄} (k : Fin 8) (b : Bool) (j : Fin 4) {t : ℕ} (ht : 51 + k.val = t)
    {c : Dev nD} {X : sProp 𝕄} {off : Fin 4 → ℕ} (hoff : off = ![cond b (py c) (pz c), j.val, 0, 0]) {inb : ∀ i, off i + S1x1x80x1024.size i ≤ S4x4x80x1024.size i}
    {hl : (tabM b).view.LoadsAt (Rect.unit (s := S4x4x80x1024) off S1x1x80x1024.size inb).toLoadRect}
    {k' : Vec F S1x1x80x1024 .bf16 → Prog (TpuEff nD τ sig (Elt F) Λ₀ .tc) α}
    (hJ : Res m ρ K t c X ⊢ Wp c (k' (tileAt m ρ b c (cond b (py c) (pz c)) j.val)) Q) :
    Res m ρ K t c X ⊢ Wp c (.op (.load (tabM b) (Rect.unit (s := S4x4x80x1024) off S1x1x80x1024.size inb).toLoadRect hl) k') Q := by
  subst ht
  have ha : cond b (py c) (pz c) < 4 := by cases b <;> [exact pz_lt c; exact py_lt c]
  exact op_tile b _ j.val ha j.isLt (own_bit b k j ⟨py c, py_lt c⟩ ⟨pz c, pz_lt c⟩) hoff hJ

/-! ### Writing a received block -/

abbrev rRow (e : Ev) (c : Dev nD) : ℕ := rChunk (flow e) (stepOf e) (py c) (pz c)
abbrev rCol (e : Ev) : ℕ := blkCol (flow e) 0

theorem rBlk_ok : ∀ (e : Ev) (c : Dev nD), gath e = true → recvC e c = true → Nat.ble 4 (flow e) = true → rRow e c < 4 ∧ rCol e + 1 < 4 := by decide +kernel
theorem store_bit : ∀ (e : Ev) (y z : Fin 4), gath e = true → Nat.ble 4 (flow e) = true → recvs (flow e) (stepOf e) y.val z.val = true →
    bits (rChunk (flow e) (stepOf e) y z) (rCol e) 1 &&& held (tStore e) (side (flow e)) 4 y.val z.val = bits (rChunk (flow e) (stepOf e) y z) (rCol e) 1
      ∧ bits (rChunk (flow e) (stepOf e) y z) (rCol e + 1) 1 &&& held (tStore e) (side (flow e)) 4 y.val z.val = bits (rChunk (flow e) (stepOf e) y z) (rCol e + 1) 1 := by
  decide +kernel
theorem tStore_ge : ∀ e : Ev, 10 ≤ tStore e := by decide +kernel

theorem written_taken (e : Ev) (c : Dev nD) (he : gath e = true) (h4 : Nat.ble 4 (flow e) = true) (hc : recvs (flow e) (stepOf e) (py c) (pz c) = true) :
    written (tStore e + 1) (py c) (pz c)
      = written (tStore e) (py c) (pz c) ||| 2 ^ tileStretch (side (flow e)) (rRow e c) (rCol e) ||| 2 ^ tileStretch (side (flow e)) (rRow e c) (rCol e + 1) := by
  have h := written_store_fin e ⟨py c, py_lt c⟩ ⟨pz c, pz_lt c⟩ he h4
  dsimp only at h
  rw [hc, cond_true, ← Nat.or_assoc] at h
  exact h
theorem written_not_taken (e : Ev) (c : Dev nD) (he : gath e = true) (h4 : Nat.ble 4 (flow e) = true) (hc : recvs (flow e) (stepOf e) (py c) (pz c) = false) :
    written (tStore e + 1) (py c) (pz c) = written (tStore e) (py c) (pz c) := by
  have h := written_store_fin e ⟨py c, py_lt c⟩ ⟨pz c, pz_lt c⟩ he h4
  dsimp only at h
  rw [hc, cond_false] at h
  exact h

/-- Writing the two tiles of a received block to the result, if there is one. -/
theorem step_store {α : Type} {Q : α → sProp 𝕄} (e : Ev) {t : ℕ} (ht : tStore e = t) (he : gath e = true) (h4 : Nat.ble 4 (flow e) = true)
    (b : Bool) (hb : side (flow e) = b) (j : ℕ) (hj : rCol e = j)
    {c : Dev nD} {X : sProp 𝕄} {p : Prop} [Decidable p] (hp : p ↔ recvC e c = true)
    {o1 o2 : Fin 4 → ℕ} {q1 q2 : Fin 2 → ℕ}
    (ho1 : recvC e c = true → o1 = ![rRow e c, j, 0, 0]) (hq1 : recvC e c = true → q1 = ![1536 + 80 * (tileStretch b (rRow e c) j - 2), 0])
    (ho2 : recvC e c = true → o2 = ![rRow e c, j + 1, 0, 0]) (hq2 : recvC e c = true → q2 = ![1536 + 80 * (tileStretch b (rRow e c) (j + 1) - 2), 0])
    {i1 : p → ∀ i, o1 i + S1x1x80x1024.size i ≤ S4x4x80x1024.size i} {i2 : p → ∀ i, o2 i + S1x1x80x1024.size i ≤ S4x4x80x1024.size i}
    {k1 k1' : p → ∀ i, q1 i + S80x1024.size i ≤ S4096x1024.size i} {k2 k2' : p → ∀ i, q2 i + S80x1024.size i ≤ S4096x1024.size i}
    {pay1 pay2 : Vec F S1x1x80x1024 .bf16 → FVec F S80x1024 .f32} (hpay1 : pay1 = k0_pay7) (hpay2 : pay2 = k0_pay7)
    {hl1 : ∀ h, (tabM b).view.LoadsAt (Rect.unit (s := S4x4x80x1024) o1 S1x1x80x1024.size (i1 h)).toLoadRect}
    {hl2 : ∀ h, (tabM b).view.LoadsAt (Rect.unit (s := S4x4x80x1024) o2 S1x1x80x1024.size (i2 h)).toLoadRect}
    {hk1 : ∀ h, oM.view.LoadsAt (Rect.unit (s := S4096x1024) q1 S80x1024.size (k1' h)).toLoadRect}
    {hk2 : ∀ h, oM.view.LoadsAt (Rect.unit (s := S4096x1024) q2 S80x1024.size (k2' h)).toLoadRect}
    {hx1 : ∀ h, (oM.access (Rect.unit (s := S4096x1024) q1 S80x1024.size (k1 h))).Stores Finset.univ}
    {hm1 : ∀ h : p, (Finset.univ : Finset (Rect.unit (s := S4096x1024) q1 S80x1024.size (k1 h)).shape.Idx) = Finset.univ ∨ ∀ a, (Rect.unit (s := S4096x1024) q1 S80x1024.size (k1 h)).stride a = 1}
    {hx2 : ∀ h, (oM.access (Rect.unit (s := S4096x1024) q2 S80x1024.size (k2 h))).Stores Finset.univ}
    {hm2 : ∀ h : p, (Finset.univ : Finset (Rect.unit (s := S4096x1024) q2 S80x1024.size (k2 h)).shape.Idx) = Finset.univ ∨ ∀ a, (Rect.unit (s := S4096x1024) q2 S80x1024.size (k2 h)).stride a = 1}
    {J : Prog (TpuEff nD τ sig (Elt F) Λ₀ .tc) α}
    (hJ : Res m ρ K (t + 1) c X ⊢ Wp c J Q) :
    Res m ρ K t c X ⊢ Wp c (if h : p then
        .op (.load (tabM b) (Rect.unit (s := S4x4x80x1024) o1 S1x1x80x1024.size (i1 h)).toLoadRect (hl1 h)) fun v =>
        .op (.load oM (Rect.unit (s := S4096x1024) q1 S80x1024.size (k1' h)).toLoadRect (hk1 h)) fun _ =>
        .op (.store oM (Rect.unit (s := S4096x1024) q1 S80x1024.size (k1 h)) (pay1 v) Finset.univ (hx1 h) (hm1 h)) fun _ =>
        .op (.load (tabM b) (Rect.unit (s := S4x4x80x1024) o2 S1x1x80x1024.size (i2 h)).toLoadRect (hl2 h)) fun v' =>
        .op (.load oM (Rect.unit (s := S4096x1024) q2 S80x1024.size (k2' h)).toLoadRect (hk2 h)) fun _ =>
        .op (.store oM (Rect.unit (s := S4096x1024) q2 S80x1024.size (k2 h)) (pay2 v') Finset.univ (hx2 h) (hm2 h)) fun _ => J
      else J) Q := by
  subst ht hb hj hpay1 hpay2
  have hst := Still_store e h4 he
  by_cases h : p
  · have hc := hp.mp h
    have hc' := hc; rw [recvs_of he] at hc'
    obtain ⟨ha, hj⟩ := rBlk_ok e c he hc h4
    obtain ⟨b1, b2⟩ := store_bit e ⟨py c, py_lt c⟩ ⟨pz c, pz_lt c⟩ he h4 hc'
    rw [dif_pos h]
    refine op_tile _ (rRow e c) (rCol e) ha (by omega) b1 (ho1 hc) ?_
    refine op_put _ (rRow e c) (rCol e) ha (by omega) (hq1 hc) rfl ?_
    refine op_tile _ (rRow e c) (rCol e + 1) ha (by omega) b2 (ho2 hc) ?_
    refine op_put _ (rRow e c) (rCol e + 1) ha (by omega) (hq2 hc) rfl ?_
    rw [Res_step (tStore_ge e) hst (written_taken e c he h4 hc')]
    exact hJ
  · rw [dif_neg h]
    have hc' : recvs (flow e) (stepOf e) (py c) (pz c) = false := by
      rw [← Bool.not_eq_true]; intro h'; exact h (hp.mpr (by rw [recvs_of he]; exact h'))
    have := Res_step (m := m) (ρ := ρ) (K := K) (X := X) (c := c) (tStore_ge e) hst (written_not_taken e c he h4 hc')
    rw [← this] at hJ
    exact hJ

end Cert.MeshSum

end
-- ==== Proof.Program.lean ====
/-
# The steps as the program has them
-/
module

public import proofs.«01_k».proof.Proof.Gather

@[expose] public section

noncomputable section

namespace Cert.MeshSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {ρ : Dev nD → PrngReg} {K : Dev nD × Fin 79 → ℕ}

/-! ## The steps as the program has them

In each the condition, the offsets and the device sent to are functions of the device the program runs on, and
what they have to be is decided for every device at once. -/

/-- A program on the kernel's buffers and semaphores. -/
abbrev onBufs {X : Type 1} (f : (a0 : Memref sig .tc .vmem S4096x1024 .f32) → a0.IsWhole → (a1 : Memref sig .tc .vmem S4096x1024 .f32) → a1.IsWhole
    → (a2 : Memref sig .tc .vmem S160x1024 .bf16) → a2.IsWhole → (a3 : Memref sig .tc .vmem S160x1024 .bf16) → a3.IsWhole
    → (a4 : Memref sig .tc .vmem S1536x1024 .bf16) → a4.IsWhole → (a5 : Memref sig .tc .vmem S1536x1024 .bf16) → a5.IsWhole
    → (a6 : Memref sig .tc .vmem S4x4x80x1024 .bf16) → a6.IsWhole → (a7 : Memref sig .tc .vmem S4x4x80x1024 .bf16) → a7.IsWhole
    → DmaSems sig S_ → DmaSems sig S_ → DmaSems sig S2 → DmaSems sig S2 → DmaSems sig S12x3 → DmaSems sig S12x3 → X) : X :=
  f xM (Memref.isWhole_whole _) oM (Memref.isWhole_whole _) sM (Memref.isWhole_whole _) rM (Memref.isWhole_whole _) sbM (Memref.isWhole_whole _)
    rbM (Memref.isWhole_whole _) (tabM false) (Memref.isWhole_whole _) (tabM true) (Memref.isWhole_whole _) cc0_scratch6 cc0_scratch7 cc0_scratch8 cc0_scratch9
    cc0_scratch10 cc0_scratch11

/-- Sending a block. -/
theorem send {α : Type} {Q : α → sProp 𝕄} (e : Ev) (b : Bool) (n : ℕ) {t : ℕ} {c : Dev nD} {X : sProp 𝕄} {p : Dev nD → BitVec 1}
    {off : Dev nD → Fin 4 → ℕ} {inb : p c = 1#1 → ∀ i, off c i + (blkS n).size i ≤ S4x4x80x1024.size i}
    {hs : ∀ h : p c = 1#1, ∀ a, (Rect.unit (s := S4x4x80x1024) (off c) (blkS n).size (inb h)).stride a = 1}
    {dev : Dev nD → ℕ} {dlt : p c = 1#1 → dev c < nD} {sS sR : DmaSem sig}
    {hsc : ∀ h : p c = 1#1, ((tabM b).slice (Rect.unit (s := S4x4x80x1024) (off c) (blkS n).size (inb h)) (hs h)).view.ref.isScScratch = false}
    {hsrc hdst : ∀ h : p c = 1#1, ((tabM b).slice (Rect.unit (s := S4x4x80x1024) (off c) (blkS n).size (inb h)) (hs h)).view.WordExact}
    {hsem : ∀ h : p c = 1#1, DmaTarget.Typed .vmem (.dma sR) (.remote (Dev.tc (⟨dev c, dlt h⟩ : Dev nD) : Thread nD τ)
      ((tabM b).slice (Rect.unit (s := S4x4x80x1024) (off c) (blkS n).size (inb h)) (hs h)) (.dma sS) (hsc h))}
    {J : Prog (TpuEff nD τ sig (Elt F) Λ₀ .tc) α}
    (hJ : Res m ρ K (t + 1) c X ⊢ Wp c J Q)
    (ht : tSend e = t := by rfl) (he : gath e = true := by rfl) (hb : side (flow e) = b := by rfl) (hn : blkLen (flow e) = n := by rfl)
    (hp : ∀ c, p c = 1#1 ↔ sendC e c = true := by decide +kernel)
    (hoff : ∀ c, sendC e c = true → off c = ![sRow e c, sCol e c, 0, 0] := by decide +kernel)
    (hdev : ∀ c, p c = 1#1 → dev c = (dst e c).val := by decide +kernel)
    (hS : sS = sSem e := by rfl) (hR : sR = rSem e := by rfl) :
    Res m ρ K t c X ⊢ Wp c (if h : p c = 1#1 then .op (.enqueueDma ((tabM b).slice (Rect.unit (s := S4x4x80x1024) (off c) (blkS n).size (inb h)) (hs h))
        (.remote (Dev.tc (⟨dev c, dlt h⟩ : Dev nD) : Thread nD τ) ((tabM b).slice (Rect.unit (s := S4x4x80x1024) (off c) (blkS n).size (inb h)) (hs h)) (.dma sS) (hsc h))
        (.dma sR) (hsrc h) (hdst h) (hsem h)) (fun _ => J) else J) Q :=
  step_send e ht he b hb n hn (hp c) (hoff c) (fun h => Fin.ext (hdev c h)) hS hR hJ

/-- Waiting for a block to have been read. -/
theorem wait {α : Type} {Q : α → sProp 𝕄} (e : Ev) {t : ℕ} {c : Dev nD} {X : sProp 𝕄} {p : Dev nD → BitVec 1}
    {sp sp' : Space} {s s' : Shape} {el el' : EltTy} {src : p c = 1#1 → Memref sig .tc sp s el} {dstM : p c = 1#1 → Memref sig .tc sp' s' el'} {sem : DmaSem sig}
    {h1 : ∀ h, (src h).view.WordExact} {h2 : ∀ h, (dstM h).view.WordExact} {J : Prog (TpuEff nD τ sig (Elt F) Λ₀ .tc) α}
    (hJ : Res m ρ K (t + 1) c X ⊢ Wp c J Q)
    (ht : tWait e = t := by rfl) (he : gath e = true := by rfl) (hp : ∀ c, p c = 1#1 ↔ sendC e c = true := by decide +kernel) (hS : sem = sSem e := by rfl)
    (hN : ∀ h, (dstM h).view.dmaCredit = amt e := by intros; rfl) :
    Res m ρ K t c X ⊢ Wp c (if h : p c = 1#1 then .op (.waitDma2 sem (src h) (dstM h) (h1 h) (h2 h)) (fun _ => J) else J) Q :=
  step_wait e ht he (hp c) hS hN hJ

/-- Waiting for a block to have arrived. -/
theorem recv {α : Type} {Q : α → sProp 𝕄} (e : Ev) {t : ℕ} {c : Dev nD} {X : sProp 𝕄} {p : Dev nD → BitVec 1}
    {sp sp' : Space} {s s' : Shape} {el el' : EltTy} {src : p c = 1#1 → Memref sig .tc sp s el} {dstM : p c = 1#1 → Memref sig .tc sp' s' el'} {sem : DmaSem sig}
    {h1 : ∀ h, (src h).view.WordExact} {h2 : ∀ h, (dstM h).view.WordExact} {J : Prog (TpuEff nD τ sig (Elt F) Λ₀ .tc) α}
    (hJ : Res m ρ K (t + 1) c X ⊢ Wp c J Q)
    (ht : tRecv e = t := by rfl) (he : gath e = true := by rfl) (hp : ∀ c, p c = 1#1 ↔ recvC e c = true := by decide +kernel) (hS : sem = rSem e := by rfl)
    (hN : ∀ h, (dstM h).view.dmaCredit = amt e := by intros; rfl) :
    Res m ρ K t c X ⊢ Wp c (if h : p c = 1#1 then .op (.waitDma2 sem (src h) (dstM h) (h1 h) (h2 h)) (fun _ => J) else J) Q :=
  step_recv e ht he (hp c) hS hN hJ

/-- The end of a part. -/
theorem done {α : Type} {Q : α → sProp 𝕄} {c : Dev nD} {P : sProp 𝕄} {r : α} (h : P ⊢ Q r) : P ⊢ Wp (F := F) c (.ret r) Q := by
  refine h.trans ?_
  unfold Wp
  rw [wp_ret]
  exact fupd_intro

/-- Reading a tile of the device's own row. -/
theorem read {α : Type} {Q : α → sProp 𝕄} (k : Fin 8) (b : Bool) (j : Fin 4) {t : ℕ} {c : Dev nD} {X : sProp 𝕄}
    {off : Dev nD → BitVec 32 → Fin 4 → ℕ} {wd : BitVec 32} {inb : ∀ i, off c wd i + S1x1x80x1024.size i ≤ S4x4x80x1024.size i}
    {hl : (tabM b).view.LoadsAt (Rect.unit (s := S4x4x80x1024) (off c wd) S1x1x80x1024.size inb).toLoadRect}
    {k' : Vec F S1x1x80x1024 .bf16 → Prog (TpuEff nD τ sig (Elt F) Λ₀ .tc) α}
    (hJ : Res m ρ K t c X ⊢ Wp c (k' (tileAt m ρ b c (cond b (py c) (pz c)) j.val)) Q)
    (ht : 51 + k.val = t := by rfl) (hoff : ∀ c, off c wd = ![cond b (py c) (pz c), j.val, 0, 0] := by decide +kernel) :
    Res m ρ K t c X ⊢ Wp c (.op (.load (tabM b) (Rect.unit (s := S4x4x80x1024) (off c wd) S1x1x80x1024.size inb).toLoadRect hl) k') Q :=
  step_read k b j ht (hoff c) hJ

/-- Writing a tile of the device's own row. -/
theorem put {α : Type} {Q : α → sProp 𝕄} (k : Fin 8) (b : Bool) (j : Fin 4) {t : ℕ} {c : Dev nD} {X : sProp 𝕄}
    {off : Dev nD → BitVec 32 → Fin 2 → ℕ} {wd : BitVec 32} {inb inb' : ∀ i, off c wd i + S80x1024.size i ≤ S4096x1024.size i} {w : FVec F S80x1024 .f32}
    {hl : oM.view.LoadsAt (Rect.unit (s := S4096x1024) (off c wd) S80x1024.size inb').toLoadRect}
    {hx : (oM.access (Rect.unit (s := S4096x1024) (off c wd) S80x1024.size inb)).Stores Finset.univ} {hm}
    {J : Prog (TpuEff nD τ sig (Elt F) Λ₀ .tc) α}
    (hJ : Res m ρ K (t + 1) c X ⊢ Wp c J Q)
    (hb : Nat.ble 4 k.val = b := by rfl) (hj : k.val % 4 = j.val := by rfl) (ht : 51 + k.val = t := by rfl)
    (hoff : ∀ c, off c wd = ![1536 + 80 * (tileStretch b (cond b (py c) (pz c)) j.val - 2), 0] := by decide +kernel)
    (hw : w = k0_pay7 (tileAt m ρ b c (cond b (py c) (pz c)) j.val) := by rfl) :
    Res m ρ K t c X ⊢ Wp c (.op (.load oM (Rect.unit (s := S4096x1024) (off c wd) S80x1024.size inb').toLoadRect hl) fun _ =>
      .op (.store oM (Rect.unit (s := S4096x1024) (off c wd) S80x1024.size inb) w Finset.univ hx hm) fun _ => J) Q :=
  step_put k b hb j.val hj ht rfl (hoff c) hw hJ

/-- Writing the two tiles of a received block. -/
theorem store {α : Type} {Q : α → sProp 𝕄} (e : Ev) (b : Bool) (j : ℕ) {t : ℕ} {c : Dev nD} {X : sProp 𝕄} {p : Dev nD → BitVec 1}
    {o1 o2 : Dev nD → Fin 4 → ℕ} {q : Dev nD → BitVec 32 → Fin 2 → ℕ} {w1 w2 : BitVec 32}
    {i1 : p c = 1#1 → ∀ i, o1 c i + S1x1x80x1024.size i ≤ S4x4x80x1024.size i} {i2 : p c = 1#1 → ∀ i, o2 c i + S1x1x80x1024.size i ≤ S4x4x80x1024.size i}
    {k1 k1' : p c = 1#1 → ∀ i, q c w1 i + S80x1024.size i ≤ S4096x1024.size i} {k2 k2' : p c = 1#1 → ∀ i, q c w2 i + S80x1024.size i ≤ S4096x1024.size i}
    {pay1 pay2 : Vec F S1x1x80x1024 .bf16 → FVec F S80x1024 .f32}
    {hl1 : ∀ h, (tabM b).view.LoadsAt (Rect.unit (s := S4x4x80x1024) (o1 c) S1x1x80x1024.size (i1 h)).toLoadRect}
    {hl2 : ∀ h, (tabM b).view.LoadsAt (Rect.unit (s := S4x4x80x1024) (o2 c) S1x1x80x1024.size (i2 h)).toLoadRect}
    {hk1 : ∀ h, oM.view.LoadsAt (Rect.unit (s := S4096x1024) (q c w1) S80x1024.size (k1' h)).toLoadRect}
    {hk2 : ∀ h, oM.view.LoadsAt (Rect.unit (s := S4096x1024) (q c w2) S80x1024.size (k2' h)).toLoadRect}
    {hx1 : ∀ h, (oM.access (Rect.unit (s := S4096x1024) (q c w1) S80x1024.size (k1 h))).Stores Finset.univ}
    {hm1 : ∀ h : p c = 1#1, (Finset.univ : Finset (Rect.unit (s := S4096x1024) (q c w1) S80x1024.size (k1 h)).shape.Idx) = Finset.univ ∨ ∀ a, (Rect.unit (s := S4096x1024) (q c w1) S80x1024.size (k1 h)).stride a = 1}
    {hx2 : ∀ h, (oM.access (Rect.unit (s := S4096x1024) (q c w2) S80x1024.size (k2 h))).Stores Finset.univ}
    {hm2 : ∀ h : p c = 1#1, (Finset.univ : Finset (Rect.unit (s := S4096x1024) (q c w2) S80x1024.size (k2 h)).shape.Idx) = Finset.univ ∨ ∀ a, (Rect.unit (s := S4096x1024) (q c w2) S80x1024.size (k2 h)).stride a = 1}
    {J : Prog (TpuEff nD τ sig (Elt F) Λ₀ .tc) α}
    (hJ : Res m ρ K (t + 1) c X ⊢ Wp c J Q)
    (ht : tStore e = t := by rfl) (he : gath e = true := by rfl) (h4 : Nat.ble 4 (flow e) = true := by rfl)
    (hb : side (flow e) = b := by rfl) (hj : rCol e = j := by rfl)
    (hp : ∀ c, p c = 1#1 ↔ recvC e c = true := by decide +kernel)
    (ho1 : ∀ c, recvC e c = true → o1 c = ![rRow e c, j, 0, 0] := by decide +kernel)
    (hq1 : ∀ c, recvC e c = true → q c w1 = ![1536 + 80 * (tileStretch b (rRow e c) j - 2), 0] := by decide +kernel)
    (ho2 : ∀ c, recvC e c = true → o2 c = ![rRow e c, j + 1, 0, 0] := by decide +kernel)
    (hq2 : ∀ c, recvC e c = true → q c w2 = ![1536 + 80 * (tileStretch b (rRow e c) (j + 1) - 2), 0] := by decide +kernel)
    (hpay1 : pay1 = k0_pay7 := by rfl) (hpay2 : pay2 = k0_pay7 := by rfl) :
    Res m ρ K t c X ⊢ Wp c (if h : p c = 1#1 then
        .op (.load (tabM b) (Rect.unit (s := S4x4x80x1024) (o1 c) S1x1x80x1024.size (i1 h)).toLoadRect (hl1 h)) fun v =>
        .op (.load oM (Rect.unit (s := S4096x1024) (q c w1) S80x1024.size (k1' h)).toLoadRect (hk1 h)) fun _ =>
        .op (.store oM (Rect.unit (s := S4096x1024) (q c w1) S80x1024.size (k1 h)) (pay1 v) Finset.univ (hx1 h) (hm1 h)) fun _ =>
        .op (.load (tabM b) (Rect.unit (s := S4x4x80x1024) (o2 c) S1x1x80x1024.size (i2 h)).toLoadRect (hl2 h)) fun v' =>
        .op (.load oM (Rect.unit (s := S4096x1024) (q c w2) S80x1024.size (k2' h)).toLoadRect (hk2 h)) fun _ =>
        .op (.store oM (Rect.unit (s := S4096x1024) (q c w2) S80x1024.size (k2 h)) (pay2 v') Finset.univ (hx2 h) (hm2 h)) fun _ => J
      else J) Q :=
  step_store e ht he h4 b hb j hj (hp c) (ho1 c) (hq1 c) (ho2 c) (hq2 c) hpay1 hpay2 hJ

end Cert.MeshSum

end
-- ==== Proof.Local.lean ====
/-
# Buffers beside the state
-/
module

public import proofs.«01_k».proof.Proof.Program

@[expose] public section

noncomputable section

namespace Cert.MeshSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {ρ : Dev nD → PrngReg} {K : Dev nD × Fin 79 → ℕ}

/-! ## Beside the state -/

theorem BaseW_mono {M t : ℕ} {c : Dev nD} {X Y : sProp 𝕄} (h : X ⊢ Y) : BaseW m ρ K M t c X ⊢ BaseW m ρ K M t c Y := by
  unfold BaseW
  iintro ⟨H1, H2, H3, H4, H5, H6, H7, H8, HX⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iapply h; iexact HX

theorem BaseW_out {M t : ℕ} {c : Dev nD} {A X : sProp 𝕄} : BaseW m ρ K M t c iprop(A ∗ X) ⊢ iprop(A ∗ BaseW m ρ K M t c X) := by
  unfold BaseW
  iintro ⟨H1, H2, H3, H4, H5, H6, H7, H8, HA, HX⟩
  isplitl [HA]; · iexact HA
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact HX

theorem BaseW_in {M t : ℕ} {c : Dev nD} {A X : sProp 𝕄} : iprop(A ∗ BaseW m ρ K M t c X) ⊢ BaseW m ρ K M t c iprop(A ∗ X) := by
  unfold BaseW
  iintro ⟨HA, H1, H2, H3, H4, H5, H6, H7, H8, HX⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HA]; · iexact HA
  iexact HX

/-! ## Reading and writing buffers held beside the state -/

theorem op_load {α : Type} {Q : α → sProp 𝕄} {M t : ℕ} {c : Dev nD} {X Y : sProp 𝕄} {s : Shape} {e : EltTy} {B : Memref sig .tc .vmem s e}
    {r : LoadRect s} {hl : B.view.LoadsAt r} {k : (r.shape.Idx → Elt F e) → Prog (TpuEff nD τ sig (Elt F) Λ₀ .tc) α}
    (S : Finset (Idx (B.view.loc (c : Thread nD τ)))) {q : PosShare TreeShare} (f : Buf (Elt F) (B.view.loc (c : Thread nD τ)))
    (hX : X ⊢ iprop((B.view.loc (c : Thread nD τ) ↦[S]{q} f) ∗ Y)) (hS : B.view.setOn r.set ⊆ S)
    (hJ : BaseW m ρ K M t c iprop((B.view.loc (c : Thread nD τ) ↦[S]{q} f) ∗ Y) ⊢ Wp c (k (B.view.readAt (Elt F) r f)) Q) :
    BaseW m ρ K M t c X ⊢ Wp c (.op (.load B r hl) k) Q := by
  refine (BaseW_mono hX).trans (BaseW_out.trans ?_)
  iintro ⟨Hp, HB⟩
  iapply (wp_load 𝒱₀ (c : Thread nD τ) none Set.univ (m := B) hS) $$ Hp; iintro Hp
  iapply hJ
  iapply BaseW_in
  isplitl [Hp]; · iexact Hp
  iexact HB

theorem op_store {α : Type} {Q : α → sProp 𝕄} {M t : ℕ} {c : Dev nD} {X Y : sProp 𝕄} {s : Shape} {e : EltTy} {B : Memref sig .tc .vmem s e}
    {r : Rect s} {w : r.shape.Idx → Elt F e} {hx : (B.access r).Stores Finset.univ} {hm} {k : PUnit → Prog (TpuEff nD τ sig (Elt F) Λ₀ .tc) α}
    (S : Finset (Idx ((B.access r).loc (c : Thread nD τ)))) (f : Buf (Elt F) ((B.access r).loc (c : Thread nD τ)))
    (hX : X ⊢ iprop(((B.access r).loc (c : Thread nD τ) ↦[S]{fullShare} f) ∗ Y)) (hS : (B.access r).setOn Finset.univ ⊆ S)
    (hJ : BaseW m ρ K M t c iprop(((B.access r).loc (c : Thread nD τ) ↦[S]{fullShare} ((B.access r).write (Elt F) f w Finset.univ)) ∗ Y) ⊢ Wp c (k ⟨⟩) Q) :
    BaseW m ρ K M t c X ⊢ Wp c (.op (.store B r w Finset.univ hx hm) k) Q := by
  refine (BaseW_mono hX).trans (BaseW_out.trans ?_)
  iintro ⟨Hp, HB⟩
  iapply (wp_store 𝒱₀ (c : Thread nD τ) none Set.univ (m := B) (r := r) (Mk := Finset.univ) hS) $$ Hp; iintro Hp
  iapply hJ
  iapply BaseW_in
  isplitl [Hp]; · iexact Hp
  iexact HB

/-! ## The bulk buffers' halves -/

abbrev halfRect : Bool → Rect S1536x1024
  | false => Rect.unit (s := S1536x1024) ![0, 0] S768x1024.size inb_S1536x1024_S768x1024_0_0
  | true => Rect.unit (s := S1536x1024) ![768, 0] S768x1024.size inb_S1536x1024_S768x1024_768_0

theorem mem_half (h : Bool) (i : S1536x1024.Idx) : i ∈ (halfRect h).set ↔ decide (768 ≤ (i 0).val) = h := by
  have h0 : (i 0).val < 1536 := (i 0).isLt
  have h1 : (i 1).val < 1024 := (i 1).isLt
  cases h
  · show i ∈ (Rect.unit (s := S1536x1024) ![0, 0] S768x1024.size inb_S1536x1024_S768x1024_0_0).set ↔ _
    rw [Rect.mem_set_unit, Fin.forall_fin_succ, Fin.forall_fin_succ]
    constructor
    · rintro ⟨⟨-, h⟩, -⟩
      have h : (i 0).val < 0 + 768 := h
      simp; omega
    · intro h
      have h := of_decide_eq_false h
      exact ⟨⟨Nat.zero_le _, show (i 0).val < 0 + 768 by omega⟩, ⟨Nat.zero_le _, show (i 1).val < 0 + 1024 by omega⟩, fun k => k.elim0⟩
  · show i ∈ (Rect.unit (s := S1536x1024) ![768, 0] S768x1024.size inb_S1536x1024_S768x1024_768_0).set ↔ _
    rw [Rect.mem_set_unit, Fin.forall_fin_succ, Fin.forall_fin_succ]
    constructor
    · rintro ⟨⟨h, -⟩, -⟩
      have h : 768 ≤ (i 0).val := h
      simp; omega
    · intro h
      have h := of_decide_eq_true h
      exact ⟨⟨show 768 ≤ (i 0).val by omega, show (i 0).val < 768 + 768 by omega⟩, ⟨Nat.zero_le _, show (i 1).val < 0 + 1024 by omega⟩, fun k => k.elim0⟩

theorem half_union : (Finset.univ : Finset S1536x1024.Idx) = (halfRect false).set ∪ (halfRect true).set := by
  ext i; simp only [Finset.mem_univ, Finset.mem_union, true_iff]
  rw [mem_half, mem_half]
  by_cases h : 768 ≤ (i 0).val
  · right; simp [h]
  · left; simp; omega
theorem half_disjoint : Disjoint (halfRect false).set (halfRect true).set := by
  rw [Finset.disjoint_left]; intro i h1 h2
  rw [mem_half] at h1 h2
  simp at h1 h2; omega

theorem sb_halves {c : Dev nD} {f : S1536x1024.Idx → Elt F .bf16} :
    (holds sbM c f : sProp 𝕄) ⊣⊢ iprop(holds (sbH false) c f ∗ holds (sbH true) c f) := by
  show ((((c : Thread nD τ).loc cc0_scratch2) ↦[(View.whole cc0_scratch2).set]{fullShare} f : sProp 𝕄))
    ⊣⊢ iprop((((c : Thread nD τ).loc cc0_scratch2) ↦[((View.whole cc0_scratch2).slice (halfRect false)).set]{fullShare} f)
      ∗ (((c : Thread nD τ).loc cc0_scratch2) ↦[((View.whole cc0_scratch2).slice (halfRect true)).set]{fullShare} f))
  rw [View.set_slice_whole, View.set_slice_whole, View.set_whole]
  refine (BIBase.BiEntails.of_eq ?_).trans (pointsTo_union half_disjoint)
  exact congrArg (fun S : Finset S1536x1024.Idx => (((c : Thread nD τ).loc cc0_scratch2) ↦[S]{fullShare} f : sProp 𝕄)) half_union
theorem rb_halves {c : Dev nD} {f : S1536x1024.Idx → Elt F .bf16} :
    (holds rbM c f : sProp 𝕄) ⊣⊢ iprop(holds (rbH false) c f ∗ holds (rbH true) c f) := by
  show ((((c : Thread nD τ).loc cc0_scratch3) ↦[(View.whole cc0_scratch3).set]{fullShare} f : sProp 𝕄))
    ⊣⊢ iprop((((c : Thread nD τ).loc cc0_scratch3) ↦[((View.whole cc0_scratch3).slice (halfRect false)).set]{fullShare} f)
      ∗ (((c : Thread nD τ).loc cc0_scratch3) ↦[((View.whole cc0_scratch3).slice (halfRect true)).set]{fullShare} f))
  rw [View.set_slice_whole, View.set_slice_whole, View.set_whole]
  refine (BIBase.BiEntails.of_eq ?_).trans (pointsTo_union half_disjoint)
  exact congrArg (fun S : Finset S1536x1024.Idx => (((c : Thread nD τ).loc cc0_scratch3) ↦[S]{fullShare} f : sProp 𝕄)) half_union

/-- What lands in a part of the receiving buffer is what the same part of the sender's holds. -/
theorem rb_landed (r : Rect S1536x1024) {hs hs' : ∀ a, r.stride a = 1} {c' : Dev nD} {f : S1536x1024.Idx → Elt F .bf16}
    (fd : Buf (Elt F) ((rbM.slice r hs').view.loc (c' : Thread nD τ))) :
    (((rbM.slice r hs').view.loc (c' : Thread nD τ) ↦[(rbM.slice r hs').view.set]{fullShare} ((rbM.slice r hs').view.write (Elt F) fd
      ((sbM.slice r hs).view.read (Elt F) f) Finset.univ) : sProp 𝕄))
      ⊢ holds (rbM.slice r hs') c' f := by
  unfold holds
  refine (BIBase.BiEntails.of_eq (pointsTo_congr fun i hi => ?_)).1
  obtain ⟨x, -, rfl⟩ := Finset.mem_map.mp hi
  exact View.write_emb_of_mem (Val := Elt F) (v := (rbM.slice r hs').view) fd _ (Finset.mem_univ x)

/-- The same for the rows to be gathered. -/
theorem r_landed {c' : Dev nD} {f : S160x1024.Idx → Elt F .bf16} (fd : Buf (Elt F) (rM.view.loc (c' : Thread nD τ))) :
    ((rM.view.loc (c' : Thread nD τ) ↦[rM.view.set]{fullShare} (rM.view.write (Elt F) fd (sM.view.read (Elt F) f) Finset.univ) : sProp 𝕄))
      ⊢ holds rM c' f := by
  unfold holds
  refine (BIBase.BiEntails.of_eq (pointsTo_congr fun i hi => ?_)).1
  obtain ⟨x, -, rfl⟩ := Finset.mem_map.mp hi
  exact View.write_emb_of_mem (Val := Elt F) (v := rM.view) fd _ (Finset.mem_univ x)

end Cert.MeshSum

end
-- ==== Proof.Swap.lean ====
/-
# The swaps along the first axis
-/
module

public import proofs.«01_k».proof.Proof.Local

@[expose] public section

noncomputable section

namespace Cert.MeshSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {ρ : Dev nD → PrngReg} {K : Dev nD × Fin 79 → ℕ}

/-! ## The swaps along `x`, and the rows made of them -/

/-- The state after a step that changes only what is beside it. -/
theorem Base_next {t : ℕ} {c : Dev nD} {X : sProp 𝕄} (h10 : 10 ≤ t) (ht : t < 165) (hs : Still t) (hw : writesAt t = false) :
    Base m ρ K t c X ⊢ Base m ρ K (t + 1) c X := by
  rw [Base_still (by omega) (by omega) ht hs hw]

instance (t : ℕ) : Decidable (Still t) := by unfold Still; infer_instance

/-- A device's own tile of table `b`, whatever it holds. -/
def ownRoom (b : Bool) (c : Dev nD) : sProp 𝕄 := iprop(∃ G : Tab F, tab b c fullShare (ownMask b (py c) (pz c)) G)

theorem room36 (c : Dev nD) : room (F := F) 36 c = iprop(∃ f, holds rM c f) := by
  unfold room; rw [if_neg (by decide), if_pos rfl]
theorem room37 (c : Dev nD) : room (F := F) 37 c = iprop(∃ f, holds (rbH false) c f) := by
  unfold room; rw [if_neg (by decide), if_neg (by decide), if_pos rfl]
theorem room38 (c : Dev nD) : room (F := F) 38 c = iprop(∃ f, holds (rbH true) c f) := by
  unfold room; rw [if_neg (by decide), if_neg (by decide), if_neg (by decide)]
theorem sendPay36 (c : Dev nD) : sendPay m ρ 36 c = holds sM c (rawAt m ρ c) := by
  unfold sendPay; rw [if_neg (by decide), if_pos rfl]
theorem sendPay37 (c : Dev nD) : sendPay m ρ 37 c = holds (sbH false) c (bulkAt m ρ c) := by
  unfold sendPay; rw [if_neg (by decide), if_neg (by decide), if_pos rfl]
theorem sendPay38 (c : Dev nD) : sendPay m ρ 38 c = holds (sbH true) c (bulkAt m ρ c) := by
  unfold sendPay; rw [if_neg (by decide), if_neg (by decide), if_neg (by decide)]
theorem recvPay36 (c : Dev nD) : recvPay m ρ 36 c = holds rM c (rawAt m ρ (peer c)) := by
  unfold recvPay; rw [if_neg (by decide), if_pos rfl]
theorem recvPay37 (c : Dev nD) : recvPay m ρ 37 c = holds (rbH false) c (bulkAt m ρ (peer c)) := by
  unfold recvPay; rw [if_neg (by decide), if_neg (by decide), if_pos rfl]
theorem recvPay38 (c : Dev nD) : recvPay m ρ 38 c = holds (rbH true) c (bulkAt m ρ (peer c)) := by
  unfold recvPay; rw [if_neg (by decide), if_neg (by decide), if_neg (by decide)]
theorem amt36 : amt 36 = rM.view.dmaCredit := by unfold amt; rw [if_neg (by decide), if_pos rfl]
theorem amt37 : amt 37 = (rbH false).view.dmaCredit := by unfold amt; rw [if_neg (by decide), if_neg (by decide)]
theorem amt38 : amt 38 = (rbH false).view.dmaCredit := by unfold amt; rw [if_neg (by decide), if_neg (by decide)]

theorem peer_dst (e : Ev) (h : gath e = false) (c : Dev nD) : peer (dst e c) = c := by rw [dst_x e c h, peer_peer]

/-- What lands in a buffer is what the sender's buffer holds. -/
theorem landed {s : Shape} (S D : Memref sig .tc .vmem s .bf16) {c c' : Dev nD} (f : Buf (Elt F) (S.view.loc (c : Thread nD τ)))
    (g : Buf (Elt F) (D.view.loc (c' : Thread nD τ))) (h : ∀ x, D.view.read (Elt F) g x = S.view.read (Elt F) f x)
    (fd : Buf (Elt F) (D.view.loc (c' : Thread nD τ))) :
    (D.view.loc (c' : Thread nD τ) ↦[D.view.set]{fullShare} (D.view.write (Elt F) fd (S.view.read (Elt F) f) Finset.univ) : sProp 𝕄) ⊢ holds D c' g := by
  unfold holds
  refine (BIBase.BiEntails.of_eq (pointsTo_congr fun i hi => ?_)).1
  obtain ⟨x, -, rfl⟩ := Finset.mem_map.mp hi
  rw [View.write_emb_of_mem (Val := Elt F) (v := D.view) fd _ (Finset.mem_univ x), ← h x, View.read_apply]
  simp

/-- The three transfers to the partner. -/
theorem send36 {α : Type} {Q : α → sProp 𝕄} {c : Dev nD} {X : sProp 𝕄} {n : Dev nD} {sS sR : DmaSem sig}
    {hsc : rM.view.ref.isScScratch = false} {hsrc : sM.view.WordExact} {hdst : rM.view.WordExact}
    {hsem : DmaTarget.Typed .vmem (.dma sR) (.remote (Dev.tc n : Thread nD τ) rM (.dma sS) hsc)}
    {k : PUnit → Prog (TpuEff nD τ sig (Elt F) Λ₀ .tc) α} (hn : n.val = (dst 36 c).val) (hS : sS = sSem 36) (hR : sR = rSem 36)
    (hJ : Base m ρ K 12 c X ⊢ Wp c (k ⟨⟩) Q) :
    Base m ρ K 11 c iprop(holds sM c (rawAt m ρ c) ∗ X)
      ⊢ Wp c (.op (.enqueueDma sM (.remote (Dev.tc n : Thread nD τ) rM (.dma sS) hsc) (.dma sR) hsrc hdst hsem) k) Q := by
  refine op_send 36 rfl rfl (Fin.ext hn) hS hR (q := fullShare) (fs := rawAt m ρ c) .rfl ?_ ?_ ?_ ?_ hJ
  · rw [room36]; exact .rfl
  · rw [sendPay36]; exact .rfl
  · intro fd; rw [recvPay36, peer_dst 36 rfl]; exact r_landed fd
  · rw [amt36]
theorem send37 {α : Type} {Q : α → sProp 𝕄} {c : Dev nD} {X : sProp 𝕄} {n : Dev nD} {sS sR : DmaSem sig}
    {hsc : (rbH false).view.ref.isScScratch = false} {hsrc : (sbH false).view.WordExact} {hdst : (rbH false).view.WordExact}
    {hsem : DmaTarget.Typed .vmem (.dma sR) (.remote (Dev.tc n : Thread nD τ) (rbH false) (.dma sS) hsc)}
    {k : PUnit → Prog (TpuEff nD τ sig (Elt F) Λ₀ .tc) α} (hn : n.val = (dst 37 c).val) (hS : sS = sSem 37) (hR : sR = rSem 37)
    (hJ : Base m ρ K 14 c X ⊢ Wp c (k ⟨⟩) Q) :
    Base m ρ K 13 c iprop(holds (sbH false) c (bulkAt m ρ c) ∗ X)
      ⊢ Wp c (.op (.enqueueDma (sbH false) (.remote (Dev.tc n : Thread nD τ) (rbH false) (.dma sS) hsc) (.dma sR) hsrc hdst hsem) k) Q := by
  refine op_send 37 rfl rfl (Fin.ext hn) hS hR (q := fullShare) (fs := bulkAt m ρ c) .rfl ?_ ?_ ?_ ?_ hJ
  · rw [room37]; exact .rfl
  · rw [sendPay37]; exact .rfl
  · intro fd; rw [recvPay37, peer_dst 37 rfl]; exact landed (sbH false) (rbH false) (c := c) (bulkAt m ρ c) (bulkAt m ρ c) (fun _ => rfl) fd
  · rw [amt37]
theorem send38 {α : Type} {Q : α → sProp 𝕄} {c : Dev nD} {X : sProp 𝕄} {n : Dev nD} {sS sR : DmaSem sig}
    {hsc : (rbH true).view.ref.isScScratch = false} {hsrc : (sbH true).view.WordExact} {hdst : (rbH true).view.WordExact}
    {hsem : DmaTarget.Typed .vmem (.dma sR) (.remote (Dev.tc n : Thread nD τ) (rbH true) (.dma sS) hsc)}
    {k : PUnit → Prog (TpuEff nD τ sig (Elt F) Λ₀ .tc) α} (hn : n.val = (dst 38 c).val) (hS : sS = sSem 38) (hR : sR = rSem 38)
    (hJ : Base m ρ K 15 c X ⊢ Wp c (k ⟨⟩) Q) :
    Base m ρ K 14 c iprop(holds (sbH true) c (bulkAt m ρ c) ∗ X)
      ⊢ Wp c (.op (.enqueueDma (sbH true) (.remote (Dev.tc n : Thread nD τ) (rbH true) (.dma sS) hsc) (.dma sR) hsrc hdst hsem) k) Q := by
  refine op_send 38 rfl rfl (Fin.ext hn) hS hR (q := fullShare) (fs := bulkAt m ρ c) .rfl ?_ ?_ ?_ ?_ hJ
  · rw [room38]; exact .rfl
  · rw [sendPay38]; exact .rfl
  · intro fd; rw [recvPay38, peer_dst 38 rfl]; exact landed (sbH true) (rbH true) (c := c) (bulkAt m ρ c) (bulkAt m ρ c) (fun _ => rfl) fd
  · rw [amt38]

/-- A region written over, after a look at what was there: `P` says who holds the region, and `P'` what it holds afterwards. -/
theorem fill {α : Type} {Q : α → sProp 𝕄} {M t : ℕ} {c : Dev nD} {P P' X : sProp 𝕄} {s : Shape} {e : EltTy} (B : Memref sig .tc .vmem s e)
    (S : Finset (Idx (B.view.loc (c : Thread nD τ)))) {lr : LoadRect s} {r : Rect s} {hl : B.view.LoadsAt lr}
    {w : r.shape.Idx → Elt F e} {hx : (B.access r).Stores Finset.univ} {hm} {k : PUnit → Prog (TpuEff nD τ sig (Elt F) Λ₀ .tc) α}
    (hL : B.view.setOn lr.set ⊆ S) (hS : (B.access r).setOn Finset.univ ⊆ S)
    (hP : P ⊢ iprop(∃ f, (B.view.loc (c : Thread nD τ) ↦[S]{fullShare} f)))
    (hP' : ∀ f : Buf (Elt F) (B.view.loc (c : Thread nD τ)),
      ((B.access r).loc (c : Thread nD τ) ↦[S]{fullShare} ((B.access r).write (Elt F) f w Finset.univ)) ⊢ P')
    (hJ : BaseW m ρ K M t c iprop(P' ∗ X) ⊢ Wp c (k ⟨⟩) Q) :
    BaseW m ρ K M t c iprop(P ∗ X) ⊢ Wp c (.op (.load B lr hl) fun _ => .op (.store B r w Finset.univ hx hm) k) Q := by
  have key : ∀ f : Buf (Elt F) (B.view.loc (c : Thread nD τ)), iprop((B.view.loc (c : Thread nD τ) ↦[S]{fullShare} f) ∗ BaseW m ρ K M t c X)
      ⊢ Wp c (.op (.load B lr hl) fun _ => .op (.store B r w Finset.univ hx hm) k) Q := fun f =>
    BaseW_in.trans (op_load S f .rfl hL (op_store S f .rfl hS ((BaseW_mono (sep_mono_left (hP' f))).trans hJ)))
  refine BaseW_out.trans ?_
  iintro ⟨HP, HB⟩
  ihave HP := hP $$ HP
  icases HP with ⟨%f, Hf⟩
  iapply (key f) $$ [Hf HB]
  isplitl [Hf]; · iexact Hf
  iexact HB

theorem zero2 : (![0, 0] : Fin 2 → ℕ) = fun _ => 0 := by funext i; fin_cases i <;> rfl
theorem dev6 : ∀ c : Dev nD, k0_dev6 c = (dst 36 c).val := by decide +kernel
theorem dev7 : ∀ c : Dev nD, k0_dev7 c = (dst 37 c).val := by decide +kernel
theorem dev8 : ∀ c : Dev nD, k0_dev8 c = (dst 38 c).val := by decide +kernel

theorem part3 {Q : _ → sProp 𝕄} {c : Dev nD} {X : sProp 𝕄} {a0 a1 a2 a3 : BitVec 32}
    (hk : ∀ r, Base m ρ K 14 c iprop(holds (sbH true) c (bulkAt m ρ c) ∗ X) ⊢ Q r) :
    Base m ρ K 11 c iprop(holds sM c (rawAt m ρ c) ∗ (∃ f, holds sbM c f) ∗ X) ⊢ Wp c (onBufs (k0_part3 (F := F)) c a0 a1 a2 a3) Q := by
  rw [k0_part3_eq_skeleton]
  unfold onBufs k0_part3_skel
  simp only [Prog.lift, Prog.bind_op, Prog.bind_ret, Prog.pure_eq_ret]
  refine send36 (dev6 c) rfl rfl ?_
  refine op_arg ?_
  refine fill (P' := holds sbM c (bulkAt m ρ c)) sbM sbM.view.set (View.setOn_subset_set _ _) (by rw [View.setOn_univ]; exact View.set_slice_subset _ _) .rfl
    (fun f => by
      rw [show (sbM.access (Rect.unit (s := S1536x1024) ![0, 0] S1536x1024.size inb_S1536x1024_S1536x1024_0_0)).write (Elt F) f _ Finset.univ = _ from
        Memref.write_access_unit_zero_univ (Elt F) cc0_scratch2 zero2 inb_S1536x1024_S1536x1024_0_0 f _]
      exact .rfl) ?_
  refine (Base_next (by decide) (by decide) (by decide +kernel) rfl).trans ?_
  refine (BaseW_mono (show iprop(holds sbM c (bulkAt m ρ c) ∗ X) ⊢ iprop(holds (sbH false) c (bulkAt m ρ c) ∗ (holds (sbH true) c (bulkAt m ρ c) ∗ X)) from by
    iintro ⟨H, HX⟩
    ihave H := sb_halves.1 $$ H
    icases H with ⟨H1, H2⟩
    isplitl [H1]; · iexact H1
    isplitl [H2]; · iexact H2
    iexact HX)).trans ?_
  refine send37 (dev7 c) rfl rfl ?_
  exact done (hk _)

theorem mkDev_self : ∀ c : Dev nD, mkDev (px c) (py c) (pz c) = c := by decide +kernel

theorem tile_own (m : (ℓ : Loc nD τ sig) → Buf (Elt F) ℓ) (ρ : Dev nD → PrngReg) (b : Bool) (c : Dev nD) {off : Fin 4 → ℕ}
    (hoff : off = ![cond b (py c) (pz c), cond b (pz c) (py c), 0, 0]) {inb : ∀ i, off i + S1x1x80x1024.size i ≤ S4x4x80x1024.size i} (x : S1x1x80x1024.Idx) :
    sumAt m ρ b c x = tabAt m ρ b c ((Rect.unit (s := S4x4x80x1024) off S1x1x80x1024.size inb).emb x) := by
  subst hoff
  have h := fun a => ValueKit.rect_emb_unit_val (s := S4x4x80x1024) _ _ inb x a
  have hx0 : (x 0).val = 0 := by have : (x 0).val < 1 := (x 0).isLt; omega
  have hx1 : (x 1).val = 0 := by have : (x 1).val < 1 := (x 1).isLt; omega
  have h0 : (((Rect.unit (s := S4x4x80x1024) _ S1x1x80x1024.size inb).emb x) 0).val = cond b (py c) (pz c) := by
    refine (h 0).trans ?_; rw [hx0]; rfl
  have h1 : (((Rect.unit (s := S4x4x80x1024) _ S1x1x80x1024.size inb).emb x) 1).val = cond b (pz c) (py c) := by
    refine (h 1).trans ?_; rw [hx1]; rfl
  unfold tabAt
  rw [h0, h1, show tileDev b (px c) (cond b (py c) (pz c)) (cond b (pz c) (py c)) = c from by
    unfold tileDev; cases b <;> exact mkDev_self c]
  congr 1
  funext k; apply Fin.ext
  match k with
  | ⟨0, _⟩ => exact hx0
  | ⟨1, _⟩ => exact hx1
  | ⟨2, _⟩ => exact ((h 2).trans (Nat.zero_add _)).symm
  | ⟨3, _⟩ => exact ((h 3).trans (Nat.zero_add _)).symm

theorem rect_own (b : Bool) (c : Dev nD) {off : Fin 4 → ℕ} (hoff : off = ![cond b (py c) (pz c), cond b (pz c) (py c), 0, 0])
    {inb : ∀ i, off i + S1x1x80x1024.size i ≤ S4x4x80x1024.size i} :
    (Rect.unit (s := S4x4x80x1024) off S1x1x80x1024.size inb).set = tiles (ownMask b (py c) (pz c)) := by
  have hy := py_lt c
  have hz := pz_lt c
  refine (rect_set (n := 1) (inb := inb) hoff (by cases b <;> assumption) (by cases b <;> (simp only [cond_true, cond_false]; omega)) (by decide)).trans ?_
  cases b <;> rfl

/-- A device writes its own tile into a table, after a look at what was there. -/
theorem put_own {α : Type} {Q : α → sProp 𝕄} (b : Bool) {M t : ℕ} {c : Dev nD} {X : sProp 𝕄} {off : Fin 4 → ℕ}
    (hoff : off = ![cond b (py c) (pz c), cond b (pz c) (py c), 0, 0]) {inb inb' : ∀ i, off i + S1x1x80x1024.size i ≤ S4x4x80x1024.size i}
    {hl : (tabM b).view.LoadsAt (Rect.unit (s := S4x4x80x1024) off S1x1x80x1024.size inb').toLoadRect}
    {hx : ((tabM b).access (Rect.unit (s := S4x4x80x1024) off S1x1x80x1024.size inb)).Stores Finset.univ} {hm}
    {k : PUnit → Prog (TpuEff nD τ sig (Elt F) Λ₀ .tc) α}
    (hJ : BaseW m ρ K M t c iprop(tab b c fullShare (ownMask b (py c) (pz c)) (tabAt m ρ b c) ∗ X) ⊢ Wp c (k ⟨⟩) Q) :
    BaseW m ρ K M t c iprop(ownRoom b c ∗ X) ⊢ Wp c (.op (.load (tabM b) (Rect.unit (s := S4x4x80x1024) off S1x1x80x1024.size inb').toLoadRect hl) fun _ =>
      .op (.store (tabM b) (Rect.unit (s := S4x4x80x1024) off S1x1x80x1024.size inb) (sumAt m ρ b c) Finset.univ hx hm) k) Q := by
  have hset := rect_own b c (inb := inb) hoff
  have hval := fun x => tile_own m ρ b c (inb := inb) hoff x
  cases b
  · refine fill (tabM false) (tiles (ownMask false (py c) (pz c))) (fun i hi => by
      obtain ⟨x, hx, rfl⟩ := Finset.mem_map.mp hi; exact hset.subset hx) ?_ .rfl (fun f => ?_) hJ
    · rw [← hset]; exact (View.set_slice_whole cc0_scratch4 _).subset
    · unfold tab; simp only
      refine (BIBase.BiEntails.of_eq (pointsTo_congr fun i hi => ?_)).1
      rw [← hset, ← Rect.map_emb_univ] at hi
      obtain ⟨x, -, rfl⟩ := Finset.mem_map.mp hi
      exact (View.write_emb_of_mem (Val := Elt F) (v := (tabM false).access (Rect.unit (s := S4x4x80x1024) off S1x1x80x1024.size inb)) f _ (Finset.mem_univ x)).trans (hval x)
  · refine fill (tabM true) (tiles (ownMask true (py c) (pz c))) (fun i hi => by
      obtain ⟨x, hx, rfl⟩ := Finset.mem_map.mp hi; exact hset.subset hx) ?_ .rfl (fun f => ?_) hJ
    · rw [← hset]; exact (View.set_slice_whole cc0_scratch5 _).subset
    · unfold tab; simp only
      refine (BIBase.BiEntails.of_eq (pointsTo_congr fun i hi => ?_)).1
      rw [← hset, ← Rect.map_emb_univ] at hi
      obtain ⟨x, -, rfl⟩ := Finset.mem_map.mp hi
      exact (View.write_emb_of_mem (Val := Elt F) (v := (tabM true).access (Rect.unit (s := S4x4x80x1024) off S1x1x80x1024.size inb)) f _ (Finset.mem_univ x)).trans (hval x)

/-- The two own tiles, right, are the tables as the gathers start. -/
theorem Tb_own (m : (ℓ : Loc nD τ sig) → Buf (Elt F) ℓ) (ρ : Dev nD → PrngReg) (c : Dev nD) :
    iprop(tab true c fullShare (ownMask true (py c) (pz c)) (tabAt m ρ true c) ∗ tab false c fullShare (ownMask false (py c) (pz c)) (tabAt m ρ false c))
      ⊢ Tb m ρ 19 c := by
  unfold Tb
  rw [bigSep_univ_prod, bigSep_univ_eq_bigSepL [true, false] (by decide) (by decide)]
  have h : ∀ b, (tab b c fullShare (ownMask b (py c) (pz c)) (tabAt m ρ b c) : sProp 𝕄)
      ⊢ bigSep Finset.univ fun p : Fin 5 => tab b c (shr p.val) (held 19 b p.val (py c) (pz c)) (tabAt m ρ b c) := fun b => by
    refine tab_shares.1.trans ((BIBase.BiEntails.of_eq (bigSep_congr fun p _ => ?_)).1)
    rw [show held 19 b p.val (py c) (pz c) = ownMask b (py c) (pz c) from held_start_fin b p ⟨py c, py_lt c⟩ ⟨pz c, pz_lt c⟩]
  exact BIClass.sep_mono (h true) (h false)

theorem off2_a : ∀ c : Dev nD, k0_off2 c 1#32 4#32 = ![cond false (py c) (pz c), cond false (pz c) (py c), 0, 0] := by decide +kernel
theorem off2_b : ∀ c : Dev nD, k0_off2 c 4#32 1#32 = ![cond true (py c) (pz c), cond true (pz c) (py c), 0, 0] := by decide +kernel

/-- Reading the partner's rows. -/
theorem read_raw {α : Type} {Q : α → sProp 𝕄} {M t : ℕ} {c : Dev nD} {X : sProp 𝕄} {inb hl}
    {k : (S160x1024.Idx → Elt F .bf16) → Prog (TpuEff nD τ sig (Elt F) Λ₀ .tc) α}
    (hJ : BaseW m ρ K M t c iprop(recvPay m ρ 36 c ∗ X) ⊢ Wp c (k (rawAt m ρ (peer c))) Q) :
    BaseW m ρ K M t c iprop(recvPay m ρ 36 c ∗ X) ⊢ Wp c (.op (.load rM (Rect.unit (s := S160x1024) ![0, 0] S160x1024.size inb).toLoadRect hl) k) Q := by
  rw [recvPay36] at hJ ⊢
  refine op_load rM.view.set (rawAt m ρ (peer c)) .rfl (View.setOn_subset_set _ _) ?_
  rw [show rM.view.readAt (Elt F) (Rect.unit (s := S160x1024) ![0, 0] S160x1024.size inb).toLoadRect (rawAt m ρ (peer c)) = rawAt m ρ (peer c) from
    Memref.readAt_unit_zero (Elt F) cc0_scratch1 zero2 inb (rawAt m ρ (peer c))]
  exact hJ

theorem part4 {Q : _ → sProp 𝕄} {c : Dev nD} {X : sProp 𝕄} {a0 a1 a2 : BitVec 32}
    (hk : ∀ r, Res m ρ K 19 c iprop(recvPay m ρ 36 c ∗ sendPay m ρ 36 c ∗ X) ⊢ Q r) :
    Base m ρ K 14 c iprop(holds (sbH true) c (bulkAt m ρ c) ∗ ownRoom false c ∗ ownRoom true c ∗ X)
      ⊢ Wp c (onBufs (k0_part4 (F := F)) c a0 a1 a2 (k0_pay1 (ownRows m ρ c))) Q := by
  rw [k0_part4_eq_skeleton]
  unfold onBufs k0_part4_skel
  simp only [Prog.lift, Prog.bind_op, Prog.bind_ret, Prog.pure_eq_ret]
  refine send38 (dev8 c) rfl rfl ?_
  refine op_wait 36 rfl rfl rfl (by rw [amt36]) ?_
  refine op_recv 36 rfl rfl rfl (by rw [amt36]) ?_
  refine read_raw ?_
  refine (BaseW_mono (show iprop(recvPay m ρ 36 c ∗ sendPay m ρ 36 c ∗ ownRoom false c ∗ ownRoom true c ∗ X)
    ⊢ iprop(ownRoom false c ∗ (ownRoom true c ∗ recvPay m ρ 36 c ∗ sendPay m ρ 36 c ∗ X)) from by
      iintro ⟨H1, H2, H3, H4, HX⟩; isplitl [H3]; · iexact H3
      isplitl [H4]; · iexact H4
      isplitl [H1]; · iexact H1
      isplitl [H2]; · iexact H2
      iexact HX)).trans ?_
  refine put_own false (off2_a c) ?_
  refine (Base_next (by decide) (by decide) (by decide +kernel) rfl).trans ?_
  refine (BaseW_mono (show iprop(tab false c fullShare (ownMask false (py c) (pz c)) (tabAt m ρ false c) ∗ (ownRoom true c ∗ recvPay m ρ 36 c ∗ sendPay m ρ 36 c ∗ X))
    ⊢ iprop(ownRoom true c ∗ (tab false c fullShare (ownMask false (py c) (pz c)) (tabAt m ρ false c) ∗ recvPay m ρ 36 c ∗ sendPay m ρ 36 c ∗ X)) from by
      iintro ⟨H1, H2, H3⟩; isplitl [H2]; · iexact H2
      isplitl [H1]; · iexact H1
      iexact H3)).trans ?_
  refine put_own true (off2_b c) ?_
  refine (Base_next (by decide) (by decide) (by decide +kernel) rfl).trans ?_
  refine (BaseW_mono (show iprop(tab true c fullShare (ownMask true (py c) (pz c)) (tabAt m ρ true c)
      ∗ (tab false c fullShare (ownMask false (py c) (pz c)) (tabAt m ρ false c) ∗ recvPay m ρ 36 c ∗ sendPay m ρ 36 c ∗ X))
    ⊢ iprop(Tb m ρ 19 c ∗ recvPay m ρ 36 c ∗ sendPay m ρ 36 c ∗ X) from by
      iintro ⟨H1, H2, H3⟩; isplitl [H1 H2]
      · iapply (Tb_own m ρ c); isplitl [H1]; · iexact H1
        iexact H2
      iexact H3)).trans ?_
  exact done (hk _)

end Cert.MeshSum

end
-- ==== Proof.Bulk.lean ====
/-
# The rows added up directly
-/
module

public import proofs.«01_k».proof.Proof.Swap

@[expose] public section

noncomputable section

namespace Cert.MeshSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {ρ : Dev nD → PrngReg} {K : Dev nD × Fin 79 → ℕ}

/-! ## The first 1536 rows: two halves, each the sum of a device's rows and its partner's -/

theorem held_bulk0_fin : ∀ (b : Bool) (p : Fin 5) (y z : Fin 4), held 85 b p.val y.val z.val = held 83 b p.val y.val z.val := by decide +kernel
theorem held_bulk1_fin : ∀ (b : Bool) (p : Fin 5) (y z : Fin 4), held 128 b p.val y.val z.val = held 126 b p.val y.val z.val := by decide +kernel

theorem Tb_bulk0 (c : Dev nD) : Tb m ρ 83 c = Tb m ρ 85 c := by
  unfold Tb
  refine bigSep_congr fun bp _ => ?_
  rw [show held 85 bp.1 bp.2.val (py c) (pz c) = held 83 bp.1 bp.2.val (py c) (pz c) from held_bulk0_fin bp.1 bp.2 ⟨py c, py_lt c⟩ ⟨pz c, pz_lt c⟩]
theorem Tb_bulk1 (c : Dev nD) : Tb m ρ 126 c = Tb m ρ 128 c := by
  unfold Tb
  refine bigSep_congr fun bp _ => ?_
  rw [show held 128 bp.1 bp.2.val (py c) (pz c) = held 126 bp.1 bp.2.val (py c) (pz c) from held_bulk1_fin bp.1 bp.2 ⟨py c, py_lt c⟩ ⟨pz c, pz_lt c⟩]

/-- Reading the partner's rows of the first half. -/
theorem read_bulk0 {α : Type} {Q : α → sProp 𝕄} {M t : ℕ} {c : Dev nD} {X : sProp 𝕄} {inb hl}
    {k : (S768x1024.Idx → Elt F .bf16) → Prog (TpuEff nD τ sig (Elt F) Λ₀ .tc) α}
    (hJ : BaseW m ρ K M t c iprop(recvPay m ρ 37 c ∗ X) ⊢ Wp c (k (rbM.view.readAt (Elt F)
      (Rect.unit (s := S1536x1024) ![0, 0] S768x1024.size inb).toLoadRect (bulkAt m ρ (peer c)))) Q) :
    BaseW m ρ K M t c iprop(recvPay m ρ 37 c ∗ X)
      ⊢ Wp c (.op (.load rbM (Rect.unit (s := S1536x1024) ![0, 0] S768x1024.size inb).toLoadRect hl) k) Q := by
  rw [recvPay37] at hJ ⊢
  exact op_load (rbH false).view.set (bulkAt m ρ (peer c)) .rfl (fun i hi => by
    obtain ⟨x, hx, rfl⟩ := Finset.mem_map.mp hi
    rw [View.set_slice_whole cc0_scratch3]; exact hx) hJ

/-- Reading the partner's rows of the second half. -/
theorem read_bulk1 {α : Type} {Q : α → sProp 𝕄} {M t : ℕ} {c : Dev nD} {X : sProp 𝕄} {inb hl}
    {k : (S768x1024.Idx → Elt F .bf16) → Prog (TpuEff nD τ sig (Elt F) Λ₀ .tc) α}
    (hJ : BaseW m ρ K M t c iprop(recvPay m ρ 38 c ∗ X) ⊢ Wp c (k (rbM.view.readAt (Elt F)
      (Rect.unit (s := S1536x1024) ![768, 0] S768x1024.size inb).toLoadRect (bulkAt m ρ (peer c)))) Q) :
    BaseW m ρ K M t c iprop(recvPay m ρ 38 c ∗ X)
      ⊢ Wp c (.op (.load rbM (Rect.unit (s := S1536x1024) ![768, 0] S768x1024.size inb).toLoadRect hl) k) Q := by
  rw [recvPay38] at hJ ⊢
  exact op_load (rbH true).view.set (bulkAt m ρ (peer c)) .rfl (fun i hi => by
    obtain ⟨x, hx, rfl⟩ := Finset.mem_map.mp hi
    rw [View.set_slice_whole cc0_scratch3]; exact hx) hJ

theorem ix768_emb {o : ℕ} (ho : o % 768 = 0) {inb : ∀ i, (![o, 0] : Fin 2 → ℕ) i + S768x1024.size i ≤ S4096x1024.size i} (x : S768x1024.Idx) :
    ix768 ((Rect.unit (s := S4096x1024) ![o, 0] S768x1024.size inb).emb x 0).val ((Rect.unit (s := S4096x1024) ![o, 0] S768x1024.size inb).emb x) = x := by
  have hx0 : (x 0).val < 768 := (x 0).isLt
  have h0 : ((Rect.unit (s := S4096x1024) ![o, 0] S768x1024.size inb).emb x 0).val = o + (x 0).val :=
    ValueKit.rect_emb_unit_val (s := S4096x1024) _ _ inb x 0
  have h1 : ((Rect.unit (s := S4096x1024) ![o, 0] S768x1024.size inb).emb x 1).val = (x 1).val :=
    (ValueKit.rect_emb_unit_val (s := S4096x1024) _ _ inb x 1).trans (Nat.zero_add _)
  funext k; apply Fin.ext
  match k with
  | ⟨0, _⟩ => exact (show ((Rect.unit (s := S4096x1024) ![o, 0] S768x1024.size inb).emb x 0).val % 768 = (x 0).val by rw [h0]; omega)
  | ⟨1, _⟩ => exact h1

theorem half_right0 (c : Dev nD) {inb : ∀ i, (![0, 0] : Fin 2 → ℕ) i + S768x1024.size i ≤ S4096x1024.size i} (x : S768x1024.Idx) :
    bulkSum m ρ false c x = resAt m ρ c ((Rect.unit (s := S4096x1024) ![0, 0] S768x1024.size inb).emb x) := by
  have hx0 : (x 0).val < 768 := (x 0).isLt
  have h0 : ((Rect.unit (s := S4096x1024) ![0, 0] S768x1024.size inb).emb x 0).val = 0 + (x 0).val :=
    ValueKit.rect_emb_unit_val (s := S4096x1024) _ _ inb x 0
  unfold resAt
  dsimp only
  rw [if_pos (by rw [h0]; omega), ix768_emb (by decide)]
theorem half_right1 (c : Dev nD) {inb : ∀ i, (![768, 0] : Fin 2 → ℕ) i + S768x1024.size i ≤ S4096x1024.size i} (x : S768x1024.Idx) :
    bulkSum m ρ true c x = resAt m ρ c ((Rect.unit (s := S4096x1024) ![768, 0] S768x1024.size inb).emb x) := by
  have hx0 : (x 0).val < 768 := (x 0).isLt
  have h0 : ((Rect.unit (s := S4096x1024) ![768, 0] S768x1024.size inb).emb x 0).val = 768 + (x 0).val :=
    ValueKit.rect_emb_unit_val (s := S4096x1024) _ _ inb x 0
  unfold resAt
  dsimp only
  rw [if_neg (by rw [h0]; omega), if_pos (by rw [h0]; omega), ix768_emb (by decide)]

theorem half_rows {o s : ℕ} (h : (o = 0 ∧ s = 0) ∨ (o = 768 ∧ s = 1)) {inb : ∀ i, (![o, 0] : Fin 2 → ℕ) i + S768x1024.size i ≤ S4096x1024.size i}
    (i : S4096x1024.Idx) (hi : stretch (i 0).val = s) : i ∈ (Rect.unit (s := S4096x1024) ![o, 0] S768x1024.size inb).set := by
  rw [Rect.mem_set_unit, Fin.forall_fin_succ, Fin.forall_fin_succ]
  have h1 : (i 1).val < 1024 := (i 1).isLt
  unfold stretch at hi
  refine ⟨⟨show o ≤ (i 0).val from ?_, show (i 0).val < o + 768 from ?_⟩,
    ⟨Nat.zero_le _, show (i 1).val < 0 + 1024 by omega⟩, fun k => k.elim0⟩ <;> rcases h with ⟨rfl, rfl⟩ | ⟨rfl, rfl⟩ <;> split_ifs at hi <;> omega

/-- Writing a half of those rows to the result. -/
theorem write_half0 {α : Type} {Q : α → sProp 𝕄} {M t : ℕ} {c : Dev nD} {X : sProp 𝕄} {inb : ∀ i, (![0, 0] : Fin 2 → ℕ) i + S768x1024.size i ≤ S4096x1024.size i}
    {w : FVec F S768x1024 .f32} (hw : w = bulkSum m ρ false c)
    {hx : (oM.access (Rect.unit (s := S4096x1024) ![0, 0] S768x1024.size inb)).Stores Finset.univ} {hm}
    {k : PUnit → Prog (TpuEff nD τ sig (Elt F) Λ₀ .tc) α}
    (hJ : BaseW m ρ K (M ||| 2 ^ 0) t c X ⊢ Wp c (k ⟨⟩) Q) :
    BaseW m ρ K M t c X ⊢ Wp c (.op (.store oM (Rect.unit (s := S4096x1024) ![0, 0] S768x1024.size inb) w Finset.univ hx hm) k) Q := by
  subst hw
  exact op_write 0 (half_right0 c) (half_rows (o := 0) (s := 0) (by decide)) hJ

/-- Writing a half of those rows to the result. -/
theorem write_half1 {α : Type} {Q : α → sProp 𝕄} {M t : ℕ} {c : Dev nD} {X : sProp 𝕄} {inb : ∀ i, (![768, 0] : Fin 2 → ℕ) i + S768x1024.size i ≤ S4096x1024.size i}
    {w : FVec F S768x1024 .f32} (hw : w = bulkSum m ρ true c)
    {hx : (oM.access (Rect.unit (s := S4096x1024) ![768, 0] S768x1024.size inb)).Stores Finset.univ} {hm}
    {k : PUnit → Prog (TpuEff nD τ sig (Elt F) Λ₀ .tc) α}
    (hJ : BaseW m ρ K (M ||| 2 ^ 1) t c X ⊢ Wp c (k ⟨⟩) Q) :
    BaseW m ρ K M t c X ⊢ Wp c (.op (.store oM (Rect.unit (s := S4096x1024) ![768, 0] S768x1024.size inb) w Finset.univ hx hm) k) Q := by
  subst hw
  exact op_write 1 (half_right1 c) (half_rows (o := 768) (s := 1) (by decide)) hJ

theorem part25 {Q : _ → sProp 𝕄} {c : Dev nD} {X : sProp 𝕄} {a0 a1 a2 a3 : BitVec 32}
    (hk : ∀ r, Res m ρ K 86 c iprop(recvPay m ρ 37 c ∗ sendPay m ρ 37 c ∗ X) ⊢ Q r) :
    Res m ρ K 82 c X ⊢ Wp c (onBufs (k0_part25 (F := F)) c a0 a1 a2 a3) Q := by
  rw [k0_part25_eq_skeleton]
  unfold onBufs k0_part25_skel
  simp only [Prog.lift, Prog.bind_op, Prog.bind_ret, Prog.pure_eq_ret]
  refine store 33 true 2 ?_
  refine op_wait 37 rfl rfl rfl (by rw [amt37]) ?_
  refine op_recv 37 rfl rfl rfl (by rw [amt37]) ?_
  refine op_arg ?_
  refine read_bulk0 ?_
  refine op_peek fun _ => ?_
  refine write_half0 rfl ?_
  refine (BaseW_mono (show iprop(recvPay m ρ 37 c ∗ sendPay m ρ 37 c ∗ Tb m ρ 83 c ∗ X) ⊢ iprop(Tb m ρ 85 c ∗ (recvPay m ρ 37 c ∗ sendPay m ρ 37 c ∗ X)) from by
    rw [Tb_bulk0]
    iintro ⟨H1, H2, H3, HX⟩; isplitl [H3]; · iexact H3
    isplitl [H1]; · iexact H1
    isplitl [H2]; · iexact H2
    iexact HX)).trans ?_
  refine (BIBase.BiEntails.of_eq (Res_step (by decide) (by decide +kernel) (written_bulk0_fin ⟨py c, py_lt c⟩ ⟨pz c, pz_lt c⟩))).1.trans ?_
  exact done (hk _)

theorem part39 {Q : _ → sProp 𝕄} {c : Dev nD} {X : sProp 𝕄} {a0 a1 a2 : BitVec 32} {a3 : BitVec 1} {a4 : BitVec 32}
    (hk : Base m ρ K 128 c iprop(recvPay m ρ 38 c ∗ sendPay m ρ 38 c ∗ Tb m ρ 126 c ∗ X) ⊢ Q (bulkSum m ρ true c)) :
    Res m ρ K 125 c X ⊢ Wp c (onBufs (k0_part39 (F := F)) c a0 a1 a2 a3 a4) Q := by
  rw [k0_part39_eq_skeleton]
  unfold onBufs k0_part39_skel
  simp only [Prog.lift, Prog.bind_op, Prog.bind_ret, Prog.pure_eq_ret]
  refine store 35 true 2 ?_
  refine op_wait 38 rfl rfl rfl (by rw [amt38]) ?_
  refine op_recv 38 rfl rfl rfl (by rw [amt38]) ?_
  refine op_arg ?_
  refine read_bulk1 ?_
  refine op_peek fun _ => ?_
  exact done hk

theorem part40 {Q : _ → sProp 𝕄} {c : Dev nD} {X : sProp 𝕄} {a0 a1 : BitVec 32}
    (hk : ∀ r, Res m ρ K 132 c iprop(recvPay m ρ 38 c ∗ sendPay m ρ 38 c ∗ X) ⊢ Q r) :
    Base m ρ K 128 c iprop(recvPay m ρ 38 c ∗ sendPay m ρ 38 c ∗ Tb m ρ 126 c ∗ X)
      ⊢ Wp c (onBufs (k0_part40 (F := F)) c a0 a1 (bulkSum m ρ true c)) Q := by
  rw [k0_part40_eq_skeleton]
  unfold onBufs k0_part40_skel
  simp only [Prog.lift, Prog.bind_op, Prog.bind_ret, Prog.pure_eq_ret]
  refine write_half1 rfl ?_
  refine (BaseW_mono (show iprop(recvPay m ρ 38 c ∗ sendPay m ρ 38 c ∗ Tb m ρ 126 c ∗ X) ⊢ iprop(Tb m ρ 128 c ∗ (recvPay m ρ 38 c ∗ sendPay m ρ 38 c ∗ X)) from by
    rw [Tb_bulk1]
    iintro ⟨H1, H2, H3, HX⟩; isplitl [H3]; · iexact H3
    isplitl [H1]; · iexact H1
    isplitl [H2]; · iexact H2
    iexact HX)).trans ?_
  refine (BIBase.BiEntails.of_eq (Res_step (by decide) (by decide +kernel) (written_bulk1_fin ⟨py c, py_lt c⟩ ⟨pz c, pz_lt c⟩))).1.trans ?_
  refine wait 0 ?_
  refine wait 3 ?_
  refine wait 6 ?_
  exact done (hk _)

end Cert.MeshSum

end
-- ==== Proof.Barrier.lean ====
/-
# Meeting the neighbours
-/
module

public import proofs.«01_k».proof.Proof.Bulk

@[expose] public section

noncomputable section

namespace Cert.MeshSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {ρ : Dev nD → PrngReg} {K : Dev nD × Fin 79 → ℕ}

/-! ## The signals -/

/-- What the signal in direction `d` takes: the right to give it, and the places in which device `c` receives from there. -/
def sigRes (d : Fin 5) (c : Dev nD) : sProp 𝕄 :=
  if has d c = true then iprop(dutyTok ER (barCell (nbr d c)) 0 (opp d) ∗ barPay (nbr d c) (opp d)) else iprop(emp)

theorem still_low : ∀ t : Fin 5, Still t.val := by decide +kernel

/-- A signal settles one thing owed, and changes nothing else. -/
theorem BaseW_signal {M : ℕ} {d : Fin 5} {c : Dev nD} {X Y : sProp 𝕄} (h : has d c = true) :
    BaseW m ρ K M (opp d).val c iprop(Y ∗ X)
      ⊢ iprop(records m ρ K ∗ (∃ W, owes (c : Thread nD τ) (owed ((opp d).val + 1) c + tallyAt (barCell (nbr d c)) () 1) W) ∗ Y
        ∗ ((∃ W, owes (c : Thread nD τ) (owed ((opp d).val + 1) c) W) -∗ BaseW m ρ K M ((opp d).val + 1) c X)) := by
  have hs := still_low (opp d)
  have h9 : (opp d).val ≠ 9 := by have := (opp d).isLt; omega
  unfold BaseW
  rw [owed_signal, if_pos h,
    ← bigSep_congr (s := Finset.univ) (fun (e : Ev) _ => sndSt_same (F := F) (c := c) fun _ => ⟨(hs e).1, (hs e).2.2⟩),
    ← bigSep_congr (s := Finset.univ) (fun (e : Ev) _ => rcvSt_same (F := F) (c := c) fun _ => (hs e).2.1),
    ← bigSep_congr (s := Finset.univ) (fun (e : Ev) _ => roomSt_same (F := F) (c := c) h9 fun _ => (hs e).1)]
  iintro ⟨#H1, #H2, H3, H4, H5, H6, H7, H8, HY, HX⟩
  isplitr; · iexact H1
  isplitl [H3]; · iexact H3
  isplitl [HY]; · iexact HY
  iintro H3
  isplitr; · iexact H1
  isplitr; · iexact H2
  isplitl [H3]; · iexact H3
  isplitl [H4]; · iexact H4
  isplitl [H5]; · iexact H5
  isplitl [H6]; · iexact H6
  isplitl [H7]; · iexact H7
  isplitl [H8]; · iexact H8
  iexact HX

/-- Where there is no neighbour nothing is owed. -/
theorem BaseW_no_signal {M : ℕ} {d : Fin 5} {c : Dev nD} {X : sProp 𝕄} (h : ¬ has d c = true) :
    BaseW m ρ K M (opp d).val c X = BaseW m ρ K M ((opp d).val + 1) c X := by
  have hs := still_low (opp d)
  have h9 : (opp d).val ≠ 9 := by have := (opp d).isLt; omega
  unfold BaseW
  rw [owed_signal, if_neg h, add_zero,
    ← bigSep_congr (s := Finset.univ) (fun (e : Ev) _ => sndSt_same (F := F) (c := c) fun _ => ⟨(hs e).1, (hs e).2.2⟩),
    ← bigSep_congr (s := Finset.univ) (fun (e : Ev) _ => rcvSt_same (F := F) (c := c) fun _ => (hs e).2.1),
    ← bigSep_congr (s := Finset.univ) (fun (e : Ev) _ => roomSt_same (F := F) (c := c) h9 fun _ => (hs e).1)]

theorem op_signal {α : Type} {Q : α → sProp 𝕄} (d : Fin 5) {M t : ℕ} (ht : (opp d).val = t) {c n : Dev nD} {X : sProp 𝕄} (h : has d c = true)
    (hn : n = nbr d c) {k' : ℤ} (hk : k' = ((1 : ℕ) : ℤ)) {k : PUnit → Prog (TpuEff nD τ sig (Elt F) Λ₀ .tc) α}
    (hJ : BaseW m ρ K M (t + 1) c X ⊢ Wp c (k ⟨⟩) Q) :
    BaseW m ρ K M t c iprop(sigRes d c ∗ X) ⊢ Wp c (.op (.semSignal (n : Thread nD τ) barS k') k) Q := by
  subst hn hk ht
  refine (BaseW_signal h).trans ?_
  iintro ⟨#Hrec, ⟨%W, Ho⟩, HY, Hk⟩
  ihave HY := (show sigRes (F := F) d c ⊢ iprop(dutyTok ER (barCell (nbr d c)) 0 (opp d) ∗ barPay (nbr d c) (opp d)) from by unfold sigRes; rw [if_pos h]) $$ HY
  icases HY with ⟨Ht, Hp⟩
  iapply (Rounds.wp_signal 𝒱₀ ER (Rd m ρ) (c : Thread nD τ) none (dst := (nbr d c : Thread nD τ)) (κ := K (nbr d c, 0)) (d := opp d)
    (by rw [duties_bar]; exact Finset.mem_filter.mpr ⟨Finset.mem_univ _, (has_nbr d c).trans h⟩) (amount_bar m ρ (nbr d c) (opp d)) ()
    (owed ((opp d).val + 1) c) rfl) $$ [Ho Ht Hp]
  · isplitr; · iapply (inv_bar (nbr d c)); iexact Hrec
    isplitl [Ho]; · iexact Ho
    isplitl [Ht]; · iexact Ht
    isplitl [Hp]; · rw [payload_bar]; iexact Hp
    iapply (reached_bar (nbr d c)); iexact Hrec
  iintro Ho
  iapply hJ
  iapply Hk
  iexists W; iexact Ho

/-- The signal in direction `d`, if there is a neighbour. -/
theorem signal {α : Type} {Q : α → sProp 𝕄} (d : Fin 5) {M t : ℕ} {c : Dev nD} {X : sProp 𝕄} {p : Dev nD → BitVec 1}
    {n : (c : Dev nD) → p c = 1#1 → Dev nD} {k' : ℤ} {J : Prog (TpuEff nD τ sig (Elt F) Λ₀ .tc) α}
    (hJ : BaseW m ρ K M (t + 1) c X ⊢ Wp c J Q)
    (ht : (opp d).val = t := by rfl) (hp : ∀ c, p c = 1#1 ↔ has d c = true := by decide +kernel)
    (hn : ∀ c h, (n c h).val = (nbr d c).val := by decide +kernel) (hk : k' = ((1 : ℕ) : ℤ) := by rfl) :
    BaseW m ρ K M t c iprop(sigRes d c ∗ X) ⊢ Wp c (if h : p c = 1#1 then .op (.semSignal (n c h : Thread nD τ) barS k') (fun _ => J) else J) Q := by
  by_cases h : p c = 1#1
  · rw [dif_pos h]
    exact op_signal d ht ((hp c).mp h) (Fin.ext (hn c h)) hk hJ
  · rw [dif_neg h]
    subst ht
    rw [BaseW_no_signal (fun hh => h ((hp c).mpr hh))]
    exact (BaseW_mono (by iintro ⟨-, H⟩; iexact H)).trans hJ

/-! ## The waits -/

/-- After `n` units of the barrier: the signals of some directions are accounted for, and what came with them is here. -/
def barSt (n : ℕ) (c : Dev nD) : sProp 𝕄 :=
  iprop(∃ S : Finset (Fin 5), ⌜S ⊆ dirs c ∧ n + (dirs c \ S).card ≤ (dirs c).card⌝ ∗ atPos ER (barCell c) 0 S n ∗ bigSep S (barPay (F := F) c))

def barCred (d : Fin 5) (c : Dev nD) : sProp 𝕄 := if has d c = true then cred (tallyAt (barCell c) () 1) else iprop(emp)

theorem op_barrier {α : Type} {Q : α → sProp 𝕄} {M n : ℕ} {c : Dev nD} {X : sProp 𝕄} {k' : ℤ} (hk : k' = ((1 : ℕ) : ℤ))
    {k : PUnit → Prog (TpuEff nD τ sig (Elt F) Λ₀ .tc) α}
    (hJ : BaseW m ρ K M 5 c iprop(barSt (n + 1) c ∗ X) ⊢ Wp c (k ⟨⟩) Q) :
    BaseW m ρ K M 5 c iprop(barSt n c ∗ cred (tallyAt (barCell c) () 1) ∗ X) ⊢ Wp c (.op (.semWait barS k') k) Q := by
  subst hk
  refine BIBase.Entails.trans ?_ (show iprop((BaseW m ρ K M 5 c iprop(barSt (n + 1) c ∗ X) -∗ Wp c (k ⟨⟩) Q)
    ∗ BaseW m ρ K M 5 c iprop(barSt n c ∗ cred (tallyAt (barCell c) () 1) ∗ X)) ⊢ _ from ?_)
  · iintro H; isplitr; · iintro H; iapply hJ; iexact H
    iexact H
  unfold BaseW
  iintro ⟨Hk, #H1, #H2, ⟨%W, H3⟩, H4, H5, H6, H7, H8, Hb, Hc, HX⟩
  unfold barSt
  icases Hb with ⟨%S, %hS, Hat, Hp⟩
  iapply (Rounds.wp_wait 𝒱₀ ER (Rd m ρ) (c : Thread nD τ) none (κ := K (c, 0)) (wpE_semWait_eq 𝒱₀ (c : Thread nD τ) none Set.univ) (Set.mem_univ _)
    (cr := Finsupp.single () 1) (O := owed 5 c) (W := W) {(.reg barS, ())} (R := 0) (m := n) (T := S) (by simp) (image_single_subset (.reg barS) () 1)) $$ [Hc H3 Hat]
  · isplitr; · iapply (inv_bar c); iexact H1
    isplitl [Hc]; · iexact Hc
    isplitl [H3]; · iexact H3
    isplitr
    · iapply (mayWait_of (t := 5) c (.reg barS) 5 (by rw [lv_bar]) (fun h => absurd h (by omega)) (fun e _ => Nat.lt_of_lt_of_le (by decide) (tSend_ge e))); iexact H2
    iexact Hat
  iintro %S' ⟨%hS', H3, Hat, Hp'⟩
  rw [duties_bar, expect_bar] at hS'
  iapply Hk
  isplitr; · iexact H1
  isplitr; · iexact H2
  isplitl [H3]; · iexists _; iexact H3
  isplitl [H4]; · iexact H4
  isplitl [H5]; · iexact H5
  isplitl [H6]; · iexact H6
  isplitl [H7]; · iexact H7
  isplitl [H8]; · iexact H8
  isplitl [Hat Hp Hp']
  · iexists S'
    isplitr; · ipureintro; exact hS'.2
    isplitl [Hat]; · iexact Hat
    iapply (show iprop(bigSep S (barPay (F := F) c) ∗ bigSep (S' \ S) (barPay (F := F) c)) ⊢ (bigSep S' (barPay c) : sProp 𝕄) from
      Entails.of_eq (bigSep_sdiff_split hS'.1).symm)
    isplitl [Hp]; · iexact Hp
    iexact Hp'
  iexact HX

/-- A wait at the barrier, for the neighbour in direction `d` if there is one. -/
theorem barrier {α : Type} {Q : α → sProp 𝕄} (d : Fin 5) {M n : ℕ} {c : Dev nD} {X : sProp 𝕄} {p : Prop} [Decidable p] {k' : ℤ}
    {J : Prog (TpuEff nD τ sig (Elt F) Λ₀ .tc) α} (hp : p ↔ has d c = true)
    (hJ : BaseW m ρ K M 5 c iprop(barSt (n + cond (has d c) 1 0) c ∗ X) ⊢ Wp c J Q)
    (hk : k' = ((1 : ℕ) : ℤ) := by rfl) :
    BaseW m ρ K M 5 c iprop(barSt n c ∗ barCred d c ∗ X) ⊢ Wp c (if h : p then .op (.semWait barS k') (fun _ => J) else J) Q := by
  unfold barCred
  by_cases h : p
  · have hh := hp.mp h
    rw [dif_pos h, if_pos hh]
    rw [hh, cond_true] at hJ
    exact op_barrier hk hJ
  · have hh : ¬ has d c = true := fun hh => h (hp.mpr hh)
    rw [dif_neg h, if_neg hh]
    rw [Bool.eq_false_iff.mpr hh, cond_false, Nat.add_zero] at hJ
    exact (BaseW_mono (by iintro ⟨H1, -, H2⟩; isplitl [H1]; · iexact H1
                          iexact H2)).trans hJ

/-- What came with the signals of all neighbours is the room for all transfers. -/
theorem rooms_all (c : Dev nD) : (bigSep (dirs c) (barPay c) : sProp 𝕄) ⊢ bigSep Finset.univ fun e : Ev => roomSt 10 e c := by
  unfold barPay
  rw [bigSep_filter]
  have h : ∀ d : Fin 5, (if has d c = true then (bigSep Finset.univ fun e : Ev => if dirOf e = d ∧ sendC e c = true then room (F := F) e (nbr d c) else iprop(emp)) else iprop(emp))
      ⊢ (bigSep Finset.univ fun e : Ev => if dirOf e = d ∧ sendC e c = true then room (F := F) e (nbr d c) else iprop(emp) : sProp 𝕄) := fun d => by
    by_cases hd : has d c = true
    · rw [if_pos hd]
    · rw [if_neg hd]
      exact Entails.of_eq ((bigSep_emp_const _).symm.trans (bigSep_congr fun e _ => (if_neg fun hh : dirOf e = d ∧ sendC e c = true => hd (hh.1 ▸ sendC_has e c hh.2)).symm))
  refine (bigSep_mono fun d _ => h d).trans ?_
  rw [bigSep_univ_comm]
  refine bigSep_mono fun e _ => ?_
  unfold roomSt
  by_cases hs : sendC e c = true
  · rw [if_pos ⟨le_rfl, Nat.le_of_succ_le (tSend_ge e), hs⟩]
    refine (bigSep_elim (i := dirOf e) (Finset.mem_univ _)).trans ?_
    rw [if_pos ⟨rfl, hs⟩]
    exact BI.Entails.refl _
  · rw [if_neg (fun h => hs h.2.2)]
    exact (fun P : sProp 𝕄 => (by iintro -; iempintro : P ⊢ iprop(emp))) _

/-- Past the barrier the room for the transfers is in hand. -/
theorem BaseW_enter {M : ℕ} {c : Dev nD} {X : sProp 𝕄} :
    BaseW m ρ K M 5 c iprop(bigSep (dirs c) (barPay c) ∗ X) ⊢ BaseW m ρ K M 10 c X := by
  have h5 : ∀ X : sProp 𝕄, BaseW m ρ K M 5 c X = BaseW m ρ K M 9 c X := fun X => by
    rw [BaseW_still (t := 8) (by decide) (by decide) (by decide +kernel), BaseW_still (t := 7) (by decide) (by decide) (by decide +kernel),
      BaseW_still (t := 6) (by decide) (by decide) (by decide +kernel), BaseW_still (t := 5) (by decide) (by decide) (by decide +kernel)]
  rw [h5]
  have hs : Still 9 := by decide +kernel
  unfold BaseW
  rw [owed_same (t := 9) c (by decide) fun e => (hs e).1,
    ← bigSep_congr (s := Finset.univ) (fun (e : Ev) _ => sndSt_same (F := F) (t := 9) (c := c) fun _ => ⟨(hs e).1, (hs e).2.2⟩),
    ← bigSep_congr (s := Finset.univ) (fun (e : Ev) _ => rcvSt_same (F := F) (t := 9) (c := c) fun _ => (hs e).2.1)]
  iintro ⟨H1, H2, H3, H4, H5, -, H7, H8, Hb, HX⟩
  isplitl [H1]; · iexact H1
  isplitl [H2]; · iexact H2
  isplitl [H3]; · iexact H3
  isplitl [H4]; · iexact H4
  isplitl [H5]; · iexact H5
  isplitl [Hb]; · iapply (rooms_all c); iexact Hb
  isplitl [H7]; · iexact H7
  isplitl [H8]; · iexact H8
  iexact HX

theorem bar_card : ∀ c : Dev nD, 0 + cond (has 0 c) 1 0 + cond (has 2 c) 1 0 + cond (has 1 c) 1 0 + cond (has 4 c) 1 0 + cond (has 3 c) 1 0 = (dirs c).card := by
  decide +kernel

/-- All signals in, the barrier is over. -/
theorem pass {α : Type} {Q : α → sProp 𝕄} {M n : ℕ} {c : Dev nD} {X : sProp 𝕄} (hn : n = (dirs c).card) {J : Prog (TpuEff nD τ sig (Elt F) Λ₀ .tc) α}
    (hJ : BaseW m ρ K M 10 c iprop(atPos ER (barCell c) 1 ∅ 0 ∗ X) ⊢ Wp c J Q) :
    BaseW m ρ K M 5 c iprop(barSt n c ∗ X) ⊢ Wp c J Q := by
  subst hn
  refine BaseW_out.trans ?_
  unfold barSt
  iintro ⟨⟨%S, %hS, Hat, Hp⟩, HB⟩
  have hSd : S = dirs c := by
    refine Finset.Subset.antisymm hS.1 (Finset.sdiff_eq_empty_iff_subset.mp (Finset.card_eq_zero.mp ?_))
    have := hS.2
    omega
  subst hSd
  ihave #Hrec := (show BaseW m ρ K M 5 c X ⊢ records m ρ K from by unfold BaseW; iintro ⟨H, -⟩; iexact H) $$ HB
  imod (Rounds.fupd_skip ER (Rd m ρ) (g := barCell c) (κ := K (c, 0)) (R := 0) (T := dirs c) (by rw [duties_bar]) (by rw [expect_bar]) (Set.mem_univ _)) $$ [Hat] with ⟨Hat, -⟩
  · isplitr; · iapply (inv_bar c); iexact Hrec
    iexact Hat
  iapply hJ
  iapply BaseW_in
  isplitl [Hat]; · iexact Hat
  iapply BaseW_enter
  iapply BaseW_in
  isplitl [Hp]; · iexact Hp
  iexact HB

/-! ## The first two parts of the program -/

/-- The words the first part leaves. -/
def r1 (c : Dev nD) : (Σ' (d0 : Dev nD) (v2 : BitVec 32) (v5 : BitVec 32) (v8 : BitVec 32) (v10 : BitVec 32) (v11 : Sems sig S_) (v15 : BitVec 32) (v17 : BitVec 32) (v19 : BitVec 32) (v31 : BitVec 32), BitVec 32) :=
  ⟨c, Scalar.remsi (Scalar.divsi (Dev.word c) 16#32) 2#32, Scalar.remsi (Scalar.divsi (Dev.word c) 4#32) 4#32, Scalar.remsi (Scalar.divsi (Dev.word c) 1#32) 4#32,
    Scalar.addi (Scalar.muli (Scalar.remsi (Scalar.divsi (Dev.word c) 4#32) 4#32) 4#32) (Scalar.remsi (Scalar.divsi (Dev.word c) 1#32) 4#32),
    SemArray.scalar (sig.barrier 0 rfl),
    Scalar.minsi (Scalar.addi (Scalar.remsi (Scalar.divsi (Dev.word c) 4#32) 4#32) 1#32) 3#32,
    Scalar.maxsi (Scalar.subi (Scalar.remsi (Scalar.divsi (Dev.word c) 1#32) 4#32) 1#32) 0#32,
    Scalar.minsi (Scalar.addi (Scalar.remsi (Scalar.divsi (Dev.word c) 1#32) 4#32) 1#32) 3#32,
    Scalar.extui (Scalar.cmpi .slt (Scalar.remsi (Scalar.divsi (Dev.word c) 4#32) 4#32) 3#32), 0#32⟩

theorem dev1_eq : ∀ c : Dev nD, k0_dev1 c = (nbr 0 c).val := by decide +kernel

theorem op_device {α : Type} {Q : α → sProp 𝕄} {P : sProp 𝕄} {c : Dev nD} {k : Dev nD → Prog (TpuEff nD τ sig (Elt F) Λ₀ .tc) α}
    (hJ : P ⊢ Wp c (k c) Q) : P ⊢ Wp c (.op .deviceId k) Q := by
  unfold Wp; rw [wp_deviceId]; exact hJ

theorem part1 {Q : _ → sProp 𝕄} {c : Dev nD} {X : sProp 𝕄}
    (hk : BaseW m ρ K 0 2 c iprop(sigRes 1 c ∗ sigRes 4 c ∗ sigRes 3 c ∗ X) ⊢ Q (r1 c)) :
    BaseW m ρ K 0 0 c iprop(sigRes 0 c ∗ sigRes 2 c ∗ sigRes 1 c ∗ sigRes 4 c ∗ sigRes 3 c ∗ X) ⊢ Wp c (onBufs (k0_part1 (F := F))) Q := by
  rw [k0_part1_eq_skeleton]
  unfold onBufs k0_part1_skel
  simp only [semSignalWord, semWaitWord, Prog.lift, Prog.bind_op, Prog.bind_ret, Prog.pure_eq_ret]
  refine op_device ?_
  refine op_signal (n := (⟨k0_dev1 c, k0_dev1_lt c⟩ : Dev nD)) 0 (t := 0) ?_ ?_ ?_ ?_ ?_
  · rfl
  · rfl
  · exact (Fin.ext (dev1_eq c))
  · rfl
  refine signal (n := fun c h => ⟨k0_dev2 c, k0_dev2_lt c h⟩) (p := k0_cond1) 2 ?_
  exact done hk

theorem BaseW_full {t : ℕ} {c : Dev nD} {X : sProp 𝕄} (h : ∀ y z : Fin 4, written t y.val z.val = 0) : BaseW m ρ K 0 t c X = Base m ρ K t c X := by
  unfold Base
  rw [show written t (py c) (pz c) = 0 from h ⟨py c, py_lt c⟩ ⟨pz c, pz_lt c⟩]

theorem barCred0 (c : Dev nD) : (barCred 0 c : sProp 𝕄) = cred (tallyAt (barCell c) () 1) := by unfold barCred; exact if_pos (show has 0 c = true from rfl)

/-! The words whose signs say which neighbours there are. -/

theorem word_has2 : ∀ c : Dev nD, Scalar.cmpi .ne (Scalar.extui (Scalar.cmpi .sgt (Scalar.remsi (Scalar.divsi (Dev.word c) 4#32) 4#32) 0#32)) 0#32 = 1#1 ↔ has 2 c = true := by decide +kernel
theorem word_has1 : ∀ c : Dev nD, Scalar.cmpi .ne (Scalar.extui (Scalar.cmpi .slt (Scalar.remsi (Scalar.divsi (Dev.word c) 4#32) 4#32) 3#32)) 0#32 = 1#1 ↔ has 1 c = true := by decide +kernel
theorem word_has4 : ∀ c : Dev nD, Scalar.cmpi .ne (Scalar.extui (Scalar.cmpi .sgt (Scalar.remsi (Scalar.divsi (Dev.word c) 1#32) 4#32) 0#32)) 0#32 = 1#1 ↔ has 4 c = true := by decide +kernel
theorem word_has3 : ∀ c : Dev nD, Scalar.cmpi .ne (Scalar.extui (Scalar.cmpi .slt (Scalar.remsi (Scalar.divsi (Dev.word c) 1#32) 4#32) 3#32)) 0#32 = 1#1 ↔ has 3 c = true := by decide +kernel

set_option maxHeartbeats 4000000 in
theorem part2 {Q : _ → sProp 𝕄} {c : Dev nD} {X : sProp 𝕄}
    (hk : ∀ w w', Base m ρ K 11 c iprop(holds sM c (rawAt m ρ c) ∗ atPos ER (barCell c) 1 ∅ 0 ∗ X) ⊢ Q ⟨w, k0_pay1 (ownRows m ρ c), w'⟩) :
    BaseW m ρ K 0 2 c iprop(sigRes 1 c ∗ sigRes 4 c ∗ sigRes 3 c ∗ barSt 0 c ∗ barCred 0 c ∗ barCred 2 c ∗ barCred 1 c ∗ barCred 4 c ∗ barCred 3 c ∗ (∃ f, holds sM c f) ∗ X)
      ⊢ Wp c (onBufs (k0_part2 (F := F)) c (r1 c).2.1 (r1 c).2.2.1 (r1 c).2.2.2.1 (r1 c).2.2.2.2.1 (r1 c).2.2.2.2.2.1 (r1 c).2.2.2.2.2.2.1
        (r1 c).2.2.2.2.2.2.2.1 (r1 c).2.2.2.2.2.2.2.2.1 (r1 c).2.2.2.2.2.2.2.2.2.1 (r1 c).2.2.2.2.2.2.2.2.2.2) Q := by
  rw [k0_part2_eq_skeleton]
  unfold onBufs k0_part2_skel r1
  simp only [semSignalWord, semWaitWord, Prog.lift, Prog.bind_op, Prog.bind_ret, Prog.pure_eq_ret]
  refine signal (n := fun c h => ⟨k0_dev3 c, k0_dev3_lt c h⟩) (p := k0_cond2) 1 ?_
  refine signal (n := fun c h => ⟨k0_dev4 c, k0_dev4_lt c h⟩) (p := k0_cond3) 4 ?_
  refine signal (n := fun c h => ⟨k0_dev5 c, k0_dev5_lt c h⟩) (p := k0_cond4) 3 ?_
  rw [barCred0]
  refine op_barrier rfl ?_
  refine barrier 2 (word_has2 c) ?_
  refine barrier 1 (word_has1 c) ?_
  refine barrier 4 (word_has4 c) ?_
  refine barrier 3 (word_has3 c) ?_
  refine pass (bar_card c) ?_
  refine op_arg ?_
  refine (BaseW_mono (show iprop(atPos ER (barCell c) 1 ∅ 0 ∗ (∃ f, holds sM c f) ∗ X) ⊢ iprop((∃ f, holds sM c f) ∗ atPos ER (barCell c) 1 ∅ 0 ∗ X) from by
    iintro ⟨H1, H2, H3⟩; isplitl [H2]; · iexact H2
    isplitl [H1]; · iexact H1
    iexact H3)).trans ?_
  refine fill (P' := holds sM c (rawAt m ρ c)) sM sM.view.set (View.setOn_subset_set _ _) (by rw [View.setOn_univ]; exact View.set_slice_subset _ _) .rfl
    (fun f => by
      rw [show (sM.access (Rect.unit (s := S160x1024) ![0, 0] S160x1024.size inb_S160x1024_S160x1024_0_0)).write (Elt F) f _ Finset.univ = _ from
        Memref.write_access_unit_zero_univ (Elt F) cc0_scratch0 zero2 inb_S160x1024_S160x1024_0_0 f _]
      exact .rfl) ?_
  rw [BaseW_full (by decide +kernel)]
  refine (Base_next (by decide) (by decide) (by decide +kernel) rfl).trans ?_
  exact done (hk _ _)

end Cert.MeshSum

end
-- ==== Proof.Gather1.lean ====
/-
# The program up to the own row's tiles
-/
module

public import proofs.«01_k».proof.Proof.Program

@[expose] public section

noncomputable section

namespace Cert.MeshSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {ρ : Dev nD → PrngReg} {K : Dev nD × Fin 79 → ℕ}

/-! The first gather, and the first sends of the second; each part of the program takes the state from one step to a later one. -/

theorem part5 {Q : _ → sProp 𝕄} {c : Dev nD} {X : sProp 𝕄} {a0 a1 a2 a3 a4 : BitVec 32}
    (hk : ∀ r, Res m ρ K 23 c X ⊢ Q r) : Res m ρ K 19 c X ⊢ Wp c (onBufs (k0_part5 (F := F)) c a0 a1 a2 a3 a4) Q := by
  rw [k0_part5_eq_skeleton]
  unfold onBufs k0_part5_skel
  simp only [Prog.lift, Prog.bind_op, Prog.bind_ret, Prog.pure_eq_ret]
  refine send 0 false 1 ?_
  refine send 3 false 1 ?_
  refine send 6 true 1 ?_
  refine send 9 true 1 ?_
  exact done (hk _)

theorem part6 {Q : _ → sProp 𝕄} {c : Dev nD} {X : sProp 𝕄} {a0 a1 a2 a4 a5 : BitVec 32} {a3 : BitVec 1}
    (hk : ∀ r, Res m ρ K 26 c X ⊢ Q r) : Res m ρ K 23 c X ⊢ Wp c (onBufs (k0_part6 (F := F)) c a0 a1 a2 a3 a4 a5) Q := by
  rw [k0_part6_eq_skeleton]
  unfold onBufs k0_part6_skel
  simp only [Prog.lift, Prog.bind_op, Prog.bind_ret, Prog.pure_eq_ret]
  refine recv 0 ?_
  refine recv 3 ?_
  refine recv 6 ?_
  exact done (hk _)

theorem part7 {Q : _ → sProp 𝕄} {c : Dev nD} {X : sProp 𝕄} {a0 a1 a2 a4 : BitVec 32} {a3 : BitVec 1}
    (hk : ∀ r, Res m ρ K 29 c X ⊢ Q r) : Res m ρ K 26 c X ⊢ Wp c (onBufs (k0_part7 (F := F)) c a0 a1 a2 a3 a4) Q := by
  rw [k0_part7_eq_skeleton]
  unfold onBufs k0_part7_skel
  simp only [Prog.lift, Prog.bind_op, Prog.bind_ret, Prog.pure_eq_ret]
  refine recv 9 ?_
  refine send 1 false 1 ?_
  refine send 4 false 1 ?_
  exact done (hk _)

theorem part8 {Q : _ → sProp 𝕄} {c : Dev nD} {X : sProp 𝕄} {a0 a1 a2 a4 : BitVec 32} {a3 : BitVec 1}
    (hk : ∀ r, Res m ρ K 32 c X ⊢ Q r) : Res m ρ K 29 c X ⊢ Wp c (onBufs (k0_part8 (F := F)) c a0 a1 a2 a3 a4) Q := by
  rw [k0_part8_eq_skeleton]
  unfold onBufs k0_part8_skel
  simp only [Prog.lift, Prog.bind_op, Prog.bind_ret, Prog.pure_eq_ret]
  refine send 7 true 1 ?_
  refine send 10 true 1 ?_
  refine recv 1 ?_
  exact done (hk _)

theorem part9 {Q : _ → sProp 𝕄} {c : Dev nD} {X : sProp 𝕄} {a0 a1 a2 a4 a5 : BitVec 32} {a3 : BitVec 1}
    (hk : ∀ r, Res m ρ K 35 c X ⊢ Q r) : Res m ρ K 32 c X ⊢ Wp c (onBufs (k0_part9 (F := F)) c a0 a1 a2 a3 a4 a5) Q := by
  rw [k0_part9_eq_skeleton]
  unfold onBufs k0_part9_skel
  simp only [Prog.lift, Prog.bind_op, Prog.bind_ret, Prog.pure_eq_ret]
  refine recv 4 ?_
  refine recv 7 ?_
  refine recv 10 ?_
  exact done (hk _)

theorem part10 {Q : _ → sProp 𝕄} {c : Dev nD} {X : sProp 𝕄} {a0 a1 a2 a4 a5 a6 : BitVec 32} {a3 : BitVec 1}
    (hk : ∀ r, Res m ρ K 39 c X ⊢ Q r) : Res m ρ K 35 c X ⊢ Wp c (onBufs (k0_part10 (F := F)) c a0 a1 a2 a3 a4 a5 a6) Q := by
  rw [k0_part10_eq_skeleton]
  unfold onBufs k0_part10_skel
  simp only [Prog.lift, Prog.bind_op, Prog.bind_ret, Prog.pure_eq_ret]
  refine send 2 false 1 ?_
  refine send 5 false 1 ?_
  refine send 8 true 1 ?_
  refine send 11 true 1 ?_
  exact done (hk _)

theorem part11 {Q : _ → sProp 𝕄} {c : Dev nD} {X : sProp 𝕄} {a0 a1 a2 a4 : BitVec 32} {a3 : BitVec 1}
    (hk : ∀ r, Res m ρ K 42 c X ⊢ Q r) : Res m ρ K 39 c X ⊢ Wp c (onBufs (k0_part11 (F := F)) c a0 a1 a2 a3 a4) Q := by
  rw [k0_part11_eq_skeleton]
  unfold onBufs k0_part11_skel
  simp only [Prog.lift, Prog.bind_op, Prog.bind_ret, Prog.pure_eq_ret]
  refine recv 2 ?_
  refine recv 5 ?_
  refine recv 8 ?_
  exact done (hk _)

theorem part12 {Q : _ → sProp 𝕄} {c : Dev nD} {X : sProp 𝕄} {a0 a1 a2 : BitVec 32}
    (hk : ∀ r, Res m ρ K 45 c X ⊢ Q r) : Res m ρ K 42 c X ⊢ Wp c (onBufs (k0_part12 (F := F)) c a0 a1 a2) Q := by
  rw [k0_part12_eq_skeleton]
  unfold onBufs k0_part12_skel
  simp only [Prog.lift, Prog.bind_op, Prog.bind_ret, Prog.pure_eq_ret]
  refine recv 11 ?_
  refine send 12 false 2 ?_
  refine send 15 false 2 ?_
  exact done (hk _)

theorem part13 {Q : _ → sProp 𝕄} {c : Dev nD} {X : sProp 𝕄} {a0 a1 a2 a4 a5 : BitVec 32} {a3 : BitVec 1}
    (hk : ∀ r, Res m ρ K 48 c X ⊢ Q r) : Res m ρ K 45 c X ⊢ Wp c (onBufs (k0_part13 (F := F)) c a0 a1 a2 a3 a4 a5) Q := by
  rw [k0_part13_eq_skeleton]
  unfold onBufs k0_part13_skel
  simp only [Prog.lift, Prog.bind_op, Prog.bind_ret, Prog.pure_eq_ret]
  refine send 18 true 2 ?_
  refine send 21 true 2 ?_
  refine send 24 false 2 ?_
  exact done (hk _)

theorem part14 {Q : _ → sProp 𝕄} {c : Dev nD} {X : sProp 𝕄} {a0 a1 a2 a3 : BitVec 32}
    (hk : ∀ r, Res m ρ K 52 c X ⊢ Q r) : Res m ρ K 48 c X ⊢ Wp c (onBufs (k0_part14 (F := F)) c a0 a1 a2 a3) Q := by
  rw [k0_part14_eq_skeleton]
  unfold onBufs k0_part14_skel
  simp only [Prog.lift, Prog.bind_op, Prog.bind_ret, Prog.pure_eq_ret]
  refine send 27 false 2 ?_
  refine send 30 true 2 ?_
  refine send 33 true 2 ?_
  refine read 0 false 0 ?_
  refine put 0 false 0 ?_
  exact done (hk _)

theorem part15 {Q : _ → sProp 𝕄} {c : Dev nD} {X : sProp 𝕄} {a0 a1 a2 : BitVec 32}
    (hk : ∀ w, Res m ρ K 55 c X ⊢ Q ⟨w, tileAt m ρ true c (py c) 0⟩) : Res m ρ K 52 c X ⊢ Wp c (onBufs (k0_part15 (F := F)) c a0 a1 a2) Q := by
  rw [k0_part15_eq_skeleton]
  unfold onBufs k0_part15_skel
  simp only [Prog.lift, Prog.bind_op, Prog.bind_ret, Prog.pure_eq_ret]
  refine read 1 false 1 ?_
  refine put 1 false 1 ?_
  refine read 2 false 2 ?_
  refine put 2 false 2 ?_
  refine read 3 false 3 ?_
  refine put 3 false 3 ?_
  refine read 4 true 0 ?_
  exact done (hk _)

theorem part16 {Q : _ → sProp 𝕄} {c : Dev nD} {X : sProp 𝕄} {a0 a1 : BitVec 32}
    (hk : ∀ r, Res m ρ K 58 c X ⊢ Q r) : Res m ρ K 55 c X ⊢ Wp c (onBufs (k0_part16 (F := F)) c a0 a1 (tileAt m ρ true c (py c) 0)) Q := by
  rw [k0_part16_eq_skeleton]
  unfold onBufs k0_part16_skel
  simp only [Prog.lift, Prog.bind_op, Prog.bind_ret, Prog.pure_eq_ret]
  refine put 4 true 0 ?_
  refine read 5 true 1 ?_
  refine put 5 true 1 ?_
  refine read 6 true 2 ?_
  refine put 6 true 2 ?_
  exact done (hk _)

theorem part17 {Q : _ → sProp 𝕄} {c : Dev nD} {X : sProp 𝕄} {a0 a1 a2 a3 : BitVec 32}
    (hk : ∀ r, Res m ρ K 61 c X ⊢ Q r) : Res m ρ K 58 c X ⊢ Wp c (onBufs (k0_part17 (F := F)) c a0 a1 a2 a3) Q := by
  rw [k0_part17_eq_skeleton]
  unfold onBufs k0_part17_skel
  simp only [Prog.lift, Prog.bind_op, Prog.bind_ret, Prog.pure_eq_ret]
  refine read 7 true 3 ?_
  refine put 7 true 3 ?_
  refine recv 12 ?_
  refine recv 15 ?_
  exact done (hk _)

end Cert.MeshSum

end
-- ==== Proof.Gather2.lean ====
/-
# The program up to the third step of the second gather
-/
module

public import proofs.«01_k».proof.Proof.Program

@[expose] public section

noncomputable section

namespace Cert.MeshSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {ρ : Dev nD → PrngReg} {K : Dev nD × Fin 79 → ℕ}

/-! The second gather and what it writes. -/

theorem part18 {Q : _ → sProp 𝕄} {c : Dev nD} {X : sProp 𝕄} {a0 a1 a2 : BitVec 32} {a3 : BitVec 1}
    (hk : ∀ r, Res m ρ K 64 c X ⊢ Q r) : Res m ρ K 61 c X ⊢ Wp c (onBufs (k0_part18 (F := F)) c a0 a1 a2 a3) Q := by
  rw [k0_part18_eq_skeleton]
  unfold onBufs k0_part18_skel
  simp only [Prog.lift, Prog.bind_op, Prog.bind_ret, Prog.pure_eq_ret]
  refine recv 18 ?_
  refine recv 21 ?_
  refine recv 24 ?_
  exact done (hk _)

theorem part19 {Q : _ → sProp 𝕄} {c : Dev nD} {X : sProp 𝕄} {a0 a1 a2 a4 : BitVec 32} {a3 : BitVec 1}
    (hk : ∀ r, Res m ρ K 67 c X ⊢ Q r) : Res m ρ K 64 c X ⊢ Wp c (onBufs (k0_part19 (F := F)) c a0 a1 a2 a3 a4) Q := by
  rw [k0_part19_eq_skeleton]
  unfold onBufs k0_part19_skel
  simp only [Prog.lift, Prog.bind_op, Prog.bind_ret, Prog.pure_eq_ret]
  refine recv 27 ?_
  refine recv 30 ?_
  refine recv 33 ?_
  exact done (hk _)

theorem part20 {Q : _ → sProp 𝕄} {c : Dev nD} {X : sProp 𝕄} {a0 a1 a2 a4 : BitVec 32} {a3 : BitVec 1}
    (hk : ∀ r, Res m ρ K 70 c X ⊢ Q r) : Res m ρ K 67 c X ⊢ Wp c (onBufs (k0_part20 (F := F)) c a0 a1 a2 a3 a4) Q := by
  rw [k0_part20_eq_skeleton]
  unfold onBufs k0_part20_skel
  simp only [Prog.lift, Prog.bind_op, Prog.bind_ret, Prog.pure_eq_ret]
  refine send 13 false 2 ?_
  refine send 16 false 2 ?_
  refine send 19 true 2 ?_
  exact done (hk _)

theorem part21 {Q : _ → sProp 𝕄} {c : Dev nD} {X : sProp 𝕄} {a0 a1 a2 a4 a5 : BitVec 32} {a3 : BitVec 1}
    (hk : ∀ r, Res m ρ K 74 c X ⊢ Q r) : Res m ρ K 70 c X ⊢ Wp c (onBufs (k0_part21 (F := F)) c a0 a1 a2 a3 a4 a5) Q := by
  rw [k0_part21_eq_skeleton]
  unfold onBufs k0_part21_skel
  simp only [Prog.lift, Prog.bind_op, Prog.bind_ret, Prog.pure_eq_ret]
  refine send 22 true 2 ?_
  refine send 25 false 2 ?_
  refine send 28 false 2 ?_
  refine send 31 true 2 ?_
  exact done (hk _)

theorem part22 {Q : _ → sProp 𝕄} {c : Dev nD} {X : sProp 𝕄} {a0 a1 a2 a4 : BitVec 32} {a3 : BitVec 1}
    (hk : ∀ r, Res m ρ K 77 c X ⊢ Q r) : Res m ρ K 74 c X ⊢ Wp c (onBufs (k0_part22 (F := F)) c a0 a1 a2 a3 a4) Q := by
  rw [k0_part22_eq_skeleton]
  unfold onBufs k0_part22_skel
  simp only [Prog.lift, Prog.bind_op, Prog.bind_ret, Prog.pure_eq_ret]
  refine send 34 true 2 ?_
  refine store 12 false 0 ?_
  refine store 15 false 0 ?_
  exact done (hk _)

theorem part23 {Q : _ → sProp 𝕄} {c : Dev nD} {X : sProp 𝕄} {a0 a1 a3 a4 : BitVec 32} {a2 : BitVec 1}
    (hk : ∀ r, Res m ρ K 80 c X ⊢ Q r) : Res m ρ K 77 c X ⊢ Wp c (onBufs (k0_part23 (F := F)) c a0 a1 a2 a3 a4) Q := by
  rw [k0_part23_eq_skeleton]
  unfold onBufs k0_part23_skel
  simp only [Prog.lift, Prog.bind_op, Prog.bind_ret, Prog.pure_eq_ret]
  refine store 18 true 0 ?_
  refine store 21 true 0 ?_
  refine store 24 false 2 ?_
  exact done (hk _)

theorem part24 {Q : _ → sProp 𝕄} {c : Dev nD} {X : sProp 𝕄} {a0 a1 : BitVec 32} {a2 : BitVec 1}
    (hk : ∀ r, Res m ρ K 82 c X ⊢ Q r) : Res m ρ K 80 c X ⊢ Wp c (onBufs (k0_part24 (F := F)) c a0 a1 a2) Q := by
  rw [k0_part24_eq_skeleton]
  unfold onBufs k0_part24_skel
  simp only [Prog.lift, Prog.bind_op, Prog.bind_ret, Prog.pure_eq_ret]
  refine store 27 false 2 ?_
  refine store 30 true 2 ?_
  exact done (hk _)

theorem part26 {Q : _ → sProp 𝕄} {c : Dev nD} {X : sProp 𝕄} {a0 a1 a2 a4 : BitVec 32} {a3 : BitVec 1}
    (hk : ∀ r, Res m ρ K 89 c X ⊢ Q r) : Res m ρ K 86 c X ⊢ Wp c (onBufs (k0_part26 (F := F)) c a0 a1 a2 a3 a4) Q := by
  rw [k0_part26_eq_skeleton]
  unfold onBufs k0_part26_skel
  simp only [Prog.lift, Prog.bind_op, Prog.bind_ret, Prog.pure_eq_ret]
  refine recv 13 ?_
  refine recv 16 ?_
  refine recv 19 ?_
  exact done (hk _)

theorem part27 {Q : _ → sProp 𝕄} {c : Dev nD} {X : sProp 𝕄} {a0 a1 a2 a4 : BitVec 32} {a3 : BitVec 1}
    (hk : ∀ r, Res m ρ K 92 c X ⊢ Q r) : Res m ρ K 89 c X ⊢ Wp c (onBufs (k0_part27 (F := F)) c a0 a1 a2 a3 a4) Q := by
  rw [k0_part27_eq_skeleton]
  unfold onBufs k0_part27_skel
  simp only [Prog.lift, Prog.bind_op, Prog.bind_ret, Prog.pure_eq_ret]
  refine recv 22 ?_
  refine recv 25 ?_
  refine recv 28 ?_
  exact done (hk _)

theorem part28 {Q : _ → sProp 𝕄} {c : Dev nD} {X : sProp 𝕄} {a0 a1 a2 a4 a5 : BitVec 32} {a3 : BitVec 1}
    (hk : ∀ r, Res m ρ K 95 c X ⊢ Q r) : Res m ρ K 92 c X ⊢ Wp c (onBufs (k0_part28 (F := F)) c a0 a1 a2 a3 a4 a5) Q := by
  rw [k0_part28_eq_skeleton]
  unfold onBufs k0_part28_skel
  simp only [Prog.lift, Prog.bind_op, Prog.bind_ret, Prog.pure_eq_ret]
  refine recv 31 ?_
  refine recv 34 ?_
  refine send 14 false 2 ?_
  exact done (hk _)

theorem part29 {Q : _ → sProp 𝕄} {c : Dev nD} {X : sProp 𝕄} {a0 a1 a2 a4 : BitVec 32} {a3 : BitVec 1}
    (hk : ∀ r, Res m ρ K 99 c X ⊢ Q r) : Res m ρ K 95 c X ⊢ Wp c (onBufs (k0_part29 (F := F)) c a0 a1 a2 a3 a4) Q := by
  rw [k0_part29_eq_skeleton]
  unfold onBufs k0_part29_skel
  simp only [Prog.lift, Prog.bind_op, Prog.bind_ret, Prog.pure_eq_ret]
  refine send 17 false 2 ?_
  refine send 20 true 2 ?_
  refine send 23 true 2 ?_
  refine send 26 false 2 ?_
  exact done (hk _)

theorem part30 {Q : _ → sProp 𝕄} {c : Dev nD} {X : sProp 𝕄} {a0 a1 a2 : BitVec 32}
    (hk : ∀ r, Res m ρ K 102 c X ⊢ Q r) : Res m ρ K 99 c X ⊢ Wp c (onBufs (k0_part30 (F := F)) c a0 a1 a2) Q := by
  rw [k0_part30_eq_skeleton]
  unfold onBufs k0_part30_skel
  simp only [Prog.lift, Prog.bind_op, Prog.bind_ret, Prog.pure_eq_ret]
  refine send 29 false 2 ?_
  refine send 32 true 2 ?_
  refine send 35 true 2 ?_
  exact done (hk _)

end Cert.MeshSum

end
-- ==== Proof.Gather3.lean ====
/-
# The program up to the last writes
-/
module

public import proofs.«01_k».proof.Proof.Program

@[expose] public section

noncomputable section

namespace Cert.MeshSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {ρ : Dev nD → PrngReg} {K : Dev nD × Fin 79 → ℕ}

/-! The rest of the second gather. -/

theorem part31 {Q : _ → sProp 𝕄} {c : Dev nD} {X : sProp 𝕄} {a0 a1 : BitVec 32} {a2 : BitVec 1}
    (hk : ∀ r, Res m ρ K 105 c X ⊢ Q r) : Res m ρ K 102 c X ⊢ Wp c (onBufs (k0_part31 (F := F)) c a0 a1 a2) Q := by
  rw [k0_part31_eq_skeleton]
  unfold onBufs k0_part31_skel
  simp only [Prog.lift, Prog.bind_op, Prog.bind_ret, Prog.pure_eq_ret]
  refine store 13 false 0 ?_
  refine store 16 false 0 ?_
  refine store 19 true 0 ?_
  exact done (hk _)

theorem part32 {Q : _ → sProp 𝕄} {c : Dev nD} {X : sProp 𝕄} {a0 a1 a3 : BitVec 32} {a2 : BitVec 1}
    (hk : ∀ r, Res m ρ K 108 c X ⊢ Q r) : Res m ρ K 105 c X ⊢ Wp c (onBufs (k0_part32 (F := F)) c a0 a1 a2 a3) Q := by
  rw [k0_part32_eq_skeleton]
  unfold onBufs k0_part32_skel
  simp only [Prog.lift, Prog.bind_op, Prog.bind_ret, Prog.pure_eq_ret]
  refine store 22 true 0 ?_
  refine store 25 false 2 ?_
  refine store 28 false 2 ?_
  exact done (hk _)

theorem part33 {Q : _ → sProp 𝕄} {c : Dev nD} {X : sProp 𝕄} {a0 a1 a2 a4 : BitVec 32} {a3 : BitVec 1}
    (hk : ∀ r, Res m ρ K 111 c X ⊢ Q r) : Res m ρ K 108 c X ⊢ Wp c (onBufs (k0_part33 (F := F)) c a0 a1 a2 a3 a4) Q := by
  rw [k0_part33_eq_skeleton]
  unfold onBufs k0_part33_skel
  simp only [Prog.lift, Prog.bind_op, Prog.bind_ret, Prog.pure_eq_ret]
  refine store 31 true 2 ?_
  refine store 34 true 2 ?_
  refine recv 14 ?_
  exact done (hk _)

theorem part34 {Q : _ → sProp 𝕄} {c : Dev nD} {X : sProp 𝕄} {a0 a1 a2 : BitVec 32}
    (hk : ∀ r, Res m ρ K 113 c X ⊢ Q r) : Res m ρ K 111 c X ⊢ Wp c (onBufs (k0_part34 (F := F)) c a0 a1 a2) Q := by
  rw [k0_part34_eq_skeleton]
  unfold onBufs k0_part34_skel
  simp only [Prog.lift, Prog.bind_op, Prog.bind_ret, Prog.pure_eq_ret]
  refine recv 17 ?_
  refine recv 20 ?_
  exact done (hk _)

theorem part35 {Q : _ → sProp 𝕄} {c : Dev nD} {X : sProp 𝕄} {a0 a1 a2 a3 : BitVec 32}
    (hk : ∀ r, Res m ρ K 116 c X ⊢ Q r) : Res m ρ K 113 c X ⊢ Wp c (onBufs (k0_part35 (F := F)) c a0 a1 a2 a3) Q := by
  rw [k0_part35_eq_skeleton]
  unfold onBufs k0_part35_skel
  simp only [Prog.lift, Prog.bind_op, Prog.bind_ret, Prog.pure_eq_ret]
  refine recv 23 ?_
  refine recv 26 ?_
  refine recv 29 ?_
  exact done (hk _)

theorem part36 {Q : _ → sProp 𝕄} {c : Dev nD} {X : sProp 𝕄} {a0 a1 a2 a4 a5 a6 : BitVec 32} {a3 : BitVec 1}
    (hk : ∀ r, Res m ρ K 119 c X ⊢ Q r) : Res m ρ K 116 c X ⊢ Wp c (onBufs (k0_part36 (F := F)) c a0 a1 a2 a3 a4 a5 a6) Q := by
  rw [k0_part36_eq_skeleton]
  unfold onBufs k0_part36_skel
  simp only [Prog.lift, Prog.bind_op, Prog.bind_ret, Prog.pure_eq_ret]
  refine recv 32 ?_
  refine recv 35 ?_
  refine store 14 false 0 ?_
  exact done (hk _)

theorem part37 {Q : _ → sProp 𝕄} {c : Dev nD} {X : sProp 𝕄} {a0 a1 a3 a4 : BitVec 32} {a2 : BitVec 1}
    (hk : ∀ r, Res m ρ K 122 c X ⊢ Q r) : Res m ρ K 119 c X ⊢ Wp c (onBufs (k0_part37 (F := F)) c a0 a1 a2 a3 a4) Q := by
  rw [k0_part37_eq_skeleton]
  unfold onBufs k0_part37_skel
  simp only [Prog.lift, Prog.bind_op, Prog.bind_ret, Prog.pure_eq_ret]
  refine store 17 false 0 ?_
  refine store 20 true 0 ?_
  refine store 23 true 0 ?_
  exact done (hk _)

theorem part38 {Q : _ → sProp 𝕄} {c : Dev nD} {X : sProp 𝕄} {a0 a1 : BitVec 32} {a2 : BitVec 1}
    (hk : ∀ r, Res m ρ K 125 c X ⊢ Q r) : Res m ρ K 122 c X ⊢ Wp c (onBufs (k0_part38 (F := F)) c a0 a1 a2) Q := by
  rw [k0_part38_eq_skeleton]
  unfold onBufs k0_part38_skel
  simp only [Prog.lift, Prog.bind_op, Prog.bind_ret, Prog.pure_eq_ret]
  refine store 26 false 2 ?_
  refine store 29 false 2 ?_
  refine store 32 true 2 ?_
  exact done (hk _)

end Cert.MeshSum

end
-- ==== Proof.Departures.lean ====
/-
# The program's last waits
-/
module

public import proofs.«01_k».proof.Proof.Program

@[expose] public section

noncomputable section

namespace Cert.MeshSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {ρ : Dev nD → PrngReg} {K : Dev nD × Fin 79 → ℕ}

/-! The waits for the departures of the gathers' transfers. -/

theorem part41 {Q : _ → sProp 𝕄} {c : Dev nD} {X : sProp 𝕄} {a0 a1 a3 : BitVec 32} {a2 : BitVec 1}
    (hk : ∀ r, Res m ρ K 136 c X ⊢ Q r) : Res m ρ K 132 c X ⊢ Wp c (onBufs (k0_part41 (F := F)) c a0 a1 a2 a3) Q := by
  rw [k0_part41_eq_skeleton]
  unfold onBufs k0_part41_skel
  simp only [Prog.lift, Prog.bind_op, Prog.bind_ret, Prog.pure_eq_ret]
  refine wait 9 ?_
  refine wait 1 ?_
  refine wait 4 ?_
  refine wait 7 ?_
  exact done (hk _)

theorem part42 {Q : _ → sProp 𝕄} {c : Dev nD} {X : sProp 𝕄} {a0 a1 : BitVec 32}
    (hk : ∀ r, Res m ρ K 139 c X ⊢ Q r) : Res m ρ K 136 c X ⊢ Wp c (onBufs (k0_part42 (F := F)) c a0 a1) Q := by
  rw [k0_part42_eq_skeleton]
  unfold onBufs k0_part42_skel
  simp only [Prog.lift, Prog.bind_op, Prog.bind_ret, Prog.pure_eq_ret]
  refine wait 10 ?_
  refine wait 2 ?_
  refine wait 5 ?_
  exact done (hk _)

theorem part43 {Q : _ → sProp 𝕄} {c : Dev nD} {X : sProp 𝕄} {a0 a2 : BitVec 32} {a1 : BitVec 1}
    (hk : ∀ r, Res m ρ K 143 c X ⊢ Q r) : Res m ρ K 139 c X ⊢ Wp c (onBufs (k0_part43 (F := F)) c a0 a1 a2) Q := by
  rw [k0_part43_eq_skeleton]
  unfold onBufs k0_part43_skel
  simp only [Prog.lift, Prog.bind_op, Prog.bind_ret, Prog.pure_eq_ret]
  refine wait 8 ?_
  refine wait 11 ?_
  refine wait 12 ?_
  refine wait 15 ?_
  exact done (hk _)

theorem part44 {Q : _ → sProp 𝕄} {c : Dev nD} {X : sProp 𝕄} {a0 a1 a2 : BitVec 32}
    (hk : ∀ r, Res m ρ K 146 c X ⊢ Q r) : Res m ρ K 143 c X ⊢ Wp c (onBufs (k0_part44 (F := F)) c a0 a1 a2) Q := by
  rw [k0_part44_eq_skeleton]
  unfold onBufs k0_part44_skel
  simp only [Prog.lift, Prog.bind_op, Prog.bind_ret, Prog.pure_eq_ret]
  refine wait 18 ?_
  refine wait 21 ?_
  refine wait 24 ?_
  exact done (hk _)

theorem part45 {Q : _ → sProp 𝕄} {c : Dev nD} {X : sProp 𝕄} {a0 a1 a3 a4 : BitVec 32} {a2 : BitVec 1}
    (hk : ∀ r, Res m ρ K 150 c X ⊢ Q r) : Res m ρ K 146 c X ⊢ Wp c (onBufs (k0_part45 (F := F)) c a0 a1 a2 a3 a4) Q := by
  rw [k0_part45_eq_skeleton]
  unfold onBufs k0_part45_skel
  simp only [Prog.lift, Prog.bind_op, Prog.bind_ret, Prog.pure_eq_ret]
  refine wait 27 ?_
  refine wait 30 ?_
  refine wait 33 ?_
  refine wait 13 ?_
  exact done (hk _)

theorem part46 {Q : _ → sProp 𝕄} {c : Dev nD} {X : sProp 𝕄} {a0 a1 : BitVec 32} {a2 : BitVec 1}
    (hk : ∀ r, Res m ρ K 153 c X ⊢ Q r) : Res m ρ K 150 c X ⊢ Wp c (onBufs (k0_part46 (F := F)) c a0 a1 a2) Q := by
  rw [k0_part46_eq_skeleton]
  unfold onBufs k0_part46_skel
  simp only [Prog.lift, Prog.bind_op, Prog.bind_ret, Prog.pure_eq_ret]
  refine wait 16 ?_
  refine wait 19 ?_
  refine wait 22 ?_
  exact done (hk _)

theorem part47 {Q : _ → sProp 𝕄} {c : Dev nD} {X : sProp 𝕄} {a0 a1 a3 a4 a5 : BitVec 32} {a2 : BitVec 1}
    (hk : ∀ r, Res m ρ K 157 c X ⊢ Q r) : Res m ρ K 153 c X ⊢ Wp c (onBufs (k0_part47 (F := F)) c a0 a1 a2 a3 a4 a5) Q := by
  rw [k0_part47_eq_skeleton]
  unfold onBufs k0_part47_skel
  simp only [Prog.lift, Prog.bind_op, Prog.bind_ret, Prog.pure_eq_ret]
  refine wait 25 ?_
  refine wait 28 ?_
  refine wait 31 ?_
  refine wait 34 ?_
  exact done (hk _)

theorem part48 {Q : _ → sProp 𝕄} {c : Dev nD} {X : sProp 𝕄} {a0 a1 a3 : BitVec 32} {a2 : BitVec 1}
    (hk : ∀ r, Res m ρ K 160 c X ⊢ Q r) : Res m ρ K 157 c X ⊢ Wp c (onBufs (k0_part48 (F := F)) c a0 a1 a2 a3) Q := by
  rw [k0_part48_eq_skeleton]
  unfold onBufs k0_part48_skel
  simp only [Prog.lift, Prog.bind_op, Prog.bind_ret, Prog.pure_eq_ret]
  refine wait 14 ?_
  refine wait 17 ?_
  refine wait 20 ?_
  exact done (hk _)

theorem part49 {Q : _ → sProp 𝕄} {c : Dev nD} {X : sProp 𝕄} {a0 a1 a3 a4 : BitVec 32} {a2 : BitVec 1}
    (hk : ∀ r, Res m ρ K 164 c X ⊢ Q r) : Res m ρ K 160 c X ⊢ Wp c (onBufs (k0_part49 (F := F)) c a0 a1 a2 a3 a4) Q := by
  rw [k0_part49_eq_skeleton]
  unfold onBufs k0_part49_skel
  simp only [Prog.lift, Prog.bind_op, Prog.bind_ret, Prog.pure_eq_ret]
  refine wait 23 ?_
  refine wait 26 ?_
  refine wait 29 ?_
  refine wait 32 ?_
  exact done (hk _)

end Cert.MeshSum

end
-- ==== Proof.Body.lean ====
/-
# The program from end to end
-/
module

public import proofs.«01_k».proof.Proof.Barrier
public import proofs.«01_k».proof.Proof.Gather1
public import proofs.«01_k».proof.Proof.Gather2
public import proofs.«01_k».proof.Proof.Gather3
public import proofs.«01_k».proof.Proof.Departures

@[expose] public section

noncomputable section

namespace Cert.MeshSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {ρ : Dev nD → PrngReg} {K : Dev nD × Fin 79 → ℕ}

theorem seq {α β : Type} {Q : β → sProp 𝕄} {c : Dev nD} {P : sProp 𝕄} {p : Prog (TpuEff nD τ sig (Elt F) Λ₀ .tc) α}
    {k : α → Prog (TpuEff nD τ sig (Elt F) Λ₀ .tc) β} (h : P ⊢ Wp c p (fun a => Wp c (k a) Q)) : P ⊢ Wp c (p >>= k) Q := by
  unfold Wp at h ⊢; rw [wp_bind]; exact h

/-- What a device brings to the program. -/
def before (c : Dev nD) : sProp 𝕄 :=
  iprop(sigRes (F := F) 0 c ∗ sigRes (F := F) 2 c ∗ sigRes (F := F) 1 c ∗ sigRes (F := F) 4 c ∗ sigRes (F := F) 3 c ∗ barSt (F := F) 0 c
    ∗ barCred (F := F) 0 c ∗ barCred (F := F) 2 c ∗ barCred (F := F) 1 c ∗ barCred (F := F) 4 c ∗ barCred (F := F) 3 c
    ∗ (∃ f, holds (F := F) sM c f) ∗ (∃ f, holds (F := F) sbM c f) ∗ ownRoom (F := F) false c ∗ ownRoom (F := F) true c)

variable (m ρ) in
/-- What it has beside the state at the end: the buffers of the three transfers to the partner, and the barrier past its round. -/
def after (c : Dev nD) : sProp 𝕄 :=
  iprop(recvPay m ρ 38 c ∗ sendPay m ρ 38 c ∗ recvPay m ρ 37 c ∗ sendPay m ρ 37 c ∗ recvPay m ρ 36 c ∗ sendPay m ρ 36 c ∗ atPos ER (barCell c) 1 ∅ 0)

set_option maxHeartbeats 8000000 in
/-- The program up to its last wait. -/
theorem part50 {Q : _ → sProp 𝕄} {c : Dev nD} (hk : ∀ v w, Res m ρ K 164 c (after m ρ c) ⊢ Q ⟨c, v, w, 0#32⟩) :
    BaseW m ρ K 0 0 c (before c) ⊢ Wp c (onBufs (k0_part50 (F := F))) Q := by
  rw [k0_part50_eq_skeleton]
  unfold onBufs k0_part50_skel before
  refine seq (part1 ?_)
  refine seq (part2 fun w w' => ?_)
  refine (BaseW_mono (show iprop(holds sM c (rawAt m ρ c) ∗ atPos ER (barCell c) 1 ∅ 0 ∗ (∃ f, holds sbM c f) ∗ ownRoom false c ∗ ownRoom true c)
      ⊢ iprop(holds sM c (rawAt m ρ c) ∗ (∃ f, holds sbM c f) ∗ ownRoom false c ∗ ownRoom true c ∗ atPos ER (barCell c) 1 ∅ 0) from by
    iintro ⟨H1, H2, H3, H4, H5⟩
    isplitl [H1]; · iexact H1
    isplitl [H3]; · iexact H3
    isplitl [H4]; · iexact H4
    isplitl [H5]; · iexact H5
    iexact H2)).trans ?_
  refine seq (part3 ?_)
  rintro _
  refine seq (part4 ?_)
  rintro ⟨_, _⟩
  refine seq (part5 ?_)
  rintro ⟨_, _, _⟩
  refine seq (part6 ?_)
  rintro ⟨_, _⟩
  refine seq (part7 ?_)
  rintro ⟨_, _⟩
  refine seq (part8 ?_)
  rintro ⟨_, _, _⟩
  refine seq (part9 ?_)
  rintro ⟨_, _, _, _⟩
  refine seq (part10 ?_)
  rintro ⟨_, _⟩
  refine seq (part11 ?_)
  rintro _
  refine seq (part12 ?_)
  rintro ⟨_, _, _⟩
  refine seq (part13 ?_)
  rintro _
  refine seq (part14 ?_)
  rintro _
  refine seq (part15 fun w => ?_)
  refine seq (part16 ?_)
  rintro _
  refine seq (part17 ?_)
  rintro _
  refine seq (part18 ?_)
  rintro ⟨_, _⟩
  refine seq (part19 ?_)
  rintro ⟨_, _⟩
  refine seq (part20 ?_)
  rintro ⟨_, _, _⟩
  refine seq (part21 ?_)
  rintro ⟨_, _⟩
  refine seq (part22 ?_)
  rintro ⟨_, _, _⟩
  refine seq (part23 ?_)
  rintro _
  refine seq (part24 ?_)
  rintro _
  refine seq (part25 ?_)
  rintro ⟨_, _⟩
  refine seq (part26 ?_)
  rintro ⟨_, _⟩
  refine seq (part27 ?_)
  rintro ⟨_, _, _⟩
  refine seq (part28 ?_)
  rintro ⟨_, _⟩
  refine seq (part29 ?_)
  rintro _
  refine seq (part30 ?_)
  rintro _
  refine seq (part31 ?_)
  rintro ⟨_, _⟩
  refine seq (part32 ?_)
  rintro ⟨_, _⟩
  refine seq (part33 ?_)
  rintro _
  refine seq (part34 ?_)
  rintro _
  refine seq (part35 ?_)
  rintro ⟨_, _, _, _⟩
  refine seq (part36 ?_)
  rintro ⟨_, _, _⟩
  refine seq (part37 ?_)
  rintro _
  refine seq (part38 ?_)
  rintro ⟨_, _⟩
  refine seq (part39 ?_)
  refine seq (part40 ?_)
  rintro ⟨_, _⟩
  refine seq (part41 ?_)
  rintro _
  refine seq (part42 ?_)
  rintro ⟨_, _⟩
  refine seq (part43 ?_)
  rintro _
  refine seq (part44 ?_)
  rintro ⟨_, _, _⟩
  refine seq (part45 ?_)
  rintro _
  refine seq (part46 ?_)
  rintro ⟨_, _, _, _⟩
  refine seq (part47 ?_)
  rintro ⟨_, _⟩
  refine seq (part48 ?_)
  rintro ⟨_, _, _⟩
  refine seq (part49 ?_)
  rintro ⟨_, _⟩
  exact done (hk _ _)

/-- The whole program: a device that has what it brings comes to the last state. -/
theorem body_run {Q : PUnit → sProp 𝕄} {c : Dev nD} (hk : Res m ρ K 165 c (after m ρ c) ⊢ |={Set.univ}=> Q ⟨⟩) :
    BaseW m ρ K 0 0 c (before c) ⊢ Wp c (onBufs (cc0_body (F := F))) Q := by
  rw [cc0_body_eq_skeleton]
  unfold onBufs cc0_body_skel
  refine seq (part50 fun v w => ?_)
  simp only [Prog.lift, Prog.bind_op, Prog.bind_ret, Prog.pure_eq_ret]
  refine wait 35 ?_
  unfold Wp
  rw [wp_ret]
  exact hk

end Cert.MeshSum

end
-- ==== Proof.Buffers.lean ====
/-
# Taking the buffers apart and putting them together
-/
module

public import proofs.«01_k».proof.Proof.Body

@[expose] public section

noncomputable section

namespace Cert.MeshSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {ρ : Dev nD → PrngReg} {K : Dev nD × Fin 79 → ℕ}

/-! ## Sums over the semaphores and over the transfers -/

theorem kS_inj : Function.Injective kS := fun a b => by revert a b; decide +kernel
theorem kR_inj : Function.Injective kR := fun a b => by revert a b; decide +kernel
theorem cells_cover : (Finset.univ : Finset (Fin 79)) = {0} ∪ (Finset.univ.map ⟨kS, kS_inj⟩ ∪ Finset.univ.map ⟨kR, kR_inj⟩) := by decide +kernel
theorem cells_apart : Disjoint (Finset.univ.map ⟨kS, kS_inj⟩) (Finset.univ.map ⟨kR, kR_inj⟩) := by decide +kernel
theorem bar_apart : Disjoint ({0} : Finset (Fin 79)) (Finset.univ.map ⟨kS, kS_inj⟩ ∪ Finset.univ.map ⟨kR, kR_inj⟩) := by decide +kernel

/-- Something of every semaphore is something of the barrier's and of each transfer's two. -/
theorem over_cells (Φ : Fin 79 → sProp 𝕄) :
    bigSep Finset.univ Φ = iprop(Φ 0 ∗ (bigSep Finset.univ fun e : Ev => Φ (kS e)) ∗ bigSep Finset.univ fun e : Ev => Φ (kR e)) := by
  rw [cells_cover, bigSep_union bar_apart, bigSep_union cells_apart, bigSep_map, bigSep_map, bigSep_singleton]
  rfl

theorem kcell_s (c : Dev nD) (e : Ev) : kcell (c, kS e) = scell e c := Prod.ext rfl (csem_s e)
theorem kcell_r (c : Dev nD) (e : Ev) : kcell (c, kR e) = rcell e c := Prod.ext rfl (csem_r e)

/-- A sum with nothing in it but at one place. -/
theorem at_one {I : Type} [Fintype I] [DecidableEq I] (i : I) (Φ : I → sProp 𝕄) (h : ∀ j, j ≠ i → Φ j = iprop(emp)) : Φ i ⊢ bigSep Finset.univ Φ := by
  have he : bigSep (Finset.univ.erase i) Φ = iprop(emp) := (bigSep_congr fun j hj => h j (Finset.ne_of_mem_erase hj)).trans (bigSep_emp_const _)
  rw [bigSep_univ_at Φ i, he]
  iintro H
  isplitl [H]; · iexact H
  iempintro

/-- A sum place by place. -/
theorem each {I : Type} {s : Finset I} {Φ Ψ : I → sProp 𝕄} (h : ∀ i ∈ s, (Φ i ⊢ Ψ i)) : bigSep s Φ ⊢ bigSep s Ψ := bigSep_mono h

/-- What every device knows may be used at each place of a sum. -/
theorem with_known {I : Type} [DecidableEq I] {s : Finset I} {R : sProp 𝕄} [BI.Persistent R] {Φ Ψ : I → sProp 𝕄}
    (h : ∀ i, iprop(R ∗ Φ i) ⊢ Ψ i) : iprop(R ∗ bigSep s Φ) ⊢ bigSep s Ψ := by
  refine (sep_mono_left (BI.bigSep_of_persistent s R)).trans ?_
  rw [← bigSep_sep']
  exact each fun i _ => h i

/-! ## The places to receive in -/

/-- The room for all transfers device `c` receives. -/
def rooms (c : Dev nD) : sProp 𝕄 := bigSep Finset.univ fun e : Ev => if recvC e c = true then room (F := F) e c else iprop(emp)

theorem recvC_has : ∀ (e : Ev) (c : Dev nD), recvC e c = true → has (opp (dirOf e)) c = true := by decide +kernel
theorem recvC_of_send {e : Ev} {d : Fin 5} (c : Dev nD) (h : dirOf e = opp d) : sendC e (nbr d c) = recvC e c := by
  rw [← recvC_dst, dst, h, nbr_opp]

/-- It goes out with the signals. -/
theorem rooms_give (c : Dev nD) :
    rooms (F := F) c ⊢ bigSep Finset.univ fun d : Fin 5 => if has d c = true then barPay (F := F) (nbr d c) (opp d) else iprop(emp) := by
  have h : ∀ e : Ev, (if recvC e c = true then room (F := F) e c else iprop(emp))
      ⊢ (bigSep Finset.univ fun d : Fin 5 => if has d c = true then
          (if dirOf e = opp d ∧ sendC e (nbr d c) = true then room (F := F) e (nbr (opp d) (nbr d c)) else iprop(emp)) else iprop(emp) : sProp 𝕄) := fun e => by
    by_cases hr : recvC e c = true
    · refine BIBase.Entails.trans ?_ (at_one (opp (dirOf e)) _ fun d hd => ?_)
      · rw [if_pos hr, if_pos (recvC_has e c hr), if_pos ⟨(opp_opp _).symm, (recvC_of_send c (opp_opp _).symm).trans hr⟩, nbr_opp]
      · rw [if_neg (c := dirOf e = opp d ∧ sendC e (nbr d c) = true) fun hh => hd (by rw [hh.1, opp_opp])]
        exact ite_self _
    · rw [if_neg hr]
      refine Entails.of_eq ((bigSep_emp_const Finset.univ).symm.trans (bigSep_congr fun d _ => ?_))
      rw [if_neg (c := dirOf e = opp d ∧ sendC e (nbr d c) = true) fun hh => hr ((recvC_of_send c hh.1).symm.trans hh.2)]
      exact (ite_self _).symm
  unfold rooms
  refine (each fun e _ => h e).trans ?_
  rw [bigSep_univ_comm]
  refine each fun d _ => ?_
  unfold barPay
  by_cases hd : has d c = true
  · rw [if_pos hd]
    exact Entails.of_eq (bigSep_congr fun e _ => if_pos hd)
  · rw [if_neg hd]
    exact (fun P : sProp 𝕄 => (by iintro -; iempintro : P ⊢ iprop(emp))) _

theorem parts {ℓ : Loc nD τ sig} {f : Buf (Elt F) ℓ} (s : Finset Ev) (S O : Finset (Idx ℓ)) (T : Ev → Finset (Idx ℓ)) (hS : S = Finset.univ)
    (hO : ∀ e ∈ s, Disjoint O (T e)) (hT : ∀ e ∈ s, ∀ e' ∈ s, e ≠ e' → Disjoint (T e) (T e')) :
    (ℓ ↦[S]{fullShare} f : sProp 𝕄) ⊢ iprop((ℓ ↦[O]{fullShare} f) ∗ bigSep s fun e => ℓ ↦[T e]{fullShare} f) := by
  have hd : Disjoint O (s.biUnion T) := (Finset.disjoint_biUnion_right _ _ _).mpr hO
  have hU : O ∪ s.biUnion T ⊆ S := by rw [hS]; exact Finset.subset_univ _
  rw [← pointsTo_biUnion s T hT]
  refine (pointsTo_split_subset hU).1.trans ?_
  refine BIBase.Entails.trans ?_ (pointsTo_union hd).1
  iintro ⟨H, -⟩
  iexact H

/-- A whole table is, among other tiles, one set of tiles and others apart from it and from each other. -/
theorem tab_parts {b : Bool} {c : Dev nD} {G : Tab F} (s : Finset Ev) (O : ℕ) (M : Ev → ℕ) (hO : ∀ e ∈ s, O &&& M e = 0)
    (hM : ∀ e ∈ s, ∀ e' ∈ s, e ≠ e' → M e &&& M e' = 0) :
    (tab b c fullShare 65535 G : sProp 𝕄) ⊢ iprop(tab b c fullShare O G ∗ bigSep s fun e => tab b c fullShare (M e) G) := by
  cases b <;>
  · unfold tab
    exact parts s _ _ _ tiles_all (fun e he => tiles_disjoint (hO e he)) fun e he e' he' hne => tiles_disjoint (hM e he e' he' hne)

/-- The two tables hold the device's own tiles and the room for the blocks it receives. -/
theorem tab_rooms (b : Bool) (c : Dev nD) (G : Tab F) : (tab b c fullShare 65535 G : sProp 𝕄)
    ⊢ iprop(ownRoom b c ∗ bigSep Finset.univ fun e : Ev => if gath e = true ∧ side (flow e) = b ∧ recvC e c = true then room (F := F) e c else iprop(emp)) := by
  refine (tab_parts (Finset.univ.filter fun e : Ev => gath e = true ∧ side (flow e) = b ∧ recvC e c = true) (ownMask b (py c) (pz c))
    (fun e => rMask (flow e) (stepOf e) (py c) (pz c)) (fun e he => ?_) (fun e he e' he' hne => ?_)).trans ?_
  · obtain ⟨-, h1, h2, h3⟩ := Finset.mem_filter.mp he
    rw [recvs_of h1] at h3
    rw [← h2]
    exact own_disjoint_fin e ⟨py c, py_lt c⟩ ⟨pz c, pz_lt c⟩ h1 h3
  · obtain ⟨-, h1, h2, h3⟩ := Finset.mem_filter.mp he
    obtain ⟨-, h1', h2', h3'⟩ := Finset.mem_filter.mp he'
    rw [recvs_of h1] at h3
    rw [recvs_of h1'] at h3'
    exact blocks_disjoint_fin e e' ⟨py c, py_lt c⟩ ⟨pz c, pz_lt c⟩ hne h1 h1' (h2.trans h2'.symm) h3 h3'
  · refine BIClass.sep_mono ?_ ?_
    · unfold ownRoom; iintro H; iexists G; iexact H
    · rw [bigSep_filter]
      refine each fun e _ => ?_
      by_cases h : gath e = true ∧ side (flow e) = b ∧ recvC e c = true
      · rw [if_pos h, if_pos h]
        unfold room
        rw [if_pos h.1, h.2.1]
        iintro H; iexists G; iexact H
      · rw [if_neg h, if_neg h]
        exact BI.Entails.refl _

theorem not_gath : ∀ e : Ev, ¬ gath e = true → e = 36 ∨ e = 37 ∨ e = 38 := by decide +kernel

/-- All rooms from those in the tables and those for the swaps along `x`. -/
theorem rooms_join (c : Dev nD) :
    iprop((bigSep Finset.univ fun e : Ev => if gath e = true ∧ side (flow e) = false ∧ recvC e c = true then room (F := F) e c else iprop(emp))
      ∗ (bigSep Finset.univ fun e : Ev => if gath e = true ∧ side (flow e) = true ∧ recvC e c = true then room (F := F) e c else iprop(emp))
      ∗ room (F := F) 36 c ∗ room (F := F) 37 c ∗ room (F := F) 38 c) ⊢ (rooms c : sProp 𝕄) := by
  have one : ∀ i : Ev, room (F := F) i c ⊢ (bigSep Finset.univ fun e : Ev => if e = i then room (F := F) e c else iprop(emp) : sProp 𝕄) := fun i => by
    refine BIBase.Entails.trans ?_ (at_one i _ fun e he => if_neg he)
    rw [if_pos (c := i = i) rfl]
  refine (BIClass.sep_mono (.rfl) (BIClass.sep_mono (.rfl) (BIClass.sep_mono (one 36) (BIClass.sep_mono (one 37) (one 38))))).trans ?_
  rw [← bigSep_sep', ← bigSep_sep', ← bigSep_sep', ← bigSep_sep']
  unfold rooms
  refine each fun e _ => ?_
  by_cases hr : recvC e c = true
  · rw [if_pos hr]
    by_cases hg : gath e = true
    · cases hs : side (flow e)
      · rw [if_pos ⟨hg, rfl, hr⟩]
        iintro ⟨H, -⟩; iexact H
      · rw [if_pos (c := gath e = true ∧ true = true ∧ recvC e c = true) ⟨hg, rfl, hr⟩]
        iintro ⟨-, H, -⟩; iexact H
    · rcases not_gath e hg with rfl | rfl | rfl
      · rw [if_pos (c := (36 : Ev) = 36) rfl]
        iintro ⟨-, -, H, -⟩; iexact H
      · rw [if_pos (c := (37 : Ev) = 37) rfl]
        iintro ⟨-, -, -, H, -⟩; iexact H
      · rw [if_pos (c := (38 : Ev) = 38) rfl]
        iintro ⟨-, -, -, -, H⟩; iexact H
  · rw [if_neg hr]
    exact (fun P : sProp 𝕄 => (by iintro -; iempintro : P ⊢ iprop(emp))) _

/-! ## The kernel's buffers, whole -/

/-- A device's scratch buffers, whatever they hold. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f)
    ∗ ∃ f : Buf (Elt F) ((c : Thread nD τ).loc cc0_scratch5), ((c : Thread nD τ).loc cc0_scratch5) ↦{fullShare} f)

theorem holds_s (c : Dev nD) (f : Buf (Elt F) (sM.view.loc (c : Thread nD τ))) : (holds sM c f : sProp 𝕄) = (((c : Thread nD τ).loc cc0_scratch0) ↦{fullShare} f) := by
  unfold holds; rw [show sM.view.set = Finset.univ from View.set_whole _]
theorem holds_r (c : Dev nD) (f : Buf (Elt F) (rM.view.loc (c : Thread nD τ))) : (holds rM c f : sProp 𝕄) = (((c : Thread nD τ).loc cc0_scratch1) ↦{fullShare} f) := by
  unfold holds; rw [show rM.view.set = Finset.univ from View.set_whole _]
theorem holds_sb (c : Dev nD) (f : Buf (Elt F) (sbM.view.loc (c : Thread nD τ))) : (holds sbM c f : sProp 𝕄) = (((c : Thread nD τ).loc cc0_scratch2) ↦{fullShare} f) := by
  unfold holds; rw [show sbM.view.set = Finset.univ from View.set_whole _]
theorem holds_rb (c : Dev nD) (f : Buf (Elt F) (rbM.view.loc (c : Thread nD τ))) : (holds rbM c f : sProp 𝕄) = (((c : Thread nD τ).loc cc0_scratch3) ↦{fullShare} f) := by
  unfold holds; rw [show rbM.view.set = Finset.univ from View.set_whole _]
theorem tab_false (c : Dev nD) (G : Tab F) : (tab false c fullShare 65535 G : sProp 𝕄) = (((c : Thread nD τ).loc cc0_scratch4) ↦{fullShare} G) := by
  unfold tab; simp only; rw [tiles_all]
theorem tab_true (c : Dev nD) (G : Tab F) : (tab true c fullShare 65535 G : sProp 𝕄) = (((c : Thread nD τ).loc cc0_scratch5) ↦{fullShare} G) := by
  unfold tab; simp only; rw [tiles_all]

/-- Taken apart for the program. -/
theorem scr_open (c : Dev nD) : (scr c : sProp 𝕄)
    ⊢ iprop((∃ f, holds (F := F) sM c f) ∗ (∃ f, holds (F := F) sbM c f) ∗ ownRoom (F := F) false c ∗ ownRoom (F := F) true c ∗ rooms c) := by
  unfold scr
  iintro ⟨⟨%f0, H0⟩, ⟨%f1, H1⟩, ⟨%f2, H2⟩, ⟨%f3, H3⟩, ⟨%f4, H4⟩, ⟨%f5, H5⟩⟩
  ihave H4 := ((Entails.of_eq (tab_false c f4).symm).trans (tab_rooms false c f4)) $$ H4
  ihave H5 := ((Entails.of_eq (tab_true c f5).symm).trans (tab_rooms true c f5)) $$ H5
  ihave H3 := ((Entails.of_eq (holds_rb c f3).symm).trans rb_halves.1) $$ H3
  icases H4 with ⟨H4, R4⟩
  icases H5 with ⟨H5, R5⟩
  icases H3 with ⟨R7, R8⟩
  isplitl [H0]; · iexists f0; rw [holds_s]; iexact H0
  isplitl [H2]; · iexists f2; rw [holds_sb]; iexact H2
  isplitl [H4]; · iexact H4
  isplitl [H5]; · iexact H5
  iapply (rooms_join c)
  isplitl [R4]; · iexact R4
  isplitl [R5]; · iexact R5
  rw [room36, room37, room38]
  isplitl [H1]; · iexists f1; rw [holds_r]; iexact H1
  isplitl [R7]; · iexists f3; iexact R7
  iexists f3; iexact R8

theorem Tb_end (c : Dev nD) : Tb m ρ 165 c ⊢ iprop(tab false c fullShare 65535 (tabAt m ρ false c) ∗ tab true c fullShare 65535 (tabAt m ρ true c)) := by
  unfold Tb
  rw [bigSep_univ_prod, bigSep_univ_eq_bigSepL [false, true] (by decide) (by decide)]
  show iprop((bigSep Finset.univ fun p : Fin 5 => tab false c (shr p.val) (held 165 false p.val (py c) (pz c)) (tabAt m ρ false c))
    ∗ bigSep Finset.univ fun p : Fin 5 => tab true c (shr p.val) (held 165 true p.val (py c) (pz c)) (tabAt m ρ true c)) ⊢ _
  have h : ∀ b : Bool, (bigSep Finset.univ fun p : Fin 5 => tab b c (shr p.val) (held 165 b p.val (py c) (pz c)) (tabAt m ρ b c) : sProp 𝕄)
      ⊢ tab b c fullShare 65535 (tabAt m ρ b c) := fun b => by
    rw [bigSep_congr fun (p : Fin 5) _ => by rw [held_end_fin b p ⟨py c, py_lt c⟩ ⟨pz c, pz_lt c⟩]]
    exact tab_shares.2
  exact BIClass.sep_mono (h false) (h true)

/-- Put together at the end. -/
theorem scr_close (c : Dev nD) : iprop(Tb m ρ 165 c ∗ after m ρ c) ⊢ iprop(scr c ∗ atPos ER (barCell c) 1 ∅ 0) := by
  unfold after
  rw [recvPay36, recvPay37, recvPay38, sendPay36, sendPay37, sendPay38]
  iintro ⟨HT, R8, S8, R7, S7, R6, S6, Hb⟩
  isplitr [Hb]
  · ihave HT := (Tb_end c) $$ HT
    icases HT with ⟨H4, H5⟩
    unfold scr
    isplitl [S6]; · iexists _; rw [← holds_s]; iexact S6
    isplitl [R6]; · iexists _; rw [← holds_r]; iexact R6
    isplitl [S7 S8]
    · iexists (bulkAt m ρ c); rw [← holds_sb]; iapply sb_halves.2
      isplitl [S7]; · iexact S7
      iexact S8
    isplitl [R7 R8]
    · iexists (bulkAt m ρ (peer c)); rw [← holds_rb]; iapply rb_halves.2
      isplitl [R7]; · iexact R7
      iexact R8
    isplitl [H4]; · iexists _; rw [← tab_false]; iexact H4
    iexists _; rw [← tab_true]; iexact H5
  · iexact Hb

end Cert.MeshSum

end
-- ==== Proof.Ends.lean ====
/-
# From a launch to the run, and from the run to its end
-/
module

public import proofs.«01_k».proof.Proof.Buffers

@[expose] public section

noncomputable section

namespace Cert.MeshSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {ρ : Dev nD → PrngReg} {K : Dev nD × Fin 79 → ℕ}

/-! ## What a device starts with -/

/-- The duties device `c` will carry out: one signal to each neighbour, and for each transfer it sends its own and the receiver's. -/
def payToks (c : Dev nD) : sProp 𝕄 :=
  iprop((bigSep Finset.univ fun d : Fin 5 => dutyTok ER (barCell (nbr d c)) 0 (opp d))
    ∗ bigSep Finset.univ fun e : Ev => iprop(dutyTok ER (scell e c) 0 0 ∗ dutyTok ER (rcell e (dst e c)) 0 0))

/-- It waits at the start of each of its semaphores. -/
def atStart (c : Dev nD) : sProp 𝕄 := bigSep Finset.univ fun k : Fin 79 => atPos ER (kcell (c, k)) 0 ∅ 0

/-- What the other devices owe its semaphores. -/
def credits (c : Dev nD) : sProp 𝕄 :=
  iprop((bigSep Finset.univ fun d : Fin 5 => barCred d c)
    ∗ bigSep Finset.univ fun e : Ev => if recvC e c = true then cred (tallyAt (rcell e c) () (amt e)) else iprop(emp))

theorem opening_snd (c : Dev nD) :
    iprop((bigSep Finset.univ fun e : Ev => iprop(dutyTok ER (scell e c) 0 0 ∗ dutyTok ER (rcell e (dst e c)) 0 0))
      ∗ bigSep Finset.univ fun e : Ev => atPos ER (kcell (c, kS e)) 0 ∅ 0) ⊢ (bigSep Finset.univ fun e : Ev => sndSt 0 e c : sProp 𝕄) := by
  rw [← bigSep_sep']
  refine each fun e _ => ?_
  rw [kcell_s]
  unfold sndSt
  by_cases hs : sendC e c = true
  · rw [if_pos hs, if_pos (Nat.zero_le _)]
    iintro ⟨⟨H1, H2⟩, H3⟩
    isplitl [H1]; · iexact H1
    isplitl [H2]; · iexact H2
    iexact H3
  · rw [if_neg hs]
    iintro ⟨-, H⟩; iexact H

theorem opening_rcv (c : Dev nD) :
    iprop((bigSep Finset.univ fun e : Ev => if recvC e c = true then cred (tallyAt (rcell e c) () (amt e)) else iprop(emp))
      ∗ bigSep Finset.univ fun e : Ev => atPos ER (kcell (c, kR e)) 0 ∅ 0) ⊢ (bigSep Finset.univ fun e : Ev => rcvSt 0 e c : sProp 𝕄) := by
  rw [← bigSep_sep']
  refine each fun e _ => ?_
  rw [kcell_r]
  unfold rcvSt
  by_cases hs : recvC e c = true
  · rw [if_pos hs, if_pos hs, if_pos (Nat.zero_le _)]
  · rw [if_neg hs, if_neg hs]
    iintro ⟨-, H⟩; iexact H

theorem opening_sig (c : Dev nD) :
    iprop((bigSep Finset.univ fun d : Fin 5 => dutyTok ER (barCell (nbr d c)) 0 (opp d)) ∗ rooms (F := F) c)
      ⊢ iprop(sigRes (F := F) 0 c ∗ sigRes (F := F) 2 c ∗ sigRes (F := F) 1 c ∗ sigRes (F := F) 4 c ∗ sigRes (F := F) 3 c) := by
  refine (sep_mono_right (rooms_give c)).trans ?_
  rw [← bigSep_sep']
  refine BIBase.Entails.trans (each (Ψ := fun d => sigRes d c) fun d _ => ?_) ?_
  · unfold sigRes
    by_cases hd : has d c = true
    · rw [if_pos hd, if_pos hd]
    · rw [if_neg hd, if_neg hd]
      iintro ⟨-, H⟩; iexact H
  · rw [bigSep_univ_eq_bigSepL [0, 2, 1, 4, 3] (by decide) (by decide)]
    exact .rfl

theorem opening_cred (c : Dev nD) : (bigSep Finset.univ fun d : Fin 5 => barCred (F := F) d c)
      ⊢ iprop(barCred (F := F) 0 c ∗ barCred (F := F) 2 c ∗ barCred (F := F) 1 c ∗ barCred (F := F) 4 c ∗ barCred (F := F) 3 c) := by
  rw [bigSep_univ_eq_bigSepL [0, 2, 1, 4, 3] (by decide) (by decide)]
  exact .rfl

/-- From a launch to the first state of the run. -/
theorem opening (c : Dev nD) (g : Buf (Elt F) ((c : Thread nD τ).loc cc0_stg1_0)) :
    iprop(records m ρ K ∗ levAts L lv ∗ (∃ W, owes (c : Thread nD τ) (owed 0 c) W) ∗ payToks c ∗ atStart c ∗ credits c ∗ scr c
      ∗ (((c : Thread nD τ).loc cc0_stg1_0) ↦{fullShare} g) ∗ xSt m ρ c) ⊢ BaseW m ρ K 0 0 c (before c) := by
  unfold payToks atStart credits
  rw [over_cells]
  iintro ⟨HR, HL, HO, ⟨HT1, HT2⟩, ⟨HA0, HA1, HA2⟩, ⟨HC1, HC2⟩, HS, Hg, Hx⟩
  ihave HS := (scr_open c) $$ HS
  icases HS with ⟨H0, H2, H4, H5, Hr⟩
  ihave Hs := (opening_sig c) $$ [HT1 Hr]
  · isplitl [HT1]; · iexact HT1
    iexact Hr
  ihave Hc := (opening_cred c) $$ HC1
  icases Hs with ⟨S0, S2, S1, S4, S3⟩
  icases Hc with ⟨C0, C2, C1, C4, C3⟩
  unfold BaseW
  isplitl [HR]; · iexact HR
  isplitl [HL]; · iexact HL
  isplitl [HO]; · iexact HO
  isplitl [HT2 HA1]
  · iapply (opening_snd c)
    isplitl [HT2]; · iexact HT2
    iexact HA1
  isplitl [HC2 HA2]
  · iapply (opening_rcv c)
    isplitl [HC2]; · iexact HC2
    iexact HA2
  isplitr
  · iapply (show (iprop(emp) : sProp 𝕄) ⊢ bigSep Finset.univ fun e : Ev => roomSt (F := F) 0 e c from
      Entails.of_eq ((bigSep_emp_const Finset.univ).symm.trans (bigSep_congr fun e _ => by unfold roomSt; exact (if_neg fun h => absurd h.1 (by decide)).symm)))
    iempintro
  isplitl [Hg]
  · unfold outSt
    iexists g
    isplitr
    · ipureintro; intro i h; rw [Nat.zero_testBit] at h; exact absurd h (by decide)
    · iexact Hg
  isplitl [Hx]; · iexact Hx
  unfold before
  isplitl [S0]; · iexact S0
  isplitl [S2]; · iexact S2
  isplitl [S1]; · iexact S1
  isplitl [S4]; · iexact S4
  isplitl [S3]; · iexact S3
  isplitl [HA0]
  · unfold barSt
    iexists (∅ : Finset (Fin 5))
    isplitr
    · ipureintro; exact ⟨Finset.empty_subset _, by rw [Finset.sdiff_empty, Nat.zero_add]⟩
    isplitl [HA0]; · iexact HA0
    rw [bigSep_empty]; iempintro
  isplitl [C0]; · iexact C0
  isplitl [C2]; · iexact C2
  isplitl [C1]; · iexact C1
  isplitl [C4]; · iexact C4
  isplitl [C3]; · iexact C3
  isplitl [H0]; · iexact H0
  isplitl [H2]; · iexact H2
  isplitl [H4]; · iexact H4
  iexact H5

/-! ## What a device ends with -/

/-- All its semaphores at zero. -/
def zeroSems (c : Dev nD) : sProp 𝕄 := bigSep Finset.univ fun k : Fin 79 => semVal (kcell (c, k)) 0

theorem dutiesS_none {c : Dev nD} {e : Ev} (h : ¬ sendC e c = true) (r : ℕ) : (Rd m ρ).duties (scell e c) r = ∅ := by
  rcases Nat.eq_zero_or_pos r with rfl | hr
  · rw [duties_s, if_neg h]
  · exact duties_later _ _ _ _ hr
theorem dutiesR_none {c : Dev nD} {e : Ev} (h : ¬ recvC e c = true) (r : ℕ) : (Rd m ρ).duties (rcell e c) r = ∅ := by
  rcases Nat.eq_zero_or_pos r with rfl | hr
  · rw [duties_r, if_neg h]
  · exact duties_later _ _ _ _ hr

theorem send_over : ∀ e : Ev, ¬ 165 ≤ tSend e := by decide +kernel
theorem wait_over : ∀ e : Ev, ¬ 165 ≤ tWait e := by decide +kernel
theorem recv_over : ∀ e : Ev, ¬ 165 ≤ tRecv e := by decide +kernel

theorem close_snd (c : Dev nD) (e : Ev) : iprop(records m ρ K ∗ sndSt 165 e c) ⊢ |={Set.univ}=> semVal (kcell (c, kS e)) 0 := by
  unfold sndSt
  by_cases hs : sendC e c = true
  · rw [if_pos hs, if_neg (send_over e), if_neg (wait_over e)]
    refine (sep_mono_left (inv_s e c)).trans ?_
    rw [kcell_s]
    exact Rounds.cell_close ER (Rd m ρ) (Set.mem_univ _) (fun h => h) (R := 1) fun r hr => duties_later _ _ _ _ hr
  · rw [if_neg hs]
    refine (sep_mono_left (inv_s e c)).trans ?_
    rw [kcell_s]
    exact Rounds.cell_close ER (Rd m ρ) (Set.mem_univ _) (fun h => h) (R := 0) fun r _ => dutiesS_none hs r

theorem close_rcv (c : Dev nD) (e : Ev) : iprop(records m ρ K ∗ rcvSt 165 e c) ⊢ |={Set.univ}=> semVal (kcell (c, kR e)) 0 := by
  unfold rcvSt
  by_cases hs : recvC e c = true
  · rw [if_pos hs, if_neg (recv_over e)]
    refine (sep_mono_left (inv_r e c)).trans ?_
    rw [kcell_r]
    exact Rounds.cell_close ER (Rd m ρ) (Set.mem_univ _) (fun h => h) (R := 1) fun r hr => duties_later _ _ _ _ hr
  · rw [if_neg hs]
    refine (sep_mono_left (inv_r e c)).trans ?_
    rw [kcell_r]
    exact Rounds.cell_close ER (Rd m ρ) (Set.mem_univ _) (fun h => h) (R := 0) fun r _ => dutiesR_none hs r

/-- When every wait is over all semaphores are closed. -/
theorem close_all (c : Dev nD) :
    iprop(records m ρ K ∗ atPos ER (barCell c) 1 ∅ 0 ∗ (bigSep Finset.univ fun e : Ev => sndSt 165 e c) ∗ bigSep Finset.univ fun e : Ev => rcvSt 165 e c)
      ⊢ |={Set.univ}=> zeroSems c := by
  unfold zeroSems
  rw [over_cells]
  iintro ⟨#HR, Hb, Hs, Hr⟩
  imod ((with_known fun e => close_snd (K := K) (m := m) (ρ := ρ) c e).trans (bigSep_fupd _ _)) $$ [Hs] with Hs
  · isplitr; · iexact HR
    iexact Hs
  imod ((with_known fun e => close_rcv (K := K) (m := m) (ρ := ρ) c e).trans (bigSep_fupd _ _)) $$ [Hr] with Hr
  · isplitr; · iexact HR
    iexact Hr
  imod ((sep_mono_left (inv_bar c)).trans (Rounds.cell_close ER (Rd m ρ) (Set.mem_univ _) (fun h => h) (R := 1) fun r hr => duties_later _ _ _ _ hr)) $$ [Hb] with Hb
  · isplitr; · iexact HR
    iexact Hb
  imodintro
  isplitl [Hb]; · iexact Hb
  isplitl [Hs]; · iexact Hs
  iexact Hr

theorem stretch_lt (i : Fin 4096) : stretch i < 34 := by revert i; decide +kernel

/-- The last state of the run has the buffers whole, nothing owed, every semaphore at zero and the result written. -/
theorem closing (c : Dev nD) : Res m ρ K 165 c (after m ρ c) ⊢ |={Set.univ}=> iprop((∃ W, owes (c : Thread nD τ) 0 W) ∗ scr c ∗ zeroSems c
    ∗ (((c : Thread nD τ).loc cc0_stg1_0) ↦{fullShare} resAt m ρ c) ∗ xSt m ρ c) := by
  unfold Res Base BaseW
  rw [owed_end, written_end_fin ⟨py c, py_lt c⟩ ⟨pz c, pz_lt c⟩]
  iintro ⟨HR, -, HO, Hs, Hr, -, Hout, Hx, HT, Ha⟩
  ihave HT := (scr_close c) $$ [HT Ha]
  · isplitl [HT]; · iexact HT
    iexact Ha
  icases HT with ⟨HS, Hb⟩
  imod (close_all (K := K) (m := m) (ρ := ρ) c) $$ [HR Hs Hr Hb] with Hz
  · isplitl [HR]; · iexact HR
    isplitl [Hb]; · iexact Hb
    isplitl [Hs]; · iexact Hs
    iexact Hr
  imodintro
  isplitl [HO]; · iexact HO
  isplitl [HS]; · iexact HS
  isplitl [Hz]; · iexact Hz
  isplitl [Hout]
  · unfold outSt
    icases Hout with ⟨%f, %hf, Hf⟩
    have e : f = resAt m ρ c := funext fun i => hf i (by rw [Nat.testBit_two_pow_sub_one]; exact decide_eq_true (stretch_lt _))
    rw [← e]; iexact Hf
  iexact Hx

end Cert.MeshSum

end
-- ==== Proof.Launch.lean ====
/-
# The launch and the whole run
-/
module

public import proofs.«01_k».proof.Proof.Ends
public import proofs.«01_k».proof.Proof.Gen.KernelIdeal.Launch
public import proofs.«01_k».proof.Proof.Gen.KernelIdeal.Points
public import Idealize.ShloMosaic.Lib.Pipeline.Launch
public import Idealize.ShloMosaic.Lib.Pipeline.CollectiveSegs
public import Idealize.ShloMosaic.Lib.Pipeline.Kit

@[expose] public section

noncomputable section

namespace Cert.MeshSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable {m : (ℓ : Loc nD τ sig) → Buf (Elt F) ℓ} {ρ : Dev nD → PrngReg} {K : Dev nD × Fin 79 → ℕ}

/-! ## The launch's data -/

/-- The kernel's own semaphores: all but the barrier's. -/
def osem (k : Fin 78) : SemLoc sig := csem k.succ

variable (m ρ) in
/-- What the launch's one update makes for device `c`. -/
def G' (c : Dev nD) : sProp 𝕄 := iprop(∃ K, records m ρ K ∗ atStart c ∗ payToks c)

variable (m ρ) in
/-- What device `c` starts from, beside its buffers. -/
def start (c : Dev nD) : sProp 𝕄 := iprop(G' m ρ c ∗ credits c ∗ levAts L lv)

variable (m ρ) in
/-- The pipeline's data: the input is unchanged, the result is the computed one, nothing is owed at the end. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xAt m ρ c
    | ⟨1, _⟩ => resAt m ρ c
  Φ t := match t with
    | ⟨0, _⟩ => iprop(start m ρ c ∗ scr c)
    | ⟨_ + 1, _⟩ => iprop(scr c ∗ zeroSems c)
  q _ := fullShare
  owed t := match t with
    | ⟨0, _⟩ => owed 0 c
    | ⟨_ + 1, _⟩ => 0

/-! ## The body -/

/-- A buffer owned whole at given contents. -/
theorem whole_owned (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns
  rw [Memref.view_whole, View.set_whole]
  simp only [View.read_whole]

/-- The same, written out. -/
abbrev owned (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem before_x (c : Dev nD) (d : (cc0_stg0_0 : Ref sig .tc).ty.Contents (Elt F)) : (dats m ρ 0 c).before (0 : Fin 2) t0_0 d = xAt m ρ c := by
  unfold Dat.before; rw [if_pos (fetch0_0 _)]; rfl

theorem body_after (c : Dev nD) : iprop((∃ W, owes (c : Thread nD τ) 0 W) ∗ scr c ∗ zeroSems c
    ∗ (((c : Thread nD τ).loc cc0_stg1_0) ↦{fullShare} resAt m ρ c) ∗ xSt m ρ c)
    ⊢ iprop((scr c ∗ zeroSems c) ∗ (dats m ρ 0 c).owesAt () (t0_0 : Fin cfg0.N).succ
      ∗ owned c cc0_stg0_0 (xAt m ρ c) ∗ owned c cc0_stg1_0 (resAt m ρ c)) := by
  unfold Dat.owesAt Pipeline.owesWithin
  iintro ⟨⟨%W', HO⟩, HS, Hz, Hg, Hx⟩
  isplitl [HS Hz]
  · isplitl [HS]; · iexact HS
    iexact Hz
  isplitl [HO]
  · iexists W'
    isplitr; · ipureintro; exact fun _ _ => Or.inl trivial
    iexact HO
  isplitl [Hx]
  · iexists _; isplitr; · (ipureintro; rfl)
    unfold xSt; iexact Hx
  iexists _; isplitr; · (ipureintro; rfl)
  iexact Hg

set_option maxRecDepth 8000 in
/-- The kernel meets the pipeline's demand on its body. -/
theorem body_meets (c : Dev nD) : BodyObligation (dats (F := F) m ρ 0 c) (defs₀ (F := F)) 𝒱₀ () Set.univ := fun t => by
  rw [fin_N0 t, show ∀ Φ : Fin cfg0.W → sProp 𝕄, bigSep Finset.univ Φ = iprop(Φ (0 : Fin 2) ∗ Φ (1 : Fin 2)) from fun Φ => bigSep_W0 Φ,
    show ∀ Φ : Fin cfg0.W → sProp 𝕄, bigSep Finset.univ Φ = iprop(Φ (0 : Fin 2) ∗ Φ (1 : Fin 2)) from fun Φ => bigSep_W0 Φ]
  simp only [whole_owned]
  show iprop((start m ρ c ∗ scr c) ∗ (dats m ρ 0 c).owesAt () (t0_0 : Fin cfg0.N).castSucc
      ∗ (∃ d, owned c cc0_stg0_0 ((dats m ρ 0 c).before (0 : Fin 2) t0_0 d)) ∗ ∃ d, owned c cc0_stg1_0 ((dats m ρ 0 c).before (1 : Fin 2) t0_0 d))
    ⊢ wp frame (wpE (defs₀ (F := F)) 𝒱₀ (c : Thread nD τ) none) Set.univ (cc0_body xM (Memref.isWhole_whole _) oM (Memref.isWhole_whole _) sM (Memref.isWhole_whole _)
        rM (Memref.isWhole_whole _) sbM (Memref.isWhole_whole _) rbM (Memref.isWhole_whole _) (tabM false) (Memref.isWhole_whole _) (tabM true)
        (Memref.isWhole_whole _) cc0_scratch6 cc0_scratch7 cc0_scratch8 cc0_scratch9 cc0_scratch10 cc0_scratch11) fun _ => iprop((scr c ∗ zeroSems c) ∗ (dats m ρ 0 c).owesAt () (t0_0 : Fin cfg0.N).succ
      ∗ owned c cc0_stg0_0 (xAt m ρ c) ∗ owned c cc0_stg1_0 (resAt m ρ c))
  rw [show (dats m ρ 0 c).owesAt () (t0_0 : Fin cfg0.N).castSucc = iprop(∃ W, ⌜_⌝ ∗ owes (c : Thread nD τ) (owed 0 c) W) from rfl]
  unfold start G'
  iintro ⟨⟨⟨⟨%K, HR, HA, HT⟩, HC, HL⟩, HS⟩, ⟨%W, %hW, HO⟩, ⟨%d, %f, %hf, Hx⟩, ⟨%d', %g, %hg, Hg⟩⟩
  have hx : f = xAt m ρ c := hf.trans (before_x c d)
  iapply ((opening (K := K) (m := m) (ρ := ρ) c g).trans (body_run ((closing (K := K) (m := m) (ρ := ρ) c).trans (BI.fupd_mono (body_after c)))))
  isplitl [HR]; · iexact HR
  isplitl [HL]; · iexact HL
  isplitl [HO]; · iexists W; iexact HO
  isplitl [HT]; · iexact HT
  isplitl [HA]; · iexact HA
  isplitl [HC]; · iexact HC
  isplitl [HS]; · iexact HS
  isplitl [Hg]; · iexact Hg
  unfold xSt; rw [← hx]; iexact Hx

/-! ## What the launch makes -/

theorem ownSemFacts : Pipeline.OwnSemFacts cfg0.spec osem := by decide +kernel

theorem share_eq (c : Dev nD) (w : Fin cfg0.W) : (dats m ρ 0 c).share w = fullShare := by unfold Dat.share; split <;> rfl

theorem csem_injective : Function.Injective csem := fun a b => by revert a b; decide +kernel
theorem kcell_injective : Function.Injective (kcell : Dev nD × Fin 79 → GSem nD τ sig) := by
  rintro ⟨c, k⟩ ⟨c', k'⟩ h
  exact Prod.ext (Fin.ext (congrArg (fun g : GSem nD τ sig => g.1.1.val) h)) (csem_injective (congrArg Prod.snd h))
def allCells : Finset (GSem nD τ sig) := Finset.univ.map ⟨kcell, kcell_injective⟩

/-- All duties, listed by the device that carries them out. -/
def tokOf (x : Dev nD × (Fin 5 ⊕ Ev ⊕ Ev)) : GSem nD τ sig × ℕ × Fin 5 := match x.2 with
  | .inl d => (barCell (nbr d x.1), 0, opp d)
  | .inr (.inl e) => (scell e x.1, 0, 0)
  | .inr (.inr e) => (rcell e (dst e x.1), 0, 0)

theorem dev_of {c c' : Dev nD} {a b : SemLoc sig} (h : (((c : Thread nD τ), a) : GSem nD τ sig) = ((c' : Thread nD τ), b)) : c = c' ∧ a = b :=
  ⟨Fin.ext (congrArg (fun g : GSem nD τ sig => g.1.1.val) h), congrArg Prod.snd h⟩
theorem role_of {q q' : DmaSem sig} (h : (SemLoc.dma q : SemLoc sig) = .dma q') : role q = role q' := by cases h; rfl
theorem nbr_injective {d : Fin 5} {c c' : Dev nD} (h : nbr d c = nbr d c') : c = c' := (shift d).injective h

theorem tokOf_injective : Function.Injective tokOf := by
  rintro ⟨c, x⟩ ⟨c', x'⟩ h
  have h1 := congrArg Prod.fst h
  have h2 := congrArg (fun y : GSem nD τ sig × ℕ × Fin 5 => y.2.2) h
  rcases x with d | e | e <;> rcases x' with d' | e' | e' <;> obtain ⟨hc, hs⟩ := dev_of h1
  · obtain rfl : d = d' := opp_inj (congrArg Fin.val h2)
    exact Prod.ext (nbr_injective hc) rfl
  · cases hs
  · cases hs
  · cases hs
  · have hr := role_of hs
    rw [role_s, role_s] at hr
    cases hr; cases hc; rfl
  · have hr := role_of hs
    rw [role_s, role_r] at hr
    cases hr
  · cases hs
  · have hr := role_of hs
    rw [role_s, role_r] at hr
    cases hr
  · have hr := role_of hs
    rw [role_r, role_r] at hr
    cases hr
    exact Prod.ext (nbr_injective hc) rfl
def allToks : Finset (GSem nD τ sig × ℕ × Fin 5) := Finset.univ.map ⟨tokOf, tokOf_injective⟩

def u₀ : UU := (initOf (Pipeline.cells cfgs cellOf_inj) (Pipeline.launchToks cfgs cellOf_inj), initOf allCells allToks)

variable (m ρ) in
/-- What the launch element deals device `c`. -/
def G (c : Dev nD) : sProp 𝕄 :=
  iprop((bigSep Finset.univ fun k : Fin 79 => roundState ER (Rd m ρ) (kcell (c, k)) 0)
    ∗ (bigSep Finset.univ fun k : Fin 79 => reached ER (kcell (c, k)) 0) ∗ atStart c ∗ payToks c)

theorem over_all (Φ : GSem nD τ sig → sProp 𝕄) :
    bigSep allCells Φ = bigSep Finset.univ fun c : Dev nD => bigSep Finset.univ fun k : Fin 79 => Φ (kcell (c, k)) := by
  unfold allCells; rw [bigSep_map, bigSep_univ_prod]; rfl

theorem over_toks : bigSep allToks (fun x => (dutyTok ER x.1 x.2.1 x.2.2 : sProp 𝕄)) = bigSep Finset.univ fun c : Dev nD => payToks c := by
  unfold allToks; rw [bigSep_map, bigSep_univ_prod]
  refine bigSep_congr fun c _ => ?_
  unfold payToks
  rw [bigSep_univ_sum, bigSep_univ_sum, bigSep_sep']
  rfl

theorem fund : BI.own (ER (initOf allCells allToks)) ⊢ (|==> bigSep Finset.univ (G m ρ) : sProp 𝕄) := by
  iintro HX
  imod (Rounds.fund ER (Rd m ρ) allCells allToks) $$ HX with ⟨Hst, Hr, Hat, Htok⟩
  imodintro
  ihave Hst := (Entails.of_eq (over_all fun g => roundState ER (Rd m ρ) g 0)) $$ Hst
  ihave Hat := (Entails.of_eq (over_all fun g => atPos ER g 0 ∅ 0)) $$ Hat
  ihave Hr := (Entails.of_eq (over_all fun g => reached ER g 0)) $$ Hr
  ihave Htok := (Entails.of_eq over_toks) $$ Htok
  unfold G atStart
  simp only [bigSep_sep']
  isplitl [Hst]; · iexact Hst
  isplitl [Hr]; · iexact Hr
  isplitl [Hat]; · iexact Hat
  iexact Htok

/-- The semaphore of the barrier is the only one outside the launch. -/
theorem unscoped_eq (c : Dev nD) : (unscopedSems0 c : sProp 𝕄) = semVal (kcell (c, 0)) 0 := by
  unfold unscopedSems0; rw [bigSep_eq_bigSepL_of_eq [SemLoc.reg barS] (by decide +kernel) (by decide)]
  rw [show kcell (c, 0) = barCell c from Prod.ext rfl csem_zero]
  rfl

theorem succ_cover : (Finset.univ : Finset (Fin 79)) = {0} ∪ Finset.univ.map ⟨Fin.succ, Fin.succ_injective 78⟩ := by decide +kernel
theorem succ_apart : Disjoint ({0} : Finset (Fin 79)) (Finset.univ.map ⟨Fin.succ, Fin.succ_injective 78⟩) := by decide +kernel

theorem zero_sems (c : Dev nD) :
    (zeroSems c : sProp 𝕄) = iprop(unscopedSems0 c ∗ Pipeline.ownSems0 (Ix := Unit) (Name := ℕ) (U := UU) (Lvl := ℕ) (Val := Elt F) (τ := τ) osem c) := by
  rw [unscoped_eq]
  unfold zeroSems
  rw [succ_cover, bigSep_union succ_apart, bigSep_map, bigSep_singleton]
  rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Fin 79 => iprop(∃ κ : ℕ, cellInv ER (Rd m ρ) κ (kcell (c, k))))
          ∗ (bigSep Finset.univ fun k : Fin 79 => reached ER (kcell (c, k)) 0) ∗ atStart c ∗ payToks c) := by
  unfold G
  iintro ⟨Hos, Hus, Hst, Hrest⟩
  ihave Hv := (Entails.of_eq (zero_sems c).symm) $$ [Hos Hus]
  · isplitl [Hus]; · iexact Hus
    iexact Hos
  imod (show iprop(zeroSems c ∗ bigSep Finset.univ fun k : Fin 79 => roundState ER (Rd m ρ) (kcell (c, k)) 0)
      ⊢ (|={Set.univ}=> bigSep Finset.univ fun k : Fin 79 => iprop(∃ κ : ℕ, cellInv ER (Rd m ρ) κ (kcell (c, k))) : sProp 𝕄) from by
        unfold zeroSems
        rw [← bigSep_sep']
        exact (bigSep_mono fun k _ => (Rounds.body_intro ER (Rd m ρ) (kcell (c, k))).trans inv_alloc).trans (bigSep_fupd _ _)) $$ [Hv Hst] with Hinv
  · isplitl [Hv]; · iexact Hv
    iexact Hst
  imodintro
  isplitl [Hinv]; · iexact Hinv
  iexact Hrest

theorem regroup :
    (bigSep Finset.univ fun c : Dev nD => iprop((bigSep Finset.univ fun k : Fin 79 => iprop(∃ κ : ℕ, cellInv ER (Rd m ρ) κ (kcell (c, k))))
          ∗ (bigSep Finset.univ fun k : Fin 79 => reached ER (kcell (c, k)) 0) ∗ atStart c ∗ payToks c) : sProp 𝕄)
      ⊢ bigSep Finset.univ (G' m ρ) := by
  rw [bigSep_sep', bigSep_sep', ← bigSep_univ_prod (fun ck : Dev nD × Fin 79 => iprop(∃ κ : ℕ, cellInv ER (Rd m ρ) κ (kcell ck))),
    ← bigSep_univ_prod (fun ck : Dev nD × Fin 79 => (reached ER (kcell ck) 0 : sProp 𝕄))]
  iintro ⟨HI, #HR, Hrest⟩
  ihave HK := (BI.bigSep_exists_pi Finset.univ (fun (ck : Dev nD × Fin 79) (κ : ℕ) => (cellInv ER (Rd m ρ) κ (kcell ck) : sProp 𝕄))) $$ HI
  icases HK with ⟨%K, #HI⟩
  iapply (with_known (R := records m ρ K) (Φ := fun c => iprop(atStart c ∗ payToks c)) fun c => by unfold G'; iintro H; iexists K; iexact H)
  isplitr
  · unfold records; isplitl; · iexact HI
    iexact HR
  · iexact Hrest

/-- The launch's one update over all devices. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc c).trans (bigSep_fupd _ _)).trans (BI.fupd_mono regroup)

/-! ## What is owed each semaphore at the start -/

theorem tally_at (p : Prop) [Decidable p] (g g' : GSem nD τ sig) (k : ℕ) :
    (if p then tallyAt g () k else 0 : CellTallies nD τ sig Unit) g' () = if p ∧ g' = g then k else 0 := by
  by_cases hp : p
  · rw [if_pos hp, tallyAt_apply]
    by_cases hg : g' = g
    · rw [if_pos ⟨hg, rfl⟩, if_pos ⟨hp, hg⟩]
    · rw [if_neg fun h => hg h.1, if_neg fun h => hg h.2]
  · rw [if_neg hp, if_neg fun h => hp h.1]; rfl

theorem owed_at (d : Dev nD) (g : GSem nD τ sig) : owed 0 d g () = (∑ i : Fin 5, if has i d = true ∧ g = barCell (nbr i d) then 1 else 0)
    + ∑ e : Ev, if sendC e d = true ∧ g = rcell e (dst e d) then amt e else 0 := by
  unfold owed
  rw [Pi.add_apply, Finsupp.add_apply, Finset.sum_apply, Finsupp.finset_sum_apply, Finset.sum_apply, Finsupp.finset_sum_apply]
  refine congrArg₂ (· + ·) ?_ ?_
  · refine Finset.sum_congr rfl fun i _ => (tally_at _ _ _ _).trans ?_
    simp only [Nat.zero_le, true_and]
  · refine Finset.sum_congr rfl fun e _ => (tally_at _ _ _ _).trans ?_
    simp only [Nat.zero_le, true_and]

theorem bar_eq {a b : Dev nD} : barCell a = barCell b ↔ a = b := ⟨fun h => (dev_of h).1, fun h => h ▸ rfl⟩
theorem recv_eq {e e' : Ev} {a b : Dev nD} : rcell e a = rcell e' b ↔ e' = e ∧ a = b :=
  ⟨fun h => by
    obtain ⟨hc, hs⟩ := dev_of h
    have hr := role_of hs
    rw [role_r, role_r] at hr
    cases hr; exact ⟨rfl, hc⟩, fun h => by rw [h.1, h.2]⟩
theorem bar_ne {e : Ev} {a b : Dev nD} : ¬ barCell a = rcell e b := fun h => by cases (dev_of h).2
theorem recv_ne {e : Ev} {a b : Dev nD} : ¬ rcell e a = barCell b := fun h => by cases (dev_of h).2

theorem count_bar : ∀ c : Dev nD, (∑ d : Dev nD, ∑ i : Fin 5, if has i d = true ∧ c = nbr i d then 1 else 0) = ∑ i : Fin 5, if has i c = true then 1 else 0 := by
  decide +kernel
theorem count_recv : ∀ (e : Ev) (c : Dev nD), (∑ d : Dev nD, if sendC e d = true ∧ c = dst e d then 1 else 0) = if recvC e c = true then 1 else 0 := by
  decide +kernel

theorem launch_bar (c : Dev nD) : tallyOn (barCell c) (launchCredit (Pipeline.owing (owed 0)) 0 (barCell c))
    = (tallyAt (barCell c) () (∑ i : Fin 5, if has i c = true then 1 else 0) : CellTallies nD τ sig Unit) := by
  unfold tallyAt; refine congrArg _ (Finsupp.ext fun u => ?_); cases u
  rw [Pipeline.launchCredit_owing, Finsupp.single_eq_same, ← count_bar]
  refine Finset.sum_congr rfl fun d _ => ?_
  rw [owed_at]
  simp only [bar_eq, bar_ne, and_false, if_false, Finset.sum_const_zero, Nat.add_zero]

theorem launch_recv (e : Ev) (c : Dev nD) : tallyOn (rcell e c) (launchCredit (Pipeline.owing (owed 0)) 0 (rcell e c))
    = (tallyAt (rcell e c) () (if recvC e c = true then amt e else 0) : CellTallies nD τ sig Unit) := by
  unfold tallyAt; refine congrArg _ (Finsupp.ext fun u => ?_); cases u
  have h : (if recvC e c = true then amt e else 0) = (if recvC e c = true then 1 else 0) * amt e := by split <;> simp
  rw [Pipeline.launchCredit_owing, Finsupp.single_eq_same, h, ← count_recv, Finset.sum_mul]
  refine Finset.sum_congr rfl fun d _ => ?_
  rw [owed_at]
  simp only [recv_ne, and_false, if_false, Finset.sum_const_zero, Nat.zero_add]
  rw [Finset.sum_eq_single e (fun e' _ he => if_neg fun h => he (recv_eq.mp h.2).1) fun h => absurd (Finset.mem_univ _) h]
  simp only [recv_eq, true_and]
  split <;> simp

theorem cred_split (g : GSem nD τ sig) {I : Type} [DecidableEq I] (s : Finset I) (n : I → ℕ) :
    (cred (tallyAt g () (∑ i ∈ s, n i)) : sProp 𝕄) ⊢ bigSep s fun i => cred (tallyAt g () (n i)) := by
  induction s using Finset.induction_on with
  | empty => rw [Finset.sum_empty, tallyAt_zero, cred_zero, bigSep_empty]; exact BI.Entails.refl _
  | insert a s ha ih =>
    rw [Finset.sum_insert ha, bigSep_insert ha, ← tallyAt_add]
    exact (cred_add _ _).1.trans (sep_mono_right ih)

/-- The launch's credit is what each device's semaphores are owed. -/
theorem creds (c : Dev nD) : (Pipeline.launchCred (owed 0) c : sProp 𝕄) ⊢ credits c := by
  unfold Pipeline.launchCred
  rw [bigSep_sdiff_split (Finset.subset_univ (Finset.univ.map ⟨csem, csem_injective⟩)), bigSep_map, over_cells]
  refine (show iprop((_ ∗ _ ∗ _) ∗ _) ⊢ _ from ?_)
  iintro ⟨⟨Hb, -, Hr⟩, -⟩
  unfold credits
  isplitl [Hb]
  · iapply (show (cred (tallyOn (barCell c) (launchCredit (Pipeline.owing (owed 0)) 0 (barCell c))) : sProp 𝕄) ⊢ bigSep Finset.univ fun d : Fin 5 => barCred d c from by
      rw [launch_bar]
      refine (cred_split _ _ _).trans (each fun d _ => ?_)
      unfold barCred
      by_cases hd : has d c = true
      · rw [if_pos hd, if_pos hd]
      · rw [if_neg hd, if_neg hd, tallyAt_zero, cred_zero])
    rw [show barCell c = ((c : Thread nD τ), csem 0) from Prod.ext rfl csem_zero.symm]; iexact Hb
  · iapply (show (bigSep Finset.univ fun e : Ev => (cred (tallyOn ((c : Thread nD τ), csem (kR e)) (launchCredit (Pipeline.owing (owed 0)) 0 ((c : Thread nD τ), csem (kR e)))) : sProp 𝕄))
        ⊢ bigSep Finset.univ fun e : Ev => if recvC e c = true then cred (tallyAt (rcell e c) () (amt e)) else iprop(emp) from each fun e _ => by
      rw [csem_r, launch_recv]
      by_cases hr : recvC e c = true
      · rw [if_pos hr, if_pos hr]
      · rw [if_neg hr, if_neg hr, tallyAt_zero, cred_zero])
    iexact Hr

/-! ## The launch's other conditions -/

theorem start_intro (c : Dev nD) :
    iprop(Pipeline.unscopedRestP Pipeline.Prefetch.none cfg0.spec c (fun b => m ((c : Thread nD τ).loc b)) ∗ levAts L lv
        ∗ Pipeline.launchCred (owed 0) c ∗ prngReg c (ρ c) ∗ G' m ρ c)
      ⊢ |={Set.univ}=> iprop(start m ρ c ∗ emp) := by
  iintro ⟨-, HL, HC, -, HG⟩
  ihave HC := (creds c) $$ HC
  imodintro
  unfold start
  isplitl
  · isplitl [HG]; · iexact HG
    isplitl [HC]; · iexact HC
    iexact HL
  · iempintro

theorem scr_rest (c : Dev nD) : (Pipeline.scopedRest cfg0.spec c : sProp 𝕄) = scr c := scopedRest0_eq c

theorem phi_first (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m ρ c ∗ scr c) from rfl, scr_rest]
  iintro ⟨Hs, -, Hr⟩
  isplitl [Hs]; · iexact Hs
  iexact Hr

theorem phi_last (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(scr c ∗ zeroSems c) from rfl, scr_rest, zero_sems]
  iintro ⟨Hr, Hu, Ho⟩
  isplitl [Hu]; · iexact Hu
  isplitl [Ho]; · iexact Ho
  iexact Hr

theorem tSend_pos : ∀ e : Ev, 0 < tSend e := by decide +kernel

theorem lv_none {c : Dev nD} {q : DmaSem sig} (h : role q = none) : lv ((c : Thread nD τ), .dma q) () = 0 := by
  show (match role q with | some (true, e) => tSend e | _ => 0) = 0
  rw [h]
theorem role_stage0 : role (0 : Fin 80) = none := by decide +kernel
theorem role_stage1 : role (1 : Fin 80) = none := by decide +kernel

/-- A device may wait for its staging transfers. -/
theorem stage_waits (c : Dev nD) : (levAts L lv : sProp 𝕄) ⊢ Pipeline.cellsWaits cfgs (dats m ρ) () 0 c :=
  Pipeline.cellsWaits_intro cfgs (dats m ρ) () 0 c fun w s t => by
    have hlv : ∀ sm : SemLoc sig, sm = .dma (0 : Fin 80) ∨ sm = .dma (1 : Fin 80) → lv ((c : Thread nD τ), sm) () ≤ 0 := fun sm h => by
      rcases h with rfl | rfl
      · exact le_of_eq (lv_none role_stage0)
      · exact le_of_eq (lv_none role_stage1)
    rcases t with ⟨_ | _, ht⟩
    · exact mayWait_of (t := 0) c _ 0 (hlv _ (by fin_cases w <;> fin_cases s <;> decide)) (fun _ => by decide) fun e _ => tSend_pos e
    · exact (show _ ⊢ MayWait (c : Thread nD τ) _ () (0 : CellTallies nD τ sig Unit) from by
        rw [← owed_end c]
        exact mayWait_of (t := 165) c _ 0 (hlv _ (by fin_cases w <;> fin_cases s <;> decide)) (fun _ => by decide) fun e _ => tSend_pos e)

/-! ## The run -/

variable (m ρ) in
/-- What an operand holds in the end. -/
def finalA (c : Dev nD) (w : Fin cfg0.W) : Buf (Elt F) ((cfg0.win w).arr.view.loc (c : Thread nD τ)) := (dats m ρ 0 c).arrAt w cfg0.N

variable (m ρ) in
def QC : PUnit × MemSt nD τ sig (Elt F) → Prop := fun r =>
  ∀ c : Dev nD, ∀ w : Fin cfg0.W, r.2.mem ((cfg0.win w).arr.view.loc (c : Thread nD τ)) = finalA m ρ c w

variable (m ρ) in
set_option maxRecDepth 8000 in
/-- From any memory with every semaphore at zero, for any float values, every fair execution of the program on all
    devices ends, with every operand at its final contents and every semaphore at zero again. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_meets) (hne := block_pos0) (harr := arr_whole0) (hstage := stage_whole0) (hshare := share_eq)
    (hdistinct := winFacts0.arr_inj)
    (O₀ := owed 0) (howed₀ := fun _ => rfl) (howedN := fun _ => rfl)
    (L := L) (lv := lv) (hL := L_of_ne) (hwaits := stage_waits)
    (G := G m ρ) (G' := G' m ρ) (u₀ := u₀)
    (hu₀ := by
      unfold u₀
      iintro Hu
      ihave H := (ownU_pair _ _) $$ Hu
      icases H with ⟨HP, HX⟩
      imod (fund (m := m) (ρ := ρ)) $$ HX with HG
      imodintro
      isplitl [HP] <;> iassumption)
    (hglob := glob)
    (hA := fun _ _ => rfl) (hpf := fun _ k => k.elim0)
    (X := start m ρ) (Y := fun c => unscopedSems0 c) (Z := fun _ => iprop(emp))
    (hX := start_intro) (hin := phi_first) (hout := phi_last)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input is unchanged. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.MeshSum

end
-- ==== Proof.Value.lean ====
/-
# The value of the result
-/
module

public import proofs.«01_k».proof.Proof.Launch
public import Idealize.ShloMosaic.Lib.Pipeline.Value
public import Idealize.ShloMosaic.Lib.ValueIdx
public import Idealize.ShloMosaic.Lib.IdealHost
public import Idealize.ShloMosaic.Lib.Pointwise.Reduce
public import Idealize.ShloMosaic.Lib.Layout

@[expose] public section

noncomputable section

namespace Cert.MeshSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable {m : (ℓ : Loc nD τ sig) → Buf (Elt F) ℓ} {ρ : Dev nD → PrngReg} {K : Dev nD × Fin 79 → ℕ}

/-! ## What the result's array ends holding -/

/-- The one block of the result's window is the whole array: a write back leaves the staged contents. -/
theorem flushed_o (c : Dev nD) (t : Fin cfg0.N) :
    (dats m ρ 0 c).flushed (1 : Fin 2) t = ((cfg0.win (1 : Fin 2)).blk t).view.read (Elt F) (resAt m ρ c) := by
  obtain rfl := fin_N0 t
  funext x
  refine congrArg (resAt m ρ c) ?_
  funext a
  refine Fin.ext ?_
  show (x a).val = _ * (S4096x1024.size a) + 1 * (x a).val
  match a with
  | ⟨0, _⟩ => show _ = 0 * _ + 1 * _; omega
  | ⟨1, _⟩ => show _ = 0 * _ + 1 * _; omega

/-- The result's array ends holding `resAt`. -/
theorem finalA_o (c : Dev nD) : finalA m ρ c (1 : Fin 2) = resAt m ρ c := by
  refine (dats m ρ 0 c).arrAt_eq_of_cover (1 : Fin 2) (resAt m ρ c) (fun t _ => flushed_o c t) fun i => ⟨t0_0, flush0_1 t0_0, ?_⟩
  show i ∈ ((View.whole main_v1).slice (win0_1.rect t0_0)).set
  rw [View.set_slice_whole, Rect.mem_set_unit]
  intro a
  have h0 : (i 0 : ℕ) < 4096 := (i 0).isLt
  have h1 : (i 1 : ℕ) < 1024 := (i 1).isLt
  match a with
  | ⟨0, _⟩ =>
    show win0_1.index t0_0 0 * win0_1.size 0 ≤ (i 0 : ℕ) ∧ (i 0 : ℕ) < win0_1.index t0_0 0 * win0_1.size 0 + win0_1.xsize (grid0.coords t0_0) 0
    rw [show win0_1.index t0_0 0 * win0_1.size 0 = 0 from by decide +kernel, show win0_1.xsize (grid0.coords t0_0) 0 = 4096 from by decide +kernel]; omega
  | ⟨1, _⟩ =>
    show win0_1.index t0_0 1 * win0_1.size 1 ≤ (i 1 : ℕ) ∧ (i 1 : ℕ) < win0_1.index t0_0 1 * win0_1.size 1 + win0_1.xsize (grid0.coords t0_0) 1
    rw [show win0_1.index t0_0 1 * win0_1.size 1 = 0 from by decide +kernel, show win0_1.xsize (grid0.coords t0_0) 1 = 1024 from by decide +kernel]; omega

/-- A device's share as its kernel sees it is the argument's array. -/
theorem xAt_eq (c : Dev nD) : xAt m ρ c = m ((c : Thread nD τ).loc main_arg0) := by
  funext x
  refine congrArg (m ((c : Thread nD τ).loc main_arg0)) ?_
  funext a
  refine Fin.ext ?_
  match a with
  | ⟨0, _⟩ => show 0 * _ + 1 * _ = _; omega
  | ⟨1, _⟩ => show 0 * _ + 1 * _ = _; omega

/-! ## The result over the extended reals -/

section Extended

variable {m : (ℓ : Loc nD τ sig) → Buf (Elt Ideal) ℓ}

/-- The first of the rows that a device sums, by its coordinates. -/
theorem off_rows : ∀ c : Dev nD, k0_off1 c 0 = 1536 + (4 * py c + pz c) * 160 := by decide +kernel
theorem off_cols : ∀ c : Dev nD, k0_off1 c 1 = 0 := by decide +kernel
theorem off_peer : ∀ c : Dev nD, k0_off1 (peer c) 0 = k0_off1 c 0 := by decide +kernel

/-- A device's share of the argument, as an array of extended reals. -/
def shareOf (m : (ℓ : Loc nD τ sig) → Buf (Elt Ideal) ℓ) (ρ : Dev nD → PrngReg) (c : Dev nD) : S4096x1024.Idx → EReal := xAt m ρ c

/-- An element of the rows a device sums is the element of its share that many rows further down. -/
theorem ownRows_apply (c : Dev nD) (x : S160x1024.Idx) (k : S4096x1024.Idx) (h0 : (k 0).val = k0_off1 c 0 + (x 0).val)
    (h1 : (k 1).val = (x 1).val) : ownRows m ρ c x = shareOf m ρ c k := by
  refine congrArg (xAt m ρ c) ?_
  funext a
  refine Fin.ext ?_
  match a with
  | ⟨0, _⟩ => show k0_off1 c 0 + 1 * (x 0).val = (k 0).val; omega
  | ⟨1, _⟩ => show k0_off1 c 1 + 1 * (x 1).val = (k 1).val; rw [off_cols]; omega

/-- What a device sums is its rows plus its partner's. -/
theorem pay4_apply (c : Dev nD) (x : S160x1024.Idx) (k : S4096x1024.Idx) (h0 : (k 0).val = k0_off1 c 0 + (x 0).val)
    (h1 : (k 1).val = (x 1).val) :
    k0_pay4 (k0_pay1 (ownRows m ρ c)) (rawAt m ρ (peer c)) x = shareOf m ρ c k + shareOf m ρ (peer c) k := by
  have e1 : k0_pay1 (ownRows m ρ c) x = shareOf m ρ c k :=
    (congrFun (shapeCast_self _ _) x).trans (ownRows_apply c x k h0 h1)
  have e2 : rawAt m ρ (peer c) x = shareOf m ρ (peer c) k :=
    (congrFun (shapeCast_self _ _) x).trans ((congrFun (shapeCast_self _ _) x).trans
      (ownRows_apply (peer c) x k (by rw [off_peer]; exact h0) h1))
  exact congrArg₂ (fun a b : EReal => a + b) e1 e2

set_option backward.proofsInPublic true in
/-- The element of 80 rows that an element of a tile is. -/
def flat80 (x : S1x1x80x1024.Idx) : S80x1024.Idx := fun a => match a with
  | ⟨0, _⟩ => x 2
  | ⟨1, _⟩ => x 3

set_option backward.proofsInPublic true in
/-- The element of 160 rows that is `o` rows below an element of 80. -/
def lower (o : ℕ) (h : o + 80 ≤ 160) (x : S80x1024.Idx) : S160x1024.Idx := fun a => match a with
  | ⟨0, _⟩ => ⟨o + (x 0).val, Nat.lt_of_lt_of_le (Nat.add_lt_add_left (x 0).isLt o) h⟩
  | ⟨1, _⟩ => x 1

theorem flat80_row (x : S1x1x80x1024.Idx) : (S80x1024.rowMajor (flat80 x)).val = (S1x1x80x1024.rowMajor x).val := by
  have h0 : (x 0).val < 1 := (x 0).isLt
  have h1 : (x 1).val < 1 := (x 1).isLt
  rw [Shape.rowMajor_val_two, Shape.rowMajor_val_four]
  show (x 2).val * 1024 + (x 3).val = (((x 0).val * 1 + (x 1).val) * 80 + (x 2).val) * 1024 + (x 3).val
  omega

/-- Either half of that sum, as a tile. -/
theorem sumAt_apply (b : Bool) (c : Dev nD) (x : S1x1x80x1024.Idx) (k : S4096x1024.Idx)
    (h0 : (k 0).val = k0_off1 c 0 + (cond b 80 0 + (x 2).val)) (h1 : (k 1).val = (x 3).val) :
    sumAt m ρ b c x = shareOf m ρ c k + shareOf m ρ (peer c) k := by
  cases b with
  | false =>
    refine (congrFun (shapeCast_self _ _) x).trans ((shapeCast_apply _ _ x (flat80 x) (flat80_row x)).trans
      ((extractStridedSlice_apply _ _ slices_S160x1024_o0_0_S80x1024 (flat80 x) (lower 0 (by decide) (flat80 x)) ?_).trans (pay4_apply c _ k h0 h1)))
    intro a
    match a with
    | ⟨0, _⟩ => rfl
    | ⟨1, _⟩ => exact (Nat.zero_add _).symm
  | true =>
    refine (congrFun (shapeCast_self _ _) x).trans ((shapeCast_apply _ _ x (flat80 x) (flat80_row x)).trans
      ((extractStridedSlice_apply _ _ slices_S160x1024_o80_0_S80x1024 (flat80 x) (lower 80 (by decide) (flat80 x)) ?_).trans (pay4_apply c _ k h0 h1)))
    intro a
    match a with
    | ⟨0, _⟩ => rfl
    | ⟨1, _⟩ => exact (Nat.zero_add _).symm

/-- The first 1536 rows as sent are those rows. -/
theorem bulkAt_apply (c : Dev nD) (x : S1536x1024.Idx) (k : S4096x1024.Idx) (h0 : (k 0).val = (x 0).val)
    (h1 : (k 1).val = (x 1).val) : bulkAt m ρ c x = shareOf m ρ c k := by
  have e : bulkRows m ρ c x = shareOf m ρ c k := by
    refine congrArg (xAt m ρ c) ?_
    funext a
    refine Fin.ext ?_
    match a with
    | ⟨0, _⟩ => show 0 + 1 * (x 0).val = (k 0).val; omega
    | ⟨1, _⟩ => show 0 + 1 * (x 1).val = (k 1).val; omega
  exact (congrFun (shapeCast_self _ _) x).trans ((congrFun (shapeCast_self (bulkRows m ρ c) shapeCasts_S1536x1024_S1536x1024) x).trans e)

/-- Either half of the first 1536 rows of the result is the device's rows plus its partner's. -/
theorem bulkSum_apply (h : Bool) (c : Dev nD) (x : S768x1024.Idx) (k : S4096x1024.Idx)
    (h0 : (k 0).val = cond h 768 0 + (x 0).val) (h1 : (k 1).val = (x 1).val) :
    bulkSum m ρ h c x = shareOf m ρ c k + shareOf m ρ (peer c) k := by
  cases h with
  | false =>
    have e1 : shapeCast S768x1024 (xM.view.readAt (Elt Ideal) (Rect.unit (s := S4096x1024) ![0, 0] S768x1024.size inb_S4096x1024_S768x1024_0_0).toLoadRect (xAt m ρ c))
        shapeCasts_S768x1024_S768x1024 x = shareOf m ρ c k := by
      refine (congrFun (shapeCast_self _ _) x).trans (congrArg (xAt m ρ c) ?_)
      funext a
      refine Fin.ext ?_
      match a with
      | ⟨0, _⟩ => show 0 + 1 * (x 0).val = (k 0).val; rw [h0, Nat.one_mul]; rfl
      | ⟨1, _⟩ => show 0 + 1 * (x 1).val = (k 1).val; omega
    exact congrArg₂ (fun a b : EReal => a + b) e1
      (bulkAt_apply (peer c) _ k (by show (k 0).val = 0 + 1 * (x 0).val; rw [h0, Nat.one_mul]; rfl) (by show (k 1).val = 0 + 1 * (x 1).val; omega))
  | true =>
    have e1 : shapeCast S768x1024 (xM.view.readAt (Elt Ideal) (Rect.unit (s := S4096x1024) ![768, 0] S768x1024.size inb_S4096x1024_S768x1024_768_0).toLoadRect (xAt m ρ c))
        shapeCasts_S768x1024_S768x1024 x = shareOf m ρ c k := by
      refine (congrFun (shapeCast_self _ _) x).trans (congrArg (xAt m ρ c) ?_)
      funext a
      refine Fin.ext ?_
      match a with
      | ⟨0, _⟩ => show 768 + 1 * (x 0).val = (k 0).val; rw [h0, Nat.one_mul]; rfl
      | ⟨1, _⟩ => show 0 + 1 * (x 1).val = (k 1).val; omega
    exact congrArg₂ (fun a b : EReal => a + b) e1
      (bulkAt_apply (peer c) _ k (by show (k 0).val = 768 + 1 * (x 0).val; rw [h0, Nat.one_mul]; rfl) (by show (k 1).val = 0 + 1 * (x 1).val; omega))

/-- The device whose tile a stretch of the result holds: its rows are the stretch's. -/
theorem tile_dev : ∀ (x : Fin 2) (k : Fin 34), 2 ≤ k.val →
    k0_off1 (tileDev (stretchSide k.val) x.val (stretchRow k.val % 4) (stretchCol k.val % 4)) 0 + cond (stretchSide k.val) 80 0 = 1536 + (k.val - 2) * 80
      ∧ px (tileDev (stretchSide k.val) x.val (stretchRow k.val % 4) (stretchCol k.val % 4)) = x.val
      ∧ px (peer (tileDev (stretchSide k.val) x.val (stretchRow k.val % 4) (stretchCol k.val % 4))) = (x.val + 1) % 2 := by
  decide +kernel

theorem px_lt : ∀ c : Dev nD, px c < 2 := by decide +kernel
theorem px_peer : ∀ c : Dev nD, px (peer c) = (px c + 1) % 2 := by decide +kernel

set_option backward.proofsInPublic true in
/-- The element of a tile that an element of 80 rows is. -/
def tile80 (x : S80x1024.Idx) : S1x1x80x1024.Idx := fun a => match a with
  | ⟨0, _⟩ => ⟨0, Nat.one_pos⟩
  | ⟨1, _⟩ => ⟨0, Nat.one_pos⟩
  | ⟨2, _⟩ => x 0
  | ⟨3, _⟩ => x 1

theorem tile80_row (x : S80x1024.Idx) : (S1x1x80x1024.rowMajor (tile80 x)).val = (S80x1024.rowMajor x).val := by
  rw [Shape.rowMajor_val_two, Shape.rowMajor_val_four]
  show ((0 * 1 + 0) * 80 + (x 0).val) * 1024 + (x 1).val = (x 0).val * 1024 + (x 1).val
  omega

/-- Where devices with the same first coordinate have the same share, every element of the result on every device is
    the sum of the device's own and its partner's. -/
theorem resAt_apply (same : ∀ d d' : Dev nD, px d = px d' → shareOf m ρ d = shareOf m ρ d') (c : Dev nD) (i : S4096x1024.Idx) :
    resAt m ρ c i = shareOf m ρ c i + shareOf m ρ (peer c) i := by
  have hi : (i 0).val < 4096 := (i 0).isLt
  unfold resAt
  by_cases h1 : (i 0).val < 768
  · rw [if_pos h1]
    exact bulkSum_apply false c _ i (by show (i 0).val = 0 + (i 0).val % 768; omega) rfl
  rw [if_neg h1]
  by_cases h2 : (i 0).val < 1536
  · rw [if_pos h2]
    exact bulkSum_apply true c _ i (by show (i 0).val = 768 + (i 0).val % 768; omega) rfl
  rw [if_neg h2]
  have hk : stretch (i 0).val = 2 + ((i 0).val - 1536) / 80 := by unfold stretch; rw [if_neg h1, if_neg h2]
  have hk2 : 2 ≤ stretch (i 0).val := by omega
  have hk34 : stretch (i 0).val < 34 := by omega
  obtain ⟨e0, e1, e2⟩ := tile_dev ⟨px c, px_lt c⟩ ⟨stretch (i 0).val, hk34⟩ hk2
  generalize hd : tileDev (stretchSide (stretch (i 0).val)) (px c) (stretchRow (stretch (i 0).val) % 4) (stretchCol (stretch (i 0).val) % 4) = d at *
  have step : tileAt m ρ (stretchSide (stretch (i 0).val)) c (stretchRow (stretch (i 0).val)) (stretchCol (stretch (i 0).val))
      (tile80 (ix80 ((i 0).val - 1536) i)) = shareOf m ρ d i + shareOf m ρ (peer d) i := by
    rw [← hd]
    refine sumAt_apply _ _ _ i ?_ rfl
    show (i 0).val = k0_off1 (tileDev (stretchSide (stretch (i 0).val)) (px c) (stretchRow (stretch (i 0).val) % 4) (stretchCol (stretch (i 0).val) % 4)) 0
      + (cond (stretchSide (stretch (i 0).val)) 80 0 + ((i 0).val - 1536) % 80)
    rw [hd, ← Nat.add_assoc, e0]
    show (i 0).val = 1536 + (stretch (i 0).val - 2) * 80 + ((i 0).val - 1536) % 80
    omega
  rw [same c d e1.symm, same (peer c) (peer d) ((px_peer c).trans e2.symm)]
  exact (shapeCast_apply _ _ _ _ (tile80_row _)).trans step

end Extended

end Cert.MeshSum

end
-- ==== Proof.Reference.lean ====
/-
# The result is the reference's
-/
module

public import proofs.«01_k».proof.Proof.Value
public import proofs.«01_k».proof.Proof.Gen.ReferenceIdeal

@[expose] public section

noncomputable section

namespace Cert.MeshSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {m : (ℓ : Loc nD τ sig) → Buf (Elt F) ℓ} {ρ : Dev nD → PrngReg} {K : Dev nD × Fin 79 → ℕ}

/-- The reference's term: the 8192 rows as two blocks of 4096, added. -/
def refTerm (W : Cert.ReferenceIdeal.S8192x1024.Idx → EReal) : S4096x1024.Idx → EReal :=
  Host.reduceAdd (F := Ideal) (φ := .f32)
    (shapeCast Cert.ReferenceIdeal.S2x4096x1024 W Cert.ReferenceIdeal.Gen.shapeCasts_S8192x1024_S2x4096x1024) (constant Cert.ReferenceIdeal.S_ .f32 0x00000000#32)
    Cert.ReferenceIdeal.Gen.reducesTo_S2x4096x1024_S4096x1024_d0 Cert.ReferenceIdeal.Gen.h_S_

set_option backward.proofsInPublic true in
/-- The element of the whole argument in row `i 0` of its block `k`. -/
def inBlock (k : Fin 2) (i : S4096x1024.Idx) : Cert.ReferenceIdeal.S8192x1024.Idx := fun a => match a with
  | ⟨0, _⟩ => ⟨k.val * 4096 + (i 0).val, by
      have h : (i 0).val < 4096 := (i 0).isLt
      show _ < 8192
      omega⟩
  | ⟨1, _⟩ => i 1

/-- The reference adds the two blocks. -/
theorem refTerm_apply (W : Cert.ReferenceIdeal.S8192x1024.Idx → EReal) (i : S4096x1024.Idx) :
    refTerm W i = W (inBlock 0 i) + W (inBlock 1 i) := by
  have part : ∀ k : Fin 2, shapeCast Cert.ReferenceIdeal.S2x4096x1024 W Cert.ReferenceIdeal.Gen.shapeCasts_S8192x1024_S2x4096x1024
      (ix3 k (i 0) (i 1)) = W (inBlock k i) := fun k => by
    refine shapeCast_apply _ _ _ _ ?_
    rw [Shape.rowMajor_val_two, Shape.rowMajor_val_three]
    rfl
  have zero : (Ideal.ofBits .f32 0x00000000#32 : EReal) = 0 := Ideal.ofBits_zero_f32
  refine (Ideal.hostReduceAdd_r3_a0 Cert.ReferenceIdeal.Gen.reducesTo_S2x4096x1024_S4096x1024_d0 _ _ i).trans ?_
  refine (congrArg₂ (fun a b : EReal => a + b) zero (Fin.sum_univ_two _)).trans ?_
  rw [zero_add]
  exact congrArg₂ (fun a b : EReal => a + b) (part 0) (part 1)

/-- The block of the argument that the claim gives a device is that of its first coordinate. -/
theorem mesh_row : ∀ c : Dev nD, ((Layout.meshBlock [2, 4, 4] ![[0], []] c) 0).val = px c ∧ ((Layout.meshBlock [2, 4, 4] ![[0], []] c) 1).val = 0 := by
  decide +kernel

theorem block_apply (W : Cert.ReferenceIdeal.S8192x1024.Idx → EReal) (c : Dev nD) (k : Fin 2) (h : px c = k.val) (i : S4096x1024.Idx) :
    Layout.blockN ⟨2, ![4096, 1024]⟩ ⟨2, ![8192, 1024]⟩ (Layout.meshBlock [2, 4, 4] ![[0], []] c) W (by decide) i = W (inBlock k i) := by
  refine congrArg W ?_
  funext a
  refine Fin.ext ?_
  match a with
  | ⟨0, _⟩ =>
    show ((Layout.meshBlock [2, 4, 4] ![[0], []] c) 0).val * 4096 + (i 0).val = k.val * 4096 + (i 0).val
    rw [(mesh_row c).1, h]
  | ⟨1, _⟩ =>
    show ((Layout.meshBlock [2, 4, 4] ![[0], []] c) 1).val * 1024 + (i 1).val = (i 1).val
    rw [(mesh_row c).2]; omega

/-- With the argument's blocks on the devices, every device's result is the reference's. -/
theorem resAt_ref {m : (ℓ : Loc nD τ sig) → Buf (Elt Ideal) ℓ} (W : Cert.ReferenceIdeal.S8192x1024.Idx → EReal)
    (hW : ∀ c : Dev nD, m ((c : Thread nD τ).loc main_arg0)
      = Layout.blockN ⟨2, ![4096, 1024]⟩ ⟨2, ![8192, 1024]⟩ (Layout.meshBlock [2, 4, 4] ![[0], []] c) W)
    (c : Dev nD) : resAt m ρ c = refTerm W := by
  have at_block : ∀ (d : Dev nD) (k : Fin 2), px d = k.val → ∀ i, shareOf m ρ d i = W (inBlock k i) := fun d k h i =>
    (congrFun ((xAt_eq d).trans (hW d)) i).trans (block_apply W d k h i)
  have same : ∀ d d' : Dev nD, px d = px d' → shareOf m ρ d = shareOf m ρ d' := fun d d' h => by
    funext i
    rw [at_block d ⟨px d, px_lt d⟩ rfl, at_block d' ⟨px d, px_lt d⟩ h.symm]
  funext i
  refine (resAt_apply same c i).trans ?_
  rw [refTerm_apply]
  have hp := px_peer c
  rcases (show px c = 0 ∨ px c = 1 by have := px_lt c; omega) with h | h
  · rw [at_block c 0 h, at_block (peer c) 1 (by rw [hp, h]; rfl)]
  · rw [at_block c 1 h, at_block (peer c) 0 (by rw [hp, h]; rfl)]
    exact add_comm (G := EReal) _ _

end Cert.MeshSum

end
-- ==== Proof.lean ====
/-
  The proof of `Cert.Claim` (proofs.«01_k».proof.Defs): both programs of the kernel and the reference run to the end with
  their arguments unchanged and every semaphore at zero, and over the extended reals the kernel's result on every device
  is the reference's. The kernel's run is `Cert.MeshSum.run_main` (Proof/Launch.lean), written once for any float
  values; what it leaves is compared with the reference in Proof/Reference.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Reference
public import Idealize.ShloMosaic.Adequacy
public import Idealize.ShloMosaic.Init

@[expose] public section

noncomputable section

namespace Cert.Proof

open Idealize.ShloMosaic Idealize.SL.Sem

/-- The kernel ends, its argument unchanged and every semaphore at zero, for any float values. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD, r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0))
        ∧ r.2.sem = fun _ => 0) :=
  (θ_run Cert.KernelIdeal.defs _ _).mono (fun _ h => ⟨fun c => (h.1 c (0 : Fin 2)).trans (Cert.MeshSum.finalA_x c), h.2⟩)
    (Cert.MeshSum.run_main m ρ)

/-- The two programs' kernel functions have the same text: their tables of bodies are equal, label by label, -/
theorem bodies_eq : @Cert.Kernel.defs₀ Bits _ _ = @Cert.KernelIdeal.defs₀ Bits _ _ := by
  unfold Cert.Kernel.defs₀ Cert.KernelIdeal.defs₀
  refine congrArg Defs.onTc ?_
  funext l a
  match l with
  | 0 => obtain ⟨t, s⟩ := a; rfl

/-- and so are the tables with the calls' pipelines. -/
theorem defs_eq : @Cert.Kernel.defs Bits _ _ = @Cert.KernelIdeal.defs Bits _ _ :=
  congrArg (Pipeline.defs (Cert.KernelIdeal.pcfgs (F := Bits))) bodies_eq

/-- The kernel at the machine's float values. -/
theorem frame_kernel : Cert.quiescent_Kernel := fun m ρ _ => by
  rw [defs_eq]
  exact frame_any (F := Bits) m ρ

/-- At the extended reals. -/
theorem frame_ideal : Cert.quiescent_KernelIdeal := fun m ρ _ => frame_any (F := Ideal) m ρ

/-- The reference ends, its argument unchanged and every semaphore at zero. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

/-- Over the extended reals every device's result is the reference's. -/
theorem same_result : Cert.algebraic_KernelIdeal_ReferenceIdeal := fun m ρ m' ρ' _ hW =>
  ⟨Cert.MeshSum.refTerm (m' (((0 : Dev Cert.ReferenceIdeal.nD).tc).loc Cert.ReferenceIdeal.main_arg0)),
    (θ_run Cert.KernelIdeal.defs _ _).mono
      (fun _ h c => ⟨(h.1 c (1 : Fin 2)).trans ((Cert.MeshSum.finalA_o c).trans (Cert.MeshSum.resAt_ref _ hW c)),
        (h.1 c (0 : Fin 2)).trans (Cert.MeshSum.finalA_x c)⟩)
      (Cert.MeshSum.run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, same_result⟩

end Cert.Proof

end
